-- ==== Defs.lean ====
def Pre_KernelA1 (m : (ℓ : Loc Cert.KernelA1.nD Cert.KernelA1.τ Cert.KernelA1.sig) → Buf (Elt Bits) ℓ) : Prop :=
  True

def Pre_KernelA1Ideal (m : (ℓ : Loc Cert.KernelA1Ideal.nD Cert.KernelA1Ideal.τ Cert.KernelA1Ideal.sig) → Buf (Elt Ideal) ℓ) : Prop :=
  True

def Pre_KernelA1Ideal_finite [hPre_finite : Cert.Pre_finite.Facts] (m : (ℓ : Loc Cert.KernelA1Ideal.nD Cert.KernelA1Ideal.τ Cert.KernelA1Ideal.sig) → Buf (Elt Ideal) ℓ) : Prop :=
  ∀ c : Dev Cert.KernelA1Ideal.nD,
    (Cert.Pre_finite.fn (F := Ideal) (m ((c.tc : Thread Cert.KernelA1Ideal.nD Cert.KernelA1Ideal.τ).loc Cert.KernelA1Ideal.main_arg0))) = (fun _ => 1#1)

def Pre_ReferenceA1Ideal (m : (ℓ : Loc Cert.ReferenceA1Ideal.nD Cert.ReferenceA1Ideal.τ Cert.ReferenceA1Ideal.sig) → Buf (Elt Ideal) ℓ) : Prop :=
  True

def Pre_ReferenceA1Ideal_finite [hPre_finite : Cert.Pre_finite.Facts] (m : (ℓ : Loc Cert.ReferenceA1Ideal.nD Cert.ReferenceA1Ideal.τ Cert.ReferenceA1Ideal.sig) → Buf (Elt Ideal) ℓ) : Prop :=
  ∀ c : Dev Cert.ReferenceA1Ideal.nD,
    (Cert.Pre_finite.fn (F := Ideal) (m ((c.tc : Thread Cert.ReferenceA1Ideal.nD Cert.ReferenceA1Ideal.τ).loc Cert.ReferenceA1Ideal.main_arg0))) = (fun _ => 1#1)

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def Pre_KernelFB (m : (ℓ : Loc Cert.KernelFB.nD Cert.KernelFB.τ Cert.KernelFB.sig) → Buf (Elt Bits) ℓ) : Prop :=
  True

def Pre_KernelFBIdeal (m : (ℓ : Loc Cert.KernelFBIdeal.nD Cert.KernelFBIdeal.τ Cert.KernelFBIdeal.sig) → Buf (Elt Ideal) ℓ) : Prop :=
  True

def Pre_ReferenceFBIdeal (m : (ℓ : Loc Cert.ReferenceFBIdeal.nD Cert.ReferenceFBIdeal.τ Cert.ReferenceFBIdeal.sig) → Buf (Elt Ideal) ℓ) : Prop :=
  True

def Pre_KernelFC (m : (ℓ : Loc Cert.KernelFC.nD Cert.KernelFC.τ Cert.KernelFC.sig) → Buf (Elt Bits) ℓ) : Prop :=
  True

def Pre_KernelFCIdeal (m : (ℓ : Loc Cert.KernelFCIdeal.nD Cert.KernelFCIdeal.τ Cert.KernelFCIdeal.sig) → Buf (Elt Ideal) ℓ) : Prop :=
  True

def Pre_ReferenceFCIdeal (m : (ℓ : Loc Cert.ReferenceFCIdeal.nD Cert.ReferenceFCIdeal.τ Cert.ReferenceFCIdeal.sig) → Buf (Elt Ideal) ℓ) : Prop :=
  True

def Pre_KernelFD (m : (ℓ : Loc Cert.KernelFD.nD Cert.KernelFD.τ Cert.KernelFD.sig) → Buf (Elt Bits) ℓ) : Prop :=
  True

def Pre_KernelFDIdeal (m : (ℓ : Loc Cert.KernelFDIdeal.nD Cert.KernelFDIdeal.τ Cert.KernelFDIdeal.sig) → Buf (Elt Ideal) ℓ) : Prop :=
  True

def Pre_ReferenceFDIdeal (m : (ℓ : Loc Cert.ReferenceFDIdeal.nD Cert.ReferenceFDIdeal.τ Cert.ReferenceFDIdeal.sig) → Buf (Elt Ideal) ℓ) : Prop :=
  True

def Pre_KernelFA (m : (ℓ : Loc Cert.KernelFA.nD Cert.KernelFA.τ Cert.KernelFA.sig) → Buf (Elt Bits) ℓ) : Prop :=
  True

def Pre_KernelFAIdeal (m : (ℓ : Loc Cert.KernelFAIdeal.nD Cert.KernelFAIdeal.τ Cert.KernelFAIdeal.sig) → Buf (Elt Ideal) ℓ) : Prop :=
  True

def Pre_KernelFAIdeal_finite_lse [hPre_finite_lse : Cert.Pre_finite_lse.Facts] (m : (ℓ : Loc Cert.KernelFAIdeal.nD Cert.KernelFAIdeal.τ Cert.KernelFAIdeal.sig) → Buf (Elt Ideal) ℓ) : Prop :=
  ∀ c : Dev Cert.KernelFAIdeal.nD,
    (Cert.Pre_finite_lse.fn (F := Ideal) (m ((c.tc : Thread Cert.KernelFAIdeal.nD Cert.KernelFAIdeal.τ).loc Cert.KernelFAIdeal.main_arg0)) (m ((c.tc : Thread Cert.KernelFAIdeal.nD Cert.KernelFAIdeal.τ).loc Cert.KernelFAIdeal.main_arg1)) (m ((c.tc : Thread Cert.KernelFAIdeal.nD Cert.KernelFAIdeal.τ).loc Cert.KernelFAIdeal.main_arg2)) (m ((c.tc : Thread Cert.KernelFAIdeal.nD Cert.KernelFAIdeal.τ).loc Cert.KernelFAIdeal.main_arg3)) (m ((c.tc : Thread Cert.KernelFAIdeal.nD Cert.KernelFAIdeal.τ).loc Cert.KernelFAIdeal.main_arg4)) (m ((c.tc : Thread Cert.KernelFAIdeal.nD Cert.KernelFAIdeal.τ).loc Cert.KernelFAIdeal.main_arg5)) (m ((c.tc : Thread Cert.KernelFAIdeal.nD Cert.KernelFAIdeal.τ).loc Cert.KernelFAIdeal.main_arg6)) (m ((c.tc : Thread Cert.KernelFAIdeal.nD Cert.KernelFAIdeal.τ).loc Cert.KernelFAIdeal.main_arg7)) (m ((c.tc : Thread Cert.KernelFAIdeal.nD Cert.KernelFAIdeal.τ).loc Cert.KernelFAIdeal.main_arg8)) (m ((c.tc : Thread Cert.KernelFAIdeal.nD Cert.KernelFAIdeal.τ).loc Cert.KernelFAIdeal.main_arg9)) (m ((c.tc : Thread Cert.KernelFAIdeal.nD Cert.KernelFAIdeal.τ).loc Cert.KernelFAIdeal.main_arg10))) = (fun _ => 1#1)

def Pre_ReferenceFAIdeal (m : (ℓ : Loc Cert.ReferenceFAIdeal.nD Cert.ReferenceFAIdeal.τ Cert.ReferenceFAIdeal.sig) → Buf (Elt Ideal) ℓ) : Prop :=
  True

def Pre_ReferenceFAIdeal_finite_lse [hPre_finite_lse : Cert.Pre_finite_lse.Facts] (m : (ℓ : Loc Cert.ReferenceFAIdeal.nD Cert.ReferenceFAIdeal.τ Cert.ReferenceFAIdeal.sig) → Buf (Elt Ideal) ℓ) : Prop :=
  ∀ c : Dev Cert.ReferenceFAIdeal.nD,
    (Cert.Pre_finite_lse.fn (F := Ideal) (m ((c.tc : Thread Cert.ReferenceFAIdeal.nD Cert.ReferenceFAIdeal.τ).loc Cert.ReferenceFAIdeal.main_arg0)) (m ((c.tc : Thread Cert.ReferenceFAIdeal.nD Cert.ReferenceFAIdeal.τ).loc Cert.ReferenceFAIdeal.main_arg1)) (m ((c.tc : Thread Cert.ReferenceFAIdeal.nD Cert.ReferenceFAIdeal.τ).loc Cert.ReferenceFAIdeal.main_arg2)) (m ((c.tc : Thread Cert.ReferenceFAIdeal.nD Cert.ReferenceFAIdeal.τ).loc Cert.ReferenceFAIdeal.main_arg3)) (m ((c.tc : Thread Cert.ReferenceFAIdeal.nD Cert.ReferenceFAIdeal.τ).loc Cert.ReferenceFAIdeal.main_arg4)) (m ((c.tc : Thread Cert.ReferenceFAIdeal.nD Cert.ReferenceFAIdeal.τ).loc Cert.ReferenceFAIdeal.main_arg5)) (m ((c.tc : Thread Cert.ReferenceFAIdeal.nD Cert.ReferenceFAIdeal.τ).loc Cert.ReferenceFAIdeal.main_arg6)) (m ((c.tc : Thread Cert.ReferenceFAIdeal.nD Cert.ReferenceFAIdeal.τ).loc Cert.ReferenceFAIdeal.main_arg7)) (m ((c.tc : Thread Cert.ReferenceFAIdeal.nD Cert.ReferenceFAIdeal.τ).loc Cert.ReferenceFAIdeal.main_arg8)) (m ((c.tc : Thread Cert.ReferenceFAIdeal.nD Cert.ReferenceFAIdeal.τ).loc Cert.ReferenceFAIdeal.main_arg9)) (m ((c.tc : Thread Cert.ReferenceFAIdeal.nD Cert.ReferenceFAIdeal.τ).loc Cert.ReferenceFAIdeal.main_arg10))) = (fun _ => 1#1)

def Pre_KernelPC (m : (ℓ : Loc Cert.KernelPC.nD Cert.KernelPC.τ Cert.KernelPC.sig) → Buf (Elt Bits) ℓ) : Prop :=
  True

def Pre_KernelPCIdeal (m : (ℓ : Loc Cert.KernelPCIdeal.nD Cert.KernelPCIdeal.τ Cert.KernelPCIdeal.sig) → Buf (Elt Ideal) ℓ) : Prop :=
  True

def Pre_ReferencePCIdeal (m : (ℓ : Loc Cert.ReferencePCIdeal.nD Cert.ReferencePCIdeal.τ Cert.ReferencePCIdeal.sig) → Buf (Elt Ideal) ℓ) : Prop :=
  True

def Pre_KernelPD (m : (ℓ : Loc Cert.KernelPD.nD Cert.KernelPD.τ Cert.KernelPD.sig) → Buf (Elt Bits) ℓ) : Prop :=
  True

def Pre_KernelPDIdeal (m : (ℓ : Loc Cert.KernelPDIdeal.nD Cert.KernelPDIdeal.τ Cert.KernelPDIdeal.sig) → Buf (Elt Ideal) ℓ) : Prop :=
  True

def Pre_ReferencePDIdeal (m : (ℓ : Loc Cert.ReferencePDIdeal.nD Cert.ReferencePDIdeal.τ Cert.ReferencePDIdeal.sig) → Buf (Elt Ideal) ℓ) : Prop :=
  True

def Pre_KernelQAIdeal (m : (ℓ : Loc Cert.KernelQAIdeal.nD Cert.KernelQAIdeal.τ Cert.KernelQAIdeal.sig) → Buf (Elt Ideal) ℓ) : Prop :=
  True

def Pre_ReferenceQAIdeal (m : (ℓ : Loc Cert.ReferenceQAIdeal.nD Cert.ReferenceQAIdeal.τ Cert.ReferenceQAIdeal.sig) → Buf (Elt Ideal) ℓ) : Prop :=
  True

def quiescent_KernelA1 [hKernelA1 : Cert.KernelA1.Facts] : Prop :=
  ∀ (m : (ℓ : Loc Cert.KernelA1.nD Cert.KernelA1.τ Cert.KernelA1.sig) → Buf (Elt Bits) ℓ) (g : Dev Cert.KernelA1.nD → PrngReg), Pre_KernelA1 m →
    θ_run (Cert.KernelA1.defs (F := Bits)) (onTc (τ := Cert.KernelA1.τ) (Cert.KernelA1.main (F := Bits))) ⟨m, fun _ => 0, g⟩ (fun r => (∀ c : Dev Cert.KernelA1.nD,
      r.2.mem ((c.tc : Thread Cert.KernelA1.nD Cert.KernelA1.τ).loc Cert.KernelA1.main_arg0) = m ((c.tc : Thread Cert.KernelA1.nD Cert.KernelA1.τ).loc Cert.KernelA1.main_arg0))
      ∧ r.2.sem = fun _ => 0)

def quiescent_KernelA1Ideal [hKernelA1Ideal : Cert.KernelA1Ideal.Facts] : Prop :=
  ∀ (m : (ℓ : Loc Cert.KernelA1Ideal.nD Cert.KernelA1Ideal.τ Cert.KernelA1Ideal.sig) → Buf (Elt Ideal) ℓ) (g : Dev Cert.KernelA1Ideal.nD → PrngReg), Pre_KernelA1Ideal m →
    θ_run (Cert.KernelA1Ideal.defs (F := Ideal)) (onTc (τ := Cert.KernelA1Ideal.τ) (Cert.KernelA1Ideal.main (F := Ideal))) ⟨m, fun _ => 0, g⟩ (fun r => (∀ c : Dev Cert.KernelA1Ideal.nD,
      r.2.mem ((c.tc : Thread Cert.KernelA1Ideal.nD Cert.KernelA1Ideal.τ).loc Cert.KernelA1Ideal.main_arg0) = m ((c.tc : Thread Cert.KernelA1Ideal.nD Cert.KernelA1Ideal.τ).loc Cert.KernelA1Ideal.main_arg0))
      ∧ r.2.sem = fun _ => 0)

def quiescent_KernelA1Ideal_pre_finite [hKernelA1Ideal : Cert.KernelA1Ideal.Facts] [hPre_finite : Cert.Pre_finite.Facts] : Prop :=
  ∀ (m : (ℓ : Loc Cert.KernelA1Ideal.nD Cert.KernelA1Ideal.τ Cert.KernelA1Ideal.sig) → Buf (Elt Ideal) ℓ) (g : Dev Cert.KernelA1Ideal.nD → PrngReg), Pre_KernelA1Ideal_finite m →
    θ_run (Cert.KernelA1Ideal.defs (F := Ideal)) (onTc (τ := Cert.KernelA1Ideal.τ) (Cert.KernelA1Ideal.main (F := Ideal))) ⟨m, fun _ => 0, g⟩ (fun r => (∀ c : Dev Cert.KernelA1Ideal.nD,
      r.2.mem ((c.tc : Thread Cert.KernelA1Ideal.nD Cert.KernelA1Ideal.τ).loc Cert.KernelA1Ideal.main_arg0) = m ((c.tc : Thread Cert.KernelA1Ideal.nD Cert.KernelA1Ideal.τ).loc Cert.KernelA1Ideal.main_arg0))
      ∧ r.2.sem = fun _ => 0)

def quiescent_ReferenceA1Ideal [hReferenceA1Ideal : Cert.ReferenceA1Ideal.Facts] : Prop :=
  ∀ (m : (ℓ : Loc Cert.ReferenceA1Ideal.nD Cert.ReferenceA1Ideal.τ Cert.ReferenceA1Ideal.sig) → Buf (Elt Ideal) ℓ) (g : Dev Cert.ReferenceA1Ideal.nD → PrngReg), Pre_ReferenceA1Ideal m →
    θ_run (Cert.ReferenceA1Ideal.defs (F := Ideal)) (onTc (τ := Cert.ReferenceA1Ideal.τ) (Cert.ReferenceA1Ideal.main (F := Ideal))) ⟨m, fun _ => 0, g⟩ (fun r => (∀ c : Dev Cert.ReferenceA1Ideal.nD,
      r.2.mem ((c.tc : Thread Cert.ReferenceA1Ideal.nD Cert.ReferenceA1Ideal.τ).loc Cert.ReferenceA1Ideal.main_arg0) = m ((c.tc : Thread Cert.ReferenceA1Ideal.nD Cert.ReferenceA1Ideal.τ).loc Cert.ReferenceA1Ideal.main_arg0))
      ∧ r.2.sem = fun _ => 0)

def quiescent_ReferenceA1Ideal_pre_finite [hReferenceA1Ideal : Cert.ReferenceA1Ideal.Facts] [hPre_finite : Cert.Pre_finite.Facts] : Prop :=
  ∀ (m : (ℓ : Loc Cert.ReferenceA1Ideal.nD Cert.ReferenceA1Ideal.τ Cert.ReferenceA1Ideal.sig) → Buf (Elt Ideal) ℓ) (g : Dev Cert.ReferenceA1Ideal.nD → PrngReg), Pre_ReferenceA1Ideal_finite m →
    θ_run (Cert.ReferenceA1Ideal.defs (F := Ideal)) (onTc (τ := Cert.ReferenceA1Ideal.τ) (Cert.ReferenceA1Ideal.main (F := Ideal))) ⟨m, fun _ => 0, g⟩ (fun r => (∀ c : Dev Cert.ReferenceA1Ideal.nD,
      r.2.mem ((c.tc : Thread Cert.ReferenceA1Ideal.nD Cert.ReferenceA1Ideal.τ).loc Cert.ReferenceA1Ideal.main_arg0) = m ((c.tc : Thread Cert.ReferenceA1Ideal.nD Cert.ReferenceA1Ideal.τ).loc Cert.ReferenceA1Ideal.main_arg0))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3))
      ∧ r.2.sem = fun _ => 0)

def quiescent_KernelFB [hKernelFB : Cert.KernelFB.Facts] : Prop :=
  ∀ (m : (ℓ : Loc Cert.KernelFB.nD Cert.KernelFB.τ Cert.KernelFB.sig) → Buf (Elt Bits) ℓ) (g : Dev Cert.KernelFB.nD → PrngReg), Pre_KernelFB m →
    θ_run (Cert.KernelFB.defs (F := Bits)) (onTc (τ := Cert.KernelFB.τ) (Cert.KernelFB.main (F := Bits))) ⟨m, fun _ => 0, g⟩ (fun r => (∀ c : Dev Cert.KernelFB.nD,
      r.2.mem ((c.tc : Thread Cert.KernelFB.nD Cert.KernelFB.τ).loc Cert.KernelFB.main_arg0) = m ((c.tc : Thread Cert.KernelFB.nD Cert.KernelFB.τ).loc Cert.KernelFB.main_arg0)
      ∧ r.2.mem ((c.tc : Thread Cert.KernelFB.nD Cert.KernelFB.τ).loc Cert.KernelFB.main_arg1) = m ((c.tc : Thread Cert.KernelFB.nD Cert.KernelFB.τ).loc Cert.KernelFB.main_arg1)
      ∧ r.2.mem ((c.tc : Thread Cert.KernelFB.nD Cert.KernelFB.τ).loc Cert.KernelFB.main_arg2) = m ((c.tc : Thread Cert.KernelFB.nD Cert.KernelFB.τ).loc Cert.KernelFB.main_arg2)
      ∧ r.2.mem ((c.tc : Thread Cert.KernelFB.nD Cert.KernelFB.τ).loc Cert.KernelFB.main_arg3) = m ((c.tc : Thread Cert.KernelFB.nD Cert.KernelFB.τ).loc Cert.KernelFB.main_arg3)
      ∧ r.2.mem ((c.tc : Thread Cert.KernelFB.nD Cert.KernelFB.τ).loc Cert.KernelFB.main_arg4) = m ((c.tc : Thread Cert.KernelFB.nD Cert.KernelFB.τ).loc Cert.KernelFB.main_arg4)
      ∧ r.2.mem ((c.tc : Thread Cert.KernelFB.nD Cert.KernelFB.τ).loc Cert.KernelFB.main_arg5) = m ((c.tc : Thread Cert.KernelFB.nD Cert.KernelFB.τ).loc Cert.KernelFB.main_arg5))
      ∧ r.2.sem = fun _ => 0)

def quiescent_KernelFBIdeal [hKernelFBIdeal : Cert.KernelFBIdeal.Facts] : Prop :=
  ∀ (m : (ℓ : Loc Cert.KernelFBIdeal.nD Cert.KernelFBIdeal.τ Cert.KernelFBIdeal.sig) → Buf (Elt Ideal) ℓ) (g : Dev Cert.KernelFBIdeal.nD → PrngReg), Pre_KernelFBIdeal m →
    θ_run (Cert.KernelFBIdeal.defs (F := Ideal)) (onTc (τ := Cert.KernelFBIdeal.τ) (Cert.KernelFBIdeal.main (F := Ideal))) ⟨m, fun _ => 0, g⟩ (fun r => (∀ c : Dev Cert.KernelFBIdeal.nD,
      r.2.mem ((c.tc : Thread Cert.KernelFBIdeal.nD Cert.KernelFBIdeal.τ).loc Cert.KernelFBIdeal.main_arg0) = m ((c.tc : Thread Cert.KernelFBIdeal.nD Cert.KernelFBIdeal.τ).loc Cert.KernelFBIdeal.main_arg0)
      ∧ r.2.mem ((c.tc : Thread Cert.KernelFBIdeal.nD Cert.KernelFBIdeal.τ).loc Cert.KernelFBIdeal.main_arg1) = m ((c.tc : Thread Cert.KernelFBIdeal.nD Cert.KernelFBIdeal.τ).loc Cert.KernelFBIdeal.main_arg1)
      ∧ r.2.mem ((c.tc : Thread Cert.KernelFBIdeal.nD Cert.KernelFBIdeal.τ).loc Cert.KernelFBIdeal.main_arg2) = m ((c.tc : Thread Cert.KernelFBIdeal.nD Cert.KernelFBIdeal.τ).loc Cert.KernelFBIdeal.main_arg2)
      ∧ r.2.mem ((c.tc : Thread Cert.KernelFBIdeal.nD Cert.KernelFBIdeal.τ).loc Cert.KernelFBIdeal.main_arg3) = m ((c.tc : Thread Cert.KernelFBIdeal.nD Cert.KernelFBIdeal.τ).loc Cert.KernelFBIdeal.main_arg3)
      ∧ r.2.mem ((c.tc : Thread Cert.KernelFBIdeal.nD Cert.KernelFBIdeal.τ).loc Cert.KernelFBIdeal.main_arg4) = m ((c.tc : Thread Cert.KernelFBIdeal.nD Cert.KernelFBIdeal.τ).loc Cert.KernelFBIdeal.main_arg4)
      ∧ r.2.mem ((c.tc : Thread Cert.KernelFBIdeal.nD Cert.KernelFBIdeal.τ).loc Cert.KernelFBIdeal.main_arg5) = m ((c.tc : Thread Cert.KernelFBIdeal.nD Cert.KernelFBIdeal.τ).loc Cert.KernelFBIdeal.main_arg5))
      ∧ r.2.sem = fun _ => 0)

def quiescent_ReferenceFBIdeal [hReferenceFBIdeal : Cert.ReferenceFBIdeal.Facts] : Prop :=
  ∀ (m : (ℓ : Loc Cert.ReferenceFBIdeal.nD Cert.ReferenceFBIdeal.τ Cert.ReferenceFBIdeal.sig) → Buf (Elt Ideal) ℓ) (g : Dev Cert.ReferenceFBIdeal.nD → PrngReg), Pre_ReferenceFBIdeal m →
    θ_run (Cert.ReferenceFBIdeal.defs (F := Ideal)) (onTc (τ := Cert.ReferenceFBIdeal.τ) (Cert.ReferenceFBIdeal.main (F := Ideal))) ⟨m, fun _ => 0, g⟩ (fun r => (∀ c : Dev Cert.ReferenceFBIdeal.nD,
      r.2.mem ((c.tc : Thread Cert.ReferenceFBIdeal.nD Cert.ReferenceFBIdeal.τ).loc Cert.ReferenceFBIdeal.main_arg0) = m ((c.tc : Thread Cert.ReferenceFBIdeal.nD Cert.ReferenceFBIdeal.τ).loc Cert.ReferenceFBIdeal.main_arg0)
      ∧ r.2.mem ((c.tc : Thread Cert.ReferenceFBIdeal.nD Cert.ReferenceFBIdeal.τ).loc Cert.ReferenceFBIdeal.main_arg1) = m ((c.tc : Thread Cert.ReferenceFBIdeal.nD Cert.ReferenceFBIdeal.τ).loc Cert.ReferenceFBIdeal.main_arg1)
      ∧ r.2.mem ((c.tc : Thread Cert.ReferenceFBIdeal.nD Cert.ReferenceFBIdeal.τ).loc Cert.ReferenceFBIdeal.main_arg2) = m ((c.tc : Thread Cert.ReferenceFBIdeal.nD Cert.ReferenceFBIdeal.τ).loc Cert.ReferenceFBIdeal.main_arg2)
      ∧ r.2.mem ((c.tc : Thread Cert.ReferenceFBIdeal.nD Cert.ReferenceFBIdeal.τ).loc Cert.ReferenceFBIdeal.main_arg3) = m ((c.tc : Thread Cert.ReferenceFBIdeal.nD Cert.ReferenceFBIdeal.τ).loc Cert.ReferenceFBIdeal.main_arg3)
      ∧ r.2.mem ((c.tc : Thread Cert.ReferenceFBIdeal.nD Cert.ReferenceFBIdeal.τ).loc Cert.ReferenceFBIdeal.main_arg4) = m ((c.tc : Thread Cert.ReferenceFBIdeal.nD Cert.ReferenceFBIdeal.τ).loc Cert.ReferenceFBIdeal.main_arg4)
      ∧ r.2.mem ((c.tc : Thread Cert.ReferenceFBIdeal.nD Cert.ReferenceFBIdeal.τ).loc Cert.ReferenceFBIdeal.main_arg5) = m ((c.tc : Thread Cert.ReferenceFBIdeal.nD Cert.ReferenceFBIdeal.τ).loc Cert.ReferenceFBIdeal.main_arg5))
      ∧ r.2.sem = fun _ => 0)

def quiescent_KernelFC [hKernelFC : Cert.KernelFC.Facts] : Prop :=
  ∀ (m : (ℓ : Loc Cert.KernelFC.nD Cert.KernelFC.τ Cert.KernelFC.sig) → Buf (Elt Bits) ℓ) (g : Dev Cert.KernelFC.nD → PrngReg), Pre_KernelFC m →
    θ_run (Cert.KernelFC.defs (F := Bits)) (onTc (τ := Cert.KernelFC.τ) (Cert.KernelFC.main (F := Bits))) ⟨m, fun _ => 0, g⟩ (fun r => (∀ c : Dev Cert.KernelFC.nD,
      r.2.mem ((c.tc : Thread Cert.KernelFC.nD Cert.KernelFC.τ).loc Cert.KernelFC.main_arg0) = m ((c.tc : Thread Cert.KernelFC.nD Cert.KernelFC.τ).loc Cert.KernelFC.main_arg0)
      ∧ r.2.mem ((c.tc : Thread Cert.KernelFC.nD Cert.KernelFC.τ).loc Cert.KernelFC.main_arg1) = m ((c.tc : Thread Cert.KernelFC.nD Cert.KernelFC.τ).loc Cert.KernelFC.main_arg1)
      ∧ r.2.mem ((c.tc : Thread Cert.KernelFC.nD Cert.KernelFC.τ).loc Cert.KernelFC.main_arg2) = m ((c.tc : Thread Cert.KernelFC.nD Cert.KernelFC.τ).loc Cert.KernelFC.main_arg2)
      ∧ r.2.mem ((c.tc : Thread Cert.KernelFC.nD Cert.KernelFC.τ).loc Cert.KernelFC.main_arg3) = m ((c.tc : Thread Cert.KernelFC.nD Cert.KernelFC.τ).loc Cert.KernelFC.main_arg3)
      ∧ r.2.mem ((c.tc : Thread Cert.KernelFC.nD Cert.KernelFC.τ).loc Cert.KernelFC.main_arg4) = m ((c.tc : Thread Cert.KernelFC.nD Cert.KernelFC.τ).loc Cert.KernelFC.main_arg4)
      ∧ r.2.mem ((c.tc : Thread Cert.KernelFC.nD Cert.KernelFC.τ).loc Cert.KernelFC.main_arg5) = m ((c.tc : Thread Cert.KernelFC.nD Cert.KernelFC.τ).loc Cert.KernelFC.main_arg5)
      ∧ r.2.mem ((c.tc : Thread Cert.KernelFC.nD Cert.KernelFC.τ).loc Cert.KernelFC.main_arg6) = m ((c.tc : Thread Cert.KernelFC.nD Cert.KernelFC.τ).loc Cert.KernelFC.main_arg6)
      ∧ r.2.mem ((c.tc : Thread Cert.KernelFC.nD Cert.KernelFC.τ).loc Cert.KernelFC.main_arg7) = m ((c.tc : Thread Cert.KernelFC.nD Cert.KernelFC.τ).loc Cert.KernelFC.main_arg7))
      ∧ r.2.sem = fun _ => 0)

def quiescent_KernelFCIdeal [hKernelFCIdeal : Cert.KernelFCIdeal.Facts] : Prop :=
  ∀ (m : (ℓ : Loc Cert.KernelFCIdeal.nD Cert.KernelFCIdeal.τ Cert.KernelFCIdeal.sig) → Buf (Elt Ideal) ℓ) (g : Dev Cert.KernelFCIdeal.nD → PrngReg), Pre_KernelFCIdeal m →
    θ_run (Cert.KernelFCIdeal.defs (F := Ideal)) (onTc (τ := Cert.KernelFCIdeal.τ) (Cert.KernelFCIdeal.main (F := Ideal))) ⟨m, fun _ => 0, g⟩ (fun r => (∀ c : Dev Cert.KernelFCIdeal.nD,
      r.2.mem ((c.tc : Thread Cert.KernelFCIdeal.nD Cert.KernelFCIdeal.τ).loc Cert.KernelFCIdeal.main_arg0) = m ((c.tc : Thread Cert.KernelFCIdeal.nD Cert.KernelFCIdeal.τ).loc Cert.KernelFCIdeal.main_arg0)
      ∧ r.2.mem ((c.tc : Thread Cert.KernelFCIdeal.nD Cert.KernelFCIdeal.τ).loc Cert.KernelFCIdeal.main_arg1) = m ((c.tc : Thread Cert.KernelFCIdeal.nD Cert.KernelFCIdeal.τ).loc Cert.KernelFCIdeal.main_arg1)
      ∧ r.2.mem ((c.tc : Thread Cert.KernelFCIdeal.nD Cert.KernelFCIdeal.τ).loc Cert.KernelFCIdeal.main_arg2) = m ((c.tc : Thread Cert.KernelFCIdeal.nD Cert.KernelFCIdeal.τ).loc Cert.KernelFCIdeal.main_arg2)
      ∧ r.2.mem ((c.tc : Thread Cert.KernelFCIdeal.nD Cert.KernelFCIdeal.τ).loc Cert.KernelFCIdeal.main_arg3) = m ((c.tc : Thread Cert.KernelFCIdeal.nD Cert.KernelFCIdeal.τ).loc Cert.KernelFCIdeal.main_arg3)
      ∧ r.2.mem ((c.tc : Thread Cert.KernelFCIdeal.nD Cert.KernelFCIdeal.τ).loc Cert.KernelFCIdeal.main_arg4) = m ((c.tc : Thread Cert.KernelFCIdeal.nD Cert.KernelFCIdeal.τ).loc Cert.KernelFCIdeal.main_arg4)
      ∧ r.2.mem ((c.tc : Thread Cert.KernelFCIdeal.nD Cert.KernelFCIdeal.τ).loc Cert.KernelFCIdeal.main_arg5) = m ((c.tc : Thread Cert.KernelFCIdeal.nD Cert.KernelFCIdeal.τ).loc Cert.KernelFCIdeal.main_arg5)
      ∧ r.2.mem ((c.tc : Thread Cert.KernelFCIdeal.nD Cert.KernelFCIdeal.τ).loc Cert.KernelFCIdeal.main_arg6) = m ((c.tc : Thread Cert.KernelFCIdeal.nD Cert.KernelFCIdeal.τ).loc Cert.KernelFCIdeal.main_arg6)
      ∧ r.2.mem ((c.tc : Thread Cert.KernelFCIdeal.nD Cert.KernelFCIdeal.τ).loc Cert.KernelFCIdeal.main_arg7) = m ((c.tc : Thread Cert.KernelFCIdeal.nD Cert.KernelFCIdeal.τ).loc Cert.KernelFCIdeal.main_arg7))
      ∧ r.2.sem = fun _ => 0)

def quiescent_ReferenceFCIdeal [hReferenceFCIdeal : Cert.ReferenceFCIdeal.Facts] : Prop :=
  ∀ (m : (ℓ : Loc Cert.ReferenceFCIdeal.nD Cert.ReferenceFCIdeal.τ Cert.ReferenceFCIdeal.sig) → Buf (Elt Ideal) ℓ) (g : Dev Cert.ReferenceFCIdeal.nD → PrngReg), Pre_ReferenceFCIdeal m →
    θ_run (Cert.ReferenceFCIdeal.defs (F := Ideal)) (onTc (τ := Cert.ReferenceFCIdeal.τ) (Cert.ReferenceFCIdeal.main (F := Ideal))) ⟨m, fun _ => 0, g⟩ (fun r => (∀ c : Dev Cert.ReferenceFCIdeal.nD,
      r.2.mem ((c.tc : Thread Cert.ReferenceFCIdeal.nD Cert.ReferenceFCIdeal.τ).loc Cert.ReferenceFCIdeal.main_arg0) = m ((c.tc : Thread Cert.ReferenceFCIdeal.nD Cert.ReferenceFCIdeal.τ).loc Cert.ReferenceFCIdeal.main_arg0)
      ∧ r.2.mem ((c.tc : Thread Cert.ReferenceFCIdeal.nD Cert.ReferenceFCIdeal.τ).loc Cert.ReferenceFCIdeal.main_arg1) = m ((c.tc : Thread Cert.ReferenceFCIdeal.nD Cert.ReferenceFCIdeal.τ).loc Cert.ReferenceFCIdeal.main_arg1)
      ∧ r.2.mem ((c.tc : Thread Cert.ReferenceFCIdeal.nD Cert.ReferenceFCIdeal.τ).loc Cert.ReferenceFCIdeal.main_arg2) = m ((c.tc : Thread Cert.ReferenceFCIdeal.nD Cert.ReferenceFCIdeal.τ).loc Cert.ReferenceFCIdeal.main_arg2)
      ∧ r.2.mem ((c.tc : Thread Cert.ReferenceFCIdeal.nD Cert.ReferenceFCIdeal.τ).loc Cert.ReferenceFCIdeal.main_arg3) = m ((c.tc : Thread Cert.ReferenceFCIdeal.nD Cert.ReferenceFCIdeal.τ).loc Cert.ReferenceFCIdeal.main_arg3)
      ∧ r.2.mem ((c.tc : Thread Cert.ReferenceFCIdeal.nD Cert.ReferenceFCIdeal.τ).loc Cert.ReferenceFCIdeal.main_arg4) = m ((c.tc : Thread Cert.ReferenceFCIdeal.nD Cert.ReferenceFCIdeal.τ).loc Cert.ReferenceFCIdeal.main_arg4)
      ∧ r.2.mem ((c.tc : Thread Cert.ReferenceFCIdeal.nD Cert.ReferenceFCIdeal.τ).loc Cert.ReferenceFCIdeal.main_arg5) = m ((c.tc : Thread Cert.ReferenceFCIdeal.nD Cert.ReferenceFCIdeal.τ).loc Cert.ReferenceFCIdeal.main_arg5)
      ∧ r.2.mem ((c.tc : Thread Cert.ReferenceFCIdeal.nD Cert.ReferenceFCIdeal.τ).loc Cert.ReferenceFCIdeal.main_arg6) = m ((c.tc : Thread Cert.ReferenceFCIdeal.nD Cert.ReferenceFCIdeal.τ).loc Cert.ReferenceFCIdeal.main_arg6)
      ∧ r.2.mem ((c.tc : Thread Cert.ReferenceFCIdeal.nD Cert.ReferenceFCIdeal.τ).loc Cert.ReferenceFCIdeal.main_arg7) = m ((c.tc : Thread Cert.ReferenceFCIdeal.nD Cert.ReferenceFCIdeal.τ).loc Cert.ReferenceFCIdeal.main_arg7))
      ∧ r.2.sem = fun _ => 0)

def quiescent_KernelFD [hKernelFD : Cert.KernelFD.Facts] : Prop :=
  ∀ (m : (ℓ : Loc Cert.KernelFD.nD Cert.KernelFD.τ Cert.KernelFD.sig) → Buf (Elt Bits) ℓ) (g : Dev Cert.KernelFD.nD → PrngReg), Pre_KernelFD m →
    θ_run (Cert.KernelFD.defs (F := Bits)) (onTc (τ := Cert.KernelFD.τ) (Cert.KernelFD.main (F := Bits))) ⟨m, fun _ => 0, g⟩ (fun r => (∀ c : Dev Cert.KernelFD.nD,
      r.2.mem ((c.tc : Thread Cert.KernelFD.nD Cert.KernelFD.τ).loc Cert.KernelFD.main_arg0) = m ((c.tc : Thread Cert.KernelFD.nD Cert.KernelFD.τ).loc Cert.KernelFD.main_arg0)
      ∧ r.2.mem ((c.tc : Thread Cert.KernelFD.nD Cert.KernelFD.τ).loc Cert.KernelFD.main_arg1) = m ((c.tc : Thread Cert.KernelFD.nD Cert.KernelFD.τ).loc Cert.KernelFD.main_arg1)
      ∧ r.2.mem ((c.tc : Thread Cert.KernelFD.nD Cert.KernelFD.τ).loc Cert.KernelFD.main_arg2) = m ((c.tc : Thread Cert.KernelFD.nD Cert.KernelFD.τ).loc Cert.KernelFD.main_arg2)
      ∧ r.2.mem ((c.tc : Thread Cert.KernelFD.nD Cert.KernelFD.τ).loc Cert.KernelFD.main_arg3) = m ((c.tc : Thread Cert.KernelFD.nD Cert.KernelFD.τ).loc Cert.KernelFD.main_arg3)
      ∧ r.2.mem ((c.tc : Thread Cert.KernelFD.nD Cert.KernelFD.τ).loc Cert.KernelFD.main_arg4) = m ((c.tc : Thread Cert.KernelFD.nD Cert.KernelFD.τ).loc Cert.KernelFD.main_arg4)
      ∧ r.2.mem ((c.tc : Thread Cert.KernelFD.nD Cert.KernelFD.τ).loc Cert.KernelFD.main_arg5) = m ((c.tc : Thread Cert.KernelFD.nD Cert.KernelFD.τ).loc Cert.KernelFD.main_arg5)
      ∧ r.2.mem ((c.tc : Thread Cert.KernelFD.nD Cert.KernelFD.τ).loc Cert.KernelFD.main_arg6) = m ((c.tc : Thread Cert.KernelFD.nD Cert.KernelFD.τ).loc Cert.KernelFD.main_arg6)
      ∧ r.2.mem ((c.tc : Thread Cert.KernelFD.nD Cert.KernelFD.τ).loc Cert.KernelFD.main_arg7) = m ((c.tc : Thread Cert.KernelFD.nD Cert.KernelFD.τ).loc Cert.KernelFD.main_arg7))
      ∧ r.2.sem = fun _ => 0)

def quiescent_KernelFDIdeal [hKernelFDIdeal : Cert.KernelFDIdeal.Facts] : Prop :=
  ∀ (m : (ℓ : Loc Cert.KernelFDIdeal.nD Cert.KernelFDIdeal.τ Cert.KernelFDIdeal.sig) → Buf (Elt Ideal) ℓ) (g : Dev Cert.KernelFDIdeal.nD → PrngReg), Pre_KernelFDIdeal m →
    θ_run (Cert.KernelFDIdeal.defs (F := Ideal)) (onTc (τ := Cert.KernelFDIdeal.τ) (Cert.KernelFDIdeal.main (F := Ideal))) ⟨m, fun _ => 0, g⟩ (fun r => (∀ c : Dev Cert.KernelFDIdeal.nD,
      r.2.mem ((c.tc : Thread Cert.KernelFDIdeal.nD Cert.KernelFDIdeal.τ).loc Cert.KernelFDIdeal.main_arg0) = m ((c.tc : Thread Cert.KernelFDIdeal.nD Cert.KernelFDIdeal.τ).loc Cert.KernelFDIdeal.main_arg0)
      ∧ r.2.mem ((c.tc : Thread Cert.KernelFDIdeal.nD Cert.KernelFDIdeal.τ).loc Cert.KernelFDIdeal.main_arg1) = m ((c.tc : Thread Cert.KernelFDIdeal.nD Cert.KernelFDIdeal.τ).loc Cert.KernelFDIdeal.main_arg1)
      ∧ r.2.mem ((c.tc : Thread Cert.KernelFDIdeal.nD Cert.KernelFDIdeal.τ).loc Cert.KernelFDIdeal.main_arg2) = m ((c.tc : Thread Cert.KernelFDIdeal.nD Cert.KernelFDIdeal.τ).loc Cert.KernelFDIdeal.main_arg2)
      ∧ r.2.mem ((c.tc : Thread Cert.KernelFDIdeal.nD Cert.KernelFDIdeal.τ).loc Cert.KernelFDIdeal.main_arg3) = m ((c.tc : Thread Cert.KernelFDIdeal.nD Cert.KernelFDIdeal.τ).loc Cert.KernelFDIdeal.main_arg3)
      ∧ r.2.mem ((c.tc : Thread Cert.KernelFDIdeal.nD Cert.KernelFDIdeal.τ).loc Cert.KernelFDIdeal.main_arg4) = m ((c.tc : Thread Cert.KernelFDIdeal.nD Cert.KernelFDIdeal.τ).loc Cert.KernelFDIdeal.main_arg4)
      ∧ r.2.mem ((c.tc : Thread Cert.KernelFDIdeal.nD Cert.KernelFDIdeal.τ).loc Cert.KernelFDIdeal.main_arg5) = m ((c.tc : Thread Cert.KernelFDIdeal.nD Cert.KernelFDIdeal.τ).loc Cert.KernelFDIdeal.main_arg5)
      ∧ r.2.mem ((c.tc : Thread Cert.KernelFDIdeal.nD Cert.KernelFDIdeal.τ).loc Cert.KernelFDIdeal.main_arg6) = m ((c.tc : Thread Cert.KernelFDIdeal.nD Cert.KernelFDIdeal.τ).loc Cert.KernelFDIdeal.main_arg6)
      ∧ r.2.mem ((c.tc : Thread Cert.KernelFDIdeal.nD Cert.KernelFDIdeal.τ).loc Cert.KernelFDIdeal.main_arg7) = m ((c.tc : Thread Cert.KernelFDIdeal.nD Cert.KernelFDIdeal.τ).loc Cert.KernelFDIdeal.main_arg7))
      ∧ r.2.sem = fun _ => 0)

def quiescent_ReferenceFDIdeal [hReferenceFDIdeal : Cert.ReferenceFDIdeal.Facts] : Prop :=
  ∀ (m : (ℓ : Loc Cert.ReferenceFDIdeal.nD Cert.ReferenceFDIdeal.τ Cert.ReferenceFDIdeal.sig) → Buf (Elt Ideal) ℓ) (g : Dev Cert.ReferenceFDIdeal.nD → PrngReg), Pre_ReferenceFDIdeal m →
    θ_run (Cert.ReferenceFDIdeal.defs (F := Ideal)) (onTc (τ := Cert.ReferenceFDIdeal.τ) (Cert.ReferenceFDIdeal.main (F := Ideal))) ⟨m, fun _ => 0, g⟩ (fun r => (∀ c : Dev Cert.ReferenceFDIdeal.nD,
      r.2.mem ((c.tc : Thread Cert.ReferenceFDIdeal.nD Cert.ReferenceFDIdeal.τ).loc Cert.ReferenceFDIdeal.main_arg0) = m ((c.tc : Thread Cert.ReferenceFDIdeal.nD Cert.ReferenceFDIdeal.τ).loc Cert.ReferenceFDIdeal.main_arg0)
      ∧ r.2.mem ((c.tc : Thread Cert.ReferenceFDIdeal.nD Cert.ReferenceFDIdeal.τ).loc Cert.ReferenceFDIdeal.main_arg1) = m ((c.tc : Thread Cert.ReferenceFDIdeal.nD Cert.ReferenceFDIdeal.τ).loc Cert.ReferenceFDIdeal.main_arg1)
      ∧ r.2.mem ((c.tc : Thread Cert.ReferenceFDIdeal.nD Cert.ReferenceFDIdeal.τ).loc Cert.ReferenceFDIdeal.main_arg2) = m ((c.tc : Thread Cert.ReferenceFDIdeal.nD Cert.ReferenceFDIdeal.τ).loc Cert.ReferenceFDIdeal.main_arg2)
      ∧ r.2.mem ((c.tc : Thread Cert.ReferenceFDIdeal.nD Cert.ReferenceFDIdeal.τ).loc Cert.ReferenceFDIdeal.main_arg3) = m ((c.tc : Thread Cert.ReferenceFDIdeal.nD Cert.ReferenceFDIdeal.τ).loc Cert.ReferenceFDIdeal.main_arg3)
      ∧ r.2.mem ((c.tc : Thread Cert.ReferenceFDIdeal.nD Cert.ReferenceFDIdeal.τ).loc Cert.ReferenceFDIdeal.main_arg4) = m ((c.tc : Thread Cert.ReferenceFDIdeal.nD Cert.ReferenceFDIdeal.τ).loc Cert.ReferenceFDIdeal.main_arg4)
      ∧ r.2.mem ((c.tc : Thread Cert.ReferenceFDIdeal.nD Cert.ReferenceFDIdeal.τ).loc Cert.ReferenceFDIdeal.main_arg5) = m ((c.tc : Thread Cert.ReferenceFDIdeal.nD Cert.ReferenceFDIdeal.τ).loc Cert.ReferenceFDIdeal.main_arg5)
      ∧ r.2.mem ((c.tc : Thread Cert.ReferenceFDIdeal.nD Cert.ReferenceFDIdeal.τ).loc Cert.ReferenceFDIdeal.main_arg6) = m ((c.tc : Thread Cert.ReferenceFDIdeal.nD Cert.ReferenceFDIdeal.τ).loc Cert.ReferenceFDIdeal.main_arg6)
      ∧ r.2.mem ((c.tc : Thread Cert.ReferenceFDIdeal.nD Cert.ReferenceFDIdeal.τ).loc Cert.ReferenceFDIdeal.main_arg7) = m ((c.tc : Thread Cert.ReferenceFDIdeal.nD Cert.ReferenceFDIdeal.τ).loc Cert.ReferenceFDIdeal.main_arg7))
      ∧ r.2.sem = fun _ => 0)

def quiescent_KernelFA [hKernelFA : Cert.KernelFA.Facts] : Prop :=
  ∀ (m : (ℓ : Loc Cert.KernelFA.nD Cert.KernelFA.τ Cert.KernelFA.sig) → Buf (Elt Bits) ℓ) (g : Dev Cert.KernelFA.nD → PrngReg), Pre_KernelFA m →
    θ_run (Cert.KernelFA.defs (F := Bits)) (onTc (τ := Cert.KernelFA.τ) (Cert.KernelFA.main (F := Bits))) ⟨m, fun _ => 0, g⟩ (fun r => (∀ c : Dev Cert.KernelFA.nD,
      r.2.mem ((c.tc : Thread Cert.KernelFA.nD Cert.KernelFA.τ).loc Cert.KernelFA.main_arg0) = m ((c.tc : Thread Cert.KernelFA.nD Cert.KernelFA.τ).loc Cert.KernelFA.main_arg0)
      ∧ r.2.mem ((c.tc : Thread Cert.KernelFA.nD Cert.KernelFA.τ).loc Cert.KernelFA.main_arg1) = m ((c.tc : Thread Cert.KernelFA.nD Cert.KernelFA.τ).loc Cert.KernelFA.main_arg1)
      ∧ r.2.mem ((c.tc : Thread Cert.KernelFA.nD Cert.KernelFA.τ).loc Cert.KernelFA.main_arg2) = m ((c.tc : Thread Cert.KernelFA.nD Cert.KernelFA.τ).loc Cert.KernelFA.main_arg2)
      ∧ r.2.mem ((c.tc : Thread Cert.KernelFA.nD Cert.KernelFA.τ).loc Cert.KernelFA.main_arg3) = m ((c.tc : Thread Cert.KernelFA.nD Cert.KernelFA.τ).loc Cert.KernelFA.main_arg3)
      ∧ r.2.mem ((c.tc : Thread Cert.KernelFA.nD Cert.KernelFA.τ).loc Cert.KernelFA.main_arg4) = m ((c.tc : Thread Cert.KernelFA.nD Cert.KernelFA.τ).loc Cert.KernelFA.main_arg4)
      ∧ r.2.mem ((c.tc : Thread Cert.KernelFA.nD Cert.KernelFA.τ).loc Cert.KernelFA.main_arg5) = m ((c.tc : Thread Cert.KernelFA.nD Cert.KernelFA.τ).loc Cert.KernelFA.main_arg5)
      ∧ r.2.mem ((c.tc : Thread Cert.KernelFA.nD Cert.KernelFA.τ).loc Cert.KernelFA.main_arg6) = m ((c.tc : Thread Cert.KernelFA.nD Cert.KernelFA.τ).loc Cert.KernelFA.main_arg6)
      ∧ r.2.mem ((c.tc : Thread Cert.KernelFA.nD Cert.KernelFA.τ).loc Cert.KernelFA.main_arg7) = m ((c.tc : Thread Cert.KernelFA.nD Cert.KernelFA.τ).loc Cert.KernelFA.main_arg7)
      ∧ r.2.mem ((c.tc : Thread Cert.KernelFA.nD Cert.KernelFA.τ).loc Cert.KernelFA.main_arg8) = m ((c.tc : Thread Cert.KernelFA.nD Cert.KernelFA.τ).loc Cert.KernelFA.main_arg8)
      ∧ r.2.mem ((c.tc : Thread Cert.KernelFA.nD Cert.KernelFA.τ).loc Cert.KernelFA.main_arg9) = m ((c.tc : Thread Cert.KernelFA.nD Cert.KernelFA.τ).loc Cert.KernelFA.main_arg9)
      ∧ r.2.mem ((c.tc : Thread Cert.KernelFA.nD Cert.KernelFA.τ).loc Cert.KernelFA.main_arg10) = m ((c.tc : Thread Cert.KernelFA.nD Cert.KernelFA.τ).loc Cert.KernelFA.main_arg10))
      ∧ r.2.sem = fun _ => 0)

def quiescent_KernelFAIdeal [hKernelFAIdeal : Cert.KernelFAIdeal.Facts] : Prop :=
  ∀ (m : (ℓ : Loc Cert.KernelFAIdeal.nD Cert.KernelFAIdeal.τ Cert.KernelFAIdeal.sig) → Buf (Elt Ideal) ℓ) (g : Dev Cert.KernelFAIdeal.nD → PrngReg), Pre_KernelFAIdeal m →
    θ_run (Cert.KernelFAIdeal.defs (F := Ideal)) (onTc (τ := Cert.KernelFAIdeal.τ) (Cert.KernelFAIdeal.main (F := Ideal))) ⟨m, fun _ => 0, g⟩ (fun r => (∀ c : Dev Cert.KernelFAIdeal.nD,
      r.2.mem ((c.tc : Thread Cert.KernelFAIdeal.nD Cert.KernelFAIdeal.τ).loc Cert.KernelFAIdeal.main_arg0) = m ((c.tc : Thread Cert.KernelFAIdeal.nD Cert.KernelFAIdeal.τ).loc Cert.KernelFAIdeal.main_arg0)
      ∧ r.2.mem ((c.tc : Thread Cert.KernelFAIdeal.nD Cert.KernelFAIdeal.τ).loc Cert.KernelFAIdeal.main_arg1) = m ((c.tc : Thread Cert.KernelFAIdeal.nD Cert.KernelFAIdeal.τ).loc Cert.KernelFAIdeal.main_arg1)
      ∧ r.2.mem ((c.tc : Thread Cert.KernelFAIdeal.nD Cert.KernelFAIdeal.τ).loc Cert.KernelFAIdeal.main_arg2) = m ((c.tc : Thread Cert.KernelFAIdeal.nD Cert.KernelFAIdeal.τ).loc Cert.KernelFAIdeal.main_arg2)
      ∧ r.2.mem ((c.tc : Thread Cert.KernelFAIdeal.nD Cert.KernelFAIdeal.τ).loc Cert.KernelFAIdeal.main_arg3) = m ((c.tc : Thread Cert.KernelFAIdeal.nD Cert.KernelFAIdeal.τ).loc Cert.KernelFAIdeal.main_arg3)
      ∧ r.2.mem ((c.tc : Thread Cert.KernelFAIdeal.nD Cert.KernelFAIdeal.τ).loc Cert.KernelFAIdeal.main_arg4) = m ((c.tc : Thread Cert.KernelFAIdeal.nD Cert.KernelFAIdeal.τ).loc Cert.KernelFAIdeal.main_arg4)
      ∧ r.2.mem ((c.tc : Thread Cert.KernelFAIdeal.nD Cert.KernelFAIdeal.τ).loc Cert.KernelFAIdeal.main_arg5) = m ((c.tc : Thread Cert.KernelFAIdeal.nD Cert.KernelFAIdeal.τ).loc Cert.KernelFAIdeal.main_arg5)
      ∧ r.2.mem ((c.tc : Thread Cert.KernelFAIdeal.nD Cert.KernelFAIdeal.τ).loc Cert.KernelFAIdeal.main_arg6) = m ((c.tc : Thread Cert.KernelFAIdeal.nD Cert.KernelFAIdeal.τ).loc Cert.KernelFAIdeal.main_arg6)
      ∧ r.2.mem ((c.tc : Thread Cert.KernelFAIdeal.nD Cert.KernelFAIdeal.τ).loc Cert.KernelFAIdeal.main_arg7) = m ((c.tc : Thread Cert.KernelFAIdeal.nD Cert.KernelFAIdeal.τ).loc Cert.KernelFAIdeal.main_arg7)
      ∧ r.2.mem ((c.tc : Thread Cert.KernelFAIdeal.nD Cert.KernelFAIdeal.τ).loc Cert.KernelFAIdeal.main_arg8) = m ((c.tc : Thread Cert.KernelFAIdeal.nD Cert.KernelFAIdeal.τ).loc Cert.KernelFAIdeal.main_arg8)
      ∧ r.2.mem ((c.tc : Thread Cert.KernelFAIdeal.nD Cert.KernelFAIdeal.τ).loc Cert.KernelFAIdeal.main_arg9) = m ((c.tc : Thread Cert.KernelFAIdeal.nD Cert.KernelFAIdeal.τ).loc Cert.KernelFAIdeal.main_arg9)
      ∧ r.2.mem ((c.tc : Thread Cert.KernelFAIdeal.nD Cert.KernelFAIdeal.τ).loc Cert.KernelFAIdeal.main_arg10) = m ((c.tc : Thread Cert.KernelFAIdeal.nD Cert.KernelFAIdeal.τ).loc Cert.KernelFAIdeal.main_arg10))
      ∧ r.2.sem = fun _ => 0)

def quiescent_KernelFAIdeal_pre_finite_lse [hKernelFAIdeal : Cert.KernelFAIdeal.Facts] [hPre_finite_lse : Cert.Pre_finite_lse.Facts] : Prop :=
  ∀ (m : (ℓ : Loc Cert.KernelFAIdeal.nD Cert.KernelFAIdeal.τ Cert.KernelFAIdeal.sig) → Buf (Elt Ideal) ℓ) (g : Dev Cert.KernelFAIdeal.nD → PrngReg), Pre_KernelFAIdeal_finite_lse m →
    θ_run (Cert.KernelFAIdeal.defs (F := Ideal)) (onTc (τ := Cert.KernelFAIdeal.τ) (Cert.KernelFAIdeal.main (F := Ideal))) ⟨m, fun _ => 0, g⟩ (fun r => (∀ c : Dev Cert.KernelFAIdeal.nD,
      r.2.mem ((c.tc : Thread Cert.KernelFAIdeal.nD Cert.KernelFAIdeal.τ).loc Cert.KernelFAIdeal.main_arg0) = m ((c.tc : Thread Cert.KernelFAIdeal.nD Cert.KernelFAIdeal.τ).loc Cert.KernelFAIdeal.main_arg0)
      ∧ r.2.mem ((c.tc : Thread Cert.KernelFAIdeal.nD Cert.KernelFAIdeal.τ).loc Cert.KernelFAIdeal.main_arg1) = m ((c.tc : Thread Cert.KernelFAIdeal.nD Cert.KernelFAIdeal.τ).loc Cert.KernelFAIdeal.main_arg1)
      ∧ r.2.mem ((c.tc : Thread Cert.KernelFAIdeal.nD Cert.KernelFAIdeal.τ).loc Cert.KernelFAIdeal.main_arg2) = m ((c.tc : Thread Cert.KernelFAIdeal.nD Cert.KernelFAIdeal.τ).loc Cert.KernelFAIdeal.main_arg2)
      ∧ r.2.mem ((c.tc : Thread Cert.KernelFAIdeal.nD Cert.KernelFAIdeal.τ).loc Cert.KernelFAIdeal.main_arg3) = m ((c.tc : Thread Cert.KernelFAIdeal.nD Cert.KernelFAIdeal.τ).loc Cert.KernelFAIdeal.main_arg3)
      ∧ r.2.mem ((c.tc : Thread Cert.KernelFAIdeal.nD Cert.KernelFAIdeal.τ).loc Cert.KernelFAIdeal.main_arg4) = m ((c.tc : Thread Cert.KernelFAIdeal.nD Cert.KernelFAIdeal.τ).loc Cert.KernelFAIdeal.main_arg4)
      ∧ r.2.mem ((c.tc : Thread Cert.KernelFAIdeal.nD Cert.KernelFAIdeal.τ).loc Cert.KernelFAIdeal.main_arg5) = m ((c.tc : Thread Cert.KernelFAIdeal.nD Cert.KernelFAIdeal.τ).loc Cert.KernelFAIdeal.main_arg5)
      ∧ r.2.mem ((c.tc : Thread Cert.KernelFAIdeal.nD Cert.KernelFAIdeal.τ).loc Cert.KernelFAIdeal.main_arg6) = m ((c.tc : Thread Cert.KernelFAIdeal.nD Cert.KernelFAIdeal.τ).loc Cert.KernelFAIdeal.main_arg6)
      ∧ r.2.mem ((c.tc : Thread Cert.KernelFAIdeal.nD Cert.KernelFAIdeal.τ).loc Cert.KernelFAIdeal.main_arg7) = m ((c.tc : Thread Cert.KernelFAIdeal.nD Cert.KernelFAIdeal.τ).loc Cert.KernelFAIdeal.main_arg7)
      ∧ r.2.mem ((c.tc : Thread Cert.KernelFAIdeal.nD Cert.KernelFAIdeal.τ).loc Cert.KernelFAIdeal.main_arg8) = m ((c.tc : Thread Cert.KernelFAIdeal.nD Cert.KernelFAIdeal.τ).loc Cert.KernelFAIdeal.main_arg8)
      ∧ r.2.mem ((c.tc : Thread Cert.KernelFAIdeal.nD Cert.KernelFAIdeal.τ).loc Cert.KernelFAIdeal.main_arg9) = m ((c.tc : Thread Cert.KernelFAIdeal.nD Cert.KernelFAIdeal.τ).loc Cert.KernelFAIdeal.main_arg9)
      ∧ r.2.mem ((c.tc : Thread Cert.KernelFAIdeal.nD Cert.KernelFAIdeal.τ).loc Cert.KernelFAIdeal.main_arg10) = m ((c.tc : Thread Cert.KernelFAIdeal.nD Cert.KernelFAIdeal.τ).loc Cert.KernelFAIdeal.main_arg10))
      ∧ r.2.sem = fun _ => 0)

def quiescent_ReferenceFAIdeal [hReferenceFAIdeal : Cert.ReferenceFAIdeal.Facts] : Prop :=
  ∀ (m : (ℓ : Loc Cert.ReferenceFAIdeal.nD Cert.ReferenceFAIdeal.τ Cert.ReferenceFAIdeal.sig) → Buf (Elt Ideal) ℓ) (g : Dev Cert.ReferenceFAIdeal.nD → PrngReg), Pre_ReferenceFAIdeal m →
    θ_run (Cert.ReferenceFAIdeal.defs (F := Ideal)) (onTc (τ := Cert.ReferenceFAIdeal.τ) (Cert.ReferenceFAIdeal.main (F := Ideal))) ⟨m, fun _ => 0, g⟩ (fun r => (∀ c : Dev Cert.ReferenceFAIdeal.nD,
      r.2.mem ((c.tc : Thread Cert.ReferenceFAIdeal.nD Cert.ReferenceFAIdeal.τ).loc Cert.ReferenceFAIdeal.main_arg0) = m ((c.tc : Thread Cert.ReferenceFAIdeal.nD Cert.ReferenceFAIdeal.τ).loc Cert.ReferenceFAIdeal.main_arg0)
      ∧ r.2.mem ((c.tc : Thread Cert.ReferenceFAIdeal.nD Cert.ReferenceFAIdeal.τ).loc Cert.ReferenceFAIdeal.main_arg1) = m ((c.tc : Thread Cert.ReferenceFAIdeal.nD Cert.ReferenceFAIdeal.τ).loc Cert.ReferenceFAIdeal.main_arg1)
      ∧ r.2.mem ((c.tc : Thread Cert.ReferenceFAIdeal.nD Cert.ReferenceFAIdeal.τ).loc Cert.ReferenceFAIdeal.main_arg2) = m ((c.tc : Thread Cert.ReferenceFAIdeal.nD Cert.ReferenceFAIdeal.τ).loc Cert.ReferenceFAIdeal.main_arg2)
      ∧ r.2.mem ((c.tc : Thread Cert.ReferenceFAIdeal.nD Cert.ReferenceFAIdeal.τ).loc Cert.ReferenceFAIdeal.main_arg3) = m ((c.tc : Thread Cert.ReferenceFAIdeal.nD Cert.ReferenceFAIdeal.τ).loc Cert.ReferenceFAIdeal.main_arg3)
      ∧ r.2.mem ((c.tc : Thread Cert.ReferenceFAIdeal.nD Cert.ReferenceFAIdeal.τ).loc Cert.ReferenceFAIdeal.main_arg4) = m ((c.tc : Thread Cert.ReferenceFAIdeal.nD Cert.ReferenceFAIdeal.τ).loc Cert.ReferenceFAIdeal.main_arg4)
      ∧ r.2.mem ((c.tc : Thread Cert.ReferenceFAIdeal.nD Cert.ReferenceFAIdeal.τ).loc Cert.ReferenceFAIdeal.main_arg5) = m ((c.tc : Thread Cert.ReferenceFAIdeal.nD Cert.ReferenceFAIdeal.τ).loc Cert.ReferenceFAIdeal.main_arg5)
      ∧ r.2.mem ((c.tc : Thread Cert.ReferenceFAIdeal.nD Cert.ReferenceFAIdeal.τ).loc Cert.ReferenceFAIdeal.main_arg6) = m ((c.tc : Thread Cert.ReferenceFAIdeal.nD Cert.ReferenceFAIdeal.τ).loc Cert.ReferenceFAIdeal.main_arg6)
      ∧ r.2.mem ((c.tc : Thread Cert.ReferenceFAIdeal.nD Cert.ReferenceFAIdeal.τ).loc Cert.ReferenceFAIdeal.main_arg7) = m ((c.tc : Thread Cert.ReferenceFAIdeal.nD Cert.ReferenceFAIdeal.τ).loc Cert.ReferenceFAIdeal.main_arg7)
      ∧ r.2.mem ((c.tc : Thread Cert.ReferenceFAIdeal.nD Cert.ReferenceFAIdeal.τ).loc Cert.ReferenceFAIdeal.main_arg8) = m ((c.tc : Thread Cert.ReferenceFAIdeal.nD Cert.ReferenceFAIdeal.τ).loc Cert.ReferenceFAIdeal.main_arg8)
      ∧ r.2.mem ((c.tc : Thread Cert.ReferenceFAIdeal.nD Cert.ReferenceFAIdeal.τ).loc Cert.ReferenceFAIdeal.main_arg9) = m ((c.tc : Thread Cert.ReferenceFAIdeal.nD Cert.ReferenceFAIdeal.τ).loc Cert.ReferenceFAIdeal.main_arg9)
      ∧ r.2.mem ((c.tc : Thread Cert.ReferenceFAIdeal.nD Cert.ReferenceFAIdeal.τ).loc Cert.ReferenceFAIdeal.main_arg10) = m ((c.tc : Thread Cert.ReferenceFAIdeal.nD Cert.ReferenceFAIdeal.τ).loc Cert.ReferenceFAIdeal.main_arg10))
      ∧ r.2.sem = fun _ => 0)

def quiescent_ReferenceFAIdeal_pre_finite_lse [hReferenceFAIdeal : Cert.ReferenceFAIdeal.Facts] [hPre_finite_lse : Cert.Pre_finite_lse.Facts] : Prop :=
  ∀ (m : (ℓ : Loc Cert.ReferenceFAIdeal.nD Cert.ReferenceFAIdeal.τ Cert.ReferenceFAIdeal.sig) → Buf (Elt Ideal) ℓ) (g : Dev Cert.ReferenceFAIdeal.nD → PrngReg), Pre_ReferenceFAIdeal_finite_lse m →
    θ_run (Cert.ReferenceFAIdeal.defs (F := Ideal)) (onTc (τ := Cert.ReferenceFAIdeal.τ) (Cert.ReferenceFAIdeal.main (F := Ideal))) ⟨m, fun _ => 0, g⟩ (fun r => (∀ c : Dev Cert.ReferenceFAIdeal.nD,
      r.2.mem ((c.tc : Thread Cert.ReferenceFAIdeal.nD Cert.ReferenceFAIdeal.τ).loc Cert.ReferenceFAIdeal.main_arg0) = m ((c.tc : Thread Cert.ReferenceFAIdeal.nD Cert.ReferenceFAIdeal.τ).loc Cert.ReferenceFAIdeal.main_arg0)
      ∧ r.2.mem ((c.tc : Thread Cert.ReferenceFAIdeal.nD Cert.ReferenceFAIdeal.τ).loc Cert.ReferenceFAIdeal.main_arg1) = m ((c.tc : Thread Cert.ReferenceFAIdeal.nD Cert.ReferenceFAIdeal.τ).loc Cert.ReferenceFAIdeal.main_arg1)
      ∧ r.2.mem ((c.tc : Thread Cert.ReferenceFAIdeal.nD Cert.ReferenceFAIdeal.τ).loc Cert.ReferenceFAIdeal.main_arg2) = m ((c.tc : Thread Cert.ReferenceFAIdeal.nD Cert.ReferenceFAIdeal.τ).loc Cert.ReferenceFAIdeal.main_arg2)
      ∧ r.2.mem ((c.tc : Thread Cert.ReferenceFAIdeal.nD Cert.ReferenceFAIdeal.τ).loc Cert.ReferenceFAIdeal.main_arg3) = m ((c.tc : Thread Cert.ReferenceFAIdeal.nD Cert.ReferenceFAIdeal.τ).loc Cert.ReferenceFAIdeal.main_arg3)
      ∧ r.2.mem ((c.tc : Thread Cert.ReferenceFAIdeal.nD Cert.ReferenceFAIdeal.τ).loc Cert.ReferenceFAIdeal.main_arg4) = m ((c.tc : Thread Cert.ReferenceFAIdeal.nD Cert.ReferenceFAIdeal.τ).loc Cert.ReferenceFAIdeal.main_arg4)
      ∧ r.2.mem ((c.tc : Thread Cert.ReferenceFAIdeal.nD Cert.ReferenceFAIdeal.τ).loc Cert.ReferenceFAIdeal.main_arg5) = m ((c.tc : Thread Cert.ReferenceFAIdeal.nD Cert.ReferenceFAIdeal.τ).loc Cert.ReferenceFAIdeal.main_arg5)
      ∧ r.2.mem ((c.tc : Thread Cert.ReferenceFAIdeal.nD Cert.ReferenceFAIdeal.τ).loc Cert.ReferenceFAIdeal.main_arg6) = m ((c.tc : Thread Cert.ReferenceFAIdeal.nD Cert.ReferenceFAIdeal.τ).loc Cert.ReferenceFAIdeal.main_arg6)
      ∧ r.2.mem ((c.tc : Thread Cert.ReferenceFAIdeal.nD Cert.ReferenceFAIdeal.τ).loc Cert.ReferenceFAIdeal.main_arg7) = m ((c.tc : Thread Cert.ReferenceFAIdeal.nD Cert.ReferenceFAIdeal.τ).loc Cert.ReferenceFAIdeal.main_arg7)
      ∧ r.2.mem ((c.tc : Thread Cert.ReferenceFAIdeal.nD Cert.ReferenceFAIdeal.τ).loc Cert.ReferenceFAIdeal.main_arg8) = m ((c.tc : Thread Cert.ReferenceFAIdeal.nD Cert.ReferenceFAIdeal.τ).loc Cert.ReferenceFAIdeal.main_arg8)
      ∧ r.2.mem ((c.tc : Thread Cert.ReferenceFAIdeal.nD Cert.ReferenceFAIdeal.τ).loc Cert.ReferenceFAIdeal.main_arg9) = m ((c.tc : Thread Cert.ReferenceFAIdeal.nD Cert.ReferenceFAIdeal.τ).loc Cert.ReferenceFAIdeal.main_arg9)
      ∧ r.2.mem ((c.tc : Thread Cert.ReferenceFAIdeal.nD Cert.ReferenceFAIdeal.τ).loc Cert.ReferenceFAIdeal.main_arg10) = m ((c.tc : Thread Cert.ReferenceFAIdeal.nD Cert.ReferenceFAIdeal.τ).loc Cert.ReferenceFAIdeal.main_arg10))
      ∧ r.2.sem = fun _ => 0)

def quiescent_KernelPC [hKernelPC : Cert.KernelPC.Facts] : Prop :=
  ∀ (m : (ℓ : Loc Cert.KernelPC.nD Cert.KernelPC.τ Cert.KernelPC.sig) → Buf (Elt Bits) ℓ) (g : Dev Cert.KernelPC.nD → PrngReg), Pre_KernelPC m →
    θ_run (Cert.KernelPC.defs (F := Bits)) (onTc (τ := Cert.KernelPC.τ) (Cert.KernelPC.main (F := Bits))) ⟨m, fun _ => 0, g⟩ (fun r => (∀ c : Dev Cert.KernelPC.nD,
      r.2.mem ((c.tc : Thread Cert.KernelPC.nD Cert.KernelPC.τ).loc Cert.KernelPC.main_arg0) = m ((c.tc : Thread Cert.KernelPC.nD Cert.KernelPC.τ).loc Cert.KernelPC.main_arg0)
      ∧ r.2.mem ((c.tc : Thread Cert.KernelPC.nD Cert.KernelPC.τ).loc Cert.KernelPC.main_arg1) = m ((c.tc : Thread Cert.KernelPC.nD Cert.KernelPC.τ).loc Cert.KernelPC.main_arg1)
      ∧ r.2.mem ((c.tc : Thread Cert.KernelPC.nD Cert.KernelPC.τ).loc Cert.KernelPC.main_arg2) = m ((c.tc : Thread Cert.KernelPC.nD Cert.KernelPC.τ).loc Cert.KernelPC.main_arg2))
      ∧ r.2.sem = fun _ => 0)

def quiescent_KernelPCIdeal [hKernelPCIdeal : Cert.KernelPCIdeal.Facts] : Prop :=
  ∀ (m : (ℓ : Loc Cert.KernelPCIdeal.nD Cert.KernelPCIdeal.τ Cert.KernelPCIdeal.sig) → Buf (Elt Ideal) ℓ) (g : Dev Cert.KernelPCIdeal.nD → PrngReg), Pre_KernelPCIdeal m →
    θ_run (Cert.KernelPCIdeal.defs (F := Ideal)) (onTc (τ := Cert.KernelPCIdeal.τ) (Cert.KernelPCIdeal.main (F := Ideal))) ⟨m, fun _ => 0, g⟩ (fun r => (∀ c : Dev Cert.KernelPCIdeal.nD,
      r.2.mem ((c.tc : Thread Cert.KernelPCIdeal.nD Cert.KernelPCIdeal.τ).loc Cert.KernelPCIdeal.main_arg0) = m ((c.tc : Thread Cert.KernelPCIdeal.nD Cert.KernelPCIdeal.τ).loc Cert.KernelPCIdeal.main_arg0)
      ∧ r.2.mem ((c.tc : Thread Cert.KernelPCIdeal.nD Cert.KernelPCIdeal.τ).loc Cert.KernelPCIdeal.main_arg1) = m ((c.tc : Thread Cert.KernelPCIdeal.nD Cert.KernelPCIdeal.τ).loc Cert.KernelPCIdeal.main_arg1)
      ∧ r.2.mem ((c.tc : Thread Cert.KernelPCIdeal.nD Cert.KernelPCIdeal.τ).loc Cert.KernelPCIdeal.main_arg2) = m ((c.tc : Thread Cert.KernelPCIdeal.nD Cert.KernelPCIdeal.τ).loc Cert.KernelPCIdeal.main_arg2))
      ∧ r.2.sem = fun _ => 0)

def quiescent_ReferencePCIdeal [hReferencePCIdeal : Cert.ReferencePCIdeal.Facts] : Prop :=
  ∀ (m : (ℓ : Loc Cert.ReferencePCIdeal.nD Cert.ReferencePCIdeal.τ Cert.ReferencePCIdeal.sig) → Buf (Elt Ideal) ℓ) (g : Dev Cert.ReferencePCIdeal.nD → PrngReg), Pre_ReferencePCIdeal m →
    θ_run (Cert.ReferencePCIdeal.defs (F := Ideal)) (onTc (τ := Cert.ReferencePCIdeal.τ) (Cert.ReferencePCIdeal.main (F := Ideal))) ⟨m, fun _ => 0, g⟩ (fun r => (∀ c : Dev Cert.ReferencePCIdeal.nD,
      r.2.mem ((c.tc : Thread Cert.ReferencePCIdeal.nD Cert.ReferencePCIdeal.τ).loc Cert.ReferencePCIdeal.main_arg0) = m ((c.tc : Thread Cert.ReferencePCIdeal.nD Cert.ReferencePCIdeal.τ).loc Cert.ReferencePCIdeal.main_arg0)
      ∧ r.2.mem ((c.tc : Thread Cert.ReferencePCIdeal.nD Cert.ReferencePCIdeal.τ).loc Cert.ReferencePCIdeal.main_arg1) = m ((c.tc : Thread Cert.ReferencePCIdeal.nD Cert.ReferencePCIdeal.τ).loc Cert.ReferencePCIdeal.main_arg1)
      ∧ r.2.mem ((c.tc : Thread Cert.ReferencePCIdeal.nD Cert.ReferencePCIdeal.τ).loc Cert.ReferencePCIdeal.main_arg2) = m ((c.tc : Thread Cert.ReferencePCIdeal.nD Cert.ReferencePCIdeal.τ).loc Cert.ReferencePCIdeal.main_arg2))
      ∧ r.2.sem = fun _ => 0)

def quiescent_KernelPD [hKernelPD : Cert.KernelPD.Facts] : Prop :=
  ∀ (m : (ℓ : Loc Cert.KernelPD.nD Cert.KernelPD.τ Cert.KernelPD.sig) → Buf (Elt Bits) ℓ) (g : Dev Cert.KernelPD.nD → PrngReg), Pre_KernelPD m →
    θ_run (Cert.KernelPD.defs (F := Bits)) (onTc (τ := Cert.KernelPD.τ) (Cert.KernelPD.main (F := Bits))) ⟨m, fun _ => 0, g⟩ (fun r => (∀ c : Dev Cert.KernelPD.nD,
      r.2.mem ((c.tc : Thread Cert.KernelPD.nD Cert.KernelPD.τ).loc Cert.KernelPD.main_arg0) = m ((c.tc : Thread Cert.KernelPD.nD Cert.KernelPD.τ).loc Cert.KernelPD.main_arg0)
      ∧ r.2.mem ((c.tc : Thread Cert.KernelPD.nD Cert.KernelPD.τ).loc Cert.KernelPD.main_arg1) = m ((c.tc : Thread Cert.KernelPD.nD Cert.KernelPD.τ).loc Cert.KernelPD.main_arg1)
      ∧ r.2.mem ((c.tc : Thread Cert.KernelPD.nD Cert.KernelPD.τ).loc Cert.KernelPD.main_arg2) = m ((c.tc : Thread Cert.KernelPD.nD Cert.KernelPD.τ).loc Cert.KernelPD.main_arg2))
      ∧ r.2.sem = fun _ => 0)

def quiescent_KernelPDIdeal [hKernelPDIdeal : Cert.KernelPDIdeal.Facts] : Prop :=
  ∀ (m : (ℓ : Loc Cert.KernelPDIdeal.nD Cert.KernelPDIdeal.τ Cert.KernelPDIdeal.sig) → Buf (Elt Ideal) ℓ) (g : Dev Cert.KernelPDIdeal.nD → PrngReg), Pre_KernelPDIdeal m →
    θ_run (Cert.KernelPDIdeal.defs (F := Ideal)) (onTc (τ := Cert.KernelPDIdeal.τ) (Cert.KernelPDIdeal.main (F := Ideal))) ⟨m, fun _ => 0, g⟩ (fun r => (∀ c : Dev Cert.KernelPDIdeal.nD,
      r.2.mem ((c.tc : Thread Cert.KernelPDIdeal.nD Cert.KernelPDIdeal.τ).loc Cert.KernelPDIdeal.main_arg0) = m ((c.tc : Thread Cert.KernelPDIdeal.nD Cert.KernelPDIdeal.τ).loc Cert.KernelPDIdeal.main_arg0)
      ∧ r.2.mem ((c.tc : Thread Cert.KernelPDIdeal.nD Cert.KernelPDIdeal.τ).loc Cert.KernelPDIdeal.main_arg1) = m ((c.tc : Thread Cert.KernelPDIdeal.nD Cert.KernelPDIdeal.τ).loc Cert.KernelPDIdeal.main_arg1)
      ∧ r.2.mem ((c.tc : Thread Cert.KernelPDIdeal.nD Cert.KernelPDIdeal.τ).loc Cert.KernelPDIdeal.main_arg2) = m ((c.tc : Thread Cert.KernelPDIdeal.nD Cert.KernelPDIdeal.τ).loc Cert.KernelPDIdeal.main_arg2))
      ∧ r.2.sem = fun _ => 0)

def quiescent_ReferencePDIdeal [hReferencePDIdeal : Cert.ReferencePDIdeal.Facts] : Prop :=
  ∀ (m : (ℓ : Loc Cert.ReferencePDIdeal.nD Cert.ReferencePDIdeal.τ Cert.ReferencePDIdeal.sig) → Buf (Elt Ideal) ℓ) (g : Dev Cert.ReferencePDIdeal.nD → PrngReg), Pre_ReferencePDIdeal m →
    θ_run (Cert.ReferencePDIdeal.defs (F := Ideal)) (onTc (τ := Cert.ReferencePDIdeal.τ) (Cert.ReferencePDIdeal.main (F := Ideal))) ⟨m, fun _ => 0, g⟩ (fun r => (∀ c : Dev Cert.ReferencePDIdeal.nD,
      r.2.mem ((c.tc : Thread Cert.ReferencePDIdeal.nD Cert.ReferencePDIdeal.τ).loc Cert.ReferencePDIdeal.main_arg0) = m ((c.tc : Thread Cert.ReferencePDIdeal.nD Cert.ReferencePDIdeal.τ).loc Cert.ReferencePDIdeal.main_arg0)
      ∧ r.2.mem ((c.tc : Thread Cert.ReferencePDIdeal.nD Cert.ReferencePDIdeal.τ).loc Cert.ReferencePDIdeal.main_arg1) = m ((c.tc : Thread Cert.ReferencePDIdeal.nD Cert.ReferencePDIdeal.τ).loc Cert.ReferencePDIdeal.main_arg1)
      ∧ r.2.mem ((c.tc : Thread Cert.ReferencePDIdeal.nD Cert.ReferencePDIdeal.τ).loc Cert.ReferencePDIdeal.main_arg2) = m ((c.tc : Thread Cert.ReferencePDIdeal.nD Cert.ReferencePDIdeal.τ).loc Cert.ReferencePDIdeal.main_arg2))
      ∧ r.2.sem = fun _ => 0)

def quiescent_KernelQAIdeal [hKernelQAIdeal : Cert.KernelQAIdeal.Facts] : Prop :=
  ∀ (m : (ℓ : Loc Cert.KernelQAIdeal.nD Cert.KernelQAIdeal.τ Cert.KernelQAIdeal.sig) → Buf (Elt Ideal) ℓ) (g : Dev Cert.KernelQAIdeal.nD → PrngReg), Pre_KernelQAIdeal m →
    θ_run (Cert.KernelQAIdeal.defs (F := Ideal)) (onTc (τ := Cert.KernelQAIdeal.τ) (Cert.KernelQAIdeal.main (F := Ideal))) ⟨m, fun _ => 0, g⟩ (fun r => (∀ c : Dev Cert.KernelQAIdeal.nD,
      r.2.mem ((c.tc : Thread Cert.KernelQAIdeal.nD Cert.KernelQAIdeal.τ).loc Cert.KernelQAIdeal.main_arg0) = m ((c.tc : Thread Cert.KernelQAIdeal.nD Cert.KernelQAIdeal.τ).loc Cert.KernelQAIdeal.main_arg0)
      ∧ r.2.mem ((c.tc : Thread Cert.KernelQAIdeal.nD Cert.KernelQAIdeal.τ).loc Cert.KernelQAIdeal.main_arg1) = m ((c.tc : Thread Cert.KernelQAIdeal.nD Cert.KernelQAIdeal.τ).loc Cert.KernelQAIdeal.main_arg1)
      ∧ r.2.mem ((c.tc : Thread Cert.KernelQAIdeal.nD Cert.KernelQAIdeal.τ).loc Cert.KernelQAIdeal.main_arg2) = m ((c.tc : Thread Cert.KernelQAIdeal.nD Cert.KernelQAIdeal.τ).loc Cert.KernelQAIdeal.main_arg2)
      ∧ r.2.mem ((c.tc : Thread Cert.KernelQAIdeal.nD Cert.KernelQAIdeal.τ).loc Cert.KernelQAIdeal.main_arg3) = m ((c.tc : Thread Cert.KernelQAIdeal.nD Cert.KernelQAIdeal.τ).loc Cert.KernelQAIdeal.main_arg3))
      ∧ r.2.sem = fun _ => 0)

def quiescent_ReferenceQAIdeal [hReferenceQAIdeal : Cert.ReferenceQAIdeal.Facts] : Prop :=
  ∀ (m : (ℓ : Loc Cert.ReferenceQAIdeal.nD Cert.ReferenceQAIdeal.τ Cert.ReferenceQAIdeal.sig) → Buf (Elt Ideal) ℓ) (g : Dev Cert.ReferenceQAIdeal.nD → PrngReg), Pre_ReferenceQAIdeal m →
    θ_run (Cert.ReferenceQAIdeal.defs (F := Ideal)) (onTc (τ := Cert.ReferenceQAIdeal.τ) (Cert.ReferenceQAIdeal.main (F := Ideal))) ⟨m, fun _ => 0, g⟩ (fun r => (∀ c : Dev Cert.ReferenceQAIdeal.nD,
      r.2.mem ((c.tc : Thread Cert.ReferenceQAIdeal.nD Cert.ReferenceQAIdeal.τ).loc Cert.ReferenceQAIdeal.main_arg0) = m ((c.tc : Thread Cert.ReferenceQAIdeal.nD Cert.ReferenceQAIdeal.τ).loc Cert.ReferenceQAIdeal.main_arg0)
      ∧ r.2.mem ((c.tc : Thread Cert.ReferenceQAIdeal.nD Cert.ReferenceQAIdeal.τ).loc Cert.ReferenceQAIdeal.main_arg1) = m ((c.tc : Thread Cert.ReferenceQAIdeal.nD Cert.ReferenceQAIdeal.τ).loc Cert.ReferenceQAIdeal.main_arg1)
      ∧ r.2.mem ((c.tc : Thread Cert.ReferenceQAIdeal.nD Cert.ReferenceQAIdeal.τ).loc Cert.ReferenceQAIdeal.main_arg2) = m ((c.tc : Thread Cert.ReferenceQAIdeal.nD Cert.ReferenceQAIdeal.τ).loc Cert.ReferenceQAIdeal.main_arg2)
      ∧ r.2.mem ((c.tc : Thread Cert.ReferenceQAIdeal.nD Cert.ReferenceQAIdeal.τ).loc Cert.ReferenceQAIdeal.main_arg3) = m ((c.tc : Thread Cert.ReferenceQAIdeal.nD Cert.ReferenceQAIdeal.τ).loc Cert.ReferenceQAIdeal.main_arg3))
      ∧ r.2.sem = fun _ => 0)

def preserves_KernelA1_KernelA1Ideal : Prop :=
  True

def algebraic_KernelA1Ideal_ReferenceA1Ideal_pre_finite [hKernelA1Ideal : Cert.KernelA1Ideal.Facts] [hReferenceA1Ideal : Cert.ReferenceA1Ideal.Facts] [hPre_finite : Cert.Pre_finite.Facts] : Prop :=
  ∀ (m : (ℓ : Loc Cert.KernelA1Ideal.nD Cert.KernelA1Ideal.τ Cert.KernelA1Ideal.sig) → Buf (Elt Ideal) ℓ) (g : Dev Cert.KernelA1Ideal.nD → PrngReg)
    (m' : (ℓ : Loc Cert.ReferenceA1Ideal.nD Cert.ReferenceA1Ideal.τ Cert.ReferenceA1Ideal.sig) → Buf (Elt Ideal) ℓ) (g' : Dev Cert.ReferenceA1Ideal.nD → PrngReg), Pre_KernelA1Ideal_finite m →
    (∀ c : Dev Cert.KernelA1Ideal.nD,
      m' ((c.tc : Thread Cert.ReferenceA1Ideal.nD Cert.ReferenceA1Ideal.τ).loc Cert.ReferenceA1Ideal.main_arg0) = m ((c.tc : Thread Cert.KernelA1Ideal.nD Cert.KernelA1Ideal.τ).loc Cert.KernelA1Ideal.main_arg0)) →
    ∃ (v0 : (c : Dev Cert.KernelA1Ideal.nD) → Buf (Elt Ideal) ((c.tc : Thread Cert.KernelA1Ideal.nD Cert.KernelA1Ideal.τ).loc Cert.KernelA1Ideal.main_v1_0)) (v1 : (c : Dev Cert.KernelA1Ideal.nD) → Buf (Elt Ideal) ((c.tc : Thread Cert.KernelA1Ideal.nD Cert.KernelA1Ideal.τ).loc Cert.KernelA1Ideal.main_v1_1)),
      θ_run (Cert.KernelA1Ideal.defs (F := Ideal)) (onTc (τ := Cert.KernelA1Ideal.τ) (Cert.KernelA1Ideal.main (F := Ideal))) ⟨m, fun _ => 0, g⟩ (fun r => ∀ c : Dev Cert.KernelA1Ideal.nD,
          r.2.mem ((c.tc : Thread Cert.KernelA1Ideal.nD Cert.KernelA1Ideal.τ).loc Cert.KernelA1Ideal.main_v1_0) = v0 c
          ∧ r.2.mem ((c.tc : Thread Cert.KernelA1Ideal.nD Cert.KernelA1Ideal.τ).loc Cert.KernelA1Ideal.main_v1_1) = v1 c
          ∧ r.2.mem ((c.tc : Thread Cert.KernelA1Ideal.nD Cert.KernelA1Ideal.τ).loc Cert.KernelA1Ideal.main_arg0) = m ((c.tc : Thread Cert.KernelA1Ideal.nD Cert.KernelA1Ideal.τ).loc Cert.KernelA1Ideal.main_arg0))
      ∧ θ_run (Cert.ReferenceA1Ideal.defs (F := Ideal)) (onTc (τ := Cert.ReferenceA1Ideal.τ) (Cert.ReferenceA1Ideal.main (F := Ideal))) ⟨m', fun _ => 0, g'⟩ (fun r => ∀ c : Dev Cert.ReferenceA1Ideal.nD,
          r.2.mem ((c.tc : Thread Cert.ReferenceA1Ideal.nD Cert.ReferenceA1Ideal.τ).loc Cert.ReferenceA1Ideal.main_v81) = v0 c
          ∧ r.2.mem ((c.tc : Thread Cert.ReferenceA1Ideal.nD Cert.ReferenceA1Ideal.τ).loc Cert.ReferenceA1Ideal.main_v84) = v1 c
          ∧ r.2.mem ((c.tc : Thread Cert.ReferenceA1Ideal.nD Cert.ReferenceA1Ideal.τ).loc Cert.ReferenceA1Ideal.main_arg0) = m' ((c.tc : Thread Cert.ReferenceA1Ideal.nD Cert.ReferenceA1Ideal.τ).loc Cert.ReferenceA1Ideal.main_arg0))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)) →
    ∃ (v0 : (c : Dev Cert.KernelFIdeal.nD) → Buf (Elt Ideal) ((c.tc : Thread Cert.KernelFIdeal.nD Cert.KernelFIdeal.τ).loc Cert.KernelFIdeal.main_v3)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v3) = v0 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v25) = v0 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3))

def preserves_KernelFB_KernelFBIdeal : Prop :=
  True

def algebraic_KernelFBIdeal_ReferenceFBIdeal [hKernelFBIdeal : Cert.KernelFBIdeal.Facts] [hReferenceFBIdeal : Cert.ReferenceFBIdeal.Facts] : Prop :=
  ∀ (m : (ℓ : Loc Cert.KernelFBIdeal.nD Cert.KernelFBIdeal.τ Cert.KernelFBIdeal.sig) → Buf (Elt Ideal) ℓ) (g : Dev Cert.KernelFBIdeal.nD → PrngReg)
    (m' : (ℓ : Loc Cert.ReferenceFBIdeal.nD Cert.ReferenceFBIdeal.τ Cert.ReferenceFBIdeal.sig) → Buf (Elt Ideal) ℓ) (g' : Dev Cert.ReferenceFBIdeal.nD → PrngReg), Pre_KernelFBIdeal m →
    (∀ c : Dev Cert.KernelFBIdeal.nD,
      m' ((c.tc : Thread Cert.ReferenceFBIdeal.nD Cert.ReferenceFBIdeal.τ).loc Cert.ReferenceFBIdeal.main_arg0) = m ((c.tc : Thread Cert.KernelFBIdeal.nD Cert.KernelFBIdeal.τ).loc Cert.KernelFBIdeal.main_arg0)
      ∧ m' ((c.tc : Thread Cert.ReferenceFBIdeal.nD Cert.ReferenceFBIdeal.τ).loc Cert.ReferenceFBIdeal.main_arg1) = m ((c.tc : Thread Cert.KernelFBIdeal.nD Cert.KernelFBIdeal.τ).loc Cert.KernelFBIdeal.main_arg1)
      ∧ m' ((c.tc : Thread Cert.ReferenceFBIdeal.nD Cert.ReferenceFBIdeal.τ).loc Cert.ReferenceFBIdeal.main_arg2) = m ((c.tc : Thread Cert.KernelFBIdeal.nD Cert.KernelFBIdeal.τ).loc Cert.KernelFBIdeal.main_arg2)
      ∧ m' ((c.tc : Thread Cert.ReferenceFBIdeal.nD Cert.ReferenceFBIdeal.τ).loc Cert.ReferenceFBIdeal.main_arg3) = m ((c.tc : Thread Cert.KernelFBIdeal.nD Cert.KernelFBIdeal.τ).loc Cert.KernelFBIdeal.main_arg3)
      ∧ m' ((c.tc : Thread Cert.ReferenceFBIdeal.nD Cert.ReferenceFBIdeal.τ).loc Cert.ReferenceFBIdeal.main_arg4) = m ((c.tc : Thread Cert.KernelFBIdeal.nD Cert.KernelFBIdeal.τ).loc Cert.KernelFBIdeal.main_arg4)
      ∧ m' ((c.tc : Thread Cert.ReferenceFBIdeal.nD Cert.ReferenceFBIdeal.τ).loc Cert.ReferenceFBIdeal.main_arg5) = m ((c.tc : Thread Cert.KernelFBIdeal.nD Cert.KernelFBIdeal.τ).loc Cert.KernelFBIdeal.main_arg5)) →
    ∃ (v0 : (c : Dev Cert.KernelFBIdeal.nD) → Buf (Elt Ideal) ((c.tc : Thread Cert.KernelFBIdeal.nD Cert.KernelFBIdeal.τ).loc Cert.KernelFBIdeal.main_v4)),
      θ_run (Cert.KernelFBIdeal.defs (F := Ideal)) (onTc (τ := Cert.KernelFBIdeal.τ) (Cert.KernelFBIdeal.main (F := Ideal))) ⟨m, fun _ => 0, g⟩ (fun r => ∀ c : Dev Cert.KernelFBIdeal.nD,
          r.2.mem ((c.tc : Thread Cert.KernelFBIdeal.nD Cert.KernelFBIdeal.τ).loc Cert.KernelFBIdeal.main_v4) = v0 c
          ∧ r.2.mem ((c.tc : Thread Cert.KernelFBIdeal.nD Cert.KernelFBIdeal.τ).loc Cert.KernelFBIdeal.main_arg0) = m ((c.tc : Thread Cert.KernelFBIdeal.nD Cert.KernelFBIdeal.τ).loc Cert.KernelFBIdeal.main_arg0)
          ∧ r.2.mem ((c.tc : Thread Cert.KernelFBIdeal.nD Cert.KernelFBIdeal.τ).loc Cert.KernelFBIdeal.main_arg1) = m ((c.tc : Thread Cert.KernelFBIdeal.nD Cert.KernelFBIdeal.τ).loc Cert.KernelFBIdeal.main_arg1)
          ∧ r.2.mem ((c.tc : Thread Cert.KernelFBIdeal.nD Cert.KernelFBIdeal.τ).loc Cert.KernelFBIdeal.main_arg2) = m ((c.tc : Thread Cert.KernelFBIdeal.nD Cert.KernelFBIdeal.τ).loc Cert.KernelFBIdeal.main_arg2)
          ∧ r.2.mem ((c.tc : Thread Cert.KernelFBIdeal.nD Cert.KernelFBIdeal.τ).loc Cert.KernelFBIdeal.main_arg3) = m ((c.tc : Thread Cert.KernelFBIdeal.nD Cert.KernelFBIdeal.τ).loc Cert.KernelFBIdeal.main_arg3)
          ∧ r.2.mem ((c.tc : Thread Cert.KernelFBIdeal.nD Cert.KernelFBIdeal.τ).loc Cert.KernelFBIdeal.main_arg4) = m ((c.tc : Thread Cert.KernelFBIdeal.nD Cert.KernelFBIdeal.τ).loc Cert.KernelFBIdeal.main_arg4)
          ∧ r.2.mem ((c.tc : Thread Cert.KernelFBIdeal.nD Cert.KernelFBIdeal.τ).loc Cert.KernelFBIdeal.main_arg5) = m ((c.tc : Thread Cert.KernelFBIdeal.nD Cert.KernelFBIdeal.τ).loc Cert.KernelFBIdeal.main_arg5))
      ∧ θ_run (Cert.ReferenceFBIdeal.defs (F := Ideal)) (onTc (τ := Cert.ReferenceFBIdeal.τ) (Cert.ReferenceFBIdeal.main (F := Ideal))) ⟨m', fun _ => 0, g'⟩ (fun r => ∀ c : Dev Cert.ReferenceFBIdeal.nD,
          r.2.mem ((c.tc : Thread Cert.ReferenceFBIdeal.nD Cert.ReferenceFBIdeal.τ).loc Cert.ReferenceFBIdeal.main_v27) = v0 c
          ∧ r.2.mem ((c.tc : Thread Cert.ReferenceFBIdeal.nD Cert.ReferenceFBIdeal.τ).loc Cert.ReferenceFBIdeal.main_arg0) = m' ((c.tc : Thread Cert.ReferenceFBIdeal.nD Cert.ReferenceFBIdeal.τ).loc Cert.ReferenceFBIdeal.main_arg0)
          ∧ r.2.mem ((c.tc : Thread Cert.ReferenceFBIdeal.nD Cert.ReferenceFBIdeal.τ).loc Cert.ReferenceFBIdeal.main_arg1) = m' ((c.tc : Thread Cert.ReferenceFBIdeal.nD Cert.ReferenceFBIdeal.τ).loc Cert.ReferenceFBIdeal.main_arg1)
          ∧ r.2.mem ((c.tc : Thread Cert.ReferenceFBIdeal.nD Cert.ReferenceFBIdeal.τ).loc Cert.ReferenceFBIdeal.main_arg2) = m' ((c.tc : Thread Cert.ReferenceFBIdeal.nD Cert.ReferenceFBIdeal.τ).loc Cert.ReferenceFBIdeal.main_arg2)
          ∧ r.2.mem ((c.tc : Thread Cert.ReferenceFBIdeal.nD Cert.ReferenceFBIdeal.τ).loc Cert.ReferenceFBIdeal.main_arg3) = m' ((c.tc : Thread Cert.ReferenceFBIdeal.nD Cert.ReferenceFBIdeal.τ).loc Cert.ReferenceFBIdeal.main_arg3)
          ∧ r.2.mem ((c.tc : Thread Cert.ReferenceFBIdeal.nD Cert.ReferenceFBIdeal.τ).loc Cert.ReferenceFBIdeal.main_arg4) = m' ((c.tc : Thread Cert.ReferenceFBIdeal.nD Cert.ReferenceFBIdeal.τ).loc Cert.ReferenceFBIdeal.main_arg4)
          ∧ r.2.mem ((c.tc : Thread Cert.ReferenceFBIdeal.nD Cert.ReferenceFBIdeal.τ).loc Cert.ReferenceFBIdeal.main_arg5) = m' ((c.tc : Thread Cert.ReferenceFBIdeal.nD Cert.ReferenceFBIdeal.τ).loc Cert.ReferenceFBIdeal.main_arg5))

def preserves_KernelFC_KernelFCIdeal : Prop :=
  True

def algebraic_KernelFCIdeal_ReferenceFCIdeal [hKernelFCIdeal : Cert.KernelFCIdeal.Facts] [hReferenceFCIdeal : Cert.ReferenceFCIdeal.Facts] : Prop :=
  ∀ (m : (ℓ : Loc Cert.KernelFCIdeal.nD Cert.KernelFCIdeal.τ Cert.KernelFCIdeal.sig) → Buf (Elt Ideal) ℓ) (g : Dev Cert.KernelFCIdeal.nD → PrngReg)
    (m' : (ℓ : Loc Cert.ReferenceFCIdeal.nD Cert.ReferenceFCIdeal.τ Cert.ReferenceFCIdeal.sig) → Buf (Elt Ideal) ℓ) (g' : Dev Cert.ReferenceFCIdeal.nD → PrngReg), Pre_KernelFCIdeal m →
    (∀ c : Dev Cert.KernelFCIdeal.nD,
      m' ((c.tc : Thread Cert.ReferenceFCIdeal.nD Cert.ReferenceFCIdeal.τ).loc Cert.ReferenceFCIdeal.main_arg0) = m ((c.tc : Thread Cert.KernelFCIdeal.nD Cert.KernelFCIdeal.τ).loc Cert.KernelFCIdeal.main_arg0)
      ∧ m' ((c.tc : Thread Cert.ReferenceFCIdeal.nD Cert.ReferenceFCIdeal.τ).loc Cert.ReferenceFCIdeal.main_arg1) = m ((c.tc : Thread Cert.KernelFCIdeal.nD Cert.KernelFCIdeal.τ).loc Cert.KernelFCIdeal.main_arg1)
      ∧ m' ((c.tc : Thread Cert.ReferenceFCIdeal.nD Cert.ReferenceFCIdeal.τ).loc Cert.ReferenceFCIdeal.main_arg2) = m ((c.tc : Thread Cert.KernelFCIdeal.nD Cert.KernelFCIdeal.τ).loc Cert.KernelFCIdeal.main_arg2)
      ∧ m' ((c.tc : Thread Cert.ReferenceFCIdeal.nD Cert.ReferenceFCIdeal.τ).loc Cert.ReferenceFCIdeal.main_arg3) = m ((c.tc : Thread Cert.KernelFCIdeal.nD Cert.KernelFCIdeal.τ).loc Cert.KernelFCIdeal.main_arg3)
      ∧ m' ((c.tc : Thread Cert.ReferenceFCIdeal.nD Cert.ReferenceFCIdeal.τ).loc Cert.ReferenceFCIdeal.main_arg4) = m ((c.tc : Thread Cert.KernelFCIdeal.nD Cert.KernelFCIdeal.τ).loc Cert.KernelFCIdeal.main_arg4)
      ∧ m' ((c.tc : Thread Cert.ReferenceFCIdeal.nD Cert.ReferenceFCIdeal.τ).loc Cert.ReferenceFCIdeal.main_arg5) = m ((c.tc : Thread Cert.KernelFCIdeal.nD Cert.KernelFCIdeal.τ).loc Cert.KernelFCIdeal.main_arg5)
      ∧ m' ((c.tc : Thread Cert.ReferenceFCIdeal.nD Cert.ReferenceFCIdeal.τ).loc Cert.ReferenceFCIdeal.main_arg6) = m ((c.tc : Thread Cert.KernelFCIdeal.nD Cert.KernelFCIdeal.τ).loc Cert.KernelFCIdeal.main_arg6)
      ∧ m' ((c.tc : Thread Cert.ReferenceFCIdeal.nD Cert.ReferenceFCIdeal.τ).loc Cert.ReferenceFCIdeal.main_arg7) = m ((c.tc : Thread Cert.KernelFCIdeal.nD Cert.KernelFCIdeal.τ).loc Cert.KernelFCIdeal.main_arg7)) →
    ∃ (v0 : (c : Dev Cert.KernelFCIdeal.nD) → Buf (Elt Ideal) ((c.tc : Thread Cert.KernelFCIdeal.nD Cert.KernelFCIdeal.τ).loc Cert.KernelFCIdeal.main_v5)),
      θ_run (Cert.KernelFCIdeal.defs (F := Ideal)) (onTc (τ := Cert.KernelFCIdeal.τ) (Cert.KernelFCIdeal.main (F := Ideal))) ⟨m, fun _ => 0, g⟩ (fun r => ∀ c : Dev Cert.KernelFCIdeal.nD,
          r.2.mem ((c.tc : Thread Cert.KernelFCIdeal.nD Cert.KernelFCIdeal.τ).loc Cert.KernelFCIdeal.main_v5) = v0 c
          ∧ r.2.mem ((c.tc : Thread Cert.KernelFCIdeal.nD Cert.KernelFCIdeal.τ).loc Cert.KernelFCIdeal.main_arg0) = m ((c.tc : Thread Cert.KernelFCIdeal.nD Cert.KernelFCIdeal.τ).loc Cert.KernelFCIdeal.main_arg0)
          ∧ r.2.mem ((c.tc : Thread Cert.KernelFCIdeal.nD Cert.KernelFCIdeal.τ).loc Cert.KernelFCIdeal.main_arg1) = m ((c.tc : Thread Cert.KernelFCIdeal.nD Cert.KernelFCIdeal.τ).loc Cert.KernelFCIdeal.main_arg1)
          ∧ r.2.mem ((c.tc : Thread Cert.KernelFCIdeal.nD Cert.KernelFCIdeal.τ).loc Cert.KernelFCIdeal.main_arg2) = m ((c.tc : Thread Cert.KernelFCIdeal.nD Cert.KernelFCIdeal.τ).loc Cert.KernelFCIdeal.main_arg2)
          ∧ r.2.mem ((c.tc : Thread Cert.KernelFCIdeal.nD Cert.KernelFCIdeal.τ).loc Cert.KernelFCIdeal.main_arg3) = m ((c.tc : Thread Cert.KernelFCIdeal.nD Cert.KernelFCIdeal.τ).loc Cert.KernelFCIdeal.main_arg3)
          ∧ r.2.mem ((c.tc : Thread Cert.KernelFCIdeal.nD Cert.KernelFCIdeal.τ).loc Cert.KernelFCIdeal.main_arg4) = m ((c.tc : Thread Cert.KernelFCIdeal.nD Cert.KernelFCIdeal.τ).loc Cert.KernelFCIdeal.main_arg4)
          ∧ r.2.mem ((c.tc : Thread Cert.KernelFCIdeal.nD Cert.KernelFCIdeal.τ).loc Cert.KernelFCIdeal.main_arg5) = m ((c.tc : Thread Cert.KernelFCIdeal.nD Cert.KernelFCIdeal.τ).loc Cert.KernelFCIdeal.main_arg5)
          ∧ r.2.mem ((c.tc : Thread Cert.KernelFCIdeal.nD Cert.KernelFCIdeal.τ).loc Cert.KernelFCIdeal.main_arg6) = m ((c.tc : Thread Cert.KernelFCIdeal.nD Cert.KernelFCIdeal.τ).loc Cert.KernelFCIdeal.main_arg6)
          ∧ r.2.mem ((c.tc : Thread Cert.KernelFCIdeal.nD Cert.KernelFCIdeal.τ).loc Cert.KernelFCIdeal.main_arg7) = m ((c.tc : Thread Cert.KernelFCIdeal.nD Cert.KernelFCIdeal.τ).loc Cert.KernelFCIdeal.main_arg7))
      ∧ θ_run (Cert.ReferenceFCIdeal.defs (F := Ideal)) (onTc (τ := Cert.ReferenceFCIdeal.τ) (Cert.ReferenceFCIdeal.main (F := Ideal))) ⟨m', fun _ => 0, g'⟩ (fun r => ∀ c : Dev Cert.ReferenceFCIdeal.nD,
          r.2.mem ((c.tc : Thread Cert.ReferenceFCIdeal.nD Cert.ReferenceFCIdeal.τ).loc Cert.ReferenceFCIdeal.main_v45) = v0 c
          ∧ r.2.mem ((c.tc : Thread Cert.ReferenceFCIdeal.nD Cert.ReferenceFCIdeal.τ).loc Cert.ReferenceFCIdeal.main_arg0) = m' ((c.tc : Thread Cert.ReferenceFCIdeal.nD Cert.ReferenceFCIdeal.τ).loc Cert.ReferenceFCIdeal.main_arg0)
          ∧ r.2.mem ((c.tc : Thread Cert.ReferenceFCIdeal.nD Cert.ReferenceFCIdeal.τ).loc Cert.ReferenceFCIdeal.main_arg1) = m' ((c.tc : Thread Cert.ReferenceFCIdeal.nD Cert.ReferenceFCIdeal.τ).loc Cert.ReferenceFCIdeal.main_arg1)
          ∧ r.2.mem ((c.tc : Thread Cert.ReferenceFCIdeal.nD Cert.ReferenceFCIdeal.τ).loc Cert.ReferenceFCIdeal.main_arg2) = m' ((c.tc : Thread Cert.ReferenceFCIdeal.nD Cert.ReferenceFCIdeal.τ).loc Cert.ReferenceFCIdeal.main_arg2)
          ∧ r.2.mem ((c.tc : Thread Cert.ReferenceFCIdeal.nD Cert.ReferenceFCIdeal.τ).loc Cert.ReferenceFCIdeal.main_arg3) = m' ((c.tc : Thread Cert.ReferenceFCIdeal.nD Cert.ReferenceFCIdeal.τ).loc Cert.ReferenceFCIdeal.main_arg3)
          ∧ r.2.mem ((c.tc : Thread Cert.ReferenceFCIdeal.nD Cert.ReferenceFCIdeal.τ).loc Cert.ReferenceFCIdeal.main_arg4) = m' ((c.tc : Thread Cert.ReferenceFCIdeal.nD Cert.ReferenceFCIdeal.τ).loc Cert.ReferenceFCIdeal.main_arg4)
          ∧ r.2.mem ((c.tc : Thread Cert.ReferenceFCIdeal.nD Cert.ReferenceFCIdeal.τ).loc Cert.ReferenceFCIdeal.main_arg5) = m' ((c.tc : Thread Cert.ReferenceFCIdeal.nD Cert.ReferenceFCIdeal.τ).loc Cert.ReferenceFCIdeal.main_arg5)
          ∧ r.2.mem ((c.tc : Thread Cert.ReferenceFCIdeal.nD Cert.ReferenceFCIdeal.τ).loc Cert.ReferenceFCIdeal.main_arg6) = m' ((c.tc : Thread Cert.ReferenceFCIdeal.nD Cert.ReferenceFCIdeal.τ).loc Cert.ReferenceFCIdeal.main_arg6)
          ∧ r.2.mem ((c.tc : Thread Cert.ReferenceFCIdeal.nD Cert.ReferenceFCIdeal.τ).loc Cert.ReferenceFCIdeal.main_arg7) = m' ((c.tc : Thread Cert.ReferenceFCIdeal.nD Cert.ReferenceFCIdeal.τ).loc Cert.ReferenceFCIdeal.main_arg7))

def preserves_KernelFD_KernelFDIdeal : Prop :=
  True

def algebraic_KernelFDIdeal_ReferenceFDIdeal [hKernelFDIdeal : Cert.KernelFDIdeal.Facts] [hReferenceFDIdeal : Cert.ReferenceFDIdeal.Facts] : Prop :=
  ∀ (m : (ℓ : Loc Cert.KernelFDIdeal.nD Cert.KernelFDIdeal.τ Cert.KernelFDIdeal.sig) → Buf (Elt Ideal) ℓ) (g : Dev Cert.KernelFDIdeal.nD → PrngReg)
    (m' : (ℓ : Loc Cert.ReferenceFDIdeal.nD Cert.ReferenceFDIdeal.τ Cert.ReferenceFDIdeal.sig) → Buf (Elt Ideal) ℓ) (g' : Dev Cert.ReferenceFDIdeal.nD → PrngReg), Pre_KernelFDIdeal m →
    (∀ c : Dev Cert.KernelFDIdeal.nD,
      m' ((c.tc : Thread Cert.ReferenceFDIdeal.nD Cert.ReferenceFDIdeal.τ).loc Cert.ReferenceFDIdeal.main_arg0) = m ((c.tc : Thread Cert.KernelFDIdeal.nD Cert.KernelFDIdeal.τ).loc Cert.KernelFDIdeal.main_arg0)
      ∧ m' ((c.tc : Thread Cert.ReferenceFDIdeal.nD Cert.ReferenceFDIdeal.τ).loc Cert.ReferenceFDIdeal.main_arg1) = m ((c.tc : Thread Cert.KernelFDIdeal.nD Cert.KernelFDIdeal.τ).loc Cert.KernelFDIdeal.main_arg1)
      ∧ m' ((c.tc : Thread Cert.ReferenceFDIdeal.nD Cert.ReferenceFDIdeal.τ).loc Cert.ReferenceFDIdeal.main_arg2) = m ((c.tc : Thread Cert.KernelFDIdeal.nD Cert.KernelFDIdeal.τ).loc Cert.KernelFDIdeal.main_arg2)
      ∧ m' ((c.tc : Thread Cert.ReferenceFDIdeal.nD Cert.ReferenceFDIdeal.τ).loc Cert.ReferenceFDIdeal.main_arg3) = m ((c.tc : Thread Cert.KernelFDIdeal.nD Cert.KernelFDIdeal.τ).loc Cert.KernelFDIdeal.main_arg3)
      ∧ m' ((c.tc : Thread Cert.ReferenceFDIdeal.nD Cert.ReferenceFDIdeal.τ).loc Cert.ReferenceFDIdeal.main_arg4) = m ((c.tc : Thread Cert.KernelFDIdeal.nD Cert.KernelFDIdeal.τ).loc Cert.KernelFDIdeal.main_arg4)
      ∧ m' ((c.tc : Thread Cert.ReferenceFDIdeal.nD Cert.ReferenceFDIdeal.τ).loc Cert.ReferenceFDIdeal.main_arg5) = m ((c.tc : Thread Cert.KernelFDIdeal.nD Cert.KernelFDIdeal.τ).loc Cert.KernelFDIdeal.main_arg5)
      ∧ m' ((c.tc : Thread Cert.ReferenceFDIdeal.nD Cert.ReferenceFDIdeal.τ).loc Cert.ReferenceFDIdeal.main_arg6) = m ((c.tc : Thread Cert.KernelFDIdeal.nD Cert.KernelFDIdeal.τ).loc Cert.KernelFDIdeal.main_arg6)
      ∧ m' ((c.tc : Thread Cert.ReferenceFDIdeal.nD Cert.ReferenceFDIdeal.τ).loc Cert.ReferenceFDIdeal.main_arg7) = m ((c.tc : Thread Cert.KernelFDIdeal.nD Cert.KernelFDIdeal.τ).loc Cert.KernelFDIdeal.main_arg7)) →
    ∃ (v0 : (c : Dev Cert.KernelFDIdeal.nD) → Buf (Elt Ideal) ((c.tc : Thread Cert.KernelFDIdeal.nD Cert.KernelFDIdeal.τ).loc Cert.KernelFDIdeal.main_v5)),
      θ_run (Cert.KernelFDIdeal.defs (F := Ideal)) (onTc (τ := Cert.KernelFDIdeal.τ) (Cert.KernelFDIdeal.main (F := Ideal))) ⟨m, fun _ => 0, g⟩ (fun r => ∀ c : Dev Cert.KernelFDIdeal.nD,
          r.2.mem ((c.tc : Thread Cert.KernelFDIdeal.nD Cert.KernelFDIdeal.τ).loc Cert.KernelFDIdeal.main_v5) = v0 c
          ∧ r.2.mem ((c.tc : Thread Cert.KernelFDIdeal.nD Cert.KernelFDIdeal.τ).loc Cert.KernelFDIdeal.main_arg0) = m ((c.tc : Thread Cert.KernelFDIdeal.nD Cert.KernelFDIdeal.τ).loc Cert.KernelFDIdeal.main_arg0)
          ∧ r.2.mem ((c.tc : Thread Cert.KernelFDIdeal.nD Cert.KernelFDIdeal.τ).loc Cert.KernelFDIdeal.main_arg1) = m ((c.tc : Thread Cert.KernelFDIdeal.nD Cert.KernelFDIdeal.τ).loc Cert.KernelFDIdeal.main_arg1)
          ∧ r.2.mem ((c.tc : Thread Cert.KernelFDIdeal.nD Cert.KernelFDIdeal.τ).loc Cert.KernelFDIdeal.main_arg2) = m ((c.tc : Thread Cert.KernelFDIdeal.nD Cert.KernelFDIdeal.τ).loc Cert.KernelFDIdeal.main_arg2)
          ∧ r.2.mem ((c.tc : Thread Cert.KernelFDIdeal.nD Cert.KernelFDIdeal.τ).loc Cert.KernelFDIdeal.main_arg3) = m ((c.tc : Thread Cert.KernelFDIdeal.nD Cert.KernelFDIdeal.τ).loc Cert.KernelFDIdeal.main_arg3)
          ∧ r.2.mem ((c.tc : Thread Cert.KernelFDIdeal.nD Cert.KernelFDIdeal.τ).loc Cert.KernelFDIdeal.main_arg4) = m ((c.tc : Thread Cert.KernelFDIdeal.nD Cert.KernelFDIdeal.τ).loc Cert.KernelFDIdeal.main_arg4)
          ∧ r.2.mem ((c.tc : Thread Cert.KernelFDIdeal.nD Cert.KernelFDIdeal.τ).loc Cert.KernelFDIdeal.main_arg5) = m ((c.tc : Thread Cert.KernelFDIdeal.nD Cert.KernelFDIdeal.τ).loc Cert.KernelFDIdeal.main_arg5)
          ∧ r.2.mem ((c.tc : Thread Cert.KernelFDIdeal.nD Cert.KernelFDIdeal.τ).loc Cert.KernelFDIdeal.main_arg6) = m ((c.tc : Thread Cert.KernelFDIdeal.nD Cert.KernelFDIdeal.τ).loc Cert.KernelFDIdeal.main_arg6)
          ∧ r.2.mem ((c.tc : Thread Cert.KernelFDIdeal.nD Cert.KernelFDIdeal.τ).loc Cert.KernelFDIdeal.main_arg7) = m ((c.tc : Thread Cert.KernelFDIdeal.nD Cert.KernelFDIdeal.τ).loc Cert.KernelFDIdeal.main_arg7))
      ∧ θ_run (Cert.ReferenceFDIdeal.defs (F := Ideal)) (onTc (τ := Cert.ReferenceFDIdeal.τ) (Cert.ReferenceFDIdeal.main (F := Ideal))) ⟨m', fun _ => 0, g'⟩ (fun r => ∀ c : Dev Cert.ReferenceFDIdeal.nD,
          r.2.mem ((c.tc : Thread Cert.ReferenceFDIdeal.nD Cert.ReferenceFDIdeal.τ).loc Cert.ReferenceFDIdeal.main_v46) = v0 c
          ∧ r.2.mem ((c.tc : Thread Cert.ReferenceFDIdeal.nD Cert.ReferenceFDIdeal.τ).loc Cert.ReferenceFDIdeal.main_arg0) = m' ((c.tc : Thread Cert.ReferenceFDIdeal.nD Cert.ReferenceFDIdeal.τ).loc Cert.ReferenceFDIdeal.main_arg0)
          ∧ r.2.mem ((c.tc : Thread Cert.ReferenceFDIdeal.nD Cert.ReferenceFDIdeal.τ).loc Cert.ReferenceFDIdeal.main_arg1) = m' ((c.tc : Thread Cert.ReferenceFDIdeal.nD Cert.ReferenceFDIdeal.τ).loc Cert.ReferenceFDIdeal.main_arg1)
          ∧ r.2.mem ((c.tc : Thread Cert.ReferenceFDIdeal.nD Cert.ReferenceFDIdeal.τ).loc Cert.ReferenceFDIdeal.main_arg2) = m' ((c.tc : Thread Cert.ReferenceFDIdeal.nD Cert.ReferenceFDIdeal.τ).loc Cert.ReferenceFDIdeal.main_arg2)
          ∧ r.2.mem ((c.tc : Thread Cert.ReferenceFDIdeal.nD Cert.ReferenceFDIdeal.τ).loc Cert.ReferenceFDIdeal.main_arg3) = m' ((c.tc : Thread Cert.ReferenceFDIdeal.nD Cert.ReferenceFDIdeal.τ).loc Cert.ReferenceFDIdeal.main_arg3)
          ∧ r.2.mem ((c.tc : Thread Cert.ReferenceFDIdeal.nD Cert.ReferenceFDIdeal.τ).loc Cert.ReferenceFDIdeal.main_arg4) = m' ((c.tc : Thread Cert.ReferenceFDIdeal.nD Cert.ReferenceFDIdeal.τ).loc Cert.ReferenceFDIdeal.main_arg4)
          ∧ r.2.mem ((c.tc : Thread Cert.ReferenceFDIdeal.nD Cert.ReferenceFDIdeal.τ).loc Cert.ReferenceFDIdeal.main_arg5) = m' ((c.tc : Thread Cert.ReferenceFDIdeal.nD Cert.ReferenceFDIdeal.τ).loc Cert.ReferenceFDIdeal.main_arg5)
          ∧ r.2.mem ((c.tc : Thread Cert.ReferenceFDIdeal.nD Cert.ReferenceFDIdeal.τ).loc Cert.ReferenceFDIdeal.main_arg6) = m' ((c.tc : Thread Cert.ReferenceFDIdeal.nD Cert.ReferenceFDIdeal.τ).loc Cert.ReferenceFDIdeal.main_arg6)
          ∧ r.2.mem ((c.tc : Thread Cert.ReferenceFDIdeal.nD Cert.ReferenceFDIdeal.τ).loc Cert.ReferenceFDIdeal.main_arg7) = m' ((c.tc : Thread Cert.ReferenceFDIdeal.nD Cert.ReferenceFDIdeal.τ).loc Cert.ReferenceFDIdeal.main_arg7))

def preserves_KernelFA_KernelFAIdeal : Prop :=
  True

def algebraic_KernelFAIdeal_ReferenceFAIdeal_pre_finite_lse [hKernelFAIdeal : Cert.KernelFAIdeal.Facts] [hReferenceFAIdeal : Cert.ReferenceFAIdeal.Facts] [hPre_finite_lse : Cert.Pre_finite_lse.Facts] : Prop :=
  ∀ (m : (ℓ : Loc Cert.KernelFAIdeal.nD Cert.KernelFAIdeal.τ Cert.KernelFAIdeal.sig) → Buf (Elt Ideal) ℓ) (g : Dev Cert.KernelFAIdeal.nD → PrngReg)
    (m' : (ℓ : Loc Cert.ReferenceFAIdeal.nD Cert.ReferenceFAIdeal.τ Cert.ReferenceFAIdeal.sig) → Buf (Elt Ideal) ℓ) (g' : Dev Cert.ReferenceFAIdeal.nD → PrngReg), Pre_KernelFAIdeal_finite_lse m →
    (∀ c : Dev Cert.KernelFAIdeal.nD,
      m' ((c.tc : Thread Cert.ReferenceFAIdeal.nD Cert.ReferenceFAIdeal.τ).loc Cert.ReferenceFAIdeal.main_arg0) = m ((c.tc : Thread Cert.KernelFAIdeal.nD Cert.KernelFAIdeal.τ).loc Cert.KernelFAIdeal.main_arg0)
      ∧ m' ((c.tc : Thread Cert.ReferenceFAIdeal.nD Cert.ReferenceFAIdeal.τ).loc Cert.ReferenceFAIdeal.main_arg1) = m ((c.tc : Thread Cert.KernelFAIdeal.nD Cert.KernelFAIdeal.τ).loc Cert.KernelFAIdeal.main_arg1)
      ∧ m' ((c.tc : Thread Cert.ReferenceFAIdeal.nD Cert.ReferenceFAIdeal.τ).loc Cert.ReferenceFAIdeal.main_arg2) = m ((c.tc : Thread Cert.KernelFAIdeal.nD Cert.KernelFAIdeal.τ).loc Cert.KernelFAIdeal.main_arg2)
      ∧ m' ((c.tc : Thread Cert.ReferenceFAIdeal.nD Cert.ReferenceFAIdeal.τ).loc Cert.ReferenceFAIdeal.main_arg3) = m ((c.tc : Thread Cert.KernelFAIdeal.nD Cert.KernelFAIdeal.τ).loc Cert.KernelFAIdeal.main_arg3)
      ∧ m' ((c.tc : Thread Cert.ReferenceFAIdeal.nD Cert.ReferenceFAIdeal.τ).loc Cert.ReferenceFAIdeal.main_arg4) = m ((c.tc : Thread Cert.KernelFAIdeal.nD Cert.KernelFAIdeal.τ).loc Cert.KernelFAIdeal.main_arg4)
      ∧ m' ((c.tc : Thread Cert.ReferenceFAIdeal.nD Cert.ReferenceFAIdeal.τ).loc Cert.ReferenceFAIdeal.main_arg5) = m ((c.tc : Thread Cert.KernelFAIdeal.nD Cert.KernelFAIdeal.τ).loc Cert.KernelFAIdeal.main_arg5)
      ∧ m' ((c.tc : Thread Cert.ReferenceFAIdeal.nD Cert.ReferenceFAIdeal.τ).loc Cert.ReferenceFAIdeal.main_arg6) = m ((c.tc : Thread Cert.KernelFAIdeal.nD Cert.KernelFAIdeal.τ).loc Cert.KernelFAIdeal.main_arg6)
      ∧ m' ((c.tc : Thread Cert.ReferenceFAIdeal.nD Cert.ReferenceFAIdeal.τ).loc Cert.ReferenceFAIdeal.main_arg7) = m ((c.tc : Thread Cert.KernelFAIdeal.nD Cert.KernelFAIdeal.τ).loc Cert.KernelFAIdeal.main_arg7)
      ∧ m' ((c.tc : Thread Cert.ReferenceFAIdeal.nD Cert.ReferenceFAIdeal.τ).loc Cert.ReferenceFAIdeal.main_arg8) = m ((c.tc : Thread Cert.KernelFAIdeal.nD Cert.KernelFAIdeal.τ).loc Cert.KernelFAIdeal.main_arg8)
      ∧ m' ((c.tc : Thread Cert.ReferenceFAIdeal.nD Cert.ReferenceFAIdeal.τ).loc Cert.ReferenceFAIdeal.main_arg9) = m ((c.tc : Thread Cert.KernelFAIdeal.nD Cert.KernelFAIdeal.τ).loc Cert.KernelFAIdeal.main_arg9)
      ∧ m' ((c.tc : Thread Cert.ReferenceFAIdeal.nD Cert.ReferenceFAIdeal.τ).loc Cert.ReferenceFAIdeal.main_arg10) = m ((c.tc : Thread Cert.KernelFAIdeal.nD Cert.KernelFAIdeal.τ).loc Cert.KernelFAIdeal.main_arg10)) →
    ∃ (v0 : (c : Dev Cert.KernelFAIdeal.nD) → Buf (Elt Ideal) ((c.tc : Thread Cert.KernelFAIdeal.nD Cert.KernelFAIdeal.τ).loc Cert.KernelFAIdeal.main_v4)),
      θ_run (Cert.KernelFAIdeal.defs (F := Ideal)) (onTc (τ := Cert.KernelFAIdeal.τ) (Cert.KernelFAIdeal.main (F := Ideal))) ⟨m, fun _ => 0, g⟩ (fun r => ∀ c : Dev Cert.KernelFAIdeal.nD,
          r.2.mem ((c.tc : Thread Cert.KernelFAIdeal.nD Cert.KernelFAIdeal.τ).loc Cert.KernelFAIdeal.main_v4) = v0 c
          ∧ r.2.mem ((c.tc : Thread Cert.KernelFAIdeal.nD Cert.KernelFAIdeal.τ).loc Cert.KernelFAIdeal.main_arg0) = m ((c.tc : Thread Cert.KernelFAIdeal.nD Cert.KernelFAIdeal.τ).loc Cert.KernelFAIdeal.main_arg0)
          ∧ r.2.mem ((c.tc : Thread Cert.KernelFAIdeal.nD Cert.KernelFAIdeal.τ).loc Cert.KernelFAIdeal.main_arg1) = m ((c.tc : Thread Cert.KernelFAIdeal.nD Cert.KernelFAIdeal.τ).loc Cert.KernelFAIdeal.main_arg1)
          ∧ r.2.mem ((c.tc : Thread Cert.KernelFAIdeal.nD Cert.KernelFAIdeal.τ).loc Cert.KernelFAIdeal.main_arg2) = m ((c.tc : Thread Cert.KernelFAIdeal.nD Cert.KernelFAIdeal.τ).loc Cert.KernelFAIdeal.main_arg2)
          ∧ r.2.mem ((c.tc : Thread Cert.KernelFAIdeal.nD Cert.KernelFAIdeal.τ).loc Cert.KernelFAIdeal.main_arg3) = m ((c.tc : Thread Cert.KernelFAIdeal.nD Cert.KernelFAIdeal.τ).loc Cert.KernelFAIdeal.main_arg3)
          ∧ r.2.mem ((c.tc : Thread Cert.KernelFAIdeal.nD Cert.KernelFAIdeal.τ).loc Cert.KernelFAIdeal.main_arg4) = m ((c.tc : Thread Cert.KernelFAIdeal.nD Cert.KernelFAIdeal.τ).loc Cert.KernelFAIdeal.main_arg4)
          ∧ r.2.mem ((c.tc : Thread Cert.KernelFAIdeal.nD Cert.KernelFAIdeal.τ).loc Cert.KernelFAIdeal.main_arg5) = m ((c.tc : Thread Cert.KernelFAIdeal.nD Cert.KernelFAIdeal.τ).loc Cert.KernelFAIdeal.main_arg5)
          ∧ r.2.mem ((c.tc : Thread Cert.KernelFAIdeal.nD Cert.KernelFAIdeal.τ).loc Cert.KernelFAIdeal.main_arg6) = m ((c.tc : Thread Cert.KernelFAIdeal.nD Cert.KernelFAIdeal.τ).loc Cert.KernelFAIdeal.main_arg6)
          ∧ r.2.mem ((c.tc : Thread Cert.KernelFAIdeal.nD Cert.KernelFAIdeal.τ).loc Cert.KernelFAIdeal.main_arg7) = m ((c.tc : Thread Cert.KernelFAIdeal.nD Cert.KernelFAIdeal.τ).loc Cert.KernelFAIdeal.main_arg7)
          ∧ r.2.mem ((c.tc : Thread Cert.KernelFAIdeal.nD Cert.KernelFAIdeal.τ).loc Cert.KernelFAIdeal.main_arg8) = m ((c.tc : Thread Cert.KernelFAIdeal.nD Cert.KernelFAIdeal.τ).loc Cert.KernelFAIdeal.main_arg8)
          ∧ r.2.mem ((c.tc : Thread Cert.KernelFAIdeal.nD Cert.KernelFAIdeal.τ).loc Cert.KernelFAIdeal.main_arg9) = m ((c.tc : Thread Cert.KernelFAIdeal.nD Cert.KernelFAIdeal.τ).loc Cert.KernelFAIdeal.main_arg9)
          ∧ r.2.mem ((c.tc : Thread Cert.KernelFAIdeal.nD Cert.KernelFAIdeal.τ).loc Cert.KernelFAIdeal.main_arg10) = m ((c.tc : Thread Cert.KernelFAIdeal.nD Cert.KernelFAIdeal.τ).loc Cert.KernelFAIdeal.main_arg10))
      ∧ θ_run (Cert.ReferenceFAIdeal.defs (F := Ideal)) (onTc (τ := Cert.ReferenceFAIdeal.τ) (Cert.ReferenceFAIdeal.main (F := Ideal))) ⟨m', fun _ => 0, g'⟩ (fun r => ∀ c : Dev Cert.ReferenceFAIdeal.nD,
          r.2.mem ((c.tc : Thread Cert.ReferenceFAIdeal.nD Cert.ReferenceFAIdeal.τ).loc Cert.ReferenceFAIdeal.main_v48) = v0 c
          ∧ r.2.mem ((c.tc : Thread Cert.ReferenceFAIdeal.nD Cert.ReferenceFAIdeal.τ).loc Cert.ReferenceFAIdeal.main_arg0) = m' ((c.tc : Thread Cert.ReferenceFAIdeal.nD Cert.ReferenceFAIdeal.τ).loc Cert.ReferenceFAIdeal.main_arg0)
          ∧ r.2.mem ((c.tc : Thread Cert.ReferenceFAIdeal.nD Cert.ReferenceFAIdeal.τ).loc Cert.ReferenceFAIdeal.main_arg1) = m' ((c.tc : Thread Cert.ReferenceFAIdeal.nD Cert.ReferenceFAIdeal.τ).loc Cert.ReferenceFAIdeal.main_arg1)
          ∧ r.2.mem ((c.tc : Thread Cert.ReferenceFAIdeal.nD Cert.ReferenceFAIdeal.τ).loc Cert.ReferenceFAIdeal.main_arg2) = m' ((c.tc : Thread Cert.ReferenceFAIdeal.nD Cert.ReferenceFAIdeal.τ).loc Cert.ReferenceFAIdeal.main_arg2)
          ∧ r.2.mem ((c.tc : Thread Cert.ReferenceFAIdeal.nD Cert.ReferenceFAIdeal.τ).loc Cert.ReferenceFAIdeal.main_arg3) = m' ((c.tc : Thread Cert.ReferenceFAIdeal.nD Cert.ReferenceFAIdeal.τ).loc Cert.ReferenceFAIdeal.main_arg3)
          ∧ r.2.mem ((c.tc : Thread Cert.ReferenceFAIdeal.nD Cert.ReferenceFAIdeal.τ).loc Cert.ReferenceFAIdeal.main_arg4) = m' ((c.tc : Thread Cert.ReferenceFAIdeal.nD Cert.ReferenceFAIdeal.τ).loc Cert.ReferenceFAIdeal.main_arg4)
          ∧ r.2.mem ((c.tc : Thread Cert.ReferenceFAIdeal.nD Cert.ReferenceFAIdeal.τ).loc Cert.ReferenceFAIdeal.main_arg5) = m' ((c.tc : Thread Cert.ReferenceFAIdeal.nD Cert.ReferenceFAIdeal.τ).loc Cert.ReferenceFAIdeal.main_arg5)
          ∧ r.2.mem ((c.tc : Thread Cert.ReferenceFAIdeal.nD Cert.ReferenceFAIdeal.τ).loc Cert.ReferenceFAIdeal.main_arg6) = m' ((c.tc : Thread Cert.ReferenceFAIdeal.nD Cert.ReferenceFAIdeal.τ).loc Cert.ReferenceFAIdeal.main_arg6)
          ∧ r.2.mem ((c.tc : Thread Cert.ReferenceFAIdeal.nD Cert.ReferenceFAIdeal.τ).loc Cert.ReferenceFAIdeal.main_arg7) = m' ((c.tc : Thread Cert.ReferenceFAIdeal.nD Cert.ReferenceFAIdeal.τ).loc Cert.ReferenceFAIdeal.main_arg7)
          ∧ r.2.mem ((c.tc : Thread Cert.ReferenceFAIdeal.nD Cert.ReferenceFAIdeal.τ).loc Cert.ReferenceFAIdeal.main_arg8) = m' ((c.tc : Thread Cert.ReferenceFAIdeal.nD Cert.ReferenceFAIdeal.τ).loc Cert.ReferenceFAIdeal.main_arg8)
          ∧ r.2.mem ((c.tc : Thread Cert.ReferenceFAIdeal.nD Cert.ReferenceFAIdeal.τ).loc Cert.ReferenceFAIdeal.main_arg9) = m' ((c.tc : Thread Cert.ReferenceFAIdeal.nD Cert.ReferenceFAIdeal.τ).loc Cert.ReferenceFAIdeal.main_arg9)
          ∧ r.2.mem ((c.tc : Thread Cert.ReferenceFAIdeal.nD Cert.ReferenceFAIdeal.τ).loc Cert.ReferenceFAIdeal.main_arg10) = m' ((c.tc : Thread Cert.ReferenceFAIdeal.nD Cert.ReferenceFAIdeal.τ).loc Cert.ReferenceFAIdeal.main_arg10))

def preserves_KernelPC_KernelPCIdeal : Prop :=
  True

def algebraic_KernelPCIdeal_ReferencePCIdeal [hKernelPCIdeal : Cert.KernelPCIdeal.Facts] [hReferencePCIdeal : Cert.ReferencePCIdeal.Facts] : Prop :=
  ∀ (m : (ℓ : Loc Cert.KernelPCIdeal.nD Cert.KernelPCIdeal.τ Cert.KernelPCIdeal.sig) → Buf (Elt Ideal) ℓ) (g : Dev Cert.KernelPCIdeal.nD → PrngReg)
    (m' : (ℓ : Loc Cert.ReferencePCIdeal.nD Cert.ReferencePCIdeal.τ Cert.ReferencePCIdeal.sig) → Buf (Elt Ideal) ℓ) (g' : Dev Cert.ReferencePCIdeal.nD → PrngReg), Pre_KernelPCIdeal m →
    (∀ c : Dev Cert.KernelPCIdeal.nD,
      m' ((c.tc : Thread Cert.ReferencePCIdeal.nD Cert.ReferencePCIdeal.τ).loc Cert.ReferencePCIdeal.main_arg0) = m ((c.tc : Thread Cert.KernelPCIdeal.nD Cert.KernelPCIdeal.τ).loc Cert.KernelPCIdeal.main_arg0)
      ∧ m' ((c.tc : Thread Cert.ReferencePCIdeal.nD Cert.ReferencePCIdeal.τ).loc Cert.ReferencePCIdeal.main_arg1) = m ((c.tc : Thread Cert.KernelPCIdeal.nD Cert.KernelPCIdeal.τ).loc Cert.KernelPCIdeal.main_arg1)
      ∧ m' ((c.tc : Thread Cert.ReferencePCIdeal.nD Cert.ReferencePCIdeal.τ).loc Cert.ReferencePCIdeal.main_arg2) = m ((c.tc : Thread Cert.KernelPCIdeal.nD Cert.KernelPCIdeal.τ).loc Cert.KernelPCIdeal.main_arg2)) →
    ∃ (v0 : (c : Dev Cert.KernelPCIdeal.nD) → Buf (Elt Ideal) ((c.tc : Thread Cert.KernelPCIdeal.nD Cert.KernelPCIdeal.τ).loc Cert.KernelPCIdeal.main_v2)),
      θ_run (Cert.KernelPCIdeal.defs (F := Ideal)) (onTc (τ := Cert.KernelPCIdeal.τ) (Cert.KernelPCIdeal.main (F := Ideal))) ⟨m, fun _ => 0, g⟩ (fun r => ∀ c : Dev Cert.KernelPCIdeal.nD,
          r.2.mem ((c.tc : Thread Cert.KernelPCIdeal.nD Cert.KernelPCIdeal.τ).loc Cert.KernelPCIdeal.main_v2) = v0 c
          ∧ r.2.mem ((c.tc : Thread Cert.KernelPCIdeal.nD Cert.KernelPCIdeal.τ).loc Cert.KernelPCIdeal.main_arg0) = m ((c.tc : Thread Cert.KernelPCIdeal.nD Cert.KernelPCIdeal.τ).loc Cert.KernelPCIdeal.main_arg0)
          ∧ r.2.mem ((c.tc : Thread Cert.KernelPCIdeal.nD Cert.KernelPCIdeal.τ).loc Cert.KernelPCIdeal.main_arg1) = m ((c.tc : Thread Cert.KernelPCIdeal.nD Cert.KernelPCIdeal.τ).loc Cert.KernelPCIdeal.main_arg1)
          ∧ r.2.mem ((c.tc : Thread Cert.KernelPCIdeal.nD Cert.KernelPCIdeal.τ).loc Cert.KernelPCIdeal.main_arg2) = m ((c.tc : Thread Cert.KernelPCIdeal.nD Cert.KernelPCIdeal.τ).loc Cert.KernelPCIdeal.main_arg2))
      ∧ θ_run (Cert.ReferencePCIdeal.defs (F := Ideal)) (onTc (τ := Cert.ReferencePCIdeal.τ) (Cert.ReferencePCIdeal.main (F := Ideal))) ⟨m', fun _ => 0, g'⟩ (fun r => ∀ c : Dev Cert.ReferencePCIdeal.nD,
          r.2.mem ((c.tc : Thread Cert.ReferencePCIdeal.nD Cert.ReferencePCIdeal.τ).loc Cert.ReferencePCIdeal.main_v13) = v0 c
          ∧ r.2.mem ((c.tc : Thread Cert.ReferencePCIdeal.nD Cert.ReferencePCIdeal.τ).loc Cert.ReferencePCIdeal.main_arg0) = m' ((c.tc : Thread Cert.ReferencePCIdeal.nD Cert.ReferencePCIdeal.τ).loc Cert.ReferencePCIdeal.main_arg0)
          ∧ r.2.mem ((c.tc : Thread Cert.ReferencePCIdeal.nD Cert.ReferencePCIdeal.τ).loc Cert.ReferencePCIdeal.main_arg1) = m' ((c.tc : Thread Cert.ReferencePCIdeal.nD Cert.ReferencePCIdeal.τ).loc Cert.ReferencePCIdeal.main_arg1)
          ∧ r.2.mem ((c.tc : Thread Cert.ReferencePCIdeal.nD Cert.ReferencePCIdeal.τ).loc Cert.ReferencePCIdeal.main_arg2) = m' ((c.tc : Thread Cert.ReferencePCIdeal.nD Cert.ReferencePCIdeal.τ).loc Cert.ReferencePCIdeal.main_arg2))

def preserves_KernelPD_KernelPDIdeal : Prop :=
  True

def algebraic_KernelPDIdeal_ReferencePDIdeal [hKernelPDIdeal : Cert.KernelPDIdeal.Facts] [hReferencePDIdeal : Cert.ReferencePDIdeal.Facts] : Prop :=
  ∀ (m : (ℓ : Loc Cert.KernelPDIdeal.nD Cert.KernelPDIdeal.τ Cert.KernelPDIdeal.sig) → Buf (Elt Ideal) ℓ) (g : Dev Cert.KernelPDIdeal.nD → PrngReg)
    (m' : (ℓ : Loc Cert.ReferencePDIdeal.nD Cert.ReferencePDIdeal.τ Cert.ReferencePDIdeal.sig) → Buf (Elt Ideal) ℓ) (g' : Dev Cert.ReferencePDIdeal.nD → PrngReg), Pre_KernelPDIdeal m →
    (∀ c : Dev Cert.KernelPDIdeal.nD,
      m' ((c.tc : Thread Cert.ReferencePDIdeal.nD Cert.ReferencePDIdeal.τ).loc Cert.ReferencePDIdeal.main_arg0) = m ((c.tc : Thread Cert.KernelPDIdeal.nD Cert.KernelPDIdeal.τ).loc Cert.KernelPDIdeal.main_arg0)
      ∧ m' ((c.tc : Thread Cert.ReferencePDIdeal.nD Cert.ReferencePDIdeal.τ).loc Cert.ReferencePDIdeal.main_arg1) = m ((c.tc : Thread Cert.KernelPDIdeal.nD Cert.KernelPDIdeal.τ).loc Cert.KernelPDIdeal.main_arg1)
      ∧ m' ((c.tc : Thread Cert.ReferencePDIdeal.nD Cert.ReferencePDIdeal.τ).loc Cert.ReferencePDIdeal.main_arg2) = m ((c.tc : Thread Cert.KernelPDIdeal.nD Cert.KernelPDIdeal.τ).loc Cert.KernelPDIdeal.main_arg2)) →
    ∃ (v0 : (c : Dev Cert.KernelPDIdeal.nD) → Buf (Elt Ideal) ((c.tc : Thread Cert.KernelPDIdeal.nD Cert.KernelPDIdeal.τ).loc Cert.KernelPDIdeal.main_v2)),
      θ_run (Cert.KernelPDIdeal.defs (F := Ideal)) (onTc (τ := Cert.KernelPDIdeal.τ) (Cert.KernelPDIdeal.main (F := Ideal))) ⟨m, fun _ => 0, g⟩ (fun r => ∀ c : Dev Cert.KernelPDIdeal.nD,
          r.2.mem ((c.tc : Thread Cert.KernelPDIdeal.nD Cert.KernelPDIdeal.τ).loc Cert.KernelPDIdeal.main_v2) = v0 c
          ∧ r.2.mem ((c.tc : Thread Cert.KernelPDIdeal.nD Cert.KernelPDIdeal.τ).loc Cert.KernelPDIdeal.main_arg0) = m ((c.tc : Thread Cert.KernelPDIdeal.nD Cert.KernelPDIdeal.τ).loc Cert.KernelPDIdeal.main_arg0)
          ∧ r.2.mem ((c.tc : Thread Cert.KernelPDIdeal.nD Cert.KernelPDIdeal.τ).loc Cert.KernelPDIdeal.main_arg1) = m ((c.tc : Thread Cert.KernelPDIdeal.nD Cert.KernelPDIdeal.τ).loc Cert.KernelPDIdeal.main_arg1)
          ∧ r.2.mem ((c.tc : Thread Cert.KernelPDIdeal.nD Cert.KernelPDIdeal.τ).loc Cert.KernelPDIdeal.main_arg2) = m ((c.tc : Thread Cert.KernelPDIdeal.nD Cert.KernelPDIdeal.τ).loc Cert.KernelPDIdeal.main_arg2))
      ∧ θ_run (Cert.ReferencePDIdeal.defs (F := Ideal)) (onTc (τ := Cert.ReferencePDIdeal.τ) (Cert.ReferencePDIdeal.main (F := Ideal))) ⟨m', fun _ => 0, g'⟩ (fun r => ∀ c : Dev Cert.ReferencePDIdeal.nD,
          r.2.mem ((c.tc : Thread Cert.ReferencePDIdeal.nD Cert.ReferencePDIdeal.τ).loc Cert.ReferencePDIdeal.main_v13) = v0 c
          ∧ r.2.mem ((c.tc : Thread Cert.ReferencePDIdeal.nD Cert.ReferencePDIdeal.τ).loc Cert.ReferencePDIdeal.main_arg0) = m' ((c.tc : Thread Cert.ReferencePDIdeal.nD Cert.ReferencePDIdeal.τ).loc Cert.ReferencePDIdeal.main_arg0)
          ∧ r.2.mem ((c.tc : Thread Cert.ReferencePDIdeal.nD Cert.ReferencePDIdeal.τ).loc Cert.ReferencePDIdeal.main_arg1) = m' ((c.tc : Thread Cert.ReferencePDIdeal.nD Cert.ReferencePDIdeal.τ).loc Cert.ReferencePDIdeal.main_arg1)
          ∧ r.2.mem ((c.tc : Thread Cert.ReferencePDIdeal.nD Cert.ReferencePDIdeal.τ).loc Cert.ReferencePDIdeal.main_arg2) = m' ((c.tc : Thread Cert.ReferencePDIdeal.nD Cert.ReferencePDIdeal.τ).loc Cert.ReferencePDIdeal.main_arg2))

def algebraic_KernelQAIdeal_ReferenceQAIdeal [hKernelQAIdeal : Cert.KernelQAIdeal.Facts] [hReferenceQAIdeal : Cert.ReferenceQAIdeal.Facts] : Prop :=
  ∀ (m : (ℓ : Loc Cert.KernelQAIdeal.nD Cert.KernelQAIdeal.τ Cert.KernelQAIdeal.sig) → Buf (Elt Ideal) ℓ) (g : Dev Cert.KernelQAIdeal.nD → PrngReg)
    (m' : (ℓ : Loc Cert.ReferenceQAIdeal.nD Cert.ReferenceQAIdeal.τ Cert.ReferenceQAIdeal.sig) → Buf (Elt Ideal) ℓ) (g' : Dev Cert.ReferenceQAIdeal.nD → PrngReg), Pre_KernelQAIdeal m →
    (∀ c : Dev Cert.KernelQAIdeal.nD,
      m' ((c.tc : Thread Cert.ReferenceQAIdeal.nD Cert.ReferenceQAIdeal.τ).loc Cert.ReferenceQAIdeal.main_arg0) = m ((c.tc : Thread Cert.KernelQAIdeal.nD Cert.KernelQAIdeal.τ).loc Cert.KernelQAIdeal.main_arg0)
      ∧ m' ((c.tc : Thread Cert.ReferenceQAIdeal.nD Cert.ReferenceQAIdeal.τ).loc Cert.ReferenceQAIdeal.main_arg1) = m ((c.tc : Thread Cert.KernelQAIdeal.nD Cert.KernelQAIdeal.τ).loc Cert.KernelQAIdeal.main_arg1)
      ∧ m' ((c.tc : Thread Cert.ReferenceQAIdeal.nD Cert.ReferenceQAIdeal.τ).loc Cert.ReferenceQAIdeal.main_arg2) = m ((c.tc : Thread Cert.KernelQAIdeal.nD Cert.KernelQAIdeal.τ).loc Cert.KernelQAIdeal.main_arg2)
      ∧ m' ((c.tc : Thread Cert.ReferenceQAIdeal.nD Cert.ReferenceQAIdeal.τ).loc Cert.ReferenceQAIdeal.main_arg3) = m ((c.tc : Thread Cert.KernelQAIdeal.nD Cert.KernelQAIdeal.τ).loc Cert.KernelQAIdeal.main_arg3)) →
    ∃ (v0 : (c : Dev Cert.KernelQAIdeal.nD) → Buf (Elt Ideal) ((c.tc : Thread Cert.KernelQAIdeal.nD Cert.KernelQAIdeal.τ).loc Cert.KernelQAIdeal.main_v68_0)) (v1 : (c : Dev Cert.KernelQAIdeal.nD) → Buf (Elt Ideal) ((c.tc : Thread Cert.KernelQAIdeal.nD Cert.KernelQAIdeal.τ).loc Cert.KernelQAIdeal.main_v68_1)) (v2 : (c : Dev Cert.KernelQAIdeal.nD) → Buf (Elt Ideal) ((c.tc : Thread Cert.KernelQAIdeal.nD Cert.KernelQAIdeal.τ).loc Cert.KernelQAIdeal.main_v68_2)) (v3 : (c : Dev Cert.KernelQAIdeal.nD) → Buf (Elt Ideal) ((c.tc : Thread Cert.KernelQAIdeal.nD Cert.KernelQAIdeal.τ).loc Cert.KernelQAIdeal.main_v68_3)),
      θ_run (Cert.KernelQAIdeal.defs (F := Ideal)) (onTc (τ := Cert.KernelQAIdeal.τ) (Cert.KernelQAIdeal.main (F := Ideal))) ⟨m, fun _ => 0, g⟩ (fun r => ∀ c : Dev Cert.KernelQAIdeal.nD,
          r.2.mem ((c.tc : Thread Cert.KernelQAIdeal.nD Cert.KernelQAIdeal.τ).loc Cert.KernelQAIdeal.main_v68_0) = v0 c
          ∧ r.2.mem ((c.tc : Thread Cert.KernelQAIdeal.nD Cert.KernelQAIdeal.τ).loc Cert.KernelQAIdeal.main_v68_1) = v1 c
          ∧ r.2.mem ((c.tc : Thread Cert.KernelQAIdeal.nD Cert.KernelQAIdeal.τ).loc Cert.KernelQAIdeal.main_v68_2) = v2 c
          ∧ r.2.mem ((c.tc : Thread Cert.KernelQAIdeal.nD Cert.KernelQAIdeal.τ).loc Cert.KernelQAIdeal.main_v68_3) = v3 c
          ∧ r.2.mem ((c.tc : Thread Cert.KernelQAIdeal.nD Cert.KernelQAIdeal.τ).loc Cert.KernelQAIdeal.main_arg0) = m ((c.tc : Thread Cert.KernelQAIdeal.nD Cert.KernelQAIdeal.τ).loc Cert.KernelQAIdeal.main_arg0)
          ∧ r.2.mem ((c.tc : Thread Cert.KernelQAIdeal.nD Cert.KernelQAIdeal.τ).loc Cert.KernelQAIdeal.main_arg1) = m ((c.tc : Thread Cert.KernelQAIdeal.nD Cert.KernelQAIdeal.τ).loc Cert.KernelQAIdeal.main_arg1)
          ∧ r.2.mem ((c.tc : Thread Cert.KernelQAIdeal.nD Cert.KernelQAIdeal.τ).loc Cert.KernelQAIdeal.main_arg2) = m ((c.tc : Thread Cert.KernelQAIdeal.nD Cert.KernelQAIdeal.τ).loc Cert.KernelQAIdeal.main_arg2)
          ∧ r.2.mem ((c.tc : Thread Cert.KernelQAIdeal.nD Cert.KernelQAIdeal.τ).loc Cert.KernelQAIdeal.main_arg3) = m ((c.tc : Thread Cert.KernelQAIdeal.nD Cert.KernelQAIdeal.τ).loc Cert.KernelQAIdeal.main_arg3))
      ∧ θ_run (Cert.ReferenceQAIdeal.defs (F := Ideal)) (onTc (τ := Cert.ReferenceQAIdeal.τ) (Cert.ReferenceQAIdeal.main (F := Ideal))) ⟨m', fun _ => 0, g'⟩ (fun r => ∀ c : Dev Cert.ReferenceQAIdeal.nD,
          r.2.mem ((c.tc : Thread Cert.ReferenceQAIdeal.nD Cert.ReferenceQAIdeal.τ).loc Cert.ReferenceQAIdeal.main_v132) = v0 c
          ∧ r.2.mem ((c.tc : Thread Cert.ReferenceQAIdeal.nD Cert.ReferenceQAIdeal.τ).loc Cert.ReferenceQAIdeal.main_v149) = v1 c
          ∧ r.2.mem ((c.tc : Thread Cert.ReferenceQAIdeal.nD Cert.ReferenceQAIdeal.τ).loc Cert.ReferenceQAIdeal.main_v151) = v2 c
          ∧ r.2.mem ((c.tc : Thread Cert.ReferenceQAIdeal.nD Cert.ReferenceQAIdeal.τ).loc Cert.ReferenceQAIdeal.main_v153) = v3 c
          ∧ r.2.mem ((c.tc : Thread Cert.ReferenceQAIdeal.nD Cert.ReferenceQAIdeal.τ).loc Cert.ReferenceQAIdeal.main_arg0) = m' ((c.tc : Thread Cert.ReferenceQAIdeal.nD Cert.ReferenceQAIdeal.τ).loc Cert.ReferenceQAIdeal.main_arg0)
          ∧ r.2.mem ((c.tc : Thread Cert.ReferenceQAIdeal.nD Cert.ReferenceQAIdeal.τ).loc Cert.ReferenceQAIdeal.main_arg1) = m' ((c.tc : Thread Cert.ReferenceQAIdeal.nD Cert.ReferenceQAIdeal.τ).loc Cert.ReferenceQAIdeal.main_arg1)
          ∧ r.2.mem ((c.tc : Thread Cert.ReferenceQAIdeal.nD Cert.ReferenceQAIdeal.τ).loc Cert.ReferenceQAIdeal.main_arg2) = m' ((c.tc : Thread Cert.ReferenceQAIdeal.nD Cert.ReferenceQAIdeal.τ).loc Cert.ReferenceQAIdeal.main_arg2)
          ∧ r.2.mem ((c.tc : Thread Cert.ReferenceQAIdeal.nD Cert.ReferenceQAIdeal.τ).loc Cert.ReferenceQAIdeal.main_arg3) = m' ((c.tc : Thread Cert.ReferenceQAIdeal.nD Cert.ReferenceQAIdeal.τ).loc Cert.ReferenceQAIdeal.main_arg3))

def Claim : Prop :=
  ∃ (hKernelA1 : Cert.KernelA1.Facts) (hKernelA1Ideal : Cert.KernelA1Ideal.Facts) (hReferenceA1Ideal : Cert.ReferenceA1Ideal.Facts) (hKernelF : Cert.KernelF.Facts) (hKernelFIdeal : Cert.KernelFIdeal.Facts) (hReferenceFIdeal : Cert.ReferenceFIdeal.Facts) (hKernelFB : Cert.KernelFB.Facts) (hKernelFBIdeal : Cert.KernelFBIdeal.Facts) (hReferenceFBIdeal : Cert.ReferenceFBIdeal.Facts) (hKernelFC : Cert.KernelFC.Facts) (hKernelFCIdeal : Cert.KernelFCIdeal.Facts) (hReferenceFCIdeal : Cert.ReferenceFCIdeal.Facts) (hKernelFD : Cert.KernelFD.Facts) (hKernelFDIdeal : Cert.KernelFDIdeal.Facts) (hReferenceFDIdeal : Cert.ReferenceFDIdeal.Facts) (hKernelFA : Cert.KernelFA.Facts) (hKernelFAIdeal : Cert.KernelFAIdeal.Facts) (hReferenceFAIdeal : Cert.ReferenceFAIdeal.Facts) (hKernelPC : Cert.KernelPC.Facts) (hKernelPCIdeal : Cert.KernelPCIdeal.Facts) (hReferencePCIdeal : Cert.ReferencePCIdeal.Facts) (hKernelPD : Cert.KernelPD.Facts) (hKernelPDIdeal : Cert.KernelPDIdeal.Facts) (hReferencePDIdeal : Cert.ReferencePDIdeal.Facts) (hKernelQAIdeal : Cert.KernelQAIdeal.Facts) (hReferenceQAIdeal : Cert.ReferenceQAIdeal.Facts) (hPre_finite : Cert.Pre_finite.Facts) (hPre_finite_lse : Cert.Pre_finite_lse.Facts),
    quiescent_KernelA1 (hKernelA1 := hKernelA1)
    ∧ quiescent_KernelA1Ideal (hKernelA1Ideal := hKernelA1Ideal)
    ∧ quiescent_KernelA1Ideal_pre_finite (hKernelA1Ideal := hKernelA1Ideal) (hPre_finite := hPre_finite)
    ∧ quiescent_ReferenceA1Ideal (hReferenceA1Ideal := hReferenceA1Ideal)
    ∧ quiescent_ReferenceA1Ideal_pre_finite (hReferenceA1Ideal := hReferenceA1Ideal) (hPre_finite := hPre_finite)
    ∧ quiescent_KernelF (hKernelF := hKernelF)
    ∧ quiescent_KernelFIdeal (hKernelFIdeal := hKernelFIdeal)
    ∧ quiescent_ReferenceFIdeal (hReferenceFIdeal := hReferenceFIdeal)
    ∧ quiescent_KernelFB (hKernelFB := hKernelFB)
    ∧ quiescent_KernelFBIdeal (hKernelFBIdeal := hKernelFBIdeal)
    ∧ quiescent_ReferenceFBIdeal (hReferenceFBIdeal := hReferenceFBIdeal)
    ∧ quiescent_KernelFC (hKernelFC := hKernelFC)
    ∧ quiescent_KernelFCIdeal (hKernelFCIdeal := hKernelFCIdeal)
    ∧ quiescent_ReferenceFCIdeal (hReferenceFCIdeal := hReferenceFCIdeal)
    ∧ quiescent_KernelFD (hKernelFD := hKernelFD)
    ∧ quiescent_KernelFDIdeal (hKernelFDIdeal := hKernelFDIdeal)
    ∧ quiescent_ReferenceFDIdeal (hReferenceFDIdeal := hReferenceFDIdeal)
    ∧ quiescent_KernelFA (hKernelFA := hKernelFA)
    ∧ quiescent_KernelFAIdeal (hKernelFAIdeal := hKernelFAIdeal)
    ∧ quiescent_KernelFAIdeal_pre_finite_lse (hKernelFAIdeal := hKernelFAIdeal) (hPre_finite_lse := hPre_finite_lse)
    ∧ quiescent_ReferenceFAIdeal (hReferenceFAIdeal := hReferenceFAIdeal)
    ∧ quiescent_ReferenceFAIdeal_pre_finite_lse (hReferenceFAIdeal := hReferenceFAIdeal) (hPre_finite_lse := hPre_finite_lse)
    ∧ quiescent_KernelPC (hKernelPC := hKernelPC)
    ∧ quiescent_KernelPCIdeal (hKernelPCIdeal := hKernelPCIdeal)
    ∧ quiescent_ReferencePCIdeal (hReferencePCIdeal := hReferencePCIdeal)
    ∧ quiescent_KernelPD (hKernelPD := hKernelPD)
    ∧ quiescent_KernelPDIdeal (hKernelPDIdeal := hKernelPDIdeal)
    ∧ quiescent_ReferencePDIdeal (hReferencePDIdeal := hReferencePDIdeal)
    ∧ quiescent_KernelQAIdeal (hKernelQAIdeal := hKernelQAIdeal)
    ∧ quiescent_ReferenceQAIdeal (hReferenceQAIdeal := hReferenceQAIdeal)
    ∧ preserves_KernelA1_KernelA1Ideal
    ∧ algebraic_KernelA1Ideal_ReferenceA1Ideal_pre_finite (hKernelA1Ideal := hKernelA1Ideal) (hReferenceA1Ideal := hReferenceA1Ideal) (hPre_finite := hPre_finite)
    ∧ preserves_KernelF_KernelFIdeal
    ∧ algebraic_KernelFIdeal_ReferenceFIdeal (hKernelFIdeal := hKernelFIdeal) (hReferenceFIdeal := hReferenceFIdeal)
    ∧ preserves_KernelFB_KernelFBIdeal
    ∧ algebraic_KernelFBIdeal_ReferenceFBIdeal (hKernelFBIdeal := hKernelFBIdeal) (hReferenceFBIdeal := hReferenceFBIdeal)
    ∧ preserves_KernelFC_KernelFCIdeal
    ∧ algebraic_KernelFCIdeal_ReferenceFCIdeal (hKernelFCIdeal := hKernelFCIdeal) (hReferenceFCIdeal := hReferenceFCIdeal)
    ∧ preserves_KernelFD_KernelFDIdeal
    ∧ algebraic_KernelFDIdeal_ReferenceFDIdeal (hKernelFDIdeal := hKernelFDIdeal) (hReferenceFDIdeal := hReferenceFDIdeal)
    ∧ preserves_KernelFA_KernelFAIdeal
    ∧ algebraic_KernelFAIdeal_ReferenceFAIdeal_pre_finite_lse (hKernelFAIdeal := hKernelFAIdeal) (hReferenceFAIdeal := hReferenceFAIdeal) (hPre_finite_lse := hPre_finite_lse)
    ∧ preserves_KernelPC_KernelPCIdeal
    ∧ algebraic_KernelPCIdeal_ReferencePCIdeal (hKernelPCIdeal := hKernelPCIdeal) (hReferencePCIdeal := hReferencePCIdeal)
    ∧ preserves_KernelPD_KernelPDIdeal
    ∧ algebraic_KernelPDIdeal_ReferencePDIdeal (hKernelPDIdeal := hKernelPDIdeal) (hReferencePDIdeal := hReferencePDIdeal)
    ∧ algebraic_KernelQAIdeal_ReferenceQAIdeal (hKernelQAIdeal := hKernelQAIdeal) (hReferenceQAIdeal := hReferenceQAIdeal)
-- ==== Pre_finite.lean ====
abbrev S16384x4608 : Shape := ⟨2, ![16384, 4608]⟩
abbrev S_ : Shape := ⟨0, ![]⟩

class Facts : Prop where
  bcast_S_S16384x4608 : S_.BroadcastsInDim S16384x4608 (![] : Fin 0 → Fin S16384x4608.rank)

variable [Facts]

def fn {F : FTy → Type} [FloatOps F] (main_arg0 : FVec F S16384x4608 .f32) : IVec S16384x4608 1 :=
  let main_v0 : FVec F S16384x4608 .f32 := Host.absf main_arg0
  let main_cst : FVec F S_ .f32 := constant S_ .f32 0x7F800000#32
  let main_v1 : FVec F S16384x4608 .f32 := broadcastInDim S16384x4608 ![] bcast_S_S16384x4608 main_cst
  let main_v2 : IVec S16384x4608 1 := cmpf .olt main_v0 main_v1
  main_v2
-- ==== Pre_finite_lse.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x512 : Shape := ⟨2, ![16384, 512]⟩
abbrev S512x1024 : Shape := ⟨2, ![512, 1024]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x1024 .f32) (main_arg1 : FVec F S1024 .f32) (main_arg2 : FVec F S4x2x1024x5632 .f32) (main_arg3 : FVec F S4x2x2816x1024 .f32) (main_arg4 : FVec F S16384x512 .f32) (main_arg5 : FVec F S16384x512 .f32) (main_arg6 : FVec F S16384x512 .f32) (main_arg7 : FVec F S16384x512 .f32) (main_arg8 : FVec F S16384x512 .f32) (main_arg9 : FVec F S16384x512 .f32) (main_arg10 : FVec F S512x1024 .f32) : IVec S16384x512 1 :=
  let main_v0 : FVec F S16384x512 .f32 := Host.absf main_arg7
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg8
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : IVec S16384x512 1 := andi main_v2 main_v5
  let main_v7 : FVec F S16384x512 .f32 := Host.absf main_arg9
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  let main_v10 : IVec S16384x512 1 := andi main_v6 main_v9
  main_v10
-- ==== KernelA1.lean ====
abbrev S16384x4608 : Shape := ⟨2, ![16384, 4608]⟩
abbrev S4x4096x4608 : Shape := ⟨3, ![4, 4096, 4608]⟩
abbrev S4x4096x512 : Shape := ⟨3, ![4, 4096, 512]⟩
abbrev S1x128x512 : Shape := ⟨3, ![1, 128, 512]⟩
abbrev S1024x256 : Shape := ⟨2, ![1024, 256]⟩
abbrev S128x512 : Shape := ⟨2, ![128, 512]⟩
abbrev S256x512 : Shape := ⟨2, ![256, 512]⟩
abbrev S128x64 : Shape := ⟨2, ![128, 64]⟩
abbrev S256x64 : Shape := ⟨2, ![256, 64]⟩
abbrev S128x256 : Shape := ⟨2, ![128, 256]⟩
abbrev S1024 : Shape := ⟨1, ![1024]⟩
abbrev S1024x1 : Shape := ⟨2, ![1024, 1]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x4608, .f32⟩
  | .hbm, ⟨1, _⟩ => ⟨S4x4096x4608, .f32⟩
  | .hbm, ⟨2, _⟩ => ⟨S4x4096x512, .f32⟩
  | .hbm, ⟨3, _⟩ => ⟨S4x4096x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.addi c1_i32_0 arg2
  let c0_i32_1 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.addi c2_i32 arg2
  let c0_i32_0 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceA1Ideal.lean ====
abbrev S16384x4608 : Shape := ⟨2, ![16384, 4608]⟩
abbrev S4x4096x3x3x8x64 : Shape := ⟨6, ![4, 4096, 3, 3, 8, 64]⟩
abbrev S4x4096x1x1x8x64 : Shape := ⟨6, ![4, 4096, 1, 1, 8, 64]⟩
abbrev S4x4096x8x64 : Shape := ⟨4, ![4, 4096, 8, 64]⟩
abbrev S4x4096x1x8x64 : Shape := ⟨5, ![4, 4096, 1, 8, 64]⟩
abbrev S4x1x4096x8x64 : Shape := ⟨5, ![4, 1, 4096, 8, 64]⟩
abbrev S_ : Shape := ⟨0, ![]⟩
abbrev S4x1x32x128x8x64 : Shape := ⟨6, ![4, 1, 32, 128, 8, 64]⟩
abbrev S4x1x4224x8x64 : Shape := ⟨5, ![4, 1, 4224, 8, 64]⟩
abbrev S4x1x33x128x8x64 : Shape := ⟨6, ![4, 1, 33, 128, 8, 64]⟩
abbrev S4x1x32x256x8x64 : Shape := ⟨6, ![4, 1, 32, 256, 8, 64]⟩
abbrev S4x1x32x8x128x256 : Shape := ⟨6, ![4, 1, 32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x1x128x256 : Shape := ⟨6, ![1, 1, 32, 1, 128, 256]⟩
abbrev S4x1x32x8x128 : Shape := ⟨5, ![4, 1, 32, 8, 128]⟩
abbrev S4x1x32x8x128x1 : Shape := ⟨6, ![4, 1, 32, 8, 128, 1]⟩
abbrev S4x1x32x8x64x128 : Shape := ⟨6, ![4, 1, 32, 8, 64, 128]⟩
abbrev S4x1x32x128x8 : Shape := ⟨5, ![4, 1, 32, 128, 8]⟩
abbrev S4x1x4096x8 : Shape := ⟨4, ![4, 1, 4096, 8]⟩
abbrev S4x4096x1x8 : Shape := ⟨4, ![4, 4096, 1, 8]⟩
abbrev S4x4096x8 : Shape := ⟨3, ![4, 4096, 8]⟩
abbrev S4x4096x512 : Shape := ⟨3, ![4, 4096, 512]⟩
abbrev S4x4096x8x1 : Shape := ⟨4, ![4, 4096, 8, 1]⟩

abbrev nBuf : Space → Nat
  | .hbm => 105
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S4x4096x3x3x8x64, .f32⟩
  | .hbm, ⟨2, _⟩ => ⟨S4x4096x1x1x8x64, .f32⟩
  | .hbm, ⟨3, _⟩ => ⟨S4x4096x8x64, .f32⟩
  | .hbm, ⟨4, _⟩ => ⟨S4x4096x1x1x8x64, .f32⟩
  | .hbm, ⟨5, _⟩ => ⟨S4x4096x8x64, .f32⟩
  | .hbm, ⟨6, _⟩ => ⟨S4x4096x1x1x8x64, .f32⟩
  | .hbm, ⟨7, _⟩ => ⟨S4x4096x8x64, .f32⟩
  | .hbm, ⟨8, _⟩ => ⟨S4x4096x1x8x64, .f32⟩
  | .hbm, ⟨9, _⟩ => ⟨S4x1x4096x8x64, .f32⟩
  | .hbm, ⟨10, _⟩ => ⟨S4x4096x1x8x64, .f32⟩
  | .hbm, ⟨11, _⟩ => ⟨S4x1x4096x8x64, .f32⟩
  | .hbm, ⟨12, _⟩ => ⟨S4x4096x1x8x64, .f32⟩
  | .hbm, ⟨13, _⟩ => ⟨S4x1x4096x8x64, .f32⟩
  | .hbm, ⟨14, _⟩ => ⟨S_, .i32⟩
  | .hbm, ⟨15, _⟩ => ⟨S_, .f32⟩
  | .hbm, ⟨16, _⟩ => ⟨S4x1x4096x8x64, .f32⟩
  | .hbm, ⟨17, _⟩ => ⟨S4x1x32x128x8x64, .f32⟩
  | .hbm, ⟨18, _⟩ => ⟨S_, .i32⟩
  | .hbm, ⟨19, _⟩ => ⟨S_, .f32⟩
  | .hbm, ⟨20, _⟩ => ⟨S4x1x4224x8x64, .f32⟩
  | .hbm, ⟨21, _⟩ => ⟨S4x1x33x128x8x64, .f32⟩
  | .hbm, ⟨22, _⟩ => ⟨S_, .i32⟩
  | .hbm, ⟨23, _⟩ => ⟨S_, .f32⟩
  | .hbm, ⟨24, _⟩ => ⟨S4x1x4224x8x64, .f32⟩
  | .hbm, ⟨25, _⟩ => ⟨S4x1x33x128x8x64, .f32⟩
  | .hbm, ⟨26, _⟩ => ⟨S4x1x32x128x8x64, .f32⟩
  | .hbm, ⟨27, _⟩ => ⟨S4x1x32x128x8x64, .f32⟩
  | .hbm, ⟨28, _⟩ => ⟨S4x1x32x256x8x64, .f32⟩
  | .hbm, ⟨29, _⟩ => ⟨S4x1x32x128x8x64, .f32⟩
  | .hbm, ⟨30, _⟩ => ⟨S4x1x32x128x8x64, .f32⟩
  | .hbm, ⟨31, _⟩ => ⟨S4x1x32x256x8x64, .f32⟩
  | .hbm, ⟨32, _⟩ => ⟨S4x1x32x8x128x256, .f32⟩
  | .hbm, ⟨33, _⟩ => ⟨S_, .f32⟩
  | .hbm, ⟨34, _⟩ => ⟨S4x1x32x8x128x256, .f32⟩
  | .hbm, ⟨35, _⟩ => ⟨S4x1x32x8x128x256, .f32⟩
  | .hbm, ⟨36, _⟩ => ⟨S128, .i32⟩
  | .hbm, ⟨37, _⟩ => ⟨S128x1, .i32⟩
  | .hbm, ⟨38, _⟩ => ⟨S256, .i32⟩
  | .hbm, ⟨39, _⟩ => ⟨S1x256, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S32, .i32⟩
  | .hbm, ⟨47, _⟩ => ⟨S32x1x1, .i32⟩
  | .hbm, ⟨48, _⟩ => ⟨S_, .i32⟩
  | .hbm, ⟨49, _⟩ => ⟨S32x1x1, .i32⟩
  | .hbm, ⟨50, _⟩ => ⟨S32x1x1, .i32⟩
  | .hbm, ⟨51, _⟩ => ⟨S_, .i32⟩
  | .hbm, ⟨52, _⟩ => ⟨S32x1x1, .i32⟩
  | .hbm, ⟨53, _⟩ => ⟨S32x1x1, .i32⟩
  | .hbm, ⟨54, _⟩ => ⟨S1x1x256, .i32⟩
  | .hbm, ⟨55, _⟩ => ⟨S32x1x256, .i32⟩
  | .hbm, ⟨56, _⟩ => ⟨S32x1x256, .i32⟩
  | .hbm, ⟨57, _⟩ => ⟨S32x1x256, .i32⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S128x256, .i1⟩
  | .hbm, ⟨65, _⟩ => ⟨S1x128x256, .i1⟩
  | .hbm, ⟨66, _⟩ => ⟨S_, .i32⟩
  | .hbm, ⟨67, _⟩ => ⟨S32x1x256, .i32⟩
  | .hbm, ⟨68, _⟩ => ⟨S32x1x256, .i1⟩
  | .hbm, ⟨69, _⟩ => ⟨S32x128x256, .i1⟩
  | .hbm, ⟨70, _⟩ => ⟨S32x128x256, .i1⟩
  | .hbm, ⟨71, _⟩ => ⟨S32x128x256, .i1⟩
  | .hbm, ⟨72, _⟩ => ⟨S1x1x32x1x128x256, .i1⟩
  | .hbm, ⟨73, _⟩ => ⟨S_, .f32⟩
  | .hbm, ⟨74, _⟩ => ⟨S_, .f32⟩
  | .hbm, ⟨75, _⟩ => ⟨S4x1x32x8x128x256, .i1⟩
  | .hbm, ⟨76, _⟩ => ⟨S4x1x32x8x128x256, .f32⟩
  | .hbm, ⟨77, _⟩ => ⟨S4x1x32x8x128x256, .f32⟩
  | .hbm, ⟨78, _⟩ => ⟨S_, .f32⟩
  | .hbm, ⟨79, _⟩ => ⟨S4x1x32x8x128, .f32⟩
  | .hbm, ⟨80, _⟩ => ⟨S4x1x32x8x128x1, .f32⟩
  | .hbm, ⟨81, _⟩ => ⟨S4x1x32x8x128x256, .f32⟩
  | .hbm, ⟨82, _⟩ => ⟨S4x1x32x8x128x256, .f32⟩
  | .hbm, ⟨83, _⟩ => ⟨S4x1x32x8x128x256, .f32⟩
  | .hbm, ⟨84, _⟩ => ⟨S_, .f32⟩
  | .hbm, ⟨85, _⟩ => ⟨S4x1x32x8x128, .f32⟩
  | .hbm, ⟨86, _⟩ => ⟨S4x1x32x8x128x1, .f32⟩
  | .hbm, ⟨87, _⟩ => ⟨S4x1x32x8x128x256, .f32⟩
  | .hbm, ⟨88, _⟩ => ⟨S4x1x32x8x128x256, .f32⟩
  | .hbm, ⟨89, _⟩ => ⟨S4x1x32x8x64x128, .f32⟩
  | .hbm, ⟨90, _⟩ => ⟨S4x1x32x128x8x64, .f32⟩
  | .hbm, ⟨91, _⟩ => ⟨S4x1x32x8x128x1, .f32⟩
  | .hbm, ⟨92, _⟩ => ⟨S4x1x32x8x128x1, .f32⟩
  | .hbm, ⟨93, _⟩ => ⟨S4x1x32x8x128, .f32⟩
  | .hbm, ⟨94, _⟩ => ⟨S4x1x32x128x8, .f32⟩
  | .hbm, ⟨95, _⟩ => ⟨S4x1x4096x8x64, .f32⟩
  | .hbm, ⟨96, _⟩ => ⟨S4x4096x1x8x64, .f32⟩
  | .hbm, ⟨97, _⟩ => ⟨S4x4096x8x64, .f32⟩
  | .hbm, ⟨98, _⟩ => ⟨S4x1x4096x8, .f32⟩
  | .hbm, ⟨99, _⟩ => ⟨S4x4096x1x8, .f32⟩
  | .hbm, ⟨100, _⟩ => ⟨S4x4096x8, .f32⟩
  | .hbm, ⟨101, _⟩ => ⟨S4x4096x512, .f32⟩
  | .hbm, ⟨102, _⟩ => ⟨S4x4096x8x1, .f32⟩
  | .hbm, ⟨103, _⟩ => ⟨S4x4096x8x64, .f32⟩
  | .hbm, ⟨104, _⟩ => ⟨S4x4096x512, .f32⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_call0_v0 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_call1_v0 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_call2_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== KernelF.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S4x2x1024x5632, .bf16⟩
  | .hbm, ⟨5, _⟩ => ⟨S4x2x2816x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c1_i32 : BitVec 32 := 1#32
  let c0_i32_2 : BitVec 32 := 0#32
  ![c0_i32.toNat, c0_i32_0.toNat, c0_i32_1.toNat, c1_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFIdeal.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1x1024x5632, .f32⟩
  | .hbm, ⟨21, _⟩ => ⟨S1024x5632, .f32⟩
  | .hbm, ⟨22, _⟩ => ⟨S1x1x2816x1024, .f32⟩
  | .hbm, ⟨23, _⟩ => ⟨S2816x1024, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== KernelFB.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x1024, .f32⟩
  | .hbm, ⟨5, _⟩ => ⟨S1024x1024, .f32⟩
  | .hbm, ⟨6, _⟩ => ⟨S1024x1024, .bf16⟩
  | .hbm, ⟨7, _⟩ => ⟨S4x2x1024x5632, .bf16⟩
  | .hbm, ⟨8, _⟩ => ⟨S4x2x2816x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1x1024x2816, .bf16⟩
  | .local _ .vmem, ⟨7, _⟩ => ⟨S1x1x1024x2816, .bf16⟩
  | .local _ .vmem, ⟨8, _⟩ => ⟨S1x1x2816x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c1_i32_1 : BitVec 32 := 1#32
  let c0_i32_2 : BitVec 32 := 0#32
  ![c1_i32.toNat, c1_i32_0.toNat, c0_i32.toNat, c1_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFBIdeal.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1x1024x5632, .f32⟩
  | .hbm, ⟨25, _⟩ => ⟨S1024x5632, .f32⟩
  | .hbm, ⟨26, _⟩ => ⟨S1x1x2816x1024, .f32⟩
  | .hbm, ⟨27, _⟩ => ⟨S2816x1024, .f32⟩
  | .hbm, ⟨28, _⟩ => ⟨S16384x5632, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== KernelFC.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x3200 : Shape := ⟨2, ![16384, 3200]⟩
abbrev S256 : Shape := ⟨1, ![256]⟩
abbrev S1024x1024 : Shape := ⟨2, ![1024, 1024]⟩
abbrev S1x256 : Shape := ⟨2, ![1, 256]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512x256 : Shape := ⟨2, ![512, 256]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x1024, .f32⟩
  | .hbm, ⟨5, _⟩ => ⟨S16384x3200, .f32⟩
  | .hbm, ⟨6, _⟩ => ⟨S256, .f32⟩
  | .hbm, ⟨7, _⟩ => ⟨S1024x1024, .f32⟩
  | .hbm, ⟨8, _⟩ => ⟨S1x256, .f32⟩
  | .hbm, ⟨9, _⟩ => ⟨S1024x1024, .bf16⟩
  | .hbm, ⟨10, _⟩ => ⟨S4x2x1024x5632, .bf16⟩
  | .hbm, ⟨11, _⟩ => ⟨S4x2x2816x1024, .bf16⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x256, .f32⟩
  | .local _ .vmem, ⟨7, _⟩ => ⟨S1024x1024, .bf16⟩
  | .local _ .vmem, ⟨8, _⟩ => ⟨S1x1024, .f32⟩
  | .local _ .vmem, ⟨9, _⟩ => ⟨S1x1x1024x2816, .bf16⟩
  | .local _ .vmem, ⟨10, _⟩ => ⟨S1x1x1024x2816, .bf16⟩
  | .local _ .vmem, ⟨11, _⟩ => ⟨S1x1x2816x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_7 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c1_i32_0 : BitVec 32 := 1#32
  let c0_i32_1 : BitVec 32 := 0#32
  ![c2_i32.toNat, c1_i32.toNat, c0_i32.toNat, c1_i32_0.toNat]

def cc0_transform_8 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFCIdeal.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x3200 : Shape := ⟨2, ![16384, 3200]⟩
abbrev S256 : Shape := ⟨1, ![256]⟩
abbrev S1024x1024 : Shape := ⟨2, ![1024, 1024]⟩
abbrev S16384x4x256 : Shape := ⟨3, ![16384, 4, 256]⟩
abbrev S_ : Shape := ⟨0, ![]⟩
abbrev S16384x4 : Shape := ⟨2, ![16384, 4]⟩
abbrev S16384x4x1 : Shape := ⟨3, ![16384, 4, 1]⟩
abbrev S1x1x256 : Shape := ⟨3, ![1, 1, 256]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x1024, .f32⟩
  | .hbm, ⟨5, _⟩ => ⟨S16384x3200, .f32⟩
  | .hbm, ⟨6, _⟩ => ⟨S256, .f32⟩
  | .hbm, ⟨7, _⟩ => ⟨S1024x1024, .f32⟩
  | .hbm, ⟨8, _⟩ => ⟨S16384x1024, .f32⟩
  | .hbm, ⟨9, _⟩ => ⟨S16384x4x256, .f32⟩
  | .hbm, ⟨10, _⟩ => ⟨S16384x4x256, .f32⟩
  | .hbm, ⟨11, _⟩ => ⟨S_, .f32⟩
  | .hbm, ⟨12, _⟩ => ⟨S16384x4, .f32⟩
  | .hbm, ⟨13, _⟩ => ⟨S16384x4x1, .f32⟩
  | .hbm, ⟨14, _⟩ => ⟨S_, .f32⟩
  | .hbm, ⟨15, _⟩ => ⟨S16384x4x1, .f32⟩
  | .hbm, ⟨16, _⟩ => ⟨S16384x4x1, .f32⟩
  | .hbm, ⟨17, _⟩ => ⟨S_, .f32⟩
  | .hbm, ⟨18, _⟩ => ⟨S16384x4x1, .f32⟩
  | .hbm, ⟨19, _⟩ => ⟨S16384x4x1, .f32⟩
  | .hbm, ⟨20, _⟩ => ⟨S16384x4x1, .f32⟩
  | .hbm, ⟨21, _⟩ => ⟨S16384x4x256, .f32⟩
  | .hbm, ⟨22, _⟩ => ⟨S16384x4x256, .f32⟩
  | .hbm, ⟨23, _⟩ => ⟨S1x1x256, .f32⟩
  | .hbm, ⟨24, _⟩ => ⟨S16384x4x256, .f32⟩
  | .hbm, ⟨25, _⟩ => ⟨S16384x4x256, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S1x1x1024x5632, .f32⟩
  | .hbm, ⟨56, _⟩ => ⟨S1024x5632, .f32⟩
  | .hbm, ⟨57, _⟩ => ⟨S1x1x2816x1024, .f32⟩
  | .hbm, ⟨58, _⟩ => ⟨S2816x1024, .f32⟩
  | .hbm, ⟨59, _⟩ => ⟨S16384x5632, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S_, .f32⟩
  | .hbm, ⟨65, _⟩ => ⟨S16384x2816, .f32⟩
  | .hbm, ⟨66, _⟩ => ⟨S16384x2816, .f32⟩
  | .hbm, ⟨67, _⟩ => ⟨S_, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== KernelFD.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x2048 : Shape := ⟨2, ![16384, 2048]⟩
abbrev S16384x5376 : Shape := ⟨2, ![16384, 5376]⟩
abbrev S2048 : Shape := ⟨1, ![2048]⟩
abbrev S2048x1024 : Shape := ⟨2, ![2048, 1024]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩
abbrev S1x1x1024x2816 : Shape := ⟨4, ![1, 1, 1024, 2816]⟩
abbrev S1x1x2816x1024 : Shape := ⟨4, ![1, 1, 2816, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x2048, .f32⟩
  | .hbm, ⟨5, _⟩ => ⟨S16384x5376, .f32⟩
  | .hbm, ⟨6, _⟩ => ⟨S2048, .f32⟩
  | .hbm, ⟨7, _⟩ => ⟨S2048x1024, .f32⟩
  | .hbm, ⟨8, _⟩ => ⟨S1x2048, .f32⟩
  | .hbm, ⟨9, _⟩ => ⟨S2048x1024, .bf16⟩
  | .hbm, ⟨10, _⟩ => ⟨S4x2x1024x5632, .bf16⟩
  | .hbm, ⟨11, _⟩ => ⟨S4x2x2816x1024, .bf16⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x1024, .bf16⟩
  | .local _ .vmem, ⟨8, _⟩ => ⟨S1x1024, .f32⟩
  | .local _ .vmem, ⟨9, _⟩ => ⟨S1x1x1024x2816, .bf16⟩
  | .local _ .vmem, ⟨10, _⟩ => ⟨S1x1x1024x2816, .bf16⟩
  | .local _ .vmem, ⟨11, _⟩ => ⟨S1x1x2816x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c1_i32_0 : BitVec 32 := 1#32
  let c0_i32_1 : BitVec 32 := 0#32
  ![c3_i32.toNat, c1_i32.toNat, c0_i32.toNat, c1_i32_0.toNat]

def cc0_transform_8 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFDIdeal.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x2048 : Shape := ⟨2, ![16384, 2048]⟩
abbrev S16384x5376 : Shape := ⟨2, ![16384, 5376]⟩
abbrev S2048 : Shape := ⟨1, ![2048]⟩
abbrev S2048x1024 : Shape := ⟨2, ![2048, 1024]⟩
abbrev S_ : Shape := ⟨0, ![]⟩
abbrev S16384x4x512 : Shape := ⟨3, ![16384, 4, 512]⟩
abbrev S4x512 : Shape := ⟨2, ![4, 512]⟩
abbrev S16384x4 : Shape := ⟨2, ![16384, 4]⟩
abbrev S16384x4x1 : Shape := ⟨3, ![16384, 4, 1]⟩
abbrev S1x4x512 : Shape := ⟨3, ![1, 4, 512]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x2048, .f32⟩
  | .hbm, ⟨5, _⟩ => ⟨S16384x5376, .f32⟩
  | .hbm, ⟨6, _⟩ => ⟨S2048, .f32⟩
  | .hbm, ⟨7, _⟩ => ⟨S2048x1024, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x4x512, .f32⟩
  | .hbm, ⟨20, _⟩ => ⟨S4x512, .f32⟩
  | .hbm, ⟨21, _⟩ => ⟨S16384x4x512, .f32⟩
  | .hbm, ⟨22, _⟩ => ⟨S_, .f32⟩
  | .hbm, ⟨23, _⟩ => ⟨S16384x4, .f32⟩
  | .hbm, ⟨24, _⟩ => ⟨S16384x4x1, .f32⟩
  | .hbm, ⟨25, _⟩ => ⟨S_, .f32⟩
  | .hbm, ⟨26, _⟩ => ⟨S16384x4x1, .f32⟩
  | .hbm, ⟨27, _⟩ => ⟨S16384x4x1, .f32⟩
  | .hbm, ⟨28, _⟩ => ⟨S_, .f32⟩
  | .hbm, ⟨29, _⟩ => ⟨S16384x4x1, .f32⟩
  | .hbm, ⟨30, _⟩ => ⟨S16384x4x1, .f32⟩
  | .hbm, ⟨31, _⟩ => ⟨S16384x4x1, .f32⟩
  | .hbm, ⟨32, _⟩ => ⟨S16384x4x512, .f32⟩
  | .hbm, ⟨33, _⟩ => ⟨S16384x4x512, .f32⟩
  | .hbm, ⟨34, _⟩ => ⟨S1x4x512, .f32⟩
  | .hbm, ⟨35, _⟩ => ⟨S16384x4x512, .f32⟩
  | .hbm, ⟨36, _⟩ => ⟨S16384x4x512, .f32⟩
  | .hbm, ⟨37, _⟩ => ⟨S16384x2048, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1x1024x5632, .f32⟩
  | .hbm, ⟨57, _⟩ => ⟨S1024x5632, .f32⟩
  | .hbm, ⟨58, _⟩ => ⟨S1x1x2816x1024, .f32⟩
  | .hbm, ⟨59, _⟩ => ⟨S2816x1024, .f32⟩
  | .hbm, ⟨60, _⟩ => ⟨S16384x5632, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x2816, .f32⟩
  | .hbm, ⟨67, _⟩ => ⟨S16384x2816, .f32⟩
  | .hbm, ⟨68, _⟩ => ⟨S_, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== KernelFA.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x512 : Shape := ⟨2, ![16384, 512]⟩
abbrev S512x1024 : Shape := ⟨2, ![512, 1024]⟩
abbrev S1x1024 : Shape := ⟨2, ![1, 1024]⟩
abbrev S512x512 : Shape := ⟨2, ![512, 512]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S512x1024, .f32⟩
  | .hbm, ⟨11, _⟩ => ⟨S512x1024, .bf16⟩
  | .hbm, ⟨12, _⟩ => ⟨S4x2x1024x5632, .bf16⟩
  | .hbm, ⟨13, _⟩ => ⟨S4x2x2816x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S1x1024, .f32⟩
  | .local _ .vmem, ⟨16, _⟩ => ⟨S1x1x1024x2816, .bf16⟩
  | .local _ .vmem, ⟨17, _⟩ => ⟨S1x1x1024x2816, .bf16⟩
  | .local _ .vmem, ⟨18, _⟩ => ⟨S1x1x2816x1024, .bf16⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c1_i32_1 : BitVec 32 := 1#32
  let c0_i32_2 : BitVec 32 := 0#32
  ![c0_i32.toNat, c1_i32.toNat, c0_i32_0.toNat, c1_i32_1.toNat]

def cc0_transform_11 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceFAIdeal.lean ====
abbrev S16384x1024 : Shape := ⟨2, ![16384, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x512 : Shape := ⟨2, ![16384, 512]⟩
abbrev S512x1024 : Shape := ⟨2, ![512, 1024]⟩
abbrev S1x16384x512 : Shape := ⟨3, ![1, 16384, 512]⟩
abbrev S3x16384x512 : Shape := ⟨3, ![3, 16384, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x2x1024x5632, .f32⟩
  | .hbm, ⟨3, _⟩ => ⟨S4x2x2816x1024, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S512x1024, .f32⟩
  | .hbm, ⟨11, _⟩ => ⟨S1x16384x512, .f32⟩
  | .hbm, ⟨12, _⟩ => ⟨S1x16384x512, .f32⟩
  | .hbm, ⟨13, _⟩ => ⟨S1x16384x512, .f32⟩
  | .hbm, ⟨14, _⟩ => ⟨S3x16384x512, .f32⟩
  | .hbm, ⟨15, _⟩ => ⟨S_, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S1x16384x512, .f32⟩
  | .hbm, ⟨21, _⟩ => ⟨S3x16384x512, .f32⟩
  | .hbm, ⟨22, _⟩ => ⟨S3x16384x512, .f32⟩
  | .hbm, ⟨23, _⟩ => ⟨S3x16384x512, .f32⟩
  | .hbm, ⟨24, _⟩ => ⟨S_, .f32⟩
  | .hbm, ⟨25, _⟩ => ⟨S16384x512, .f32⟩
  | .hbm, ⟨26, _⟩ => ⟨S1x16384x512, .f32⟩
  | .hbm, ⟨27, _⟩ => ⟨S3x16384x512, .f32⟩
  | .hbm, ⟨28, _⟩ => ⟨S3x16384x512, .f32⟩
  | .hbm, ⟨29, _⟩ => ⟨S1x16384x512, .f32⟩
  | .hbm, ⟨30, _⟩ => ⟨S1x16384x512, .f32⟩
  | .hbm, ⟨31, _⟩ => ⟨S1x16384x512, .f32⟩
  | .hbm, ⟨32, _⟩ => ⟨S3x16384x512, .f32⟩
  | .hbm, ⟨33, _⟩ => ⟨S3x16384x512, .f32⟩
  | .hbm, ⟨34, _⟩ => ⟨S_, .f32⟩
  | .hbm, ⟨35, _⟩ => ⟨S16384x512, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1x1024x5632, .f32⟩
  | .hbm, ⟨55, _⟩ => ⟨S1024x5632, .f32⟩
  | .hbm, ⟨56, _⟩ => ⟨S1x1x2816x1024, .f32⟩
  | .hbm, ⟨57, _⟩ => ⟨S2816x1024, .f32⟩
  | .hbm, ⟨58, _⟩ => ⟨S16384x5632, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S_, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]
-- ==== KernelPC.lean ====
abbrev S16384x1024 : Shape := ⟨2, ![16384, 1024]⟩
abbrev S1024 : Shape := ⟨1, ![1024]⟩
abbrev S1024x3200 : Shape := ⟨2, ![1024, 3200]⟩
abbrev S1x1024 : Shape := ⟨2, ![1, 1024]⟩
abbrev S16384x3200 : Shape := ⟨2, ![16384, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3200, .f32⟩
  | .hbm, ⟨3, _⟩ => ⟨S1024x3200, .bf16⟩
  | .hbm, ⟨4, _⟩ => ⟨S1x1024, .f32⟩
  | .hbm, ⟨5, _⟩ => ⟨S16384x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelPCIdeal.lean ====
abbrev S16384x1024 : Shape := ⟨2, ![16384, 1024]⟩
abbrev S1024 : Shape := ⟨1, ![1024]⟩
abbrev S1024x3200 : Shape := ⟨2, ![1024, 3200]⟩
abbrev S1x1024 : Shape := ⟨2, ![1, 1024]⟩
abbrev S16384x3200 : Shape := ⟨2, ![16384, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3200, .f32⟩
  | .hbm, ⟨3, _⟩ => ⟨S1024x3200, .bf16⟩
  | .hbm, ⟨4, _⟩ => ⟨S1x1024, .f32⟩
  | .hbm, ⟨5, _⟩ => ⟨S16384x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePCIdeal.lean ====
abbrev S16384x1024 : Shape := ⟨2, ![16384, 1024]⟩
abbrev S1024 : Shape := ⟨1, ![1024]⟩
abbrev S1024x3200 : Shape := ⟨2, ![1024, 3200]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3200 : Shape := ⟨2, ![16384, 3200]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3200, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3200, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelPD.lean ====
abbrev S16384x1024 : Shape := ⟨2, ![16384, 1024]⟩
abbrev S1024 : Shape := ⟨1, ![1024]⟩
abbrev S1024x5376 : Shape := ⟨2, ![1024, 5376]⟩
abbrev S1x1024 : Shape := ⟨2, ![1, 1024]⟩
abbrev S16384x5376 : Shape := ⟨2, ![16384, 5376]⟩
abbrev S512x1024 : Shape := ⟨2, ![512, 1024]⟩
abbrev S512x5376 : Shape := ⟨2, ![512, 5376]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5376, .f32⟩
  | .hbm, ⟨3, _⟩ => ⟨S1024x5376, .bf16⟩
  | .hbm, ⟨4, _⟩ => ⟨S1x1024, .f32⟩
  | .hbm, ⟨5, _⟩ => ⟨S16384x5376, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5376, .bf16⟩
  | .local _ .vmem, ⟨4, _⟩ => ⟨S512x5376, .f32⟩
  | .local _ .vmem, ⟨5, _⟩ => ⟨S512x5376, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePDIdeal.lean ====
abbrev S16384x1024 : Shape := ⟨2, ![16384, 1024]⟩
abbrev S1024 : Shape := ⟨1, ![1024]⟩
abbrev S1024x5376 : Shape := ⟨2, ![1024, 5376]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5376 : Shape := ⟨2, ![16384, 5376]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5376, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5376, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelQAIdeal.lean ====
abbrev S16384x1024 : Shape := ⟨2, ![16384, 1024]⟩
abbrev S1024 : Shape := ⟨1, ![1024]⟩
abbrev S1024x4608 : Shape := ⟨2, ![1024, 4608]⟩
abbrev S2x64 : Shape := ⟨2, ![2, 64]⟩
abbrev S512x512 : Shape := ⟨2, ![512, 512]⟩
abbrev S_ : Shape := ⟨0, ![]⟩
abbrev S512 : Shape := ⟨1, ![512]⟩
abbrev S1x64 : Shape := ⟨2, ![1, 64]⟩
abbrev S64 : Shape := ⟨1, ![64]⟩
abbrev S8x64 : Shape := ⟨2, ![8, 64]⟩
abbrev S1x512 : Shape := ⟨2, ![1, 512]⟩
abbrev S9x512 : Shape := ⟨2, ![9, 512]⟩
abbrev S9x1x512 : Shape := ⟨3, ![9, 1, 512]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S16384x4608 : Shape := ⟨2, ![16384, 4608]⟩
abbrev S4x1024x512 : Shape := ⟨3, ![4, 1024, 512]⟩
abbrev S4x1024x2048 : Shape := ⟨3, ![4, 1024, 2048]⟩
abbrev S512x1024 : Shape := ⟨2, ![512, 1024]⟩
abbrev S512x128 : Shape := ⟨2, ![512, 128]⟩
abbrev S512x4608 : Shape := ⟨2, ![512, 4608]⟩
abbrev S1x1024x512 : Shape := ⟨3, ![1, 1024, 512]⟩
abbrev S512x1 : Shape := ⟨2, ![512, 1]⟩
abbrev S1024x512 : Shape := ⟨2, ![1024, 512]⟩
abbrev S1x1x512 : Shape := ⟨3, ![1, 1, 512]⟩
abbrev S1x512x512 : Shape := ⟨3, ![1, 512, 512]⟩

abbrev nBuf : Space → Nat
  | .hbm => 84
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4608, .f32⟩
  | .hbm, ⟨3, _⟩ => ⟨S2x64, .f32⟩
  | .hbm, ⟨4, _⟩ => ⟨S512x512, .bf16⟩
  | .hbm, ⟨5, _⟩ => ⟨S_, .f32⟩
  | .hbm, ⟨6, _⟩ => ⟨S512, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S9x512, .f32⟩
  | .hbm, ⟨27, _⟩ => ⟨S9x1x512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S9x512, .f32⟩
  | .hbm, ⟨41, _⟩ => ⟨S9x1x512, .f32⟩
  | .hbm, ⟨42, _⟩ => ⟨S4096, .i32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S4096, .f32⟩
  | .hbm, ⟨52, _⟩ => ⟨S4096x1, .f32⟩
  | .hbm, ⟨53, _⟩ => ⟨S1x8, .f32⟩
  | .hbm, ⟨54, _⟩ => ⟨S4096x8, .f32⟩
  | .hbm, ⟨55, _⟩ => ⟨S4096x8, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S_, .f32⟩
  | .hbm, ⟨60, _⟩ => ⟨S4096x48, .f32⟩
  | .hbm, ⟨61, _⟩ => ⟨S_, .f32⟩
  | .hbm, ⟨62, _⟩ => ⟨S4096x48, .f32⟩
  | .hbm, ⟨63, _⟩ => ⟨S_, .f32⟩
  | .hbm, ⟨64, _⟩ => ⟨S4096x8, .f32⟩
  | .hbm, ⟨65, _⟩ => ⟨S4096x64, .f32⟩
  | .hbm, ⟨66, _⟩ => ⟨S4096x8, .f32⟩
  | .hbm, ⟨67, _⟩ => ⟨S4096x64, .f32⟩
  | .hbm, ⟨68, _⟩ => ⟨S4096x64, .f32⟩
  | .hbm, ⟨69, _⟩ => ⟨S1x4096x1x64, .f32⟩
  | .hbm, ⟨70, _⟩ => ⟨S1x4096x2x64, .f32⟩
  | .hbm, ⟨71, _⟩ => ⟨S4096x128, .f32⟩
  | .hbm, ⟨72, _⟩ => ⟨S1x4096x1x64, .f32⟩
  | .hbm, ⟨73, _⟩ => ⟨S1x4096x2x64, .f32⟩
  | .hbm, ⟨74, _⟩ => ⟨S4096x128, .f32⟩
  | .hbm, ⟨75, _⟩ => ⟨S1x4096x1x64, .f32⟩
  | .hbm, ⟨76, _⟩ => ⟨S1x4096x2x64, .f32⟩
  | .hbm, ⟨77, _⟩ => ⟨S4096x128, .f32⟩
  | .hbm, ⟨78, _⟩ => ⟨S1024x4608, .bf16⟩
  | .hbm, ⟨79, _⟩ => ⟨S1x1024, .f32⟩
  | .hbm, ⟨80, _⟩ => ⟨S16384x4608, .f32⟩
  | .hbm, ⟨81, _⟩ => ⟨S4x1024x512, .f32⟩
  | .hbm, ⟨82, _⟩ => ⟨S4x1024x512, .f32⟩
  | .hbm, ⟨83, _⟩ => ⟨S4x1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S512x512, .bf16⟩
  | .local _ .vmem, ⟨5, _⟩ => ⟨S9x1x512, .f32⟩
  | .local _ .vmem, ⟨6, _⟩ => ⟨S9x1x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x4608, .f32⟩
  | .local _ .vmem, ⟨14, _⟩ => ⟨S512x4608, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68_0 : Ref sig .tc := ⟨.hbm, 80, rfl⟩
abbrev main_v68_1 : Ref sig .tc := ⟨.hbm, 81, rfl⟩
abbrev main_v68_2 : Ref sig .tc := ⟨.hbm, 82, rfl⟩
abbrev main_v68_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi v26 c7_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi v26 c7_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.subi v26 c4_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4608 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceQAIdeal.lean ====
abbrev S16384x1024 : Shape := ⟨2, ![16384, 1024]⟩
abbrev S1024 : Shape := ⟨1, ![1024]⟩
abbrev S1024x4608 : Shape := ⟨2, ![1024, 4608]⟩
abbrev S2x64 : Shape := ⟨2, ![2, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4608 : Shape := ⟨2, ![16384, 4608]⟩
abbrev S4x4096x3x3x512 : Shape := ⟨5, ![4, 4096, 3, 3, 512]⟩
abbrev S4096 : Shape := ⟨1, ![4096]⟩
abbrev S4x4096x3x1x512 : Shape := ⟨5, ![4, 4096, 3, 1, 512]⟩
abbrev S4x4096x3x512 : Shape := ⟨4, ![4, 4096, 3, 512]⟩
abbrev S4x4096x24x64 : Shape := ⟨4, ![4, 4096, 24, 64]⟩
abbrev S1x64 : Shape := ⟨2, ![1, 64]⟩
abbrev S64 : Shape := ⟨1, ![64]⟩
abbrev S4x4096x24 : Shape := ⟨3, ![4, 4096, 24]⟩
abbrev S4x4096x24x1 : Shape := ⟨4, ![4, 4096, 24, 1]⟩
abbrev S1x1x1x64 : Shape := ⟨4, ![1, 1, 1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x24x16 : Shape := ⟨4, ![4, 4096, 24, 16]⟩
abbrev S4x4096x24x8 : Shape := ⟨4, ![4, 4096, 24, 8]⟩
abbrev S1x4096x1x8 : Shape := ⟨4, ![1, 4096, 1, 8]⟩
abbrev S4x4096x24x48 : Shape := ⟨4, ![4, 4096, 24, 48]⟩
abbrev S4x4096x1x512 : Shape := ⟨4, ![4, 4096, 1, 512]⟩
abbrev S4x4096x512 : Shape := ⟨3, ![4, 4096, 512]⟩
abbrev S4x4096x1024 : Shape := ⟨3, ![4, 4096, 1024]⟩
abbrev S4x512x1024 : Shape := ⟨3, ![4, 512, 1024]⟩
abbrev S4x1024x512 : Shape := ⟨3, ![4, 1024, 512]⟩
abbrev S4x2048x1024 : Shape := ⟨3, ![4, 2048, 1024]⟩
abbrev S4x1024x2048 : Shape := ⟨3, ![4, 1024, 2048]⟩

abbrev nBuf : Space → Nat
  | .hbm => 171
  | .vmem => 0
  | .smem => 0
  | _ => 0

abbrev hbmTy0_0 (i : Nat) : BufTy := match i % 128 with
  | 0 => ⟨S16384x1024, .f32⟩
  | 1 => ⟨S1024, .f32⟩
  | 2 => ⟨S1024x4608, .f32⟩
  | 3 => ⟨S2x64, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S16384x4608, .f32⟩
  | 21 => ⟨S4x4096x3x3x512, .f32⟩
  | 22 => ⟨S4096, .i32⟩
  | 23 => ⟨S4x4096x3x1x512, .f32⟩
  | 24 => ⟨S4x4096x3x512, .f32⟩
  | 25 => ⟨S4x4096x24x64, .f32⟩
  | 26 => ⟨S1x64, .f32⟩
  | 27 => ⟨S64, .f32⟩
  | 28 => ⟨S4x4096x24x64, .f32⟩
  | 29 => ⟨S_, .f32⟩
  | 30 => ⟨S4x4096x24, .f32⟩
  | 31 => ⟨S4x4096x24x1, .f32⟩
  | 32 => ⟨S_, .f32⟩
  | 33 => ⟨S4x4096x24x1, .f32⟩
  | 34 => ⟨S4x4096x24x1, .f32⟩
  | 35 => ⟨S_, .f32⟩
  | 36 => ⟨S4x4096x24x1, .f32⟩
  | 37 => ⟨S4x4096x24x1, .f32⟩
  | 38 => ⟨S4x4096x24x1, .f32⟩
  | 39 => ⟨S4x4096x24x64, .f32⟩
  | 40 => ⟨S4x4096x24x64, .f32⟩
  | 41 => ⟨S1x1x1x64, .f32⟩
  | 42 => ⟨S4x4096x24x64, .f32⟩
  | 43 => ⟨S4x4096x24x64, .f32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S4096, .f32⟩
  | 53 => ⟨S4096x1, .f32⟩
  | 54 => ⟨S1x8, .f32⟩
  | 55 => ⟨S4096x8, .f32⟩
  | 56 => ⟨S4096x8, .f32⟩
  | 57 => ⟨S4096x8, .f32⟩
  | 58 => ⟨S4096x8, .f32⟩
  | 59 => ⟨S4096x1x8, .f32⟩
  | 60 => ⟨S4096x8, .f32⟩
  | 61 => ⟨S4096x1x8, .f32⟩
  | 62 => ⟨S4x4096x24x16, .f32⟩
  | 63 => ⟨S4x4096x24x8, .f32⟩
  | 64 => ⟨S4x4096x24x8, .f32⟩
  | 65 => ⟨S1x4096x1x8, .f32⟩
  | 66 => ⟨S4x4096x24x8, .f32⟩
  | 67 => ⟨S4x4096x24x8, .f32⟩
  | 68 => ⟨S1x4096x1x8, .f32⟩
  | 69 => ⟨S4x4096x24x8, .f32⟩
  | 70 => ⟨S4x4096x24x8, .f32⟩
  | 71 => ⟨S4x4096x24x8, .f32⟩
  | 72 => ⟨S1x4096x1x8, .f32⟩
  | 73 => ⟨S4x4096x24x8, .f32⟩
  | 74 => ⟨S4x4096x24x8, .f32⟩
  | 75 => ⟨S1x4096x1x8, .f32⟩
  | 76 => ⟨S4x4096x24x8, .f32⟩
  | 77 => ⟨S4x4096x24x8, .f32⟩
  | 78 => ⟨S4x4096x24x8, .f32⟩
  | 79 => ⟨S4x4096x24x16, .f32⟩
  | 80 => ⟨S4x4096x24x48, .f32⟩
  | 81 => ⟨S4x4096x24x64, .f32⟩
  | 82 => ⟨S4x4096x3x1x512, .f32⟩
  | 83 => ⟨S4x4096x3x512, .f32⟩
  | 84 => ⟨S4x4096x24x64, .f32⟩
  | 85 => ⟨S1x64, .f32⟩
  | 86 => ⟨S64, .f32⟩
  | 87 => ⟨S4x4096x24x64, .f32⟩
  | 88 => ⟨S_, .f32⟩
  | 89 => ⟨S4x4096x24, .f32⟩
  | 90 => ⟨S4x4096x24x1, .f32⟩
  | 91 => ⟨S_, .f32⟩
  | 92 => ⟨S4x4096x24x1, .f32⟩
  | 93 => ⟨S4x4096x24x1, .f32⟩
  | 94 => ⟨S_, .f32⟩
  | 95 => ⟨S4x4096x24x1, .f32⟩
  | 96 => ⟨S4x4096x24x1, .f32⟩
  | 97 => ⟨S4x4096x24x1, .f32⟩
  | 98 => ⟨S4x4096x24x64, .f32⟩
  | 99 => ⟨S4x4096x24x64, .f32⟩
  | 100 => ⟨S1x1x1x64, .f32⟩
  | 101 => ⟨S4x4096x24x64, .f32⟩
  | 102 => ⟨S4x4096x24x64, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S4096, .f32⟩
  | 112 => ⟨S4096x1, .f32⟩
  | 113 => ⟨S1x8, .f32⟩
  | 114 => ⟨S4096x8, .f32⟩
  | 115 => ⟨S4096x8, .f32⟩
  | 116 => ⟨S4096x8, .f32⟩
  | 117 => ⟨S4096x8, .f32⟩
  | 118 => ⟨S4096x1x8, .f32⟩
  | 119 => ⟨S4096x8, .f32⟩
  | 120 => ⟨S4096x1x8, .f32⟩
  | 121 => ⟨S4x4096x24x16, .f32⟩
  | 122 => ⟨S4x4096x24x8, .f32⟩
  | 123 => ⟨S4x4096x24x8, .f32⟩
  | 124 => ⟨S1x4096x1x8, .f32⟩
  | 125 => ⟨S4x4096x24x8, .f32⟩
  | 126 => ⟨S4x4096x24x8, .f32⟩
  | 127 => ⟨S1x4096x1x8, .f32⟩
  | _ => ⟨S16384x1024, .f32⟩

abbrev hbmTy0_1 (i : Nat) : BufTy := match i % 128 with
  | 0 => ⟨S4x4096x24x8, .f32⟩
  | 1 => ⟨S4x4096x24x8, .f32⟩
  | 2 => ⟨S4x4096x24x8, .f32⟩
  | 3 => ⟨S1x4096x1x8, .f32⟩
  | 4 => ⟨S4x4096x24x8, .f32⟩
  | 5 => ⟨S4x4096x24x8, .f32⟩
  | 6 => ⟨S1x4096x1x8, .f32⟩
  | 7 => ⟨S4x4096x24x8, .f32⟩
  | 8 => ⟨S4x4096x24x8, .f32⟩
  | 9 => ⟨S4x4096x24x8, .f32⟩
  | 10 => ⟨S4x4096x24x16, .f32⟩
  | 11 => ⟨S4x4096x24x48, .f32⟩
  | 12 => ⟨S4x4096x24x64, .f32⟩
  | 13 => ⟨S4x4096x3x512, .f32⟩
  | 14 => ⟨S4x4096x3x512, .f32⟩
  | 15 => ⟨S4x4096x3x1x512, .f32⟩
  | 16 => ⟨S4x4096x3x512, .f32⟩
  | 17 => ⟨S4x4096x3x1x512, .f32⟩
  | 18 => ⟨S4x4096x3x1x512, .f32⟩
  | 19 => ⟨S4x4096x3x1x512, .f32⟩
  | 20 => ⟨S4x4096x3x3x512, .f32⟩
  | 21 => ⟨S16384x4608, .f32⟩
  | 22 => ⟨S4x4096x1x512, .f32⟩
  | 23 => ⟨S4x4096x512, .f32⟩
  | 24 => ⟨S4x4096x1x512, .f32⟩
  | 25 => ⟨S4x4096x512, .f32⟩
  | 26 => ⟨S4x4096x1024, .f32⟩
  | 27 => ⟨S4x4096x1x512, .f32⟩
  | 28 => ⟨S4x4096x512, .f32⟩
  | 29 => ⟨S4x4096x1x512, .f32⟩
  | 30 => ⟨S4x4096x512, .f32⟩
  | 31 => ⟨S4x4096x1024, .f32⟩
  | 32 => ⟨S4x4096x1x512, .f32⟩
  | 33 => ⟨S4x4096x512, .f32⟩
  | 34 => ⟨S4x4096x1x512, .f32⟩
  | 35 => ⟨S4x4096x512, .f32⟩
  | 36 => ⟨S4x4096x1024, .f32⟩
  | 37 => ⟨S4x512x1024, .f32⟩
  | 38 => ⟨S4x1024x512, .f32⟩
  | 39 => ⟨S4x512x1024, .f32⟩
  | 40 => ⟨S4x1024x512, .f32⟩
  | 41 => ⟨S4x2048x1024, .f32⟩
  | 42 => ⟨S4x1024x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_7 : Ref sig .tc := ⟨.hbm, 88, rfl⟩
abbrev main_v76 : Ref sig .tc := ⟨.hbm, 89, rfl⟩
abbrev main_v77 : Ref sig .tc := ⟨.hbm, 90, rfl⟩
abbrev main_cst_8 : Ref sig .tc := ⟨.hbm, 91, rfl⟩
abbrev main_v78 : Ref sig .tc := ⟨.hbm, 92, rfl⟩
abbrev main_v79 : Ref sig .tc := ⟨.hbm, 93, rfl⟩
abbrev main_cst_9 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_10 : Ref sig .tc := ⟨.hbm, 105, rfl⟩
abbrev main_v90 : Ref sig .tc := ⟨.hbm, 106, rfl⟩
abbrev main_v91 : Ref sig .tc := ⟨.hbm, 107, rfl⟩
abbrev main_cst_11 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩

abbrev nD : Nat := 1
abbrev τ : Topo := Topo.v7x

variable {F : FTy → Type} [FloatOps F]
-- ==== Proof.Ffn.lean ====
/-  The FEED-FORWARD block, one row at a time: the root-mean-square normalization, the gated activation and the two
    products, and the vector operations the kernel bodies write them with.  Both programs' values are stated in these terms. -/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.KernelVsHost

@[expose] public section

noncomputable section

namespace Cert.Ffn

open Idealize.ShloMosaic Idealize.ShloMosaic.ValueIdx

/-- The constant the normalizations add under the root. -/
def eps : EReal := Ideal.ofBits .f32 0x358637BD#32

/-- A half, the factor of the block. -/
def half : EReal := Ideal.ofBits .f32 0x3F000000#32

/-- One row normalized by its root mean square over `d` entries, times the gain. -/
def rmsRow {n : Nat} (d : EReal) (x g : Fin n → EReal) (k : Fin n) : EReal :=
  x k * Ideal.rsqrt (Ideal.div (∑ j, x j * x j) d + eps) * g k

/-- The gate's activation, `a` times its logistic. -/
def silu (a : EReal) : EReal := a * Ideal.div 1 (1 + Ideal.exp (-a))

/-- A row times a matrix. -/
def rowMul {n p : Nat} (h : Fin n → EReal) (w : Fin n → Fin p → EReal) (c : Fin p) : EReal := ∑ k, h k * w k c

/-- The width of the model as a number. -/
def width : EReal := Ideal.ofBits .f32 0x44800000#32

/-- One row of the block: the row plus half of the gated product of its normalized entries. -/
def ffnRow (x g : Fin 1024 → EReal) (wg wu : Fin 1024 → Fin 2816 → EReal) (wd : Fin 2816 → Fin 1024 → EReal) (c : Fin 1024) : EReal :=
  x c + half * rowMul (fun j => silu (rowMul (rmsRow width x g) wg j) * rowMul (rmsRow width x g) wu j) wd c

theorem logistic_eq (a : EReal) : Ideal.logistic a = Ideal.div 1 (1 + Ideal.exp (-a)) := by
  first
    | rfl
    | (show Ideal.div (Ideal.ofBits .f32 0x3F800000#32) (Ideal.ofBits .f32 0x3F800000#32 + Ideal.exp (-a)) = _
       rw [Ideal.ofBits_one_f32])

/-- The lanes of a block's row. -/
abbrev lane {M N : Nat} {φ : FTy} (x : FVec Ideal ⟨2, ![M, N]⟩ φ) (r : Fin M) (k : Fin N) : EReal := x (ix2 r k)

/-- A column of per-row numbers spread over the lanes. -/
theorem spread_apply {M N : Nat} (v : (⟨2, ![M, 1]⟩ : Shape).Idx → EReal) (h : (⟨2, ![M, 1]⟩ : Shape).Broadcasts ⟨2, ![M, N]⟩)
    (r : Fin M) (c : Fin N) : broadcastTo ⟨2, ![M, N]⟩ v h (ix2 r c) = v (ix2 r (0 : Fin 1)) :=
  broadcastTo_apply v h (ix2 r c) (ix2 r (0 : Fin 1)) fun a => match a with
    | ⟨0, _⟩ => by
        show r.val = if M = 1 then 0 else r.val
        split <;> omega
    | ⟨1, _⟩ => rfl

/-- The sum of the lanes of every row. -/
theorem sumLanes_apply {M N : Nat} (x : FVec Ideal ⟨2, ![M, N]⟩ .f32) (hr : (⟨2, ![M, N]⟩ : Shape).Reduces [1] ⟨1, ![M]⟩)
    (hφ : FKind.Formats .f32) (ha : (0x00000000#32 : BitVec FTy.f32.bits) = FKind.add.neutral .f32 hφ) (r : Fin M) :
    multiReduction .add [1] ⟨1, ![M]⟩ x 0x00000000#32 hr hφ ha (ix1 r) = ∑ k : Fin N, x (ix2 r k) := by
  refine (Ideal.multiReduction_add_single _ _ _ _ _ (ix1 r)).trans ?_
  exact Finset.sum_congr rfl fun k _ => congrArg x (by funext a; match a with | ⟨0, _⟩ => rfl | ⟨1, _⟩ => rfl)

/-- The normalization as a kernel body writes it over a block of rows. -/
theorem rmsBlock_apply {M N : Nat} (x : FVec Ideal ⟨2, ![M, N]⟩ .f32) (g : FVec Ideal ⟨2, ![1, N]⟩ .f32) (d : BitVec 32)
    (hr : (⟨2, ![M, N]⟩ : Shape).Reduces [1] ⟨1, ![M]⟩)
    (hφ : FKind.Formats .f32) (ha : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨2, ![1, N]⟩ : Shape).Broadcasts ⟨2, ![M, N]⟩) (r : Fin M) (c : Fin N) :
    mulf (mulf x (broadcastTo ⟨2, ![M, N]⟩ (rsqrt (addf (divf (shapeCast ⟨2, ![M, 1]⟩
      (multiReduction .add [1] ⟨1, ![M]⟩ (mulf x x) 0x00000000#32 hr hφ ha) hc)
      (broadcast ⟨2, ![M, 1]⟩ (Scalar.ofBits (F := Ideal) .f32 d))) (broadcast ⟨2, ![M, 1]⟩ (Scalar.ofBits (F := Ideal) .f32 0x358637BD#32)))) hb))
      (broadcastTo ⟨2, ![M, N]⟩ g hg) (ix2 r c)
      = rmsRow (Ideal.ofBits .f32 d) (lane x r) (lane g 0) c := by
  show x (ix2 r c) * broadcastTo ⟨2, ![M, N]⟩ _ hb (ix2 r c) * broadcastTo ⟨2, ![M, N]⟩ g hg (ix2 r c) = _
  rw [spread_apply, broadcastTo_1b_ab_apply]
  show x (ix2 r c) * Ideal.rsqrt (Ideal.div (shapeCast ⟨2, ![M, 1]⟩ _ hc (ix2 r (0 : Fin 1))) (Ideal.ofBits .f32 d) + eps) * g (ix2 (0 : Fin 1) c) = _
  rw [shapeCast_a_a1_apply, sumLanes_apply]
  rfl

/-- A product accumulated from zero, an entry at a time. -/
theorem product_apply {M K N : Nat} {φ₁ φ₂ : FTy} (a : FVec Ideal ⟨2, ![M, K]⟩ φ₁) (b : FVec Ideal ⟨2, ![K, N]⟩ φ₂) (r : Fin M) (c : Fin N) :
    matmul (DotDims.plain M K N) none a b (constant ⟨2, ![M, N]⟩ .f32 0x00000000#32) (ix2 r c) = rowMul (lane a r) (fun k j => b (ix2 k j)) c := by
  refine (Ideal.matmul_plain_apply none a b _ r c).trans ?_
  rw [constant_apply, Ideal.ofBits_zero_f32, zero_add]
  rfl

/-- A matrix under two leading axes of one entry. -/
theorem under2_apply {φ : FTy} {a b : Nat} (x : FVec Ideal ⟨4, ![1, 1, a, b]⟩ φ) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

end Cert.Ffn

end
-- ==== Proof.FfnRef.lean ====
/-  The feed-forward reference READ, an operation at a time, as the row function of Proof/Ffn.lean. -/
module

public import proofs.«01_k».proof.Proof.Gen.ReferenceFIdeal.Read
public import proofs.«01_k».proof.Proof.Ffn

@[expose] public section

noncomputable section

namespace Cert.FfnRef

open Cert.ReferenceFIdeal Cert.ReferenceFIdeal.Read Idealize.ShloMosaic Idealize.ShloMosaic.ValueIdx Cert.Ffn

/-- The arrays: rows, gain, and the two weights of every layer. -/
abbrev Rows := FVec Ideal ⟨2, ![16384, 1024]⟩ .f32
abbrev Gain := FVec Ideal ⟨1, ![1024]⟩ .f32
abbrev Up := FVec Ideal ⟨4, ![4, 2, 1024, 5632]⟩ .f32
abbrev Down := FVec Ideal ⟨4, ![4, 2, 2816, 1024]⟩ .f32

/-- Column `j` of the gate's half and of the other half of the first weights. -/
def gcol (j : Fin 2816) : Fin 5632 := ⟨j.val, by omega⟩
def ucol (j : Fin 2816) : Fin 5632 := ⟨2816 + j.val, by omega⟩

/-- Row `i` of the block, with the weights of layer `a`'s block number `b`. -/
def row (x : Rows) (g : Gain) (up : Up) (dn : Down) (a : Fin 4) (b : Fin 2) (i : Fin 16384) (c : Fin 1024) : EReal :=
  ffnRow (lane x i) (fun k => g (ix1 k)) (fun k j => up (ix4 a b k (gcol j))) (fun k j => up (ix4 a b k (ucol j)))
    (fun j c => dn (ix4 a b j c)) c

variable (x : Rows) (g : Gain) (up : Up) (dn : Down)

theorem v7_at (i : Fin 16384) : val_main_v7 (F := Ideal) x (ix2 i (0 : Fin 1))
    = Ideal.rsqrt (Ideal.div (∑ j, x (ix2 i j) * x (ix2 i j)) width + eps) := by
  have e2 : idx_main_v2 (ix2 i (0 : Fin 1)) = ix1 i := funext fun a => match a with | ⟨0, _⟩ => rfl
  have e1 : ∀ k, idx_main_v1 (ix1 i) k = ix2 i k := fun k => funext fun a => match a with | ⟨0, _⟩ => rfl | ⟨1, _⟩ => rfl
  have s : val_main_v1 (F := Ideal) x (ix1 i) = ∑ j, x (ix2 i j) * x (ix2 i j) := by
    rw [val_main_v1_apply]
    show Ideal.ofBits .f32 0x00000000#32 + _ = _
    rw [Ideal.ofBits_zero_f32, zero_add]
    exact Finset.sum_congr rfl fun k _ => by rw [e1 k]; rfl
  rw [val_main_v7_apply, val_main_v6_apply, val_main_v4_apply, val_main_v2_apply, val_main_v3_apply, val_main_v5_apply, e2, s]
  rfl

theorem v12_at (i : Fin 16384) (k : Fin 1024) : val_main_v12 (F := Ideal) x g (ix2 i k)
    = rmsRow width (lane x i) (fun k => g (ix1 k)) k := by
  have e8 : idx_main_v8 (ix2 i k) = ix2 i (0 : Fin 1) := funext fun a => match a with | ⟨0, _⟩ => rfl | ⟨1, _⟩ => rfl
  have e11 : idx_main_v11 (ix2 i k) = ix2 (0 : Fin 1) k := funext fun a => match a with | ⟨0, _⟩ => rfl | ⟨1, _⟩ => rfl
  have e10 : idx_main_v10 (ix2 (0 : Fin 1) k) = ix1 k := funext fun a => match a with | ⟨0, _⟩ => rfl
  rw [val_main_v12_apply, val_main_v9_apply, val_main_v8_apply, val_main_v11_apply, val_main_v10_apply, e8, e11, e10, v7_at]
  rfl

theorem v14_at (k : Fin 1024) (j : Fin 5632) : val_main_v14 (F := Ideal) up (ix2 k j) = up (ix4 (0 : Fin 4) (0 : Fin 2) k j) := by
  have e14 : idx_main_v14 (ix2 k j) = ix4 (0 : Fin 1) (0 : Fin 1) k j := funext fun a => match a with
    | ⟨0, _⟩ => rfl | ⟨1, _⟩ => rfl
    | ⟨2, _⟩ => Fin.ext (by first | rfl | (show (k.val * 5632 + j.val) / 5632 % 1024 = k.val; omega) | (show (k.val * 5632 + j.val) / 5632 = k.val; omega))
    | ⟨3, _⟩ => Fin.ext (by first | rfl | (show (k.val * 5632 + j.val) % 5632 = j.val; omega))
  have e13 : idx_main_v13 (ix4 (0 : Fin 1) (0 : Fin 1) k j) = ix4 (0 : Fin 4) (0 : Fin 2) k j := funext fun a => match a with
    | ⟨0, _⟩ => rfl | ⟨1, _⟩ => rfl | ⟨2, _⟩ => rfl | ⟨3, _⟩ => rfl
  rw [val_main_v14_apply, val_main_v13_apply, e14, e13]

theorem v16_at (j : Fin 2816) (c : Fin 1024) : val_main_v16 (F := Ideal) dn (ix2 j c) = dn (ix4 (0 : Fin 4) (0 : Fin 2) j c) := by
  have e16 : idx_main_v16 (ix2 j c) = ix4 (0 : Fin 1) (0 : Fin 1) j c := funext fun a => match a with
    | ⟨0, _⟩ => rfl | ⟨1, _⟩ => rfl
    | ⟨2, _⟩ => Fin.ext (by first | rfl | (show (j.val * 1024 + c.val) / 1024 % 2816 = j.val; omega) | (show (j.val * 1024 + c.val) / 1024 = j.val; omega))
    | ⟨3, _⟩ => Fin.ext (by first | rfl | (show (j.val * 1024 + c.val) % 1024 = c.val; omega))
  have e15 : idx_main_v15 (ix4 (0 : Fin 1) (0 : Fin 1) j c) = ix4 (0 : Fin 4) (0 : Fin 2) j c := funext fun a => match a with
    | ⟨0, _⟩ => rfl | ⟨1, _⟩ => rfl | ⟨2, _⟩ => rfl | ⟨3, _⟩ => rfl
  rw [val_main_v16_apply, val_main_v15_apply, e16, e15]

theorem v17_at (i : Fin 16384) (j : Fin 5632) : val_main_v17 (F := Ideal) x g up (ix2 i j)
    = rowMul (rmsRow width (lane x i) (fun k => g (ix1 k))) (fun k j => up (ix4 (0 : Fin 4) (0 : Fin 2) k j)) j := by
  have el : ∀ k, lidx_main_v17 (ix2 i j) k = ix2 i k := fun k => funext fun a => match a with | ⟨0, _⟩ => rfl | ⟨1, _⟩ => rfl
  have er : ∀ k, ridx_main_v17 (ix2 i j) k = ix2 k j := fun k => funext fun a => match a with | ⟨0, _⟩ => rfl | ⟨1, _⟩ => rfl
  rw [val_main_v17_apply]
  exact Finset.sum_congr rfl fun k _ => by rw [el k, er k, v12_at, v14_at]

theorem v21_at (i : Fin 16384) (j : Fin 2816) : val_main_v21 (F := Ideal) x g up (ix2 i j)
    = silu (rowMul (rmsRow width (lane x i) (fun k => g (ix1 k))) (fun k j => up (ix4 (0 : Fin 4) (0 : Fin 2) k (gcol j))) j)
      * rowMul (rmsRow width (lane x i) (fun k => g (ix1 k))) (fun k j => up (ix4 (0 : Fin 4) (0 : Fin 2) k (ucol j))) j := by
  have e18 : idx_main_v18 (ix2 i j) = ix2 i (gcol j) := funext fun a => match a with | ⟨0, _⟩ => rfl | ⟨1, _⟩ => rfl
  have e19 : idx_main_v19 (ix2 i j) = ix2 i (ucol j) := funext fun a => match a with | ⟨0, _⟩ => rfl | ⟨1, _⟩ => rfl
  rw [val_main_v21_apply, val_main_v20_apply, val_main_call0_v5_apply, val_main_call0_v3_apply, val_main_call0_v4_apply,
    val_main_call0_v2_apply, val_main_call0_v1_apply, val_main_call0_v0_apply, val_main_v18_apply, val_main_v19_apply, e18, e19, v17_at, v17_at]
  show _ * Ideal.div (Ideal.ofBits .f32 0x3F800000#32) (Ideal.ofBits .f32 0x3F800000#32 + Ideal.exp _) * _ = _
  rw [Ideal.ofBits_one_f32]
  rfl

/-- The reference's result, a row of the block at a time. -/
theorem ref_at (i : Fin 16384) (c : Fin 1024) : val_main_v25 (F := Ideal) x g up dn (ix2 i c) = row x g up dn 0 0 i c := by
  have el : ∀ k, lidx_main_v22 (ix2 i c) k = ix2 i k := fun k => funext fun a => match a with | ⟨0, _⟩ => rfl | ⟨1, _⟩ => rfl
  have er : ∀ k, ridx_main_v22 (ix2 i c) k = ix2 k c := fun k => funext fun a => match a with | ⟨0, _⟩ => rfl | ⟨1, _⟩ => rfl
  have s : val_main_v22 (F := Ideal) x g up dn (ix2 i c) = rowMul (fun j =>
      silu (rowMul (rmsRow width (lane x i) (fun k => g (ix1 k))) (fun k j => up (ix4 (0 : Fin 4) (0 : Fin 2) k (gcol j))) j)
      * rowMul (rmsRow width (lane x i) (fun k => g (ix1 k))) (fun k j => up (ix4 (0 : Fin 4) (0 : Fin 2) k (ucol j))) j)
      (fun j c => dn (ix4 (0 : Fin 4) (0 : Fin 2) j c)) c := by
    rw [val_main_v22_apply]
    exact Finset.sum_congr rfl fun j _ => by rw [el j, er j, v21_at, v16_at]
  rw [val_main_v25_apply, val_main_v24_apply, val_main_v23_apply, s]
  rfl

end Cert.FfnRef

end
-- ==== Proof.Qk.lean ====
/-  The queries, keys and values of a layer, one row at a time: the normalized row is projected, the queries and keys of every head are
    normalized by their own root mean square and their first sixteen entries rotated in pairs by the angles of the row's position. -/
module

public import proofs.«01_k».proof.Proof.Gen.KernelQAIdeal.Skeleton
public import proofs.«01_k».proof.Proof.FfnRef

@[expose] public section

set_option maxRecDepth 4096

noncomputable section

namespace Cert.Qk

open Idealize.ShloMosaic Idealize.ShloMosaic.ValueIdx Cert.Ffn

/-- The width of a head as a number. -/
def n64 : EReal := Ideal.ofBits .f32 0x42800000#32

/-- Its reciprocal. -/
def inv64 : EReal := Ideal.ofBits .f32 0x3C800000#32

/-- A head with its first sixteen entries rotated in pairs. -/
def rot (cs sn : Fin 8 → EReal) (n : Fin 64 → EReal) (e : Fin 64) : EReal :=
  if h : e.val < 8 then n e * cs ⟨e.val, h⟩ - n ⟨e.val + 8, by omega⟩ * sn ⟨e.val, h⟩
  else if h' : e.val < 16 then n e * cs ⟨e.val - 8, by omega⟩ + n ⟨e.val - 8, by omega⟩ * sn ⟨e.val - 8, by omega⟩
  else n e

/-- Entry `e` of the head a column belongs to, as a column. -/
abbrev inHead {N : Nat} (hN : N % 64 = 0) (c : Fin N) (e : Fin 64) : Fin N := ⟨64 * (c.val / 64) + e.val, by have := c.isLt; omega⟩

/-- The place of a column in its head. -/
abbrev place {N : Nat} (c : Fin N) : Fin 64 := ⟨c.val % 64, by omega⟩

/-- One row of the queries, keys and values: of every three chunks of 512 columns the first holds queries, the second keys, the third
    values. -/
def qkvRow (h : Fin 1024 → EReal) (w : Fin 1024 → Fin 4608 → EReal) (qg : Fin 2 → Fin 64 → EReal) (cs sn : Fin 8 → EReal)
    (c : Fin 4608) : EReal :=
  if hk : c.val / 512 % 3 < 2 then
    rot cs sn (rmsRow n64 (fun e => rowMul h w (inHead rfl c e)) (qg ⟨c.val / 512 % 3, hk⟩)) (place c)
  else rowMul h w c

/-- The multipliers of a lane itself, of the lane eight after it and of the lane eight before it. -/
def tabC (cs : Fin 8 → EReal) (l : Fin 128) : EReal :=
  if h : l.val % 64 < 8 then cs ⟨l.val % 64, h⟩ else if h' : l.val % 64 < 16 then cs ⟨l.val % 64 - 8, by omega⟩ else 1
def tabA (sn : Fin 8 → EReal) (l : Fin 128) : EReal := if h : l.val % 64 < 8 then -sn ⟨l.val % 64, h⟩ else 0
def tabB (sn : Fin 8 → EReal) (l : Fin 128) : EReal :=
  if h : l.val % 64 < 8 then 0 else if h' : l.val % 64 < 16 then sn ⟨l.val % 64 - 8, by omega⟩ else 0

theorem mul_inv64 (x : EReal) : x * inv64 = Ideal.div x n64 := by
  have h64 : n64 = ((64 : ℝ) : EReal) := by
    simp [n64, Ideal.ofBits, Ideal.ieee, -EReal.coe_mul]; norm_num
  have hi : inv64 = (((64 : ℝ)⁻¹ : ℝ) : EReal) := by
    simp [inv64, Ideal.ofBits, Ideal.ieee, -EReal.coe_mul]; norm_num
  have hz : ((64 : ℝ) : EReal) ≠ 0 := by norm_num
  unfold Ideal.div
  rw [h64, if_neg hz, hi, EReal.coe_inv]

/-- The sum over one head's lanes, as a product with the column that marks the lanes of that head. -/
theorem sum_head (y : Fin 512 → EReal) (b : Fin 512 → EReal) (c : Fin 512) (hb : ∀ k, b k = if k.val / 64 = c.val / 64 then 1 else 0) :
    ∑ k, y k * b k = ∑ e : Fin 64, y (inHead rfl c e) := by
  have e0 : ∑ k, y k * b k = ∑ j : Fin 8, ∑ e : Fin 64, y (finProdFinEquiv (j, e)) * b (finProdFinEquiv (j, e)) :=
    (Equiv.sum_comp (finProdFinEquiv (m := 8) (n := 64)) fun k : Fin 512 => y k * b k).symm.trans (Fintype.sum_prod_type _)
  have ev : ∀ (j : Fin 8) (e : Fin 64), (finProdFinEquiv (j, e)).val = e.val + 64 * j.val := fun _ _ => rfl
  rw [e0, Finset.sum_eq_single (⟨c.val / 64, by omega⟩ : Fin 8)]
  · refine Finset.sum_congr rfl fun e _ => ?_
    rw [hb, if_pos (by rw [ev]; show (e.val + 64 * (c.val / 64)) / 64 = c.val / 64; omega), mul_one]
    exact congrArg y (Fin.ext (by rw [ev]; show e.val + 64 * (c.val / 64) = 64 * (c.val / 64) + e.val; omega))
  · intro j _ hj
    refine Finset.sum_eq_zero fun e _ => ?_
    rw [hb, if_neg (fun h => hj (Fin.ext (by
      rw [ev] at h
      show j.val = c.val / 64; omega))), mul_zero]
  · intro h; exact absurd (Finset.mem_univ _) h

open Cert.KernelQAIdeal Cert.KernelQAIdeal.Gen

variable (x : FVec Ideal S512x1024 .f32) (g : FVec Ideal S1x1024 .f32) (h : FVec Ideal S512x1024 .bf16) (w : FVec Ideal S1024x512 .bf16)
  (bd : FVec Ideal S512x512 .bf16) (gr : FVec Ideal S1x1x512 .f32) (cs sa sb : FVec Ideal S512x128 .f32)

theorem normed_apply (r : Fin 512) (k : Fin 1024) : k0_pay5 (F := Ideal) x g (ix2 r k) = rmsRow width (lane x r) (lane g 0) k := by
  have eg : shapeCast S1x1024 g shapeCasts_S1x1024_S1x1024 = g := shapeCast_self _ _
  unfold k0_pay5
  rw [eg]
  exact rmsBlock_apply x g _ _ _ _ _ _ _ r k

theorem values_apply (r c : Fin 512) : k0_pay22 (F := Ideal) h w (ix2 r c) = rowMul (lane h r) (fun k j => w (ix2 k j)) c := by
  have ew : shapeCast S1024x512 w shapeCasts_S1024x512_S1024x512 = w := shapeCast_self _ _
  unfold k0_pay22
  rw [ew]
  exact product_apply h w r c

/-- A chunk of queries or keys normalized head by head. -/
theorem heads_apply (hbd : ∀ k l : Fin 512, bd (ix2 k l) = if k.val / 64 = l.val / 64 then 1 else 0) (r c : Fin 512) :
    k0_pay15 (F := Ideal) h w bd gr (ix2 r c)
      = rmsRow n64 (fun e => rowMul (lane h r) (fun k j => w (ix2 k j)) (inHead rfl c e))
          (fun e => gr (ix3 (0 : Fin 1) (0 : Fin 1) (inHead rfl c e))) (place c) := by
  have ec : inHead rfl c (place c) = c := Fin.ext (by show 64 * (c.val / 64) + c.val % 64 = c.val; omega)
  have e : k0_pay15 (F := Ideal) h w bd gr = mulf (mulf (k0_pay22 (F := Ideal) h w) (rsqrt (addf (mulf (matmul dot_S512x512_S512x512_S512x512_1_0_0_1_n_n none
      (truncf .bf16 (mulf (k0_pay22 (F := Ideal) h w) (k0_pay22 (F := Ideal) h w)) bitsLt_bf16_f32) bd (constant S512x512 .f32 0x00000000#32))
      (broadcast S512x512 (Scalar.ofBits (F := Ideal) .f32 0x3C800000#32))) (broadcast S512x512 (Scalar.ofBits (F := Ideal) .f32 0x358637BD#32)))))
      (broadcastTo S512x512 (shapeCast S1x512 gr shapeCasts_S1x1x512_S1x512) broadcasts_S1x512_S512x512) := by
    unfold k0_pay15
    rfl
  have es : matmul dot_S512x512_S512x512_S512x512_1_0_0_1_n_n none
      (truncf .bf16 (mulf (k0_pay22 (F := Ideal) h w) (k0_pay22 (F := Ideal) h w)) bitsLt_bf16_f32) bd (constant S512x512 .f32 0x00000000#32) (ix2 r c)
      = ∑ e : Fin 64, rowMul (lane h r) (fun k j => w (ix2 k j)) (inHead rfl c e) * rowMul (lane h r) (fun k j => w (ix2 k j)) (inHead rfl c e) := by
    refine (product_apply _ bd r c).trans ((sum_head _ (fun k => bd (ix2 k c)) c (fun k => hbd k c)).trans (Finset.sum_congr rfl fun e _ => ?_))
    show k0_pay22 (F := Ideal) h w (ix2 r _) * k0_pay22 (F := Ideal) h w (ix2 r _) = _
    rw [values_apply]
  rw [e]
  show k0_pay22 (F := Ideal) h w (ix2 r c) * Ideal.rsqrt (matmul _ none _ bd _ (ix2 r c) * inv64 + eps)
    * broadcastTo S512x512 (shapeCast S1x512 gr shapeCasts_S1x1x512_S1x512) broadcasts_S1x512_S512x512 (ix2 r c) = _
  rw [es, mul_inv64, values_apply, broadcastTo_1b_ab_apply, shapeCast_1ab_ab_apply]
  unfold rmsRow
  dsimp only
  rw [ec]

theorem slices_o (o : Fin 4) : S512x512.Slices ![0, 128 * o.val] S512x128 := by
  match o with
  | ⟨0, _⟩ => exact slices_S512x512_o0_0_S512x128
  | ⟨1, _⟩ => exact slices_S512x512_o0_128_S512x128
  | ⟨2, _⟩ => exact slices_S512x512_o0_256_S512x128
  | ⟨3, _⟩ => exact slices_S512x512_o0_384_S512x128

/-- A quarter of a chunk. -/
def quarter (n : FVec Ideal S512x512 .f32) (o : Fin 4) : FVec Ideal S512x128 .f32 := extractStridedSlice S512x128 ![0, 128 * o.val] n (slices_o o)

/-- A quarter of a chunk rotated. -/
def rotated (n : FVec Ideal S512x512 .f32) (o : Fin 4) : FVec Ideal S512x128 .f32 :=
  addf (addf (mulf (quarter n o) cs) (mulf (dynamicRotate 1 120#32 none (quarter n o) rotates_S512x128_d1) sa))
    (mulf (dynamicRotate 1 8#32 none (quarter n o) rotates_S512x128_d1) sb)

theorem quarter_apply (n : FVec Ideal S512x512 .f32) (o : Fin 4) (r : Fin 512) (l : Fin 128) :
    quarter n o (ix2 r l) = n (ix2 r (⟨128 * o.val + l.val, by omega⟩ : Fin 512)) :=
  extractStridedSlice_apply _ n (slices_o o) (ix2 r l) (ix2 r _) fun a => match a with
    | ⟨0, _⟩ => by show r.val = 0 + r.val; omega
    | ⟨1, _⟩ => rfl

theorem after_apply (v : FVec Ideal S512x128 .f32) (r : Fin 512) (l : Fin 128) :
    dynamicRotate 1 120#32 none v rotates_S512x128_d1 (ix2 r l) = v (ix2 r (⟨(l.val + 8) % 128, by omega⟩ : Fin 128)) :=
  dynamicRotate_apply (1 : Fin 2) 120#32 v rotates_S512x128_d1 (ix2 r l) (ix2 r (⟨(l.val + 8) % 128, by omega⟩ : Fin 128)) fun b => match b with
    | ⟨0, _⟩ => rfl
    | ⟨1, _⟩ => by show (l.val + 8) % 128 = (l.val + 128 - 120 % 128) % 128; omega

theorem before_apply (v : FVec Ideal S512x128 .f32) (r : Fin 512) (l : Fin 128) :
    dynamicRotate 1 8#32 none v rotates_S512x128_d1 (ix2 r l) = v (ix2 r (⟨(l.val + 120) % 128, by omega⟩ : Fin 128)) :=
  dynamicRotate_apply (1 : Fin 2) 8#32 v rotates_S512x128_d1 (ix2 r l) (ix2 r (⟨(l.val + 120) % 128, by omega⟩ : Fin 128)) fun b => match b with
    | ⟨0, _⟩ => rfl
    | ⟨1, _⟩ => by show (l.val + 120) % 128 = (l.val + 128 - 8 % 128) % 128; omega

/-- A quarter rotated by the tables is its heads rotated. -/
theorem rotated_apply (n : FVec Ideal S512x512 .f32) (o : Fin 4) (r : Fin 512) (l : Fin 128) (c s : Fin 8 → EReal)
    (hc : ∀ l, cs (ix2 r l) = tabC c l) (ha : ∀ l, sa (ix2 r l) = tabA s l) (hb : ∀ l, sb (ix2 r l) = tabB s l) :
    rotated cs sa sb n o (ix2 r l)
      = rot c s (fun e => n (ix2 r (inHead rfl (⟨128 * o.val + l.val, by omega⟩ : Fin 512) e))) (place l) := by
  show quarter n o (ix2 r l) * cs (ix2 r l) + dynamicRotate 1 120#32 none (quarter n o) rotates_S512x128_d1 (ix2 r l) * sa (ix2 r l)
    + dynamicRotate 1 8#32 none (quarter n o) rotates_S512x128_d1 (ix2 r l) * sb (ix2 r l) = _
  rw [after_apply, before_apply, quarter_apply, quarter_apply, quarter_apply, hc, ha, hb]
  have e0 : (⟨128 * o.val + l.val, by omega⟩ : Fin 512) = inHead rfl (⟨128 * o.val + l.val, by omega⟩ : Fin 512) (place l) :=
    Fin.ext (by show 128 * o.val + l.val = 64 * ((128 * o.val + l.val) / 64) + l.val % 64; omega)
  unfold rot tabC tabA tabB
  by_cases h1 : l.val % 64 < 8
  · rw [dif_pos h1, dif_pos h1, dif_pos h1, dif_pos (show (place l).val < 8 from h1), mul_zero, add_zero, mul_neg, ← sub_eq_add_neg]
    have e1 : (⟨128 * o.val + (l.val + 8) % 128, by omega⟩ : Fin 512)
        = inHead rfl (⟨128 * o.val + l.val, by omega⟩ : Fin 512) ⟨(place l).val + 8, by show l.val % 64 + 8 < 64; omega⟩ :=
      Fin.ext (by show 128 * o.val + (l.val + 8) % 128 = 64 * ((128 * o.val + l.val) / 64) + (l.val % 64 + 8); omega)
    exact congrArg₂ (fun a b : Fin 512 => n (ix2 r a) * c ⟨l.val % 64, h1⟩ - n (ix2 r b) * s ⟨l.val % 64, h1⟩) e0 e1
  · rw [dif_neg h1, dif_neg h1, dif_neg h1, dif_neg (show ¬(place l).val < 8 from h1), mul_zero, add_zero]
    by_cases h2 : l.val % 64 < 16
    · rw [dif_pos h2, dif_pos h2, dif_pos (show (place l).val < 16 from h2)]
      have e2 : (⟨128 * o.val + (l.val + 120) % 128, by omega⟩ : Fin 512)
          = inHead rfl (⟨128 * o.val + l.val, by omega⟩ : Fin 512) ⟨(place l).val - 8, by show l.val % 64 - 8 < 64; omega⟩ :=
        Fin.ext (by show 128 * o.val + (l.val + 120) % 128 = 64 * ((128 * o.val + l.val) / 64) + (l.val % 64 - 8); omega)
      exact congrArg₂ (fun a b : Fin 512 => n (ix2 r a) * c ⟨l.val % 64 - 8, by omega⟩ + n (ix2 r b) * s ⟨l.val % 64 - 8, by omega⟩) e0 e2
    · rw [dif_neg h2, dif_neg h2, dif_neg (show ¬(place l).val < 16 from h2), mul_zero, add_zero, mul_one]
      exact congrArg (fun a : Fin 512 => n (ix2 r a)) e0

/-- A stored quarter of queries or keys. -/
theorem rotated_row (j : Fin 9) (o : Fin 4) (hj : j.val % 3 < 2) (W : Fin 1024 → Fin 4608 → EReal) (qg : Fin 2 → Fin 64 → EReal)
    (c s : Fin 8 → EReal) (r : Fin 512) (l : Fin 128)
    (hw : ∀ (k : Fin 1024) (l : Fin 512), w (ix2 k l) = W k ⟨512 * j.val + l.val, by omega⟩)
    (hbd : ∀ k l : Fin 512, bd (ix2 k l) = if k.val / 64 = l.val / 64 then 1 else 0)
    (hg : ∀ l : Fin 512, gr (ix3 (0 : Fin 1) (0 : Fin 1) l) = qg ⟨j.val % 3, hj⟩ (place l))
    (hc : ∀ l, cs (ix2 r l) = tabC c l) (ha : ∀ l, sa (ix2 r l) = tabA s l) (hb : ∀ l, sb (ix2 r l) = tabB s l) :
    rotated cs sa sb (k0_pay15 (F := Ideal) h w bd gr) o (ix2 r l)
      = qkvRow (lane h r) W qg c s ⟨512 * j.val + 128 * o.val + l.val, by omega⟩ := by
  have ek : (512 * j.val + 128 * o.val + l.val) / 512 % 3 = j.val % 3 := by omega
  rw [rotated_apply cs sa sb _ o r l c s hc ha hb]
  unfold qkvRow
  rw [dif_pos (show (512 * j.val + 128 * o.val + l.val) / 512 % 3 < 2 by omega)]
  have ep : place (⟨512 * j.val + 128 * o.val + l.val, by omega⟩ : Fin 4608) = place l :=
    Fin.ext (by show (512 * j.val + 128 * o.val + l.val) % 64 = l.val % 64; omega)
  have eq : (⟨(512 * j.val + 128 * o.val + l.val) / 512 % 3, by omega⟩ : Fin 2) = ⟨j.val % 3, hj⟩ := Fin.ext ek
  rw [ep]
  refine congrArg (fun n : Fin 64 → EReal => rot c s n (place l)) (funext fun e => ?_)
  rw [heads_apply h w bd gr hbd]
  have e1 : ∀ e', inHead (N := 512) rfl (inHead rfl (⟨128 * o.val + l.val, by omega⟩ : Fin 512) e) e' = inHead rfl (⟨128 * o.val + l.val, by omega⟩ : Fin 512) e' :=
    fun e' => Fin.ext (by
      show 64 * ((64 * ((128 * o.val + l.val) / 64) + e.val) / 64) + e'.val = 64 * ((128 * o.val + l.val) / 64) + e'.val; omega)
  have e2 : place (inHead (N := 512) rfl (⟨128 * o.val + l.val, by omega⟩ : Fin 512) e) = e :=
    Fin.ext (by show (64 * ((128 * o.val + l.val) / 64) + e.val) % 64 = e.val; omega)
  rw [e2]
  have ey : (fun e' => rowMul (lane h r) (fun k j => w (ix2 k j)) (inHead (N := 512) rfl (inHead rfl (⟨128 * o.val + l.val, by omega⟩ : Fin 512) e) e'))
      = fun e' => rowMul (lane h r) W (inHead rfl (⟨512 * j.val + 128 * o.val + l.val, by omega⟩ : Fin 4608) e') := funext fun e' => by
    rw [e1]
    refine Finset.sum_congr rfl fun k _ => congrArg (fun z => lane h r k * z) ((hw k _).trans (congrArg (W k) (Fin.ext ?_)))
    show 512 * j.val + (64 * ((128 * o.val + l.val) / 64) + e'.val) = 64 * ((512 * j.val + 128 * o.val + l.val) / 64) + e'.val
    omega
  have eg : (fun e' => gr (ix3 (0 : Fin 1) (0 : Fin 1) (inHead (N := 512) rfl (inHead rfl (⟨128 * o.val + l.val, by omega⟩ : Fin 512) e) e')))
      = qg ⟨(512 * j.val + 128 * o.val + l.val) / 512 % 3, by omega⟩ := funext fun e' => by
    rw [e1, hg, eq]
    refine congrArg (qg _) (Fin.ext ?_)
    show (64 * ((128 * o.val + l.val) / 64) + e'.val) % 64 = e'.val
    omega
  rw [ey, eg]

/-- A stored chunk of values. -/
theorem values_row (j : Fin 9) (hj : ¬j.val % 3 < 2) (W : Fin 1024 → Fin 4608 → EReal) (qg : Fin 2 → Fin 64 → EReal)
    (c s : Fin 8 → EReal) (r l : Fin 512)
    (hw : ∀ (k : Fin 1024) (l : Fin 512), w (ix2 k l) = W k ⟨512 * j.val + l.val, by omega⟩) :
    k0_pay22 (F := Ideal) h w (ix2 r l) = qkvRow (lane h r) W qg c s ⟨512 * j.val + l.val, by omega⟩ := by
  rw [values_apply]
  unfold qkvRow
  rw [dif_neg (show ¬(512 * j.val + l.val) / 512 % 3 < 2 by omega)]
  exact Finset.sum_congr rfl fun k _ => congrArg (fun z => lane h r k * z) (hw k l)

/-- The transposed chunk. -/
theorem turned_apply (v : FVec Ideal S512x512 .f32) (a b : Fin 512) : k0_pay2 (F := Ideal) v (ix3 (0 : Fin 1) a b) = v (ix2 b a) := by
  unfold k0_pay2
  dsimp only
  rw [shapeCast_self]
  rw [shapeCast_ab_1ab_apply, transpose_ix2_apply]

end Cert.Qk

end
-- ==== Proof.QkRef.lean ====
/-  The reference's queries, keys and values, an entry at a time. -/
module

public import proofs.«01_k».proof.Proof.Gen.ReferenceQAIdeal.Read
public import proofs.«01_k».proof.Proof.Qk

@[expose] public section

set_option maxRecDepth 4096

noncomputable section

namespace Cert.QkRef

open Idealize.ShloMosaic Idealize.ShloMosaic.ValueIdx Cert.Ffn Cert.Qk
open Cert.ReferenceQAIdeal Cert.ReferenceQAIdeal.Read

variable (x : FVec Ideal ⟨2, ![16384, 1024]⟩ .f32) (g : FVec Ideal ⟨1, ![1024]⟩ .f32) (w : FVec Ideal ⟨2, ![1024, 4608]⟩ .f32)
  (qg : FVec Ideal ⟨2, ![2, 64]⟩ .f32)

/-- The row of a position of a sequence. -/
abbrev rowAt (b : Fin 4) (p : Fin 4096) : Fin 16384 := ⟨4096 * b.val + p.val, by omega⟩

/-- The position of a row in its sequence. -/
abbrev posOf (i : Fin 16384) : Fin 4096 := ⟨i.val % 4096, by omega⟩

/-- A normalized row. -/
abbrev nrow (i : Fin 16384) : Fin 1024 → EReal := rmsRow width (lane x i) (fun k => g (ix1 k))

/-- An entry of the projection of a normalized row. -/
abbrev proj (i : Fin 16384) (c : Fin 4608) : EReal := rowMul (nrow x g i) (fun k j => w (ix2 k j)) c

/-- The cosines and sines of a position's angles. -/
def cosAt (p : Fin 4096) (f : Fin 8) : EReal := val_main_v46 (F := Ideal) (ix2 p f)
def sinAt (p : Fin 4096) (f : Fin 8) : EReal := val_main_v48 (F := Ideal) (ix2 p f)

/-- An entry of the result: queries, keys and values of a row. -/
def qkv (i : Fin 16384) (c : Fin 4608) : EReal :=
  qkvRow (nrow x g i) (fun k j => w (ix2 k j)) (fun κ e => qg (ix2 κ e)) (cosAt (posOf i)) (sinAt (posOf i)) c

/-- The columns of chunk `κ` of group `q`. -/
abbrev colOf (q κ : Fin 3) (c : Fin 512) : Fin 4608 := ⟨(q.val * 3 + κ.val) * 512 + c.val, by omega⟩

theorem v13_at (i : Fin 16384) (c : Fin 4608) : val_main_v13 (F := Ideal) x g w (ix2 i c) = proj x g w i c := by
  have el : ∀ k, lidx_main_v13 (ix2 i c) k = ix2 i k := fun k => funext fun a => match a with | ⟨0, _⟩ => rfl | ⟨1, _⟩ => rfl
  have er : ∀ k, ridx_main_v13 (ix2 i c) k = ix2 k c := fun k => funext fun a => match a with | ⟨0, _⟩ => rfl | ⟨1, _⟩ => rfl
  have e12 : ∀ k, val_main_v12 (F := Ideal) x g (ix2 i k) = nrow x g i k := fun k => FfnRef.v12_at x g i k
  rw [val_main_v13_apply]
  exact Finset.sum_congr rfl fun k _ => by rw [el k, er k, e12]

theorem v14_at (b : Fin 4) (p : Fin 4096) (q κ : Fin 3) (c : Fin 512) :
    val_main_v14 (F := Ideal) x g w (ix5 b p q κ c) = proj x g w (rowAt b p) (colOf q κ c) := by
  have e : idx_main_v14 (ix5 b p q κ c) = ix2 (rowAt b p) (colOf q κ c) := funext fun a => match a with
    | ⟨0, _⟩ => Fin.ext (by
        show ((((b.val * 4096 + p.val) * 3 + q.val) * 3 + κ.val) * 512 + c.val) / 4608 = 4096 * b.val + p.val; omega)
    | ⟨1, _⟩ => Fin.ext (by
        show ((((b.val * 4096 + p.val) * 3 + q.val) * 3 + κ.val) * 512 + c.val) % 4608 = (q.val * 3 + κ.val) * 512 + c.val; omega)
  rw [val_main_v14_apply, e, v13_at]

/-- Entry `e` of head `h` of the queries or the keys, as a column. -/
abbrev headCol (κ : Fin 3) (h : Fin 24) (e : Fin 64) : Fin 4608 := colOf ⟨h.val / 8, by omega⟩ κ ⟨64 * (h.val % 8) + e.val, by omega⟩

theorem v17_at (b : Fin 4) (p : Fin 4096) (q : Fin 3) (c : Fin 512) :
    val_main_v17 (F := Ideal) x g w (ix4 b p q c) = proj x g w (rowAt b p) (colOf q 0 c) := by
  have e : idx_main_v17 (ix4 b p q c) = ix5 b p q (0 : Fin 1) c := funext fun a => match a with
    | ⟨0, _⟩ => Fin.ext (by show (((b.val * 4096 + p.val) * 3 + q.val) * 512 + c.val) / 6291456 = b.val; omega)
    | ⟨1, _⟩ => Fin.ext (by show (((b.val * 4096 + p.val) * 3 + q.val) * 512 + c.val) / 1536 % 4096 = p.val; omega)
    | ⟨2, _⟩ => Fin.ext (by show (((b.val * 4096 + p.val) * 3 + q.val) * 512 + c.val) / 512 % 3 = q.val; omega)
    | ⟨3, _⟩ => rfl
    | ⟨4, _⟩ => Fin.ext (by show (((b.val * 4096 + p.val) * 3 + q.val) * 512 + c.val) % 512 = c.val; omega)
  have e' : idx_main_v16 (ix5 b p q (0 : Fin 1) c) = ix5 b p q (0 : Fin 3) c := funext fun a => match a with
    | ⟨0, _⟩ => rfl
    | ⟨1, _⟩ => rfl
    | ⟨2, _⟩ => rfl
    | ⟨3, _⟩ => rfl
    | ⟨4, _⟩ => rfl
  rw [val_main_v17_apply, e, val_main_v16_apply, e', v14_at]

theorem v18_at (b : Fin 4) (p : Fin 4096) (h : Fin 24) (e : Fin 64) :
    val_main_v18 (F := Ideal) x g w (ix4 b p h e) = proj x g w (rowAt b p) (headCol 0 h e) := by
  have ei : idx_main_v18 (ix4 b p h e) = ix4 b p (⟨h.val / 8, by omega⟩ : Fin 3) (⟨64 * (h.val % 8) + e.val, by omega⟩ : Fin 512) := funext fun a => match a with
    | ⟨0, _⟩ => Fin.ext (by show (((b.val * 4096 + p.val) * 24 + h.val) * 64 + e.val) / 6291456 = b.val; omega)
    | ⟨1, _⟩ => Fin.ext (by show (((b.val * 4096 + p.val) * 24 + h.val) * 64 + e.val) / 1536 % 4096 = p.val; omega)
    | ⟨2, _⟩ => Fin.ext (by show (((b.val * 4096 + p.val) * 24 + h.val) * 64 + e.val) / 512 % 3 = h.val / 8; omega)
    | ⟨3, _⟩ => Fin.ext (by show (((b.val * 4096 + p.val) * 24 + h.val) * 64 + e.val) % 512 = 64 * (h.val % 8) + e.val; omega)
  rw [val_main_v18_apply, ei, v17_at]

/-- A head normalized. -/
theorem v33_at (b : Fin 4) (p : Fin 4096) (h : Fin 24) (e : Fin 64) : val_main_v33 (F := Ideal) x g w qg (ix4 b p h e)
    = rmsRow n64 (fun e => proj x g w (rowAt b p) (headCol 0 h e)) (fun e => qg (ix2 (0 : Fin 2) e)) e := by
  have e29 : idx_main_v29 (ix4 b p h e) = ix4 b p h (0 : Fin 1) := funext fun a => match a with
    | ⟨0, _⟩ => rfl
    | ⟨1, _⟩ => rfl
    | ⟨2, _⟩ => rfl
    | ⟨3, _⟩ => rfl
  have e32 : idx_main_v32 (ix4 b p h e) = ix4 (0 : Fin 1) (0 : Fin 1) (0 : Fin 1) e := funext fun a => match a with
    | ⟨0, _⟩ => rfl
    | ⟨1, _⟩ => rfl
    | ⟨2, _⟩ => rfl
    | ⟨3, _⟩ => rfl
  have e31 : idx_main_v31 (ix4 (0 : Fin 1) (0 : Fin 1) (0 : Fin 1) e) = ix1 e := funext fun a => match a with | ⟨0, _⟩ => rfl
  have e20 : idx_main_v20 (ix1 e) = ix2 (0 : Fin 1) e := funext fun a => match a with
    | ⟨0, _⟩ => Fin.ext (by first | rfl | (show e.val / 64 = 0; omega))
    | ⟨1, _⟩ => Fin.ext (by first | rfl | (show e.val % 64 = e.val; omega))
  have e19 : idx_main_v19 (ix2 (0 : Fin 1) e) = ix2 (0 : Fin 2) e := funext fun a => match a with
    | ⟨0, _⟩ => rfl
    | ⟨1, _⟩ => rfl
  have e23 : idx_main_v23 (ix4 b p h (0 : Fin 1)) = ix3 b p h := funext fun a => match a with | ⟨0, _⟩ => rfl | ⟨1, _⟩ => rfl | ⟨2, _⟩ => rfl
  have e22 : ∀ k : Fin 64, idx_main_v22 (ix3 b p h) k = ix4 b p h k := fun k => funext fun a => match a with
    | ⟨0, _⟩ => rfl
    | ⟨1, _⟩ => rfl
    | ⟨2, _⟩ => rfl
    | ⟨3, _⟩ => rfl
  have hs : val_main_v22 (F := Ideal) x g w (ix3 b p h)
      = ∑ e : Fin 64, proj x g w (rowAt b p) (headCol 0 h e) * proj x g w (rowAt b p) (headCol 0 h e) := by
    rw [val_main_v22_apply, val_main_cst_2_apply]
    refine (congrArg (fun z => z + _) Ideal.ofBits_zero_f32).trans ?_
    rw [zero_add]
    exact Finset.sum_congr rfl fun k _ => by
      rw [e22 k, val_main_v21_apply, v18_at]; rfl
  rw [val_main_v33_apply, val_main_v30_apply, v18_at, val_main_v29_apply, e29, val_main_v28_apply, val_main_v27_apply, val_main_v25_apply, val_main_v23_apply, e23, hs, val_main_v24_apply, val_main_cst_3_apply,
    val_main_v26_apply, val_main_cst_4_apply, val_main_v32_apply, e32, val_main_v31_apply, e31, val_main_v20_apply, e20, val_main_v19_apply, e19]
  rfl

theorem cos0_at (b : Fin 4) (p : Fin 4096) (h : Fin 24) (f : Fin 8) : val_main_v54 (F := Ideal) (ix4 b p h f) = cosAt p f := by
  have e54 : idx_main_v54 (ix4 b p h f) = ix4 (0 : Fin 1) p (0 : Fin 1) f := funext fun a => match a with
    | ⟨0, _⟩ => rfl
    | ⟨1, _⟩ => rfl
    | ⟨2, _⟩ => rfl
    | ⟨3, _⟩ => rfl
  have e53 : idx_main_v53 (ix4 (0 : Fin 1) p (0 : Fin 1) f) = ix3 p (0 : Fin 1) f := funext fun a => match a with | ⟨0, _⟩ => rfl | ⟨1, _⟩ => rfl | ⟨2, _⟩ => rfl
  have e47 : idx_main_v47 (ix3 p (0 : Fin 1) f) = ix2 p f := funext fun a => match a with | ⟨0, _⟩ => rfl | ⟨1, _⟩ => rfl
  rw [val_main_v54_apply, e54, val_main_v53_apply, e53, val_main_v47_apply, e47]
  rfl

theorem sin0_at (b : Fin 4) (p : Fin 4096) (h : Fin 24) (f : Fin 8) : val_main_v57 (F := Ideal) (ix4 b p h f) = sinAt p f := by
  have e57 : idx_main_v57 (ix4 b p h f) = ix4 (0 : Fin 1) p (0 : Fin 1) f := funext fun a => match a with
    | ⟨0, _⟩ => rfl
    | ⟨1, _⟩ => rfl
    | ⟨2, _⟩ => rfl
    | ⟨3, _⟩ => rfl
  have e56 : idx_main_v56 (ix4 (0 : Fin 1) p (0 : Fin 1) f) = ix3 p (0 : Fin 1) f := funext fun a => match a with | ⟨0, _⟩ => rfl | ⟨1, _⟩ => rfl | ⟨2, _⟩ => rfl
  have e49 : idx_main_v49 (ix3 p (0 : Fin 1) f) = ix2 p f := funext fun a => match a with | ⟨0, _⟩ => rfl | ⟨1, _⟩ => rfl
  rw [val_main_v57_apply, e57, val_main_v56_apply, e56, val_main_v49_apply, e49]
  rfl

/-- The pairs' first and second entries. -/
theorem v51_at (b : Fin 4) (p : Fin 4096) (h : Fin 24) (f : Fin 8) : val_main_v51 (F := Ideal) x g w qg (ix4 b p h f)
    = val_main_v33 (F := Ideal) x g w qg (ix4 b p h (⟨f.val, by omega⟩ : Fin 64)) := by
  have e51 : idx_main_v51 (ix4 b p h f) = ix4 b p h (⟨f.val, by omega⟩ : Fin 16) := funext fun a => match a with
    | ⟨0, _⟩ => rfl
    | ⟨1, _⟩ => rfl
    | ⟨2, _⟩ => rfl
    | ⟨3, _⟩ => rfl
  have e50 : idx_main_v50 (ix4 b p h (⟨f.val, by omega⟩ : Fin 16)) = ix4 b p h (⟨f.val, by omega⟩ : Fin 64) := funext fun a => match a with
    | ⟨0, _⟩ => rfl
    | ⟨1, _⟩ => rfl
    | ⟨2, _⟩ => rfl
    | ⟨3, _⟩ => rfl
  rw [val_main_v51_apply, e51, val_main_v50_apply, e50]

theorem v52_at (b : Fin 4) (p : Fin 4096) (h : Fin 24) (f : Fin 8) : val_main_v52 (F := Ideal) x g w qg (ix4 b p h f)
    = val_main_v33 (F := Ideal) x g w qg (ix4 b p h (⟨f.val + 8, by omega⟩ : Fin 64)) := by
  have e52 : idx_main_v52 (ix4 b p h f) = ix4 b p h (⟨f.val + 8, by omega⟩ : Fin 16) := funext fun a => match a with
    | ⟨0, _⟩ => rfl
    | ⟨1, _⟩ => rfl
    | ⟨2, _⟩ => rfl
    | ⟨3, _⟩ => Fin.ext (by first | rfl | (show f.val + 8 = _; rfl) | (show 8 + f.val = f.val + 8; omega))
  have e50 : idx_main_v50 (ix4 b p h (⟨f.val + 8, by omega⟩ : Fin 16)) = ix4 b p h (⟨f.val + 8, by omega⟩ : Fin 64) := funext fun a => match a with
    | ⟨0, _⟩ => rfl
    | ⟨1, _⟩ => rfl
    | ⟨2, _⟩ => rfl
    | ⟨3, _⟩ => rfl
  rw [val_main_v52_apply, e52, val_main_v50_apply, e50]

/-- A head rotated. -/
theorem v69_at (b : Fin 4) (p : Fin 4096) (h : Fin 24) (e : Fin 64) : val_main_v69 (F := Ideal) x g w qg (ix4 b p h e)
    = rot (cosAt p) (sinAt p) (fun e => val_main_v33 (F := Ideal) x g w qg (ix4 b p h e)) e := by
  have c61 : val_main_v61 (F := Ideal) = val_main_v54 := rfl
  have c64 : val_main_v64 (F := Ideal) = val_main_v57 := rfl
  unfold rot
  by_cases h1 : e.val < 8
  · rw [dif_pos h1]
    refine (concatenate_pair_apply_left (t := S4x4096x24x64) (s₁ := S4x4096x24x16) (s₂ := S4x4096x24x48) (3 : Fin 4) _ _ _ _ rfl
      (ix4 b p h (⟨e.val, by omega⟩ : Fin 16)) (fun a => match a with | ⟨0, _⟩ => rfl | ⟨1, _⟩ => rfl | ⟨2, _⟩ => rfl | ⟨3, _⟩ => rfl)).trans ?_
    refine (concatenate_pair_apply_left (t := S4x4096x24x16) (s₁ := S4x4096x24x8) (s₂ := S4x4096x24x8) (3 : Fin 4) _ _ _ _ rfl
      (ix4 b p h (⟨e.val, h1⟩ : Fin 8)) (fun a => match a with | ⟨0, _⟩ => rfl | ⟨1, _⟩ => rfl | ⟨2, _⟩ => rfl | ⟨3, _⟩ => rfl)).trans ?_
    rw [val_main_v59_apply, val_main_v55_apply, val_main_v58_apply, v51_at, v52_at, cos0_at, sin0_at]
    rfl
  · rw [dif_neg h1]
    by_cases h2 : e.val < 16
    · rw [dif_pos h2]
      refine (concatenate_pair_apply_left (t := S4x4096x24x64) (s₁ := S4x4096x24x16) (s₂ := S4x4096x24x48) (3 : Fin 4) _ _ _ _ rfl
        (ix4 b p h (⟨e.val, h2⟩ : Fin 16)) (fun a => match a with | ⟨0, _⟩ => rfl | ⟨1, _⟩ => rfl | ⟨2, _⟩ => rfl | ⟨3, _⟩ => rfl)).trans ?_
      refine (concatenate_pair_apply_right (t := S4x4096x24x16) (s₁ := S4x4096x24x8) (s₂ := S4x4096x24x8) (3 : Fin 4) _ _ _ _ rfl rfl
        (ix4 b p h (⟨e.val - 8, by omega⟩ : Fin 8)) (fun a ha => match a with | ⟨0, _⟩ => rfl | ⟨1, _⟩ => rfl | ⟨2, _⟩ => rfl | ⟨3, _⟩ => absurd rfl ha)
        (by show e.val - 8 + 8 = e.val; omega)).trans ?_
      have e8 : (⟨e.val - 8 + 8, by omega⟩ : Fin 64) = e := Fin.ext (by show e.val - 8 + 8 = e.val; omega)
      rw [val_main_v66_apply, val_main_v62_apply, val_main_v65_apply, c61, c64, v51_at, v52_at, cos0_at, sin0_at, e8]
      rfl
    · rw [dif_neg h2]
      refine (concatenate_pair_apply_right (t := S4x4096x24x64) (s₁ := S4x4096x24x16) (s₂ := S4x4096x24x48) (3 : Fin 4) _ _ _ _ rfl rfl
        (ix4 b p h (⟨e.val - 16, by omega⟩ : Fin 48)) (fun a ha => match a with | ⟨0, _⟩ => rfl | ⟨1, _⟩ => rfl | ⟨2, _⟩ => rfl | ⟨3, _⟩ => absurd rfl ha)
        (by show e.val - 16 + 16 = e.val; omega)).trans ?_
      have e68 : idx_main_v68 (ix4 b p h (⟨e.val - 16, by omega⟩ : Fin 48)) = ix4 b p h e := funext fun a => match a with
        | ⟨0, _⟩ => rfl
        | ⟨1, _⟩ => rfl
        | ⟨2, _⟩ => rfl
        | ⟨3, _⟩ => Fin.ext (by first | (show e.val - 16 + 16 = e.val; omega) | (show 16 + (e.val - 16) = e.val; omega))
      rw [val_main_v68_apply, e68]

theorem v124_at (b : Fin 4) (p : Fin 4096) (q : Fin 3) (c : Fin 512) :
    val_main_v124 (F := Ideal) x g w qg (ix4 b p q c) = qkv x g w qg (rowAt b p) (colOf q 0 c) := by
  have e : idx_main_v124 (ix4 b p q c) = ix4 b p (⟨8 * q.val + c.val / 64, by omega⟩ : Fin 24) (place c) := funext fun a => match a with
    | ⟨0, _⟩ => Fin.ext (by show (((b.val * 4096 + p.val) * 3 + q.val) * 512 + c.val) / 6291456 = b.val; omega)
    | ⟨1, _⟩ => Fin.ext (by show (((b.val * 4096 + p.val) * 3 + q.val) * 512 + c.val) / 1536 % 4096 = p.val; omega)
    | ⟨2, _⟩ => Fin.ext (by show (((b.val * 4096 + p.val) * 3 + q.val) * 512 + c.val) / 64 % 24 = 8 * q.val + c.val / 64; omega)
    | ⟨3, _⟩ => Fin.ext (by show (((b.val * 4096 + p.val) * 3 + q.val) * 512 + c.val) % 64 = c.val % 64; omega)
  have ek : (colOf q 0 c).val / 512 % 3 = 0 := by show ((q.val * 3 + 0) * 512 + c.val) / 512 % 3 = 0; omega
  have ep : place (colOf q 0 c) = place c := Fin.ext (by show ((q.val * 3 + 0) * 512 + c.val) % 64 = c.val % 64; omega)
  have er : posOf (rowAt b p) = p := Fin.ext (by show (4096 * b.val + p.val) % 4096 = p.val; omega)
  rw [val_main_v124_apply, e, v69_at]
  unfold qkv qkvRow
  rw [dif_pos (by rw [ek]; decide), ep, er]
  refine congrArg (fun n : Fin 64 → EReal => rot (cosAt p) (sinAt p) n (place c)) (funext fun e => ?_)
  have eg : (⟨(colOf q 0 c).val / 512 % 3, by rw [ek]; decide⟩ : Fin 2) = 0 := Fin.ext ek
  rw [v33_at, eg]
  refine congrArg (fun y : Fin 64 → EReal => rmsRow n64 y (fun e => qg (ix2 (0 : Fin 2) e)) e) (funext fun e => congrArg (proj x g w (rowAt b p)) (Fin.ext ?_))
  show ((8 * q.val + c.val / 64) / 8 * 3 + 0) * 512 + (64 * ((8 * q.val + c.val / 64) % 8) + e.val) = 64 * (((q.val * 3 + 0) * 512 + c.val) / 64) + e.val
  omega

theorem v71_at (b : Fin 4) (p : Fin 4096) (q : Fin 3) (c : Fin 512) :
    val_main_v71 (F := Ideal) x g w (ix4 b p q c) = proj x g w (rowAt b p) (colOf q 1 c) := by
  have e : idx_main_v71 (ix4 b p q c) = ix5 b p q (0 : Fin 1) c := funext fun a => match a with
    | ⟨0, _⟩ => Fin.ext (by show (((b.val * 4096 + p.val) * 3 + q.val) * 512 + c.val) / 6291456 = b.val; omega)
    | ⟨1, _⟩ => Fin.ext (by show (((b.val * 4096 + p.val) * 3 + q.val) * 512 + c.val) / 1536 % 4096 = p.val; omega)
    | ⟨2, _⟩ => Fin.ext (by show (((b.val * 4096 + p.val) * 3 + q.val) * 512 + c.val) / 512 % 3 = q.val; omega)
    | ⟨3, _⟩ => rfl
    | ⟨4, _⟩ => Fin.ext (by show (((b.val * 4096 + p.val) * 3 + q.val) * 512 + c.val) % 512 = c.val; omega)
  have e' : idx_main_v70 (ix5 b p q (0 : Fin 1) c) = ix5 b p q (1 : Fin 3) c := funext fun a => match a with
    | ⟨0, _⟩ => rfl
    | ⟨1, _⟩ => rfl
    | ⟨2, _⟩ => rfl
    | ⟨3, _⟩ => rfl
    | ⟨4, _⟩ => rfl
  rw [val_main_v71_apply, e, val_main_v70_apply, e', v14_at]

theorem v72_at (b : Fin 4) (p : Fin 4096) (h : Fin 24) (e : Fin 64) :
    val_main_v72 (F := Ideal) x g w (ix4 b p h e) = proj x g w (rowAt b p) (headCol 1 h e) := by
  have ei : idx_main_v72 (ix4 b p h e) = ix4 b p (⟨h.val / 8, by omega⟩ : Fin 3) (⟨64 * (h.val % 8) + e.val, by omega⟩ : Fin 512) := funext fun a => match a with
    | ⟨0, _⟩ => Fin.ext (by show (((b.val * 4096 + p.val) * 24 + h.val) * 64 + e.val) / 6291456 = b.val; omega)
    | ⟨1, _⟩ => Fin.ext (by show (((b.val * 4096 + p.val) * 24 + h.val) * 64 + e.val) / 1536 % 4096 = p.val; omega)
    | ⟨2, _⟩ => Fin.ext (by show (((b.val * 4096 + p.val) * 24 + h.val) * 64 + e.val) / 512 % 3 = h.val / 8; omega)
    | ⟨3, _⟩ => Fin.ext (by show (((b.val * 4096 + p.val) * 24 + h.val) * 64 + e.val) % 512 = 64 * (h.val % 8) + e.val; omega)
  rw [val_main_v72_apply, ei, v71_at]

/-- A head normalized. -/
theorem v87_at (b : Fin 4) (p : Fin 4096) (h : Fin 24) (e : Fin 64) : val_main_v87 (F := Ideal) x g w qg (ix4 b p h e)
    = rmsRow n64 (fun e => proj x g w (rowAt b p) (headCol 1 h e)) (fun e => qg (ix2 (1 : Fin 2) e)) e := by
  have e29 : idx_main_v83 (ix4 b p h e) = ix4 b p h (0 : Fin 1) := funext fun a => match a with
    | ⟨0, _⟩ => rfl
    | ⟨1, _⟩ => rfl
    | ⟨2, _⟩ => rfl
    | ⟨3, _⟩ => rfl
  have e32 : idx_main_v86 (ix4 b p h e) = ix4 (0 : Fin 1) (0 : Fin 1) (0 : Fin 1) e := funext fun a => match a with
    | ⟨0, _⟩ => rfl
    | ⟨1, _⟩ => rfl
    | ⟨2, _⟩ => rfl
    | ⟨3, _⟩ => rfl
  have e31 : idx_main_v85 (ix4 (0 : Fin 1) (0 : Fin 1) (0 : Fin 1) e) = ix1 e := funext fun a => match a with | ⟨0, _⟩ => rfl
  have e20 : idx_main_v74 (ix1 e) = ix2 (0 : Fin 1) e := funext fun a => match a with
    | ⟨0, _⟩ => Fin.ext (by first | rfl | (show e.val / 64 = 0; omega))
    | ⟨1, _⟩ => Fin.ext (by first | rfl | (show e.val % 64 = e.val; omega))
  have e19 : idx_main_v73 (ix2 (0 : Fin 1) e) = ix2 (1 : Fin 2) e := funext fun a => match a with
    | ⟨0, _⟩ => rfl
    | ⟨1, _⟩ => rfl
  have e23 : idx_main_v77 (ix4 b p h (0 : Fin 1)) = ix3 b p h := funext fun a => match a with | ⟨0, _⟩ => rfl | ⟨1, _⟩ => rfl | ⟨2, _⟩ => rfl
  have e22 : ∀ k : Fin 64, idx_main_v76 (ix3 b p h) k = ix4 b p h k := fun k => funext fun a => match a with
    | ⟨0, _⟩ => rfl
    | ⟨1, _⟩ => rfl
    | ⟨2, _⟩ => rfl
    | ⟨3, _⟩ => rfl
  have hs : val_main_v76 (F := Ideal) x g w (ix3 b p h)
      = ∑ e : Fin 64, proj x g w (rowAt b p) (headCol 1 h e) * proj x g w (rowAt b p) (headCol 1 h e) := by
    rw [val_main_v76_apply, val_main_cst_7_apply]
    refine (congrArg (fun z => z + _) Ideal.ofBits_zero_f32).trans ?_
    rw [zero_add]
    exact Finset.sum_congr rfl fun k _ => by
      rw [e22 k, val_main_v75_apply, v72_at]; rfl
  rw [val_main_v87_apply, val_main_v84_apply, v72_at, val_main_v83_apply, e29, val_main_v82_apply, val_main_v81_apply, val_main_v79_apply, val_main_v77_apply, e23, hs, val_main_v78_apply, val_main_cst_8_apply,
    val_main_v80_apply, val_main_cst_9_apply, val_main_v86_apply, e32, val_main_v85_apply, e31, val_main_v74_apply, e20, val_main_v73_apply, e19]
  rfl

theorem cos1_at (b : Fin 4) (p : Fin 4096) (h : Fin 24) (f : Fin 8) : val_main_v108 (F := Ideal) (ix4 b p h f) = cosAt p f := by
  have e54 : idx_main_v108 (ix4 b p h f) = ix4 (0 : Fin 1) p (0 : Fin 1) f := funext fun a => match a with
    | ⟨0, _⟩ => rfl
    | ⟨1, _⟩ => rfl
    | ⟨2, _⟩ => rfl
    | ⟨3, _⟩ => rfl
  have e53 : idx_main_v107 (ix4 (0 : Fin 1) p (0 : Fin 1) f) = ix3 p (0 : Fin 1) f := funext fun a => match a with | ⟨0, _⟩ => rfl | ⟨1, _⟩ => rfl | ⟨2, _⟩ => rfl
  have e47 : idx_main_v101 (ix3 p (0 : Fin 1) f) = ix2 p f := funext fun a => match a with | ⟨0, _⟩ => rfl | ⟨1, _⟩ => rfl
  rw [val_main_v108_apply, e54, val_main_v107_apply, e53, val_main_v101_apply, e47]
  rfl

theorem sin1_at (b : Fin 4) (p : Fin 4096) (h : Fin 24) (f : Fin 8) : val_main_v111 (F := Ideal) (ix4 b p h f) = sinAt p f := by
  have e57 : idx_main_v111 (ix4 b p h f) = ix4 (0 : Fin 1) p (0 : Fin 1) f := funext fun a => match a with
    | ⟨0, _⟩ => rfl
    | ⟨1, _⟩ => rfl
    | ⟨2, _⟩ => rfl
    | ⟨3, _⟩ => rfl
  have e56 : idx_main_v110 (ix4 (0 : Fin 1) p (0 : Fin 1) f) = ix3 p (0 : Fin 1) f := funext fun a => match a with | ⟨0, _⟩ => rfl | ⟨1, _⟩ => rfl | ⟨2, _⟩ => rfl
  have e49 : idx_main_v103 (ix3 p (0 : Fin 1) f) = ix2 p f := funext fun a => match a with | ⟨0, _⟩ => rfl | ⟨1, _⟩ => rfl
  rw [val_main_v111_apply, e57, val_main_v110_apply, e56, val_main_v103_apply, e49]
  rfl

/-- The pairs' first and second entries. -/
theorem v105_at (b : Fin 4) (p : Fin 4096) (h : Fin 24) (f : Fin 8) : val_main_v105 (F := Ideal) x g w qg (ix4 b p h f)
    = val_main_v87 (F := Ideal) x g w qg (ix4 b p h (⟨f.val, by omega⟩ : Fin 64)) := by
  have e51 : idx_main_v105 (ix4 b p h f) = ix4 b p h (⟨f.val, by omega⟩ : Fin 16) := funext fun a => match a with
    | ⟨0, _⟩ => rfl
    | ⟨1, _⟩ => rfl
    | ⟨2, _⟩ => rfl
    | ⟨3, _⟩ => rfl
  have e50 : idx_main_v104 (ix4 b p h (⟨f.val, by omega⟩ : Fin 16)) = ix4 b p h (⟨f.val, by omega⟩ : Fin 64) := funext fun a => match a with
    | ⟨0, _⟩ => rfl
    | ⟨1, _⟩ => rfl
    | ⟨2, _⟩ => rfl
    | ⟨3, _⟩ => rfl
  rw [val_main_v105_apply, e51, val_main_v104_apply, e50]

theorem v106_at (b : Fin 4) (p : Fin 4096) (h : Fin 24) (f : Fin 8) : val_main_v106 (F := Ideal) x g w qg (ix4 b p h f)
    = val_main_v87 (F := Ideal) x g w qg (ix4 b p h (⟨f.val + 8, by omega⟩ : Fin 64)) := by
  have e52 : idx_main_v106 (ix4 b p h f) = ix4 b p h (⟨f.val + 8, by omega⟩ : Fin 16) := funext fun a => match a with
    | ⟨0, _⟩ => rfl
    | ⟨1, _⟩ => rfl
    | ⟨2, _⟩ => rfl
    | ⟨3, _⟩ => Fin.ext (by first | rfl | (show f.val + 8 = _; rfl) | (show 8 + f.val = f.val + 8; omega))
  have e50 : idx_main_v104 (ix4 b p h (⟨f.val + 8, by omega⟩ : Fin 16)) = ix4 b p h (⟨f.val + 8, by omega⟩ : Fin 64) := funext fun a => match a with
    | ⟨0, _⟩ => rfl
    | ⟨1, _⟩ => rfl
    | ⟨2, _⟩ => rfl
    | ⟨3, _⟩ => rfl
  rw [val_main_v106_apply, e52, val_main_v104_apply, e50]

/-- A head rotated. -/
theorem v123_at (b : Fin 4) (p : Fin 4096) (h : Fin 24) (e : Fin 64) : val_main_v123 (F := Ideal) x g w qg (ix4 b p h e)
    = rot (cosAt p) (sinAt p) (fun e => val_main_v87 (F := Ideal) x g w qg (ix4 b p h e)) e := by
  have c61 : val_main_v115 (F := Ideal) = val_main_v108 := rfl
  have c64 : val_main_v118 (F := Ideal) = val_main_v111 := rfl
  unfold rot
  by_cases h1 : e.val < 8
  · rw [dif_pos h1]
    refine (concatenate_pair_apply_left (t := S4x4096x24x64) (s₁ := S4x4096x24x16) (s₂ := S4x4096x24x48) (3 : Fin 4) _ _ _ _ rfl
      (ix4 b p h (⟨e.val, by omega⟩ : Fin 16)) (fun a => match a with | ⟨0, _⟩ => rfl | ⟨1, _⟩ => rfl | ⟨2, _⟩ => rfl | ⟨3, _⟩ => rfl)).trans ?_
    refine (concatenate_pair_apply_left (t := S4x4096x24x16) (s₁ := S4x4096x24x8) (s₂ := S4x4096x24x8) (3 : Fin 4) _ _ _ _ rfl
      (ix4 b p h (⟨e.val, h1⟩ : Fin 8)) (fun a => match a with | ⟨0, _⟩ => rfl | ⟨1, _⟩ => rfl | ⟨2, _⟩ => rfl | ⟨3, _⟩ => rfl)).trans ?_
    rw [val_main_v113_apply, val_main_v109_apply, val_main_v112_apply, v105_at, v106_at, cos1_at, sin1_at]
    rfl
  · rw [dif_neg h1]
    by_cases h2 : e.val < 16
    · rw [dif_pos h2]
      refine (concatenate_pair_apply_left (t := S4x4096x24x64) (s₁ := S4x4096x24x16) (s₂ := S4x4096x24x48) (3 : Fin 4) _ _ _ _ rfl
        (ix4 b p h (⟨e.val, h2⟩ : Fin 16)) (fun a => match a with | ⟨0, _⟩ => rfl | ⟨1, _⟩ => rfl | ⟨2, _⟩ => rfl | ⟨3, _⟩ => rfl)).trans ?_
      refine (concatenate_pair_apply_right (t := S4x4096x24x16) (s₁ := S4x4096x24x8) (s₂ := S4x4096x24x8) (3 : Fin 4) _ _ _ _ rfl rfl
        (ix4 b p h (⟨e.val - 8, by omega⟩ : Fin 8)) (fun a ha => match a with | ⟨0, _⟩ => rfl | ⟨1, _⟩ => rfl | ⟨2, _⟩ => rfl | ⟨3, _⟩ => absurd rfl ha)
        (by show e.val - 8 + 8 = e.val; omega)).trans ?_
      have e8 : (⟨e.val - 8 + 8, by omega⟩ : Fin 64) = e := Fin.ext (by show e.val - 8 + 8 = e.val; omega)
      rw [val_main_v120_apply, val_main_v116_apply, val_main_v119_apply, c61, c64, v105_at, v106_at, cos1_at, sin1_at, e8]
      rfl
    · rw [dif_neg h2]
      refine (concatenate_pair_apply_right (t := S4x4096x24x64) (s₁ := S4x4096x24x16) (s₂ := S4x4096x24x48) (3 : Fin 4) _ _ _ _ rfl rfl
        (ix4 b p h (⟨e.val - 16, by omega⟩ : Fin 48)) (fun a ha => match a with | ⟨0, _⟩ => rfl | ⟨1, _⟩ => rfl | ⟨2, _⟩ => rfl | ⟨3, _⟩ => absurd rfl ha)
        (by show e.val - 16 + 16 = e.val; omega)).trans ?_
      have e68 : idx_main_v122 (ix4 b p h (⟨e.val - 16, by omega⟩ : Fin 48)) = ix4 b p h e := funext fun a => match a with
        | ⟨0, _⟩ => rfl
        | ⟨1, _⟩ => rfl
        | ⟨2, _⟩ => rfl
        | ⟨3, _⟩ => Fin.ext (by first | (show e.val - 16 + 16 = e.val; omega) | (show 16 + (e.val - 16) = e.val; omega))
      rw [val_main_v122_apply, e68]

theorem v125_at (b : Fin 4) (p : Fin 4096) (q : Fin 3) (c : Fin 512) :
    val_main_v125 (F := Ideal) x g w qg (ix4 b p q c) = qkv x g w qg (rowAt b p) (colOf q 1 c) := by
  have e : idx_main_v125 (ix4 b p q c) = ix4 b p (⟨8 * q.val + c.val / 64, by omega⟩ : Fin 24) (place c) := funext fun a => match a with
    | ⟨0, _⟩ => Fin.ext (by show (((b.val * 4096 + p.val) * 3 + q.val) * 512 + c.val) / 6291456 = b.val; omega)
    | ⟨1, _⟩ => Fin.ext (by show (((b.val * 4096 + p.val) * 3 + q.val) * 512 + c.val) / 1536 % 4096 = p.val; omega)
    | ⟨2, _⟩ => Fin.ext (by show (((b.val * 4096 + p.val) * 3 + q.val) * 512 + c.val) / 64 % 24 = 8 * q.val + c.val / 64; omega)
    | ⟨3, _⟩ => Fin.ext (by show (((b.val * 4096 + p.val) * 3 + q.val) * 512 + c.val) % 64 = c.val % 64; omega)
  have ek : (colOf q 1 c).val / 512 % 3 = 1 := by show ((q.val * 3 + 1) * 512 + c.val) / 512 % 3 = 1; omega
  have ep : place (colOf q 1 c) = place c := Fin.ext (by show ((q.val * 3 + 1) * 512 + c.val) % 64 = c.val % 64; omega)
  have er : posOf (rowAt b p) = p := Fin.ext (by show (4096 * b.val + p.val) % 4096 = p.val; omega)
  rw [val_main_v125_apply, e, v123_at]
  unfold qkv qkvRow
  rw [dif_pos (by rw [ek]; decide), ep, er]
  refine congrArg (fun n : Fin 64 → EReal => rot (cosAt p) (sinAt p) n (place c)) (funext fun e => ?_)
  have eg : (⟨(colOf q 1 c).val / 512 % 3, by rw [ek]; decide⟩ : Fin 2) = 1 := Fin.ext ek
  rw [v87_at, eg]
  refine congrArg (fun y : Fin 64 → EReal => rmsRow n64 y (fun e => qg (ix2 (1 : Fin 2) e)) e) (funext fun e => congrArg (proj x g w (rowAt b p)) (Fin.ext ?_))
  show ((8 * q.val + c.val / 64) / 8 * 3 + 1) * 512 + (64 * ((8 * q.val + c.val / 64) % 8) + e.val) = 64 * (((q.val * 3 + 1) * 512 + c.val) / 64) + e.val
  omega

theorem v127_at (b : Fin 4) (p : Fin 4096) (q : Fin 3) (c : Fin 512) :
    val_main_v127 (F := Ideal) x g w (ix4 b p q c) = proj x g w (rowAt b p) (colOf q 2 c) := by
  have e : idx_main_v127 (ix4 b p q c) = ix5 b p q (0 : Fin 1) c := funext fun a => match a with
    | ⟨0, _⟩ => Fin.ext (by show (((b.val * 4096 + p.val) * 3 + q.val) * 512 + c.val) / 6291456 = b.val; omega)
    | ⟨1, _⟩ => Fin.ext (by show (((b.val * 4096 + p.val) * 3 + q.val) * 512 + c.val) / 1536 % 4096 = p.val; omega)
    | ⟨2, _⟩ => Fin.ext (by show (((b.val * 4096 + p.val) * 3 + q.val) * 512 + c.val) / 512 % 3 = q.val; omega)
    | ⟨3, _⟩ => rfl
    | ⟨4, _⟩ => Fin.ext (by show (((b.val * 4096 + p.val) * 3 + q.val) * 512 + c.val) % 512 = c.val; omega)
  have e' : idx_main_v126 (ix5 b p q (0 : Fin 1) c) = ix5 b p q (2 : Fin 3) c := funext fun a => match a with
    | ⟨0, _⟩ => rfl
    | ⟨1, _⟩ => rfl
    | ⟨2, _⟩ => rfl
    | ⟨3, _⟩ => rfl
    | ⟨4, _⟩ => rfl
  rw [val_main_v127_apply, e, val_main_v126_apply, e', v14_at]

theorem values_at (b : Fin 4) (p : Fin 4096) (q : Fin 3) (c : Fin 512) :
    val_main_v127 (F := Ideal) x g w (ix4 b p q c) = qkv x g w qg (rowAt b p) (colOf q 2 c) := by
  rw [v127_at]
  unfold qkv qkvRow
  rw [dif_neg (by show ¬((q.val * 3 + 2) * 512 + c.val) / 512 % 3 < 2; omega)]

/-- The three side by side. -/
theorem v131_at (b : Fin 4) (p : Fin 4096) (q κ : Fin 3) (c : Fin 512) :
    val_main_v131 (F := Ideal) x g w qg (ix5 b p q κ c) = qkv x g w qg (rowAt b p) (colOf q κ c) := by
  refine (concatenate_ofFn_apply (t := S4x4096x3x3x512) (s₁ := S4x4096x3x1x512) (3 : Fin 5) (N := 3)
    (fun k : Fin 3 => match k with
      | ⟨0, _⟩ => val_main_v128 (F := Ideal) x g w qg
      | ⟨1, _⟩ => val_main_v129 (F := Ideal) x g w qg
      | ⟨2, _⟩ => val_main_v130 (F := Ideal) x g w)
    _ rfl 1 rfl (ix5 b p q κ c) κ (Nat.div_one _) (ix5 b p q (0 : Fin 1) c)
    (Nat.mod_one _).symm (fun a ha => match a with
      | ⟨0, _⟩ => rfl
      | ⟨1, _⟩ => rfl
      | ⟨2, _⟩ => rfl
      | ⟨3, _⟩ => absurd rfl ha
      | ⟨4, _⟩ => rfl)).trans ?_
  match κ with
  | ⟨0, _⟩ =>
      have e : idx_main_v128 (ix5 b p q (0 : Fin 1) c) = ix4 b p q c := funext fun a => match a with | ⟨0, _⟩ => rfl | ⟨1, _⟩ => rfl | ⟨2, _⟩ => rfl | ⟨3, _⟩ => rfl
      show val_main_v128 (F := Ideal) x g w qg (ix5 b p q (0 : Fin 1) c) = _
      rw [val_main_v128_apply, e, v124_at]; rfl
  | ⟨1, _⟩ =>
      have e : idx_main_v129 (ix5 b p q (0 : Fin 1) c) = ix4 b p q c := funext fun a => match a with | ⟨0, _⟩ => rfl | ⟨1, _⟩ => rfl | ⟨2, _⟩ => rfl | ⟨3, _⟩ => rfl
      show val_main_v129 (F := Ideal) x g w qg (ix5 b p q (0 : Fin 1) c) = _
      rw [val_main_v129_apply, e, v125_at]; rfl
  | ⟨2, _⟩ =>
      have e : idx_main_v130 (ix5 b p q (0 : Fin 1) c) = ix4 b p q c := funext fun a => match a with | ⟨0, _⟩ => rfl | ⟨1, _⟩ => rfl | ⟨2, _⟩ => rfl | ⟨3, _⟩ => rfl
      show val_main_v130 (F := Ideal) x g w (ix5 b p q (0 : Fin 1) c) = _
      rw [val_main_v130_apply, e, values_at x g w qg]; rfl

/-- The first result. -/
theorem v132_at (i : Fin 16384) (c : Fin 4608) : val_main_v132 (F := Ideal) x g w qg (ix2 i c) = qkv x g w qg i c := by
  have e : idx_main_v132 (ix2 i c) = ix5 (⟨i.val / 4096, by omega⟩ : Fin 4) (posOf i) (⟨c.val / 1536, by omega⟩ : Fin 3) (⟨c.val / 512 % 3, by omega⟩ : Fin 3)
      (⟨c.val % 512, by omega⟩ : Fin 512) := funext fun a => match a with
    | ⟨0, _⟩ => Fin.ext (by show (i.val * 4608 + c.val) / 18874368 = i.val / 4096; omega)
    | ⟨1, _⟩ => Fin.ext (by show (i.val * 4608 + c.val) / 4608 % 4096 = i.val % 4096; omega)
    | ⟨2, _⟩ => Fin.ext (by show (i.val * 4608 + c.val) / 1536 % 3 = c.val / 1536; omega)
    | ⟨3, _⟩ => Fin.ext (by show (i.val * 4608 + c.val) / 512 % 3 = c.val / 512 % 3; omega)
    | ⟨4, _⟩ => Fin.ext (by show (i.val * 4608 + c.val) % 512 = c.val % 512; omega)
  have er : rowAt (⟨i.val / 4096, by omega⟩ : Fin 4) (posOf i) = i := Fin.ext (by show 4096 * (i.val / 4096) + i.val % 4096 = i.val; omega)
  have ec : colOf (⟨c.val / 1536, by omega⟩ : Fin 3) (⟨c.val / 512 % 3, by omega⟩ : Fin 3) (⟨c.val % 512, by omega⟩ : Fin 512) = c :=
    Fin.ext (by show (c.val / 1536 * 3 + c.val / 512 % 3) * 512 + c.val % 512 = c.val; omega)
  rw [val_main_v132_apply, e, v131_at, er, ec]

/-- The keys and values of one group, turned, over the last positions of the sequence. -/
def kvT (q : Fin 3) {n : Nat} (first : Nat) (hn : first + n ≤ 4096) (b : Fin 4) (c : Fin 1024) (s : Fin n) : EReal :=
  qkv x g w qg (rowAt b ⟨first + s.val, by omega⟩) ⟨1536 * q.val + 512 + c.val, by omega⟩

theorem v137_at (b : Fin 4) (p : Fin 4096) (c : Fin 1024) :
    val_main_v137 (F := Ideal) x g w qg (ix3 b p c) = qkv x g w qg (rowAt b p) ⟨1536 * 0 + 512 + c.val, by omega⟩ := by
  have ea : ∀ c : Fin 512, idx_main_v134 (ix3 b p c) = ix4 b p (0 : Fin 1) c := fun c => funext fun a => match a with
    | ⟨0, _⟩ => Fin.ext (by show ((b.val * 4096 + p.val) * 512 + c.val) / 2097152 = b.val; omega)
    | ⟨1, _⟩ => Fin.ext (by show ((b.val * 4096 + p.val) * 512 + c.val) / 512 % 4096 = p.val; omega)
    | ⟨2, _⟩ => rfl
    | ⟨3, _⟩ => Fin.ext (by show ((b.val * 4096 + p.val) * 512 + c.val) % 512 = c.val; omega)
  have ea' : ∀ c : Fin 512, idx_main_v133 (ix4 b p (0 : Fin 1) c) = ix4 b p (0 : Fin 3) c := fun c => funext fun a => match a with
    | ⟨0, _⟩ => rfl
    | ⟨1, _⟩ => rfl
    | ⟨2, _⟩ => rfl
    | ⟨3, _⟩ => rfl
  have eb : ∀ c : Fin 512, idx_main_v136 (ix3 b p c) = ix4 b p (0 : Fin 1) c := ea
  have eb' : ∀ c : Fin 512, idx_main_v135 (ix4 b p (0 : Fin 1) c) = ix4 b p (0 : Fin 3) c := ea'
  by_cases h : c.val < 512
  · refine (concatenate_pair_apply_left (t := S4x4096x1024) (s₁ := S4x4096x512) (s₂ := S4x4096x512) (2 : Fin 3) _ _ _ _ rfl
      (ix3 b p (⟨c.val, h⟩ : Fin 512)) (fun a => match a with | ⟨0, _⟩ => rfl | ⟨1, _⟩ => rfl | ⟨2, _⟩ => rfl)).trans ?_
    rw [val_main_v134_apply, ea, val_main_v133_apply, ea', v125_at]
    exact congrArg (qkv x g w qg (rowAt b p)) (Fin.ext (by show (0 * 3 + 1) * 512 + c.val = 1536 * 0 + 512 + c.val; omega))
  · refine (concatenate_pair_apply_right (t := S4x4096x1024) (s₁ := S4x4096x512) (s₂ := S4x4096x512) (2 : Fin 3) _ _ _ _ rfl rfl
      (ix3 b p (⟨c.val - 512, by omega⟩ : Fin 512)) (fun a ha => match a with | ⟨0, _⟩ => rfl | ⟨1, _⟩ => rfl | ⟨2, _⟩ => absurd rfl ha)
      (by show c.val - 512 + 512 = c.val; omega)).trans ?_
    rw [val_main_v136_apply, eb, val_main_v135_apply, eb', values_at x g w qg]
    exact congrArg (qkv x g w qg (rowAt b p)) (Fin.ext (by show (0 * 3 + 2) * 512 + (c.val - 512) = 1536 * 0 + 512 + c.val; omega))

/-- Result 1. -/
theorem v149_at (b : Fin 4) (c : Fin 1024) (s : Fin 512) :
    val_main_v149 (F := Ideal) x g w qg (ix3 b c s) = kvT x g w qg 0 3584 (by decide) b c s := by
  have e1 : idx_main_v149 (ix3 b c s) = ix3 b s c := funext fun a => match a with | ⟨0, _⟩ => rfl | ⟨1, _⟩ => rfl | ⟨2, _⟩ => rfl
  have e2 : idx_main_v148 (ix3 b s c) = ix3 b (⟨3584 + s.val, by omega⟩ : Fin 4096) c := funext fun a => match a with
    | ⟨0, _⟩ => rfl
    | ⟨1, _⟩ => Fin.ext (by first | (show s.val + 3584 = 3584 + s.val; omega) | rfl)
    | ⟨2, _⟩ => rfl
  rw [val_main_v149_apply, e1, val_main_v148_apply, e2, v137_at]
  rfl

theorem v142_at (b : Fin 4) (p : Fin 4096) (c : Fin 1024) :
    val_main_v142 (F := Ideal) x g w qg (ix3 b p c) = qkv x g w qg (rowAt b p) ⟨1536 * 1 + 512 + c.val, by omega⟩ := by
  have ea : ∀ c : Fin 512, idx_main_v139 (ix3 b p c) = ix4 b p (0 : Fin 1) c := fun c => funext fun a => match a with
    | ⟨0, _⟩ => Fin.ext (by show ((b.val * 4096 + p.val) * 512 + c.val) / 2097152 = b.val; omega)
    | ⟨1, _⟩ => Fin.ext (by show ((b.val * 4096 + p.val) * 512 + c.val) / 512 % 4096 = p.val; omega)
    | ⟨2, _⟩ => rfl
    | ⟨3, _⟩ => Fin.ext (by show ((b.val * 4096 + p.val) * 512 + c.val) % 512 = c.val; omega)
  have ea' : ∀ c : Fin 512, idx_main_v138 (ix4 b p (0 : Fin 1) c) = ix4 b p (1 : Fin 3) c := fun c => funext fun a => match a with
    | ⟨0, _⟩ => rfl
    | ⟨1, _⟩ => rfl
    | ⟨2, _⟩ => rfl
    | ⟨3, _⟩ => rfl
  have eb : ∀ c : Fin 512, idx_main_v141 (ix3 b p c) = ix4 b p (0 : Fin 1) c := ea
  have eb' : ∀ c : Fin 512, idx_main_v140 (ix4 b p (0 : Fin 1) c) = ix4 b p (1 : Fin 3) c := ea'
  by_cases h : c.val < 512
  · refine (concatenate_pair_apply_left (t := S4x4096x1024) (s₁ := S4x4096x512) (s₂ := S4x4096x512) (2 : Fin 3) _ _ _ _ rfl
      (ix3 b p (⟨c.val, h⟩ : Fin 512)) (fun a => match a with | ⟨0, _⟩ => rfl | ⟨1, _⟩ => rfl | ⟨2, _⟩ => rfl)).trans ?_
    rw [val_main_v139_apply, ea, val_main_v138_apply, ea', v125_at]
    exact congrArg (qkv x g w qg (rowAt b p)) (Fin.ext (by show (1 * 3 + 1) * 512 + c.val = 1536 * 1 + 512 + c.val; omega))
  · refine (concatenate_pair_apply_right (t := S4x4096x1024) (s₁ := S4x4096x512) (s₂ := S4x4096x512) (2 : Fin 3) _ _ _ _ rfl rfl
      (ix3 b p (⟨c.val - 512, by omega⟩ : Fin 512)) (fun a ha => match a with | ⟨0, _⟩ => rfl | ⟨1, _⟩ => rfl | ⟨2, _⟩ => absurd rfl ha)
      (by show c.val - 512 + 512 = c.val; omega)).trans ?_
    rw [val_main_v141_apply, eb, val_main_v140_apply, eb', values_at x g w qg]
    exact congrArg (qkv x g w qg (rowAt b p)) (Fin.ext (by show (1 * 3 + 2) * 512 + (c.val - 512) = 1536 * 1 + 512 + c.val; omega))

/-- Result 2. -/
theorem v151_at (b : Fin 4) (c : Fin 1024) (s : Fin 512) :
    val_main_v151 (F := Ideal) x g w qg (ix3 b c s) = kvT x g w qg 1 3584 (by decide) b c s := by
  have e1 : idx_main_v151 (ix3 b c s) = ix3 b s c := funext fun a => match a with | ⟨0, _⟩ => rfl | ⟨1, _⟩ => rfl | ⟨2, _⟩ => rfl
  have e2 : idx_main_v150 (ix3 b s c) = ix3 b (⟨3584 + s.val, by omega⟩ : Fin 4096) c := funext fun a => match a with
    | ⟨0, _⟩ => rfl
    | ⟨1, _⟩ => Fin.ext (by first | (show s.val + 3584 = 3584 + s.val; omega) | rfl)
    | ⟨2, _⟩ => rfl
  rw [val_main_v151_apply, e1, val_main_v150_apply, e2, v142_at]
  rfl

theorem v147_at (b : Fin 4) (p : Fin 4096) (c : Fin 1024) :
    val_main_v147 (F := Ideal) x g w qg (ix3 b p c) = qkv x g w qg (rowAt b p) ⟨1536 * 2 + 512 + c.val, by omega⟩ := by
  have ea : ∀ c : Fin 512, idx_main_v144 (ix3 b p c) = ix4 b p (0 : Fin 1) c := fun c => funext fun a => match a with
    | ⟨0, _⟩ => Fin.ext (by show ((b.val * 4096 + p.val) * 512 + c.val) / 2097152 = b.val; omega)
    | ⟨1, _⟩ => Fin.ext (by show ((b.val * 4096 + p.val) * 512 + c.val) / 512 % 4096 = p.val; omega)
    | ⟨2, _⟩ => rfl
    | ⟨3, _⟩ => Fin.ext (by show ((b.val * 4096 + p.val) * 512 + c.val) % 512 = c.val; omega)
  have ea' : ∀ c : Fin 512, idx_main_v143 (ix4 b p (0 : Fin 1) c) = ix4 b p (2 : Fin 3) c := fun c => funext fun a => match a with
    | ⟨0, _⟩ => rfl
    | ⟨1, _⟩ => rfl
    | ⟨2, _⟩ => rfl
    | ⟨3, _⟩ => rfl
  have eb : ∀ c : Fin 512, idx_main_v146 (ix3 b p c) = ix4 b p (0 : Fin 1) c := ea
  have eb' : ∀ c : Fin 512, idx_main_v145 (ix4 b p (0 : Fin 1) c) = ix4 b p (2 : Fin 3) c := ea'
  by_cases h : c.val < 512
  · refine (concatenate_pair_apply_left (t := S4x4096x1024) (s₁ := S4x4096x512) (s₂ := S4x4096x512) (2 : Fin 3) _ _ _ _ rfl
      (ix3 b p (⟨c.val, h⟩ : Fin 512)) (fun a => match a with | ⟨0, _⟩ => rfl | ⟨1, _⟩ => rfl | ⟨2, _⟩ => rfl)).trans ?_
    rw [val_main_v144_apply, ea, val_main_v143_apply, ea', v125_at]
    exact congrArg (qkv x g w qg (rowAt b p)) (Fin.ext (by show (2 * 3 + 1) * 512 + c.val = 1536 * 2 + 512 + c.val; omega))
  · refine (concatenate_pair_apply_right (t := S4x4096x1024) (s₁ := S4x4096x512) (s₂ := S4x4096x512) (2 : Fin 3) _ _ _ _ rfl rfl
      (ix3 b p (⟨c.val - 512, by omega⟩ : Fin 512)) (fun a ha => match a with | ⟨0, _⟩ => rfl | ⟨1, _⟩ => rfl | ⟨2, _⟩ => absurd rfl ha)
      (by show c.val - 512 + 512 = c.val; omega)).trans ?_
    rw [val_main_v146_apply, eb, val_main_v145_apply, eb', values_at x g w qg]
    exact congrArg (qkv x g w qg (rowAt b p)) (Fin.ext (by show (2 * 3 + 2) * 512 + (c.val - 512) = 1536 * 2 + 512 + c.val; omega))

/-- Result 3. -/
theorem v153_at (b : Fin 4) (c : Fin 1024) (s : Fin 2048) :
    val_main_v153 (F := Ideal) x g w qg (ix3 b c s) = kvT x g w qg 2 2048 (by decide) b c s := by
  have e1 : idx_main_v153 (ix3 b c s) = ix3 b s c := funext fun a => match a with | ⟨0, _⟩ => rfl | ⟨1, _⟩ => rfl | ⟨2, _⟩ => rfl
  have e2 : idx_main_v152 (ix3 b s c) = ix3 b (⟨2048 + s.val, by omega⟩ : Fin 4096) c := funext fun a => match a with
    | ⟨0, _⟩ => rfl
    | ⟨1, _⟩ => Fin.ext (by first | (show s.val + 2048 = 2048 + s.val; omega) | rfl)
    | ⟨2, _⟩ => rfl
  rw [val_main_v153_apply, e1, val_main_v152_apply, e2, v147_at]
  rfl

end Cert.QkRef

end
-- ==== Proof.QkMask.lean ====
/-  The mask of the heads: the constant the host passes to the kernel, an entry at a time. -/
module

public import proofs.«01_k».proof.KernelQAIdeal
public import Mathlib.Tactic.IntervalCases

@[expose] public section

set_option maxRecDepth 8192

namespace Cert.QkMask

open Cert.KernelQAIdeal

/-! ## The three kinds of a row's 128 entries: the first half ones, none, the second half ones -/

theorem lower (i : ℕ) : lit0t0_0 i = if i % 128 / 64 = 0 then 0x3F80#16 else 0x0000#16 := by
  delta lit0t0_0
  generalize hk : i % 128 = k
  have h : k < 128 := by omega
  clear hk
  interval_cases k <;> rfl

theorem blank (i : ℕ) : lit0t0_1 i = 0x0000#16 := by
  delta lit0t0_1
  generalize hk : i % 128 = k
  have h : k < 128 := by omega
  clear hk
  interval_cases k <;> rfl

theorem upper (i : ℕ) : lit0t0_256 i = if i % 128 / 64 = 1 then 0x3F80#16 else 0x0000#16 := by
  delta lit0t0_256
  generalize hk : i % 128 = k
  have h : k < 128 := by omega
  clear hk
  interval_cases k <;> rfl

/-! ## Thirty-two rows at a time -/

theorem rows_0 (i : ℕ) : lit0t1_0 i = if i / 128 % 128 % 4 = 0 then lit0t0_0 i else lit0t0_1 i := by
  delta lit0t1_0
  generalize hk : i / 128 % 128 = k
  have h : k < 128 := by omega
  clear hk
  interval_cases k <;> rfl

theorem rows_1 (i : ℕ) : lit0t1_1 i = if i / 128 % 128 % 4 = 0 then lit0t0_0 i else lit0t0_1 i := by
  delta lit0t1_1
  generalize hk : i / 128 % 128 = k
  have h : k < 128 := by omega
  clear hk
  interval_cases k <;> rfl

theorem rows_2 (i : ℕ) : lit0t1_2 i = if i / 128 % 128 % 4 = 0 then lit0t0_256 i else lit0t0_1 i := by
  delta lit0t1_2
  generalize hk : i / 128 % 128 = k
  have h : k < 128 := by omega
  clear hk
  interval_cases k <;> rfl

theorem rows_3 (i : ℕ) : lit0t1_3 i = if i / 128 % 128 % 4 = 0 then lit0t0_256 i else lit0t0_1 i := by
  delta lit0t1_3
  generalize hk : i / 128 % 128 = k
  have h : k < 128 := by omega
  clear hk
  interval_cases k <;> rfl

theorem rows_4 (i : ℕ) : lit0t1_4 i = if i / 128 % 128 % 4 = 1 then lit0t0_0 i else lit0t0_1 i := by
  delta lit0t1_4
  generalize hk : i / 128 % 128 = k
  have h : k < 128 := by omega
  clear hk
  interval_cases k <;> rfl

theorem rows_5 (i : ℕ) : lit0t1_5 i = if i / 128 % 128 % 4 = 1 then lit0t0_0 i else lit0t0_1 i := by
  delta lit0t1_5
  generalize hk : i / 128 % 128 = k
  have h : k < 128 := by omega
  clear hk
  interval_cases k <;> rfl

theorem rows_6 (i : ℕ) : lit0t1_6 i = if i / 128 % 128 % 4 = 1 then lit0t0_256 i else lit0t0_1 i := by
  delta lit0t1_6
  generalize hk : i / 128 % 128 = k
  have h : k < 128 := by omega
  clear hk
  interval_cases k <;> rfl

theorem rows_7 (i : ℕ) : lit0t1_7 i = if i / 128 % 128 % 4 = 1 then lit0t0_256 i else lit0t0_1 i := by
  delta lit0t1_7
  generalize hk : i / 128 % 128 = k
  have h : k < 128 := by omega
  clear hk
  interval_cases k <;> rfl

theorem rows_8 (i : ℕ) : lit0t1_8 i = if i / 128 % 128 % 4 = 2 then lit0t0_0 i else lit0t0_1 i := by
  delta lit0t1_8
  generalize hk : i / 128 % 128 = k
  have h : k < 128 := by omega
  clear hk
  interval_cases k <;> rfl

theorem rows_9 (i : ℕ) : lit0t1_9 i = if i / 128 % 128 % 4 = 2 then lit0t0_0 i else lit0t0_1 i := by
  delta lit0t1_9
  generalize hk : i / 128 % 128 = k
  have h : k < 128 := by omega
  clear hk
  interval_cases k <;> rfl

theorem rows_10 (i : ℕ) : lit0t1_10 i = if i / 128 % 128 % 4 = 2 then lit0t0_256 i else lit0t0_1 i := by
  delta lit0t1_10
  generalize hk : i / 128 % 128 = k
  have h : k < 128 := by omega
  clear hk
  interval_cases k <;> rfl

theorem rows_11 (i : ℕ) : lit0t1_11 i = if i / 128 % 128 % 4 = 2 then lit0t0_256 i else lit0t0_1 i := by
  delta lit0t1_11
  generalize hk : i / 128 % 128 = k
  have h : k < 128 := by omega
  clear hk
  interval_cases k <;> rfl

theorem rows_12 (i : ℕ) : lit0t1_12 i = if i / 128 % 128 % 4 = 3 then lit0t0_0 i else lit0t0_1 i := by
  delta lit0t1_12
  generalize hk : i / 128 % 128 = k
  have h : k < 128 := by omega
  clear hk
  interval_cases k <;> rfl

theorem rows_13 (i : ℕ) : lit0t1_13 i = if i / 128 % 128 % 4 = 3 then lit0t0_0 i else lit0t0_1 i := by
  delta lit0t1_13
  generalize hk : i / 128 % 128 = k
  have h : k < 128 := by omega
  clear hk
  interval_cases k <;> rfl

theorem rows_14 (i : ℕ) : lit0t1_14 i = if i / 128 % 128 % 4 = 3 then lit0t0_256 i else lit0t0_1 i := by
  delta lit0t1_14
  generalize hk : i / 128 % 128 = k
  have h : k < 128 := by omega
  clear hk
  interval_cases k <;> rfl

theorem rows_15 (i : ℕ) : lit0t1_15 i = if i / 128 % 128 % 4 = 3 then lit0t0_256 i else lit0t0_1 i := by
  delta lit0t1_15
  generalize hk : i / 128 % 128 = k
  have h : k < 128 := by omega
  clear hk
  interval_cases k <;> rfl

/-! ## Every entry -/

theorem bits (k l : ℕ) (hk : k < 512) (hl : l < 512) :
    lit0t (k * 512 + l) = if k / 64 = l / 64 then 0x3F80#16 else 0x0000#16 := by
  delta lit0t
  have e : (k * 512 + l) / 16384 = k / 32 := by omega
  have e1 : (k * 512 + l) / 128 % 128 % 4 = l / 128 := by omega
  have e2 : (k * 512 + l) % 128 / 64 = l / 64 % 2 := by omega
  rw [e]
  generalize hj : k / 32 = j
  have h : j < 16 := by omega
  interval_cases j
  · refine (rows_0 _).trans ?_
    rw [e1, lower, blank, e2]
    split_ifs <;> first | rfl | omega
  · refine (rows_1 _).trans ?_
    rw [e1, lower, blank, e2]
    split_ifs <;> first | rfl | omega
  · refine (rows_2 _).trans ?_
    rw [e1, upper, blank, e2]
    split_ifs <;> first | rfl | omega
  · refine (rows_3 _).trans ?_
    rw [e1, upper, blank, e2]
    split_ifs <;> first | rfl | omega
  · refine (rows_4 _).trans ?_
    rw [e1, lower, blank, e2]
    split_ifs <;> first | rfl | omega
  · refine (rows_5 _).trans ?_
    rw [e1, lower, blank, e2]
    split_ifs <;> first | rfl | omega
  · refine (rows_6 _).trans ?_
    rw [e1, upper, blank, e2]
    split_ifs <;> first | rfl | omega
  · refine (rows_7 _).trans ?_
    rw [e1, upper, blank, e2]
    split_ifs <;> first | rfl | omega
  · refine (rows_8 _).trans ?_
    rw [e1, lower, blank, e2]
    split_ifs <;> first | rfl | omega
  · refine (rows_9 _).trans ?_
    rw [e1, lower, blank, e2]
    split_ifs <;> first | rfl | omega
  · refine (rows_10 _).trans ?_
    rw [e1, upper, blank, e2]
    split_ifs <;> first | rfl | omega
  · refine (rows_11 _).trans ?_
    rw [e1, upper, blank, e2]
    split_ifs <;> first | rfl | omega
  · refine (rows_12 _).trans ?_
    rw [e1, lower, blank, e2]
    split_ifs <;> first | rfl | omega
  · refine (rows_13 _).trans ?_
    rw [e1, lower, blank, e2]
    split_ifs <;> first | rfl | omega
  · refine (rows_14 _).trans ?_
    rw [e1, upper, blank, e2]
    split_ifs <;> first | rfl | omega
  · refine (rows_15 _).trans ?_
    rw [e1, upper, blank, e2]
    split_ifs <;> first | rfl | omega

end Cert.QkMask

end
-- ==== Proof.QkTab.lean ====
/-  The prompt's queries, keys and values: the tables the host lays out for the kernel, an entry at a time. -/
module

public import proofs.«01_k».proof.Proof.Gen.KernelQAIdeal.Value
public import proofs.«01_k».proof.Proof.QkRef
public import proofs.«01_k».proof.Proof.QkMask
public import Idealize.ShloMosaic.Lib.Pipeline.Value
public import Idealize.ShloMosaic.Lib.Tactic

@[expose] public section

set_option maxRecDepth 8192

noncomputable section

namespace Cert.QkTab

open Cert.KernelQAIdeal Cert.KernelQAIdeal.Gen Idealize.ShloMosaic Idealize.ShloMosaic.ValueIdx Idealize.ShloMosaic.TcCoe
open Cert.Ffn Cert.Qk

variable (m : (ℓ : Loc nD τ sig) → Buf (Elt Ideal) ℓ) (c : Dev nD)

/-- The argument arrays on device `c`. -/
abbrev arg0 : FVec Ideal ⟨2, ![16384, 1024]⟩ .f32 := m ((c : Thread nD τ).loc main_arg0)
abbrev arg1 : FVec Ideal ⟨1, ![1024]⟩ .f32 := m ((c : Thread nD τ).loc main_arg1)
abbrev arg2 : FVec Ideal ⟨2, ![1024, 4608]⟩ .f32 := m ((c : Thread nD τ).loc main_arg2)
abbrev arg3 : FVec Ideal ⟨2, ![2, 64]⟩ .f32 := m ((c : Thread nD τ).loc main_arg3)

theorem entry_w : V m c main_v66 = arg2 m c := by
  show StableHlo.after hostOps0 (fun b => m (c, b)) main_v66 = _
  simp only [hostOps0]
  after_results
  rfl

theorem entry_g (k : Fin 1024) : V m c main_v67 (ix2 (0 : Fin 1) k) = arg1 m c (ix1 k) := by
  have e : V m c main_v67 = shapeCast S1x1024 (arg1 m c) shapeCasts_S1024_S1x1024 := by
    show StableHlo.after hostOps0 (fun b => m (c, b)) main_v67 = _
    simp only [hostOps0]
    after_results
    rfl
  rw [e]
  exact shapeCast_a_1a_apply _ _ _ k

/-! ## The mask of the heads -/

theorem one_bits16 : Ideal.ofBits .bf16 0x3F80#16 = 1 := by simp [Ideal.ofBits, Ideal.ieee, -EReal.coe_mul]; norm_num
theorem zero_bits16 : Ideal.ofBits .bf16 0x0000#16 = 0 := by simp [Ideal.ofBits, Ideal.ieee, -EReal.coe_mul]

theorem entry_mask (k l : Fin 512) : V m c main_cst (ix2 k l) = (if k.val / 64 = l.val / 64 then 1 else 0 : EReal) := by
  have e : V m c main_cst = fun i => FloatOps.ofBits (F := Ideal) .bf16 (lit0 (S512x512.rowMajor i)) := by
    show StableHlo.after hostOps0 (fun b => m (c, b)) main_cst = _
    simp only [hostOps0]
    after_results
    rfl
  have el : lit0 (S512x512.rowMajor (ix2 k l)) = if k.val / 64 = l.val / 64 then 0x3F80#16 else 0x0000#16 := by
    refine Eq.trans ?_ (QkMask.bits k.val l.val k.isLt l.isLt)
    refine congrArg lit0t ?_
    exact (Shape.rowMajor_val_two _).trans rfl
  rw [e]
  show Ideal.ofBits .bf16 (lit0 (S512x512.rowMajor (ix2 k l))) = _
  rw [el]
  split_ifs
  · exact one_bits16
  · exact zero_bits16

/-! ## The gains -/

/-- The gain of the queries (row 0) or of the keys (row 1), once per head. -/
def gain8 (v : FVec Ideal S1x64 .f32) : FVec Ideal S512 .f32 :=
  shapeCast S512 (broadcastInDim S8x64 ![0, 1] bcast_S1x64_S8x64_0_1
    (shapeCast S1x64 (shapeCast S64 v shapeCasts_S1x64_S64) shapeCasts_S64_S1x64)) shapeCasts_S8x64_S512

theorem gain8_apply (v : FVec Ideal S1x64 .f32) (l : Fin 512) : gain8 v (ix1 l) = v (ix2 (0 : Fin 1) (place l)) := by
  unfold gain8
  refine (shapeCast_apply _ _ _ (ix2 (⟨l.val / 64, by omega⟩ : Fin 8) (⟨l.val % 64, by omega⟩ : Fin 64)) ?_).trans ?_
  · rw [Shape.rowMajor_val_two, Shape.rowMajor_val_one]
    show l.val / 64 * 64 + l.val % 64 = l.val
    omega
  refine (broadcastInDim_apply _ _ _ _ (ix2 (0 : Fin 1) (⟨l.val % 64, by omega⟩ : Fin 64)) fun a => match a with | ⟨0, _⟩ => rfl | ⟨1, _⟩ => rfl).trans ?_
  refine (shapeCast_apply _ _ _ (ix1 (⟨l.val % 64, by omega⟩ : Fin 64)) ?_).trans ?_
  · rw [Shape.rowMajor_val_two, Shape.rowMajor_val_one]
    show l.val % 64 = 0 * 64 + l.val % 64
    omega
  refine (shapeCast_apply _ _ _ (ix2 (0 : Fin 1) (place l)) ?_)
  rw [Shape.rowMajor_val_two, Shape.rowMajor_val_one]
  show 0 * 64 + l.val % 64 = l.val % 64
  omega

/-- The row of gains of chunk `j`: the queries' or the keys' for a chunk that is normalized. -/
def gainRow (q : FVec Ideal ⟨2, ![2, 64]⟩ .f32) : Fin 9 → FVec Ideal S1x512 .f32 := fun j =>
  broadcastInDim S1x512 ![1] bcast_S512_S1x512_1
    (if j.val % 3 = 0 then gain8 (extractStridedSlice S1x64 ![0, 0] q slices_S2x64_S1x64_0_0)
     else if j.val % 3 = 1 then gain8 (extractStridedSlice S1x64 ![1, 0] q slices_S2x64_S1x64_1_0)
     else broadcastInDim S512 ![] bcast_S_S512 (constant S_ .f32 0x3F800000#32))

theorem gainRow_apply (q : FVec Ideal ⟨2, ![2, 64]⟩ .f32) (j : Fin 9) (hj : j.val % 3 < 2) (l : Fin 512) :
    gainRow q j (ix2 (0 : Fin 1) l) = q (ix2 (⟨j.val % 3, hj⟩ : Fin 2) (place l)) := by
  unfold gainRow
  refine (broadcastInDim_apply _ _ _ _ (ix1 l) fun a => match a with | ⟨0, _⟩ => rfl).trans ?_
  by_cases h0 : j.val % 3 = 0
  · rw [if_pos h0, gain8_apply]
    refine congrArg q (funext fun a => Fin.ext ?_)
    match a with
    | ⟨0, _⟩ => show 0 + 0 = j.val % 3; omega
    | ⟨1, _⟩ => show 0 + (place l).val = (place l).val; omega
  · have h1 : j.val % 3 = 1 := by omega
    rw [if_neg h0, if_pos h1, gain8_apply]
    refine congrArg q (funext fun a => Fin.ext ?_)
    match a with
    | ⟨0, _⟩ => show 1 + 0 = j.val % 3; omega
    | ⟨1, _⟩ => show 0 + (place l).val = (place l).val; omega

theorem entry_gain (j : Fin 9) (hj : j.val % 3 < 2) (l : Fin 512) :
    V m c main_v21 (ix3 j (0 : Fin 1) l) = arg3 m c (ix2 (⟨j.val % 3, hj⟩ : Fin 2) (place l)) := by
  let q := arg3 m c
  have e : V m c main_v21 = shapeCast S9x1x512 (concatenate S9x512 0
      [⟨S1x512, gainRow q 0⟩, ⟨S1x512, gainRow q 1⟩, ⟨S1x512, gainRow q 2⟩, ⟨S1x512, gainRow q 3⟩, ⟨S1x512, gainRow q 4⟩,
       ⟨S1x512, gainRow q 5⟩, ⟨S1x512, gainRow q 6⟩, ⟨S1x512, gainRow q 7⟩, ⟨S1x512, gainRow q 8⟩]
      concatenates_S1x512_S1x512_S1x512_S1x512_S1x512_S1x512_S1x512_S1x512_S1x512_S9x512_d0) shapeCasts_S9x512_S9x1x512 := by
    show StableHlo.after hostOps0 (fun b => m (c, b)) main_v21 = _
    simp only [hostOps0]
    after_results
    rfl
  rw [e]
  refine (shapeCast_apply _ _ _ (ix2 j l) ?_).trans ?_
  · rw [Shape.rowMajor_val_two, Shape.rowMajor_val_three]
    show j.val * 512 + l.val = (j.val * 1 + 0) * 512 + l.val
    omega
  refine Eq.trans ?_ (gainRow_apply q j hj l)
  refine (concatenate_apply_piece 0 _ _ (ix2 j l) j.val ?_ S1x512 (gainRow q j) ?_ rfl j.val ?_ (ix2 (0 : Fin 1) l) ?_ ?_)
  · exact j.isLt
  · fin_cases j <;> rfl
  · fin_cases j <;> rfl
  · intro b hb
    match b with
    | ⟨0, _⟩ => exact absurd rfl hb
    | ⟨1, _⟩ => rfl
  · rfl

/-! ## The tables of the rotation -/

/-- Two columns of eight and one of forty-eight side by side. -/
theorem beside (A B : FVec Ideal S4096x8 .f32) (C : FVec Ideal S4096x48 .f32) (h) (p : Fin 4096) (e : Fin 64) :
    concatenate S4096x64 1 [⟨S4096x8, A⟩, ⟨S4096x8, B⟩, ⟨S4096x48, C⟩] h (ix2 p e)
      = if h : e.val < 8 then A (ix2 p ⟨e.val, h⟩) else if h' : e.val < 16 then B (ix2 p ⟨e.val - 8, by omega⟩)
        else C (ix2 p ⟨e.val - 16, by omega⟩) := by
  split_ifs with h1 h2
  · refine concatenate_apply_piece 1 _ _ (ix2 p e) 0 (by simp) S4096x8 A rfl rfl 0 rfl _ ?_ ?_
    · intro b hb
      match b with
      | ⟨0, _⟩ => rfl
      | ⟨1, _⟩ => exact absurd rfl hb
    · show 0 + e.val = e.val; omega
  · refine concatenate_apply_piece 1 _ _ (ix2 p e) 1 (by simp) S4096x8 B rfl rfl 8 rfl _ ?_ ?_
    · intro b hb
      match b with
      | ⟨0, _⟩ => rfl
      | ⟨1, _⟩ => exact absurd rfl hb
    · show 8 + (e.val - 8) = e.val; omega
  · refine concatenate_apply_piece 1 _ _ (ix2 p e) 2 (by simp) S4096x48 C rfl rfl 16 rfl _ ?_ ?_
    · intro b hb
      match b with
      | ⟨0, _⟩ => rfl
      | ⟨1, _⟩ => exact absurd rfl hb
    · show 16 + (e.val - 16) = e.val; omega

/-- A table of a head's lanes, for two heads. -/
def twice (v : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 v shapeCasts_S4096x64_S1x4096x1x64)) shapeCasts_S1x4096x2x64_S4096x128

theorem twice_apply (v : FVec Ideal S4096x64 .f32) (p : Fin 4096) (l : Fin 128) :
    twice v (ix2 p l) = v (ix2 p ⟨l.val % 64, by omega⟩) := by
  unfold twice
  refine (shapeCast_apply _ _ _ (ix4 (0 : Fin 1) p (⟨l.val / 64, by omega⟩ : Fin 2) (⟨l.val % 64, by omega⟩ : Fin 64)) ?_).trans ?_
  · rw [Shape.rowMajor_val_two, Shape.rowMajor_val_four]
    show ((0 * 4096 + p.val) * 2 + l.val / 64) * 64 + l.val % 64 = p.val * 128 + l.val
    omega
  refine (broadcastInDim_apply _ _ _ _ (ix4 (0 : Fin 1) p (0 : Fin 1) (⟨l.val % 64, by omega⟩ : Fin 64)) fun a => match a with
    | ⟨0, _⟩ => rfl | ⟨1, _⟩ => rfl | ⟨2, _⟩ => rfl | ⟨3, _⟩ => rfl).trans ?_
  refine shapeCast_apply _ _ _ _ ?_
  rw [Shape.rowMajor_val_two, Shape.rowMajor_val_four]
  show p.val * 64 + l.val % 64 = ((0 * 4096 + p.val) * 1 + 0) * 64 + l.val % 64
  omega

/-- The cosines and the sines of the angles, as the reference has them. -/
abbrev cosT : FVec Ideal S4096x8 .f32 := Cert.ReferenceQAIdeal.Read.val_main_v46 (F := Ideal)
abbrev sinT : FVec Ideal S4096x8 .f32 := Cert.ReferenceQAIdeal.Read.val_main_v48 (F := Ideal)

abbrev ones : FVec Ideal S4096x48 .f32 := broadcastInDim S4096x48 ![] bcast_S_S4096x48 (constant S_ .f32 0x3F800000#32)
abbrev zeros : FVec Ideal S4096x48 .f32 := broadcastInDim S4096x48 ![] bcast_S_S4096x48 (constant S_ .f32 0x00000000#32)
abbrev zeros8 : FVec Ideal S4096x8 .f32 := broadcastInDim S4096x8 ![] bcast_S_S4096x8 (constant S_ .f32 0x00000000#32)

theorem one_bits : Ideal.ofBits .f32 0x3F800000#32 = 1 := by simp [Ideal.ofBits, Ideal.ieee, -EReal.coe_mul]; norm_num
theorem zero_bits : Ideal.ofBits .f32 0x00000000#32 = 0 := by simp [Ideal.ofBits, Ideal.ieee, -EReal.coe_mul]

theorem entry_c (p : Fin 4096) (l : Fin 128) : V m c main_v59 (ix2 p l) = tabC (QkRef.cosAt p) l := by
  have e : V m c main_v59 = twice (concatenate S4096x64 1 [⟨S4096x8, cosT⟩, ⟨S4096x8, cosT⟩, ⟨S4096x48, ones⟩]
      concatenates_S4096x8_S4096x8_S4096x48_S4096x64_d1) := by
    show StableHlo.after hostOps0 (fun b => m (c, b)) main_v59 = _
    simp only [hostOps0]
    after_results
    rfl
  rw [e, twice_apply, beside]
  unfold tabC QkRef.cosAt
  split_ifs
  · rfl
  · rfl
  · exact one_bits

theorem entry_a (p : Fin 4096) (l : Fin 128) : V m c main_v62 (ix2 p l) = tabA (QkRef.sinAt p) l := by
  have e : V m c main_v62 = twice (concatenate S4096x64 1 [⟨S4096x8, Host.negf sinT⟩, ⟨S4096x8, zeros8⟩, ⟨S4096x48, zeros⟩]
      concatenates_S4096x8_S4096x8_S4096x48_S4096x64_d1) := by
    show StableHlo.after hostOps0 (fun b => m (c, b)) main_v62 = _
    simp only [hostOps0]
    after_results
    rfl
  rw [e, twice_apply, beside]
  unfold tabA QkRef.sinAt
  split_ifs
  · rfl
  · exact zero_bits
  · exact zero_bits

theorem entry_b (p : Fin 4096) (l : Fin 128) : V m c main_v65 (ix2 p l) = tabB (QkRef.sinAt p) l := by
  have e : V m c main_v65 = twice (concatenate S4096x64 1 [⟨S4096x8, zeros8⟩, ⟨S4096x8, sinT⟩, ⟨S4096x48, zeros⟩]
      concatenates_S4096x8_S4096x8_S4096x48_S4096x64_d1) := by
    show StableHlo.after hostOps0 (fun b => m (c, b)) main_v65 = _
    simp only [hostOps0]
    after_results
    rfl
  rw [e, twice_apply, beside]
  unfold tabB QkRef.sinAt
  split_ifs
  · exact zero_bits
  · rfl
  · exact zero_bits

end Cert.QkTab

end
-- ==== Proof.QkArray.lean ====
/-  The prompt's queries, keys and values: a grid point's blocks as entries of the arguments, and the block of queries, keys and values it leaves. -/
module

public import proofs.«01_k».proof.Proof.QkTab
public import Idealize.ShloMosaic.Lib.Pipeline.Value
public import Idealize.ShloMosaic.Lib.Pipeline.ReadBack
public import Idealize.ShloMosaic.Lib.Pipeline.Covers
public import Idealize.ShloMosaic.Lib.Tactic

@[expose] public section

set_option maxRecDepth 8192

noncomputable section

namespace Cert.QkArray

open Cert.KernelQAIdeal Cert.KernelQAIdeal.Gen Idealize.ShloMosaic Idealize.ShloMosaic.ValueIdx Idealize.ShloMosaic.TcCoe
open Idealize.ShloMosaic.Pipeline (Dat)
open Cert.Ffn Cert.FfnRef Cert.Qk Cert.QkTab

variable (m : (ℓ : Loc nD τ sig) → Buf (Elt Ideal) ℓ) (c : Dev nD)

/-- Row `r` of a grid point's block of 512 rows, and its position in its sequence. -/
def prow (t : Fin cfg0.N) (r : Fin 512) : Fin 16384 :=
  ⟨512 * (grid0.coords t 0).val + r.val, by have h : (grid0.coords t 0).val < 32 := (grid0.coords t 0).isLt; omega⟩

abbrev ppos (t : Fin cfg0.N) (r : Fin 512) : Fin 4096 := QkRef.posOf (prow t r)

/-! ## The windows' block indices and blocks -/

theorem ix_0 : ∀ t : Fin grid0.N, win0_0.index t 0 = (grid0.coords t 0).val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 ∧ win0_4.index t 2 = 0 := by decide +kernel
theorem ix_6 : ∀ t : Fin grid0.N, win0_6.index t 0 = (grid0.coords t 0).val % 8 ∧ win0_6.index t 1 = 0 := by decide +kernel
theorem ix_7 : ∀ t : Fin grid0.N, win0_7.index t 0 = (grid0.coords t 0).val % 8 ∧ win0_7.index t 1 = 0 := by decide +kernel
theorem ix_8 : ∀ t : Fin grid0.N, win0_8.index t 0 = (grid0.coords t 0).val % 8 ∧ win0_8.index t 1 = 0 := by decide +kernel

theorem blk_0 (t : Fin cfg0.N) (r : Fin 512) (k : Fin 1024) : iblk m c 0 t (ix2 r k) = arg0 m c (ix2 (prow t r) k) := by
  obtain ⟨e0, e1⟩ := ix_0 t
  refine Eq.trans ?_ (congrFun (V_main_arg0 m c) (ix2 (prow t r) k))
  unfold iblk
  rw [View.read_apply]
  show V m c main_arg0 _ = _
  congr 1
  funext a
  apply Fin.ext
  match a with
  | ⟨0, _⟩ => show win0_0.index t 0 * 512 + 1 * r.val = 512 * (grid0.coords t 0).val + r.val; omega
  | ⟨1, _⟩ => show win0_0.index t 1 * 1024 + 1 * k.val = k.val; omega

theorem blk_1 (t : Fin cfg0.N) (k : Fin 1024) : iblk m c 1 t (ix2 (0 : Fin 1) k) = arg1 m c (ix1 k) := by
  obtain ⟨e0, e1⟩ := ix_1 t
  refine Eq.trans ?_ (entry_g m c k)
  unfold iblk
  rw [View.read_apply]
  show V m c main_v67 _ = _
  congr 1
  funext a
  apply Fin.ext
  match a with
  | ⟨0, _⟩ => show win0_1.index t 0 * 1 + 1 * 0 = 0; omega
  | ⟨1, _⟩ => show win0_1.index t 1 * 1024 + 1 * k.val = k.val; omega

theorem blk_2 (t : Fin cfg0.N) (r : Fin 1024) (k : Fin 4608) : iblk m c 2 t (ix2 r k) = arg2 m c (ix2 r k) := by
  obtain ⟨e0, e1⟩ := ix_2 t
  refine Eq.trans ?_ (congrFun (entry_w m c) (ix2 r k))
  unfold iblk
  rw [View.read_apply]
  show V m c main_v66 _ = _
  congr 1
  funext a
  apply Fin.ext
  match a with
  | ⟨0, _⟩ => show win0_2.index t 0 * 1024 + 1 * r.val = r.val; omega
  | ⟨1, _⟩ => show win0_2.index t 1 * 4608 + 1 * k.val = k.val; omega

theorem blk_3 (t : Fin cfg0.N) (r k : Fin 512) : iblk m c 3 t (ix2 r k) = (if r.val / 64 = k.val / 64 then 1 else 0 : EReal) := by
  obtain ⟨e0, e1⟩ := ix_3 t
  refine Eq.trans ?_ (entry_mask m c r k)
  unfold iblk
  rw [View.read_apply]
  show V m c main_cst _ = _
  congr 1
  funext a
  apply Fin.ext
  match a with
  | ⟨0, _⟩ => show win0_3.index t 0 * 512 + 1 * r.val = r.val; omega
  | ⟨1, _⟩ => show win0_3.index t 1 * 512 + 1 * k.val = k.val; omega

theorem blk_4 (t : Fin cfg0.N) (j : Fin 9) (hj : j.val % 3 < 2) (l : Fin 512) :
    iblk m c 4 t (ix3 j (0 : Fin 1) l) = arg3 m c (ix2 (⟨j.val % 3, hj⟩ : Fin 2) (place l)) := by
  obtain ⟨e0, e1, e2⟩ := ix_4 t
  refine Eq.trans ?_ (entry_gain m c j hj l)
  unfold iblk
  rw [View.read_apply]
  show V m c main_v21 _ = _
  congr 1
  funext a
  apply Fin.ext
  match a with
  | ⟨0, _⟩ => show win0_4.index t 0 * 9 + 1 * j.val = j.val; omega
  | ⟨1, _⟩ => show win0_4.index t 1 * 1 + 1 * 0 = 0; omega
  | ⟨2, _⟩ => show win0_4.index t 2 * 512 + 1 * l.val = l.val; omega

theorem blk_6 (t : Fin cfg0.N) (r : Fin 512) (l : Fin 128) : iblk m c 6 t (ix2 r l) = tabC (QkRef.cosAt (ppos t r)) l := by
  obtain ⟨e0, e1⟩ := ix_6 t
  refine Eq.trans ?_ (entry_c m c (ppos t r) l)
  unfold iblk
  rw [View.read_apply]
  show V m c main_v59 _ = _
  congr 1
  funext a
  apply Fin.ext
  match a with
  | ⟨0, _⟩ => show win0_6.index t 0 * 512 + 1 * r.val = (512 * (grid0.coords t 0).val + r.val) % 4096; omega
  | ⟨1, _⟩ => show win0_6.index t 1 * 128 + 1 * l.val = l.val; omega

theorem blk_7 (t : Fin cfg0.N) (r : Fin 512) (l : Fin 128) : iblk m c 7 t (ix2 r l) = tabA (QkRef.sinAt (ppos t r)) l := by
  obtain ⟨e0, e1⟩ := ix_7 t
  refine Eq.trans ?_ (entry_a m c (ppos t r) l)
  unfold iblk
  rw [View.read_apply]
  show V m c main_v62 _ = _
  congr 1
  funext a
  apply Fin.ext
  match a with
  | ⟨0, _⟩ => show win0_7.index t 0 * 512 + 1 * r.val = (512 * (grid0.coords t 0).val + r.val) % 4096; omega
  | ⟨1, _⟩ => show win0_7.index t 1 * 128 + 1 * l.val = l.val; omega

theorem blk_8 (t : Fin cfg0.N) (r : Fin 512) (l : Fin 128) : iblk m c 8 t (ix2 r l) = tabB (QkRef.sinAt (ppos t r)) l := by
  obtain ⟨e0, e1⟩ := ix_8 t
  refine Eq.trans ?_ (entry_b m c (ppos t r) l)
  unfold iblk
  rw [View.read_apply]
  show V m c main_v65 _ = _
  congr 1
  funext a
  apply Fin.ext
  match a with
  | ⟨0, _⟩ => show win0_8.index t 0 * 512 + 1 * r.val = (512 * (grid0.coords t 0).val + r.val) % 4096; omega
  | ⟨1, _⟩ => show win0_8.index t 1 * 128 + 1 * l.val = l.val; omega

/-! ## The block of queries, keys and values -/

/-- The blocks the body reads: the normalized rows, the mask of the heads, the three tables. -/
abbrev hB (t : Fin cfg0.N) : FVec Ideal S512x1024 .bf16 :=
  k0_pay5 (F := Ideal) (View.ld (iblk m c 0 t) (Rect.unit ![0, 0] ![512, 1024] inb_S512x1024_S512x1024_0_0))
    (View.ld (iblk m c 1 t) (Rect.unit ![0, 0] ![1, 1024] inb_S1x1024_S1x1024_0_0))
abbrev mB (t : Fin cfg0.N) : FVec Ideal S512x512 .bf16 := View.ld (iblk m c 3 t) (Rect.unit ![0, 0] ![512, 512] inb_S512x512_S512x512_0_0)
abbrev cB (t : Fin cfg0.N) : FVec Ideal S512x128 .f32 :=
  k0_pay6 (F := Ideal) (View.ld (iblk m c 6 t) (Rect.unit ![0, 0] ![512, 128] inb_S512x128_S512x128_0_0))
abbrev aB (t : Fin cfg0.N) : FVec Ideal S512x128 .f32 :=
  k0_pay7 (F := Ideal) (View.ld (iblk m c 7 t) (Rect.unit ![0, 0] ![512, 128] inb_S512x128_S512x128_0_0))
abbrev bB (t : Fin cfg0.N) : FVec Ideal S512x128 .f32 :=
  k0_pay8 (F := Ideal) (View.ld (iblk m c 8 t) (Rect.unit ![0, 0] ![512, 128] inb_S512x128_S512x128_0_0))

theorem ld_at {n k : Nat} (X : (⟨2, ![n, k]⟩ : Shape).Idx → EReal) (inb) (r : Fin n) (l : Fin k) :
    View.ld (Val := fun _ => EReal) (e' := .f32) X (Rect.unit ![0, 0] ![n, k] inb) (ix2 r l) = X (ix2 r l) := by
  refine congrArg X (funext fun a => Fin.ext ?_)
  match a with
  | ⟨0, _⟩ => show 0 + 1 * r.val = r.val; omega
  | ⟨1, _⟩ => show 0 + 1 * l.val = l.val; omega

theorem hB_lane (t : Fin cfg0.N) (r : Fin 512) : lane (hB m c t) r = QkRef.nrow (arg0 m c) (arg1 m c) (prow t r) := by
  funext k
  refine (normed_apply _ _ r k).trans ?_
  exact congrFun (congrArg₂ (rmsRow width) (funext fun k => (ld_at _ _ r k).trans (blk_0 m c t r k))
    (funext fun k => (ld_at _ _ 0 k).trans (blk_1 m c t k))) k

theorem mB_apply (t : Fin cfg0.N) (k l : Fin 512) : mB m c t (ix2 k l) = if k.val / 64 = l.val / 64 then 1 else 0 := by
  exact (ld_at _ _ k l).trans (blk_3 m c t k l)

theorem cB_apply (t : Fin cfg0.N) (r : Fin 512) (l : Fin 128) : cB m c t (ix2 r l) = tabC (QkRef.cosAt (ppos t r)) l := by
  unfold cB k0_pay6
  rw [shapeCast_self]
  exact (ld_at _ _ r l).trans (blk_6 m c t r l)

theorem aB_apply (t : Fin cfg0.N) (r : Fin 512) (l : Fin 128) : aB m c t (ix2 r l) = tabA (QkRef.sinAt (ppos t r)) l := by
  unfold aB k0_pay7
  rw [shapeCast_self]
  exact (ld_at _ _ r l).trans (blk_7 m c t r l)

theorem bB_apply (t : Fin cfg0.N) (r : Fin 512) (l : Fin 128) : bB m c t (ix2 r l) = tabB (QkRef.sinAt (ppos t r)) l := by
  unfold bB k0_pay8
  rw [shapeCast_self]
  exact (ld_at _ _ r l).trans (blk_8 m c t r l)

/-- A point's block of the reference's queries, keys and values. -/
def G (t : Fin cfg0.N) : S512x4608.Idx → EReal := fun y => QkRef.qkv (arg0 m c) (arg1 m c) (arg2 m c) (arg3 m c) (prow t (y 0)) (y 1)

theorem w_at (t : Fin cfg0.N) (j : Fin 9) (inb) (k : Fin 1024) (l : Fin 512) :
    View.ld (iblk m c 2 t) (Rect.unit ![0, 512 * j.val] ![1024, 512] inb) (ix2 k l) = arg2 m c (ix2 k (⟨512 * j.val + l.val, by omega⟩ : Fin 4608)) := by
  refine Eq.trans ?_ (blk_2 m c t k ⟨512 * j.val + l.val, by omega⟩)
  refine congrArg (iblk m c 2 t) (funext fun a => Fin.ext ?_)
  match a with
  | ⟨0, _⟩ => show 0 + 1 * k.val = k.val; omega
  | ⟨1, _⟩ => show 512 * j.val + 1 * l.val = 512 * j.val + l.val; omega

/-- A stored quarter of a chunk of queries or keys. -/
theorem rot_at (t : Fin cfg0.N) (j : Fin 9) (o : Fin 4) (hj : j.val % 3 < 2) (inbw) (inbg) (r : Fin 512) (l : Fin 128) :
    rotated (cB m c t) (aB m c t) (bB m c t)
        (k0_pay15 (F := Ideal) (hB m c t) (View.ld (iblk m c 2 t) (Rect.unit ![0, 512 * j.val] ![1024, 512] inbw)) (mB m c t)
          (View.ld (iblk m c 4 t) (Rect.unit ![j.val, 0, 0] ![1, 1, 512] inbg))) o (ix2 r l)
      = QkRef.qkv (arg0 m c) (arg1 m c) (arg2 m c) (arg3 m c) (prow t r) ⟨512 * j.val + 128 * o.val + l.val, by omega⟩ := by
  refine (rotated_row _ _ _ _ _ _ _ j o hj (fun k j => arg2 m c (ix2 k j)) (fun κ e => arg3 m c (ix2 κ e))
    (QkRef.cosAt (ppos t r)) (QkRef.sinAt (ppos t r)) r l (w_at m c t j inbw) (mB_apply m c t) (fun l => ?_)
    (cB_apply m c t r) (aB_apply m c t r) (bB_apply m c t r)).trans ?_
  · refine Eq.trans ?_ (blk_4 m c t j hj l)
    refine congrArg (iblk m c 4 t) (funext fun a => Fin.ext ?_)
    match a with
    | ⟨0, _⟩ => show j.val + 1 * 0 = j.val; omega
    | ⟨1, _⟩ => rfl
    | ⟨2, _⟩ => show 0 + 1 * l.val = l.val; omega
  · rw [hB_lane]
    rfl

/-- A stored chunk of values. -/
theorem val_at (t : Fin cfg0.N) (j : Fin 9) (hj : ¬j.val % 3 < 2) (inbw) (r l : Fin 512) :
    k0_pay22 (F := Ideal) (hB m c t) (View.ld (iblk m c 2 t) (Rect.unit ![0, 512 * j.val] ![1024, 512] inbw)) (ix2 r l)
      = QkRef.qkv (arg0 m c) (arg1 m c) (arg2 m c) (arg3 m c) (prow t r) ⟨512 * j.val + l.val, by omega⟩ := by
  refine (values_row _ _ j hj (fun k j => arg2 m c (ix2 k j)) (fun κ e => arg3 m c (ix2 κ e))
    (QkRef.cosAt (ppos t r)) (QkRef.sinAt (ppos t r)) r l (w_at m c t j inbw)).trans ?_
  rw [hB_lane]
  rfl

/-- A rectangle's entries that are those of the point's block are a piece of it. -/
theorem piece_of (t : Fin cfg0.N) (n : Nat) (off : Nat) (v : (⟨2, ![512, n]⟩ : Shape).Idx → EReal) (inb)
    (h : ∀ (r : Fin 512) (l : Fin n) (hl : off + l.val < 4608), v (ix2 r l)
      = QkRef.qkv (arg0 m c) (arg1 m c) (arg2 m c) (arg3 m c) (prow t r) ⟨off + l.val, hl⟩) (x : (⟨2, ![512, n]⟩ : Shape).Idx) :
    v x = G m c t ((Rect.unit (s := S512x4608) ![0, off] ![512, n] inb).emb x) := by
  have hx : x = ix2 (x 0) (x 1) := funext fun a => match a with | ⟨0, _⟩ => rfl | ⟨1, _⟩ => rfl
  have hi : off + n ≤ 4608 := inb 1
  have hl : (x 1).val < n := (x 1).isLt
  refine (congrArg v hx).trans ((h (x 0) (x 1) (by omega)).trans ?_)
  have er : prow t (x 0) = prow t ((Rect.unit (s := S512x4608) ![0, off] ![512, n] inb).emb x 0) :=
    congrArg (prow t) (Fin.ext (show (x 0).val = 0 + 1 * (x 0).val by omega))
  have ec : (⟨off + (x 1).val, by omega⟩ : Fin 4608) = (Rect.unit (s := S512x4608) ![0, off] ![512, n] inb).emb x 1 :=
    Fin.ext (show off + (x 1).val = off + 1 * (x 1).val by omega)
  exact congrArg₂ (QkRef.qkv (arg0 m c) (arg1 m c) (arg2 m c) (arg3 m c)) er ec

theorem rot_piece (t : Fin cfg0.N) (j : Fin 9) (o : Fin 4) (hj : j.val % 3 < 2) (inbw) (inbg) (inb)
    (x : (⟨2, ![512, 128]⟩ : Shape).Idx) :
    rotated (cB m c t) (aB m c t) (bB m c t)
        (k0_pay15 (F := Ideal) (hB m c t) (View.ld (iblk m c 2 t) (Rect.unit ![0, 512 * j.val] ![1024, 512] inbw)) (mB m c t)
          (View.ld (iblk m c 4 t) (Rect.unit ![j.val, 0, 0] ![1, 1, 512] inbg))) o x
      = G m c t ((Rect.unit (s := S512x4608) ![0, 512 * j.val + 128 * o.val] ![512, 128] inb).emb x) :=
  piece_of m c t 128 _ _ inb (fun r l _ => rot_at m c t j o hj inbw inbg r l) x

theorem val_piece (t : Fin cfg0.N) (j : Fin 9) (hj : ¬j.val % 3 < 2) (inbw) (inb) (x : (⟨2, ![512, 512]⟩ : Shape).Idx) :
    k0_pay22 (F := Ideal) (hB m c t) (View.ld (iblk m c 2 t) (Rect.unit ![0, 512 * j.val] ![1024, 512] inbw)) x
      = G m c t ((Rect.unit (s := S512x4608) ![0, 512 * j.val] ![512, 512] inb).emb x) :=
  piece_of m c t 512 _ _ inb (fun r l _ => val_at m c t j hj inbw r l) x

/-- Stores that are pieces of an array and cover it leave it. -/
theorem canon_of {s : Shape} (G : s.Idx → Elt Ideal .f32) (L : List (View.Piece (Elt Ideal) s .f32)) (h : View.PiecesOf G L) (y : s.Idx)
    (hc : ∃ p ∈ L, y ∈ p.1.set) : View.canon L y = G y := by
  have e := View.canon_append_of_piecesOf G [] L h y hc
  rwa [List.append_nil] at e

/-- A chunk of the queries or keys, normalized. -/
abbrev nB (t : Fin cfg0.N) (w : FVec Ideal S1024x512 .bf16) (gr : FVec Ideal S1x1x512 .f32) : FVec Ideal S512x512 .f32 :=
  k0_pay15 (F := Ideal) (hB m c t) w (mB m c t) gr

/-- The stores of the block, the last first. -/
def stores (t : Fin cfg0.N) : List (View.Piece (Elt Ideal) S512x4608 .f32) :=
  [⟨Rect.unit ![0, 4096] ![512, 512] inb_S512x4608_S512x512_0_4096, k0_pay22 (F := Ideal) (hB m c t)
      (View.ld (iblk m c 2 t) (Rect.unit ![0, 4096] ![1024, 512] inb_S1024x4608_S1024x512_0_4096))⟩,
    ⟨Rect.unit ![0, 3968] ![512, 128] inb_S512x4608_S512x128_0_3968, rotated (cB m c t) (aB m c t) (bB m c t) (nB m c t
      (View.ld (iblk m c 2 t) (Rect.unit ![0, 3584] ![1024, 512] inb_S1024x4608_S1024x512_0_3584))
      (View.ld (iblk m c 4 t) (Rect.unit ![7, 0, 0] ![1, 1, 512] inb_S9x1x512_S1x1x512_7_0_0))) 3⟩,
    ⟨Rect.unit ![0, 3840] ![512, 128] inb_S512x4608_S512x128_0_3840, rotated (cB m c t) (aB m c t) (bB m c t) (nB m c t
      (View.ld (iblk m c 2 t) (Rect.unit ![0, 3584] ![1024, 512] inb_S1024x4608_S1024x512_0_3584))
      (View.ld (iblk m c 4 t) (Rect.unit ![7, 0, 0] ![1, 1, 512] inb_S9x1x512_S1x1x512_7_0_0))) 2⟩,
    ⟨Rect.unit ![0, 3712] ![512, 128] inb_S512x4608_S512x128_0_3712, rotated (cB m c t) (aB m c t) (bB m c t) (nB m c t
      (View.ld (iblk m c 2 t) (Rect.unit ![0, 3584] ![1024, 512] inb_S1024x4608_S1024x512_0_3584))
      (View.ld (iblk m c 4 t) (Rect.unit ![7, 0, 0] ![1, 1, 512] inb_S9x1x512_S1x1x512_7_0_0))) 1⟩,
    ⟨Rect.unit ![0, 3584] ![512, 128] inb_S512x4608_S512x128_0_3584, rotated (cB m c t) (aB m c t) (bB m c t) (nB m c t
      (View.ld (iblk m c 2 t) (Rect.unit ![0, 3584] ![1024, 512] inb_S1024x4608_S1024x512_0_3584))
      (View.ld (iblk m c 4 t) (Rect.unit ![7, 0, 0] ![1, 1, 512] inb_S9x1x512_S1x1x512_7_0_0))) 0⟩,
    ⟨Rect.unit ![0, 3456] ![512, 128] inb_S512x4608_S512x128_0_3456, rotated (cB m c t) (aB m c t) (bB m c t) (nB m c t
      (View.ld (iblk m c 2 t) (Rect.unit ![0, 3072] ![1024, 512] inb_S1024x4608_S1024x512_0_3072))
      (View.ld (iblk m c 4 t) (Rect.unit ![6, 0, 0] ![1, 1, 512] inb_S9x1x512_S1x1x512_6_0_0))) 3⟩,
    ⟨Rect.unit ![0, 3328] ![512, 128] inb_S512x4608_S512x128_0_3328, rotated (cB m c t) (aB m c t) (bB m c t) (nB m c t
      (View.ld (iblk m c 2 t) (Rect.unit ![0, 3072] ![1024, 512] inb_S1024x4608_S1024x512_0_3072))
      (View.ld (iblk m c 4 t) (Rect.unit ![6, 0, 0] ![1, 1, 512] inb_S9x1x512_S1x1x512_6_0_0))) 2⟩,
    ⟨Rect.unit ![0, 3200] ![512, 128] inb_S512x4608_S512x128_0_3200, rotated (cB m c t) (aB m c t) (bB m c t) (nB m c t
      (View.ld (iblk m c 2 t) (Rect.unit ![0, 3072] ![1024, 512] inb_S1024x4608_S1024x512_0_3072))
      (View.ld (iblk m c 4 t) (Rect.unit ![6, 0, 0] ![1, 1, 512] inb_S9x1x512_S1x1x512_6_0_0))) 1⟩,
    ⟨Rect.unit ![0, 3072] ![512, 128] inb_S512x4608_S512x128_0_3072, rotated (cB m c t) (aB m c t) (bB m c t) (nB m c t
      (View.ld (iblk m c 2 t) (Rect.unit ![0, 3072] ![1024, 512] inb_S1024x4608_S1024x512_0_3072))
      (View.ld (iblk m c 4 t) (Rect.unit ![6, 0, 0] ![1, 1, 512] inb_S9x1x512_S1x1x512_6_0_0))) 0⟩,
    ⟨Rect.unit ![0, 2560] ![512, 512] inb_S512x4608_S512x512_0_2560, k0_pay22 (F := Ideal) (hB m c t)
      (View.ld (iblk m c 2 t) (Rect.unit ![0, 2560] ![1024, 512] inb_S1024x4608_S1024x512_0_2560))⟩,
    ⟨Rect.unit ![0, 2432] ![512, 128] inb_S512x4608_S512x128_0_2432, rotated (cB m c t) (aB m c t) (bB m c t) (nB m c t
      (View.ld (iblk m c 2 t) (Rect.unit ![0, 2048] ![1024, 512] inb_S1024x4608_S1024x512_0_2048))
      (View.ld (iblk m c 4 t) (Rect.unit ![4, 0, 0] ![1, 1, 512] inb_S9x1x512_S1x1x512_4_0_0))) 3⟩,
    ⟨Rect.unit ![0, 2304] ![512, 128] inb_S512x4608_S512x128_0_2304, rotated (cB m c t) (aB m c t) (bB m c t) (nB m c t
      (View.ld (iblk m c 2 t) (Rect.unit ![0, 2048] ![1024, 512] inb_S1024x4608_S1024x512_0_2048))
      (View.ld (iblk m c 4 t) (Rect.unit ![4, 0, 0] ![1, 1, 512] inb_S9x1x512_S1x1x512_4_0_0))) 2⟩,
    ⟨Rect.unit ![0, 2176] ![512, 128] inb_S512x4608_S512x128_0_2176, rotated (cB m c t) (aB m c t) (bB m c t) (nB m c t
      (View.ld (iblk m c 2 t) (Rect.unit ![0, 2048] ![1024, 512] inb_S1024x4608_S1024x512_0_2048))
      (View.ld (iblk m c 4 t) (Rect.unit ![4, 0, 0] ![1, 1, 512] inb_S9x1x512_S1x1x512_4_0_0))) 1⟩,
    ⟨Rect.unit ![0, 2048] ![512, 128] inb_S512x4608_S512x128_0_2048, rotated (cB m c t) (aB m c t) (bB m c t) (nB m c t
      (View.ld (iblk m c 2 t) (Rect.unit ![0, 2048] ![1024, 512] inb_S1024x4608_S1024x512_0_2048))
      (View.ld (iblk m c 4 t) (Rect.unit ![4, 0, 0] ![1, 1, 512] inb_S9x1x512_S1x1x512_4_0_0))) 0⟩,
    ⟨Rect.unit ![0, 1920] ![512, 128] inb_S512x4608_S512x128_0_1920, rotated (cB m c t) (aB m c t) (bB m c t) (nB m c t
      (View.ld (iblk m c 2 t) (Rect.unit ![0, 1536] ![1024, 512] inb_S1024x4608_S1024x512_0_1536))
      (View.ld (iblk m c 4 t) (Rect.unit ![3, 0, 0] ![1, 1, 512] inb_S9x1x512_S1x1x512_3_0_0))) 3⟩,
    ⟨Rect.unit ![0, 1792] ![512, 128] inb_S512x4608_S512x128_0_1792, rotated (cB m c t) (aB m c t) (bB m c t) (nB m c t
      (View.ld (iblk m c 2 t) (Rect.unit ![0, 1536] ![1024, 512] inb_S1024x4608_S1024x512_0_1536))
      (View.ld (iblk m c 4 t) (Rect.unit ![3, 0, 0] ![1, 1, 512] inb_S9x1x512_S1x1x512_3_0_0))) 2⟩,
    ⟨Rect.unit ![0, 1664] ![512, 128] inb_S512x4608_S512x128_0_1664, rotated (cB m c t) (aB m c t) (bB m c t) (nB m c t
      (View.ld (iblk m c 2 t) (Rect.unit ![0, 1536] ![1024, 512] inb_S1024x4608_S1024x512_0_1536))
      (View.ld (iblk m c 4 t) (Rect.unit ![3, 0, 0] ![1, 1, 512] inb_S9x1x512_S1x1x512_3_0_0))) 1⟩,
    ⟨Rect.unit ![0, 1536] ![512, 128] inb_S512x4608_S512x128_0_1536, rotated (cB m c t) (aB m c t) (bB m c t) (nB m c t
      (View.ld (iblk m c 2 t) (Rect.unit ![0, 1536] ![1024, 512] inb_S1024x4608_S1024x512_0_1536))
      (View.ld (iblk m c 4 t) (Rect.unit ![3, 0, 0] ![1, 1, 512] inb_S9x1x512_S1x1x512_3_0_0))) 0⟩,
    ⟨Rect.unit ![0, 1024] ![512, 512] inb_S512x4608_S512x512_0_1024, k0_pay22 (F := Ideal) (hB m c t)
      (View.ld (iblk m c 2 t) (Rect.unit ![0, 1024] ![1024, 512] inb_S1024x4608_S1024x512_0_1024))⟩,
    ⟨Rect.unit ![0, 896] ![512, 128] inb_S512x4608_S512x128_0_896, rotated (cB m c t) (aB m c t) (bB m c t) (nB m c t
      (View.ld (iblk m c 2 t) (Rect.unit ![0, 512] ![1024, 512] inb_S1024x4608_S1024x512_0_512))
      (View.ld (iblk m c 4 t) (Rect.unit ![1, 0, 0] ![1, 1, 512] inb_S9x1x512_S1x1x512_1_0_0))) 3⟩,
    ⟨Rect.unit ![0, 768] ![512, 128] inb_S512x4608_S512x128_0_768, rotated (cB m c t) (aB m c t) (bB m c t) (nB m c t
      (View.ld (iblk m c 2 t) (Rect.unit ![0, 512] ![1024, 512] inb_S1024x4608_S1024x512_0_512))
      (View.ld (iblk m c 4 t) (Rect.unit ![1, 0, 0] ![1, 1, 512] inb_S9x1x512_S1x1x512_1_0_0))) 2⟩,
    ⟨Rect.unit ![0, 640] ![512, 128] inb_S512x4608_S512x128_0_640, rotated (cB m c t) (aB m c t) (bB m c t) (nB m c t
      (View.ld (iblk m c 2 t) (Rect.unit ![0, 512] ![1024, 512] inb_S1024x4608_S1024x512_0_512))
      (View.ld (iblk m c 4 t) (Rect.unit ![1, 0, 0] ![1, 1, 512] inb_S9x1x512_S1x1x512_1_0_0))) 1⟩,
    ⟨Rect.unit ![0, 512] ![512, 128] inb_S512x4608_S512x128_0_512, rotated (cB m c t) (aB m c t) (bB m c t) (nB m c t
      (View.ld (iblk m c 2 t) (Rect.unit ![0, 512] ![1024, 512] inb_S1024x4608_S1024x512_0_512))
      (View.ld (iblk m c 4 t) (Rect.unit ![1, 0, 0] ![1, 1, 512] inb_S9x1x512_S1x1x512_1_0_0))) 0⟩,
    ⟨Rect.unit ![0, 384] ![512, 128] inb_S512x4608_S512x128_0_384, rotated (cB m c t) (aB m c t) (bB m c t) (nB m c t
      (View.ld (iblk m c 2 t) (Rect.unit ![0, 0] ![1024, 512] inb_S1024x4608_S1024x512_0_0))
      (View.ld (iblk m c 4 t) (Rect.unit ![0, 0, 0] ![1, 1, 512] inb_S9x1x512_S1x1x512_0_0_0))) 3⟩,
    ⟨Rect.unit ![0, 256] ![512, 128] inb_S512x4608_S512x128_0_256, rotated (cB m c t) (aB m c t) (bB m c t) (nB m c t
      (View.ld (iblk m c 2 t) (Rect.unit ![0, 0] ![1024, 512] inb_S1024x4608_S1024x512_0_0))
      (View.ld (iblk m c 4 t) (Rect.unit ![0, 0, 0] ![1, 1, 512] inb_S9x1x512_S1x1x512_0_0_0))) 2⟩,
    ⟨Rect.unit ![0, 128] ![512, 128] inb_S512x4608_S512x128_0_128, rotated (cB m c t) (aB m c t) (bB m c t) (nB m c t
      (View.ld (iblk m c 2 t) (Rect.unit ![0, 0] ![1024, 512] inb_S1024x4608_S1024x512_0_0))
      (View.ld (iblk m c 4 t) (Rect.unit ![0, 0, 0] ![1, 1, 512] inb_S9x1x512_S1x1x512_0_0_0))) 1⟩,
    ⟨Rect.unit ![0, 0] ![512, 128] inb_S512x4608_S512x128_0_0, rotated (cB m c t) (aB m c t) (bB m c t) (nB m c t
      (View.ld (iblk m c 2 t) (Rect.unit ![0, 0] ![1024, 512] inb_S1024x4608_S1024x512_0_0))
      (View.ld (iblk m c 4 t) (Rect.unit ![0, 0, 0] ![1, 1, 512] inb_S9x1x512_S1x1x512_0_0_0))) 0⟩]

theorem stores_canon (t : Fin cfg0.N) : View.canon (stores m c t) = G m c t := by
  funext y
  refine canon_of (G m c t) _ ?_ y (View.cover_of_tiledBy _ ![512, 128] (by sl_kernel_rfl) y)
  exact ⟨fun x => val_piece m c t 8 (by decide) inb_S1024x4608_S1024x512_0_4096 inb_S512x4608_S512x512_0_4096 x,
    fun x => rot_piece m c t 7 3 (by decide) inb_S1024x4608_S1024x512_0_3584 inb_S9x1x512_S1x1x512_7_0_0
      inb_S512x4608_S512x128_0_3968 x,
    fun x => rot_piece m c t 7 2 (by decide) inb_S1024x4608_S1024x512_0_3584 inb_S9x1x512_S1x1x512_7_0_0
      inb_S512x4608_S512x128_0_3840 x,
    fun x => rot_piece m c t 7 1 (by decide) inb_S1024x4608_S1024x512_0_3584 inb_S9x1x512_S1x1x512_7_0_0
      inb_S512x4608_S512x128_0_3712 x,
    fun x => rot_piece m c t 7 0 (by decide) inb_S1024x4608_S1024x512_0_3584 inb_S9x1x512_S1x1x512_7_0_0
      inb_S512x4608_S512x128_0_3584 x,
    fun x => rot_piece m c t 6 3 (by decide) inb_S1024x4608_S1024x512_0_3072 inb_S9x1x512_S1x1x512_6_0_0
      inb_S512x4608_S512x128_0_3456 x,
    fun x => rot_piece m c t 6 2 (by decide) inb_S1024x4608_S1024x512_0_3072 inb_S9x1x512_S1x1x512_6_0_0
      inb_S512x4608_S512x128_0_3328 x,
    fun x => rot_piece m c t 6 1 (by decide) inb_S1024x4608_S1024x512_0_3072 inb_S9x1x512_S1x1x512_6_0_0
      inb_S512x4608_S512x128_0_3200 x,
    fun x => rot_piece m c t 6 0 (by decide) inb_S1024x4608_S1024x512_0_3072 inb_S9x1x512_S1x1x512_6_0_0
      inb_S512x4608_S512x128_0_3072 x,
    fun x => val_piece m c t 5 (by decide) inb_S1024x4608_S1024x512_0_2560 inb_S512x4608_S512x512_0_2560 x,
    fun x => rot_piece m c t 4 3 (by decide) inb_S1024x4608_S1024x512_0_2048 inb_S9x1x512_S1x1x512_4_0_0
      inb_S512x4608_S512x128_0_2432 x,
    fun x => rot_piece m c t 4 2 (by decide) inb_S1024x4608_S1024x512_0_2048 inb_S9x1x512_S1x1x512_4_0_0
      inb_S512x4608_S512x128_0_2304 x,
    fun x => rot_piece m c t 4 1 (by decide) inb_S1024x4608_S1024x512_0_2048 inb_S9x1x512_S1x1x512_4_0_0
      inb_S512x4608_S512x128_0_2176 x,
    fun x => rot_piece m c t 4 0 (by decide) inb_S1024x4608_S1024x512_0_2048 inb_S9x1x512_S1x1x512_4_0_0
      inb_S512x4608_S512x128_0_2048 x,
    fun x => rot_piece m c t 3 3 (by decide) inb_S1024x4608_S1024x512_0_1536 inb_S9x1x512_S1x1x512_3_0_0
      inb_S512x4608_S512x128_0_1920 x,
    fun x => rot_piece m c t 3 2 (by decide) inb_S1024x4608_S1024x512_0_1536 inb_S9x1x512_S1x1x512_3_0_0
      inb_S512x4608_S512x128_0_1792 x,
    fun x => rot_piece m c t 3 1 (by decide) inb_S1024x4608_S1024x512_0_1536 inb_S9x1x512_S1x1x512_3_0_0
      inb_S512x4608_S512x128_0_1664 x,
    fun x => rot_piece m c t 3 0 (by decide) inb_S1024x4608_S1024x512_0_1536 inb_S9x1x512_S1x1x512_3_0_0
      inb_S512x4608_S512x128_0_1536 x,
    fun x => val_piece m c t 2 (by decide) inb_S1024x4608_S1024x512_0_1024 inb_S512x4608_S512x512_0_1024 x,
    fun x => rot_piece m c t 1 3 (by decide) inb_S1024x4608_S1024x512_0_512 inb_S9x1x512_S1x1x512_1_0_0
      inb_S512x4608_S512x128_0_896 x,
    fun x => rot_piece m c t 1 2 (by decide) inb_S1024x4608_S1024x512_0_512 inb_S9x1x512_S1x1x512_1_0_0
      inb_S512x4608_S512x128_0_768 x,
    fun x => rot_piece m c t 1 1 (by decide) inb_S1024x4608_S1024x512_0_512 inb_S9x1x512_S1x1x512_1_0_0
      inb_S512x4608_S512x128_0_640 x,
    fun x => rot_piece m c t 1 0 (by decide) inb_S1024x4608_S1024x512_0_512 inb_S9x1x512_S1x1x512_1_0_0
      inb_S512x4608_S512x128_0_512 x,
    fun x => rot_piece m c t 0 3 (by decide) inb_S1024x4608_S1024x512_0_0 inb_S9x1x512_S1x1x512_0_0_0
      inb_S512x4608_S512x128_0_384 x,
    fun x => rot_piece m c t 0 2 (by decide) inb_S1024x4608_S1024x512_0_0 inb_S9x1x512_S1x1x512_0_0_0
      inb_S512x4608_S512x128_0_256 x,
    fun x => rot_piece m c t 0 1 (by decide) inb_S1024x4608_S1024x512_0_0 inb_S9x1x512_S1x1x512_0_0_0
      inb_S512x4608_S512x128_0_128 x,
    fun x => rot_piece m c t 0 0 (by decide) inb_S1024x4608_S1024x512_0_0 inb_S9x1x512_S1x1x512_0_0_0
      inb_S512x4608_S512x128_0_0 x, trivial⟩

/-- The block of queries, keys and values a point leaves. -/
theorem out_9 (t : Fin cfg0.N) : (outsAt0 m c t).1 = G m c t := by
  unfold outsAt0 out0_A_9
  dsimp only
  rw [View.read_writes_junk_eq_canon]
  unfold kernelRun0_A
  dsimp only
  sl_unfold_words
  simp only [View.readAt_eq_ld, Memref.IsWhole.read_unread]
  exact stores_canon m c t

end Cert.QkArray

end
-- ==== Proof.QkOut.lean ====
/-  The prompt's queries, keys and values: the four result arrays whole. -/
module

public import proofs.«01_k».proof.Proof.QkArray

@[expose] public section

set_option maxRecDepth 8192

noncomputable section

namespace Cert.QkOut

open Cert.KernelQAIdeal Cert.KernelQAIdeal.Gen Idealize.ShloMosaic Idealize.ShloMosaic.ValueIdx Idealize.ShloMosaic.TcCoe
open Idealize.ShloMosaic.Pipeline (Dat)
open Cert.Ffn Cert.FfnRef Cert.Qk Cert.QkTab Cert.QkArray

variable (m : (ℓ : Loc nD τ sig) → Buf (Elt Ideal) ℓ) (c : Dev nD)

theorem ix_9 : ∀ t : Fin grid0.N, win0_9.index t 0 = (grid0.coords t 0).val ∧ win0_9.index t 1 = 0 := by decide +kernel
theorem ix_10 : ∀ t : Fin grid0.N, win0_10.index t 0 = (grid0.coords t 0).val / 8 ∧ win0_10.index t 1 = 0 ∧ win0_10.index t 2 = 0 := by decide +kernel
theorem ix_11 : ∀ t : Fin grid0.N, win0_11.index t 0 = (grid0.coords t 0).val / 8 ∧ win0_11.index t 1 = 0 ∧ win0_11.index t 2 = 0 := by decide +kernel
theorem ix_12 : ∀ t : Fin grid0.N, win0_12.index t 0 = (grid0.coords t 0).val / 8 ∧ win0_12.index t 1 = 0
    ∧ win0_12.index t 2 = (grid0.coords t 0).val % 8 - 4 := by decide +kernel
theorem at_10 : ∀ t : Fin grid0.N, win0_10.flush t = true ↔ (grid0.coords t 0).val % 8 = 7 := by decide +kernel
theorem at_11 : ∀ t : Fin grid0.N, win0_11.flush t = true ↔ (grid0.coords t 0).val % 8 = 7 := by decide +kernel
theorem at_12 : ∀ t : Fin grid0.N, win0_12.flush t = true ↔ 4 ≤ (grid0.coords t 0).val % 8 := by decide +kernel

theorem cut_9 (t : Fin cfg0.N) (f : S512x4608.Idx → EReal) (y : S512x4608.Idx) : (cfg0.win 9).cut (grid0.coords t) f y = f y := rfl

theorem read_9 (t : Fin cfg0.N) (G : S16384x4608.Idx → EReal) (r : Fin 512) (k : Fin 4608) :
    ((cfg0.win 9).blk t).view.read (Elt Ideal) G (ix2 r k) = G (ix2 (prow t r) k) := by
  obtain ⟨e0, e1⟩ := ix_9 t
  rw [View.read_apply]
  show G _ = G _
  congr 1
  funext a
  apply Fin.ext
  match a with
  | ⟨0, _⟩ => show win0_9.index t 0 * 512 + 1 * r.val = 512 * (grid0.coords t 0).val + r.val; omega
  | ⟨1, _⟩ => show win0_9.index t 1 * 4608 + 1 * k.val = k.val; omega

/-- The queries, keys and values are the reference's. -/
theorem final_9 : (dats m 0 c).arrAt 9 cfg0.N
    = Cert.ReferenceQAIdeal.Read.val_main_v132 (F := Ideal) (arg0 m c) (arg1 m c) (arg2 m c) (arg3 m c) := by
  refine (dats m 0 c).arrAt_eq_of_cover 9 _ (fun t _ => ?_) fun i => ?_
  · rw [Value.flushed9, out_9]
    funext y
    have hy : y = ix2 (y 0) (y 1) := funext fun a => match a with | ⟨0, _⟩ => rfl | ⟨1, _⟩ => rfl
    refine (cut_9 t _ y).trans ?_
    rw [hy]
    exact (QkRef.v132_at (arg0 m c) (arg1 m c) (arg2 m c) (arg3 m c) (prow t (y 0)) (y 1)).symm.trans (read_9 t _ (y 0) (y 1)).symm
  · have h0 : (i 0 : Nat) < 16384 := (i 0).isLt
    have h1 : (i 1 : Nat) < 4608 := (i 1).isLt
    obtain ⟨t, ht⟩ := Pipeline.Grid.coords_surjective grid0 (fun a => match a with | ⟨0, _⟩ => (⟨(i 0 : Nat) / 512, by omega⟩ : Fin 32))
    have hj : (grid0.coords t 0).val = (i 0 : Nat) / 512 := congrArg Fin.val (congrFun ht 0)
    obtain ⟨e0, e1⟩ := ix_9 t
    refine ⟨t, flush0_9 t, ?_⟩
    show i ∈ ((View.whole main_v68_0).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512; omega
    | ⟨1, _⟩ => show win0_9.index t 1 * 4608 ≤ (i 1 : Nat) ∧ (i 1 : Nat) < win0_9.index t 1 * 4608 + 4608; omega

/-! ## The keys and values kept for later steps -/

/-- A point's block of the kept keys and values of group `q`: a column of keys and values along its first axis. -/
def H (t : Fin cfg0.N) (q : Fin 3) : S1x1024x512.Idx → EReal := fun y =>
  QkRef.qkv (arg0 m c) (arg1 m c) (arg2 m c) (arg3 m c) (prow t (y 2))
    ⟨1536 * q.val + 512 + (y 1).val, by have h : (y 1).val < 1024 := (y 1).isLt; omega⟩

section

attribute [local irreducible] stores

/-- A load of a chunk of the stored block reads it. -/
theorem read_stores (t : Fin cfg0.N) (v : View sig .tc .vmem S512x4608 .f32) (off : Nat) (inbl) (r l : Fin 512) (hl : off + l.val < 4608) :
    v.readCov (stores m c t) (Rect.unit (s := S512x4608) ![0, off] ![512, 512] inbl).toLoadRect (ix2 r l)
      = QkRef.qkv (arg0 m c) (arg1 m c) (arg2 m c) (arg3 m c) (prow t r) ⟨off + l.val, hl⟩ := by
  rw [View.readCov_eq_canon', stores_canon]
  exact (piece_of m c t 512 off (fun y => QkRef.qkv (arg0 m c) (arg1 m c) (arg2 m c) (arg3 m c) (prow t (y 0))
    ⟨off + (y 1).val, by have h : off + 512 ≤ 4608 := inbl 1; have h' : (y 1).val < 512 := (y 1).isLt; omega⟩) inbl (fun _ _ _ => rfl) (ix2 r l)).symm

/-- A stored half: a chunk of the block of queries, keys and values, turned. -/
theorem half (t : Fin cfg0.N) (v : View sig .tc .vmem S512x4608 .f32) (q : Fin 3) (κ : Fin 2) (inbl) (inb)
    (x : (⟨3, ![1, 512, 512]⟩ : Shape).Idx) :
    k0_pay2 (F := Ideal)
        (v.readCov (stores m c t) (Rect.unit (s := S512x4608) ![0, 1536 * q.val + 512 + 512 * κ.val] ![512, 512] inbl).toLoadRect) x
      = H m c t q ((Rect.unit (s := S1x1024x512) ![0, 512 * κ.val, 0] ![1, 512, 512] inb).emb x) := by
  have hx : x = ix3 (0 : Fin 1) (x 1) (x 2) := funext fun a => match a with
    | ⟨0, _⟩ => Fin.ext (Nat.lt_one_iff.mp (x 0).isLt) | ⟨1, _⟩ => rfl | ⟨2, _⟩ => rfl
  have h1 : (x 1).val < 512 := (x 1).isLt
  refine (congrArg _ hx).trans ((turned_apply _ (x 1) (x 2)).trans
    ((read_stores m c t v _ inbl (x 2) (x 1) (by omega)).trans ?_))
  have er : prow t (x 2) = prow t ((Rect.unit (s := S1x1024x512) ![0, 512 * κ.val, 0] ![1, 512, 512] inb).emb x 2) :=
    congrArg (prow t) (Fin.ext (show (x 2).val = 0 + 1 * (x 2).val by omega))
  have ec : (⟨1536 * q.val + 512 + 512 * κ.val + (x 1).val, by omega⟩ : Fin 4608)
      = ⟨1536 * q.val + 512 + ((Rect.unit (s := S1x1024x512) ![0, 512 * κ.val, 0] ![1, 512, 512] inb).emb x 1).val, by
          have h : ((Rect.unit (s := S1x1024x512) ![0, 512 * κ.val, 0] ![1, 512, 512] inb).emb x 1).val < 1024 := Fin.isLt _
          omega⟩ :=
    Fin.ext (show 1536 * q.val + 512 + 512 * κ.val + (x 1).val = 1536 * q.val + 512 + (512 * κ.val + 1 * (x 1).val) by omega)
  exact congrArg₂ (QkRef.qkv (arg0 m c) (arg1 m c) (arg2 m c) (arg3 m c)) er ec

end

theorem out_10 (t : Fin cfg0.N) : (outsAt0 m c t).2.1 = H m c t 0 := by
  unfold outsAt0 out0_A_10
  dsimp only
  rw [View.read_writes_junk_eq_canon]
  unfold kernelRun0_A
  dsimp only
  sl_unfold_words
  simp only [View.readAt_eq_ld, Memref.IsWhole.read_unread]
  funext y
  refine canon_of (H m c t 0) _ ?_ y (View.cover_of_tiledL _ ![1, 512, 512] (by sl_kernel_rfl) y)
  refine ⟨fun x => ?_, fun x => ?_, trivial⟩
  · exact half m c t _ 0 1 inb_S512x4608_S512x512_0_1024 inb_S1x1024x512_S1x512x512_0_512_0 x
  · exact half m c t _ 0 0 inb_S512x4608_S512x512_0_512 inb_S1x1024x512_S1x512x512_0_0_0 x

theorem out_11 (t : Fin cfg0.N) : (outsAt0 m c t).2.2.1 = H m c t 1 := by
  unfold outsAt0 out0_A_11
  dsimp only
  rw [View.read_writes_junk_eq_canon]
  unfold kernelRun0_A
  dsimp only
  sl_unfold_words
  simp only [View.readAt_eq_ld, Memref.IsWhole.read_unread]
  funext y
  refine canon_of (H m c t 1) _ ?_ y (View.cover_of_tiledL _ ![1, 512, 512] (by sl_kernel_rfl) y)
  refine ⟨fun x => ?_, fun x => ?_, trivial⟩
  · exact half m c t _ 1 1 inb_S512x4608_S512x512_0_2560 inb_S1x1024x512_S1x512x512_0_512_0 x
  · exact half m c t _ 1 0 inb_S512x4608_S512x512_0_2048 inb_S1x1024x512_S1x512x512_0_0_0 x

theorem out_12 (t : Fin cfg0.N) : (outsAt0 m c t).2.2.2 = H m c t 2 := by
  unfold outsAt0 out0_A_12
  dsimp only
  rw [View.read_writes_junk_eq_canon]
  unfold kernelRun0_A
  dsimp only
  sl_unfold_words
  simp only [View.readAt_eq_ld, Memref.IsWhole.read_unread]
  funext y
  refine canon_of (H m c t 2) _ ?_ y (View.cover_of_tiledL _ ![1, 512, 512] (by sl_kernel_rfl) y)
  refine ⟨fun x => ?_, fun x => ?_, trivial⟩
  · exact half m c t _ 2 1 inb_S512x4608_S512x512_0_4096 inb_S1x1024x512_S1x512x512_0_512_0 x
  · exact half m c t _ 2 0 inb_S512x4608_S512x512_0_3584 inb_S1x1024x512_S1x512x512_0_0_0 x

theorem cut_10 (t : Fin cfg0.N) (f : S1x1024x512.Idx → EReal) (y : S1x1024x512.Idx) : (cfg0.win 10).cut (grid0.coords t) f y = f y := rfl

theorem read_10 (t : Fin cfg0.N) (G : S4x1024x512.Idx → EReal) (k : Fin 1024) (s : Fin 512) :
    ((cfg0.win 10).blk t).view.read (Elt Ideal) G (ix3 (0 : Fin 1) k s)
      = G (ix3 (⟨(grid0.coords t 0).val / 8, by have h : (grid0.coords t 0).val < 32 := (grid0.coords t 0).isLt; omega⟩ : Fin 4) k s) := by
  obtain ⟨e0, e1, e2⟩ := ix_10 t
  rw [View.read_apply]
  show G _ = G _
  congr 1
  funext a
  apply Fin.ext
  match a with
  | ⟨0, _⟩ => show win0_10.index t 0 * 1 + 1 * 0 = (grid0.coords t 0).val / 8; omega
  | ⟨1, _⟩ => show win0_10.index t 1 * 1024 + 1 * k.val = k.val; omega
  | ⟨2, _⟩ => show win0_10.index t 2 * 512 + 1 * s.val = s.val; omega

/-- The kept keys and values of group 0 are the reference's. -/
theorem final_10 : (dats m 0 c).arrAt 10 cfg0.N
    = Cert.ReferenceQAIdeal.Read.val_main_v149 (F := Ideal) (arg0 m c) (arg1 m c) (arg2 m c) (arg3 m c) := by
  refine (dats m 0 c).arrAt_eq_of_cover 10 _ (fun t hf => ?_) fun i => ?_
  · rw [Value.flushed10, out_10]
    have hm : (grid0.coords t 0).val % 8 = 7 := (at_10 t).mp hf
    funext y
    have hy : y = ix3 (0 : Fin 1) (y 1) (y 2) := funext fun a => match a with
      | ⟨0, _⟩ => Fin.ext (Nat.lt_one_iff.mp (y 0).isLt) | ⟨1, _⟩ => rfl | ⟨2, _⟩ => rfl
    refine (cut_10 t _ y).trans ?_
    rw [hy]
    refine Eq.trans ?_ (read_10 t _ (y 1) (y 2)).symm
    refine Eq.trans ?_ (QkRef.v149_at (arg0 m c) (arg1 m c) (arg2 m c) (arg3 m c) _ (y 1) _).symm
    have h32 : (grid0.coords t 0).val < 32 := (grid0.coords t 0).isLt
    exact congrArg (fun r => QkRef.qkv (arg0 m c) (arg1 m c) (arg2 m c) (arg3 m c) r _) (Fin.ext (by
      show 512 * (grid0.coords t 0).val + (y 2).val
        = 4096 * ((grid0.coords t 0).val / 8) + (3584 + (y 2).val)
      omega))
  · have h0 : (i 0 : Nat) < 4 := (i 0).isLt
    have h1 : (i 1 : Nat) < 1024 := (i 1).isLt
    have h2 : (i 2 : Nat) < 512 := (i 2).isLt
    obtain ⟨t, ht⟩ := Pipeline.Grid.coords_surjective grid0 (fun a => match a with | ⟨0, _⟩ => (⟨8 * (i 0 : Nat) + 7, by omega⟩ : Fin 32))
    have hj : (grid0.coords t 0).val = 8 * (i 0 : Nat) + 7 := congrArg Fin.val (congrFun ht 0)
    obtain ⟨e0, e1, e2⟩ := ix_10 t
    refine ⟨t, (at_10 t).mpr (by omega), ?_⟩
    show i ∈ ((View.whole main_v68_1).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1; omega
    | ⟨1, _⟩ => show win0_10.index t 1 * 1024 ≤ (i 1 : Nat) ∧ (i 1 : Nat) < win0_10.index t 1 * 1024 + 1024; omega
    | ⟨2, _⟩ => show win0_10.index t 2 * 512 ≤ (i 2 : Nat) ∧ (i 2 : Nat) < win0_10.index t 2 * 512 + 512; omega

theorem cut_11 (t : Fin cfg0.N) (f : S1x1024x512.Idx → EReal) (y : S1x1024x512.Idx) : (cfg0.win 11).cut (grid0.coords t) f y = f y := rfl

theorem read_11 (t : Fin cfg0.N) (G : S4x1024x512.Idx → EReal) (k : Fin 1024) (s : Fin 512) :
    ((cfg0.win 11).blk t).view.read (Elt Ideal) G (ix3 (0 : Fin 1) k s)
      = G (ix3 (⟨(grid0.coords t 0).val / 8, by have h : (grid0.coords t 0).val < 32 := (grid0.coords t 0).isLt; omega⟩ : Fin 4) k s) := by
  obtain ⟨e0, e1, e2⟩ := ix_11 t
  rw [View.read_apply]
  show G _ = G _
  congr 1
  funext a
  apply Fin.ext
  match a with
  | ⟨0, _⟩ => show win0_11.index t 0 * 1 + 1 * 0 = (grid0.coords t 0).val / 8; omega
  | ⟨1, _⟩ => show win0_11.index t 1 * 1024 + 1 * k.val = k.val; omega
  | ⟨2, _⟩ => show win0_11.index t 2 * 512 + 1 * s.val = s.val; omega

/-- The kept keys and values of group 1 are the reference's. -/
theorem final_11 : (dats m 0 c).arrAt 11 cfg0.N
    = Cert.ReferenceQAIdeal.Read.val_main_v151 (F := Ideal) (arg0 m c) (arg1 m c) (arg2 m c) (arg3 m c) := by
  refine (dats m 0 c).arrAt_eq_of_cover 11 _ (fun t hf => ?_) fun i => ?_
  · rw [Value.flushed11, out_11]
    have hm : (grid0.coords t 0).val % 8 = 7 := (at_11 t).mp hf
    funext y
    have hy : y = ix3 (0 : Fin 1) (y 1) (y 2) := funext fun a => match a with
      | ⟨0, _⟩ => Fin.ext (Nat.lt_one_iff.mp (y 0).isLt) | ⟨1, _⟩ => rfl | ⟨2, _⟩ => rfl
    refine (cut_11 t _ y).trans ?_
    rw [hy]
    refine Eq.trans ?_ (read_11 t _ (y 1) (y 2)).symm
    refine Eq.trans ?_ (QkRef.v151_at (arg0 m c) (arg1 m c) (arg2 m c) (arg3 m c) _ (y 1) _).symm
    have h32 : (grid0.coords t 0).val < 32 := (grid0.coords t 0).isLt
    exact congrArg (fun r => QkRef.qkv (arg0 m c) (arg1 m c) (arg2 m c) (arg3 m c) r _) (Fin.ext (by
      show 512 * (grid0.coords t 0).val + (y 2).val
        = 4096 * ((grid0.coords t 0).val / 8) + (3584 + (y 2).val)
      omega))
  · have h0 : (i 0 : Nat) < 4 := (i 0).isLt
    have h1 : (i 1 : Nat) < 1024 := (i 1).isLt
    have h2 : (i 2 : Nat) < 512 := (i 2).isLt
    obtain ⟨t, ht⟩ := Pipeline.Grid.coords_surjective grid0 (fun a => match a with | ⟨0, _⟩ => (⟨8 * (i 0 : Nat) + 7, by omega⟩ : Fin 32))
    have hj : (grid0.coords t 0).val = 8 * (i 0 : Nat) + 7 := congrArg Fin.val (congrFun ht 0)
    obtain ⟨e0, e1, e2⟩ := ix_11 t
    refine ⟨t, (at_11 t).mpr (by omega), ?_⟩
    show i ∈ ((View.whole main_v68_2).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1; omega
    | ⟨1, _⟩ => show win0_11.index t 1 * 1024 ≤ (i 1 : Nat) ∧ (i 1 : Nat) < win0_11.index t 1 * 1024 + 1024; omega
    | ⟨2, _⟩ => show win0_11.index t 2 * 512 ≤ (i 2 : Nat) ∧ (i 2 : Nat) < win0_11.index t 2 * 512 + 512; omega

theorem cut_12 (t : Fin cfg0.N) (f : S1x1024x512.Idx → EReal) (y : S1x1024x512.Idx) : (cfg0.win 12).cut (grid0.coords t) f y = f y := rfl

theorem read_12 (t : Fin cfg0.N) (G : S4x1024x2048.Idx → EReal) (k : Fin 1024) (s : Fin 512) :
    ((cfg0.win 12).blk t).view.read (Elt Ideal) G (ix3 (0 : Fin 1) k s)
      = G (ix3 (⟨(grid0.coords t 0).val / 8, by have h : (grid0.coords t 0).val < 32 := (grid0.coords t 0).isLt; omega⟩ : Fin 4) k (⟨512 * ((grid0.coords t 0).val % 8 - 4) + s.val, by omega⟩ : Fin 2048)) := by
  obtain ⟨e0, e1, e2⟩ := ix_12 t
  rw [View.read_apply]
  show G _ = G _
  congr 1
  funext a
  apply Fin.ext
  match a with
  | ⟨0, _⟩ => show win0_12.index t 0 * 1 + 1 * 0 = (grid0.coords t 0).val / 8; omega
  | ⟨1, _⟩ => show win0_12.index t 1 * 1024 + 1 * k.val = k.val; omega
  | ⟨2, _⟩ => show win0_12.index t 2 * 512 + 1 * s.val = 512 * ((grid0.coords t 0).val % 8 - 4) + s.val; omega

/-- The kept keys and values of group 2 are the reference's. -/
theorem final_12 : (dats m 0 c).arrAt 12 cfg0.N
    = Cert.ReferenceQAIdeal.Read.val_main_v153 (F := Ideal) (arg0 m c) (arg1 m c) (arg2 m c) (arg3 m c) := by
  refine (dats m 0 c).arrAt_eq_of_cover 12 _ (fun t hf => ?_) fun i => ?_
  · rw [Value.flushed12, out_12]
    have hm : 4 ≤ (grid0.coords t 0).val % 8 := (at_12 t).mp hf
    funext y
    have hy : y = ix3 (0 : Fin 1) (y 1) (y 2) := funext fun a => match a with
      | ⟨0, _⟩ => Fin.ext (Nat.lt_one_iff.mp (y 0).isLt) | ⟨1, _⟩ => rfl | ⟨2, _⟩ => rfl
    refine (cut_12 t _ y).trans ?_
    rw [hy]
    refine Eq.trans ?_ (read_12 t _ (y 1) (y 2)).symm
    refine Eq.trans ?_ (QkRef.v153_at (arg0 m c) (arg1 m c) (arg2 m c) (arg3 m c) _ (y 1) _).symm
    have h32 : (grid0.coords t 0).val < 32 := (grid0.coords t 0).isLt
    exact congrArg (fun r => QkRef.qkv (arg0 m c) (arg1 m c) (arg2 m c) (arg3 m c) r _) (Fin.ext (by
      show 512 * (grid0.coords t 0).val + (y 2).val
        = 4096 * ((grid0.coords t 0).val / 8) + (2048 + (512 * ((grid0.coords t 0).val % 8 - 4) + (y 2).val))
      omega))
  · have h0 : (i 0 : Nat) < 4 := (i 0).isLt
    have h1 : (i 1 : Nat) < 1024 := (i 1).isLt
    have h2 : (i 2 : Nat) < 2048 := (i 2).isLt
    obtain ⟨t, ht⟩ := Pipeline.Grid.coords_surjective grid0 (fun a => match a with | ⟨0, _⟩ => (⟨8 * (i 0 : Nat) + 4 + (i 2 : Nat) / 512, by omega⟩ : Fin 32))
    have hj : (grid0.coords t 0).val = 8 * (i 0 : Nat) + 4 + (i 2 : Nat) / 512 := congrArg Fin.val (congrFun ht 0)
    obtain ⟨e0, e1, e2⟩ := ix_12 t
    refine ⟨t, (at_12 t).mpr (by omega), ?_⟩
    show i ∈ ((View.whole main_v68_3).slice (win0_12.rect t)).set
    rw [View.set_slice_whole, Rect.mem_set_unit]
    intro a
    match a with
    | ⟨0, _⟩ => show win0_12.index t 0 * 1 ≤ (i 0 : Nat) ∧ (i 0 : Nat) < win0_12.index t 0 * 1 + 1; omega
    | ⟨1, _⟩ => show win0_12.index t 1 * 1024 ≤ (i 1 : Nat) ∧ (i 1 : Nat) < win0_12.index t 1 * 1024 + 1024; omega
    | ⟨2, _⟩ => show win0_12.index t 2 * 512 ≤ (i 2 : Nat) ∧ (i 2 : Nat) < win0_12.index t 2 * 512 + 512; omega

end Cert.QkOut

end
-- ==== Proof.Soft.lean ====
/-  A softmax row over the extended reals: the weights of a row of masked scores, their sum, the weighted mean of
    the values written two ways (divide the mean by the sum; divide each weight first), and the logarithm of the
    sum.  Nothing here mentions a program. -/
module

public import Idealize.ShloMosaic.PureOps
public import Idealize.ShloMosaic.PureOps.Ideal.Laws
public import Idealize.ShloMosaic.Lib.ValueIdx

@[expose] public section

noncomputable section

namespace Cert.Soft

open Idealize.ShloMosaic

variable {n : Nat}

/-- The greatest score of a row, minus infinity for an empty one. -/
def mx (s : Fin n → EReal) : EReal := (Finset.univ : Finset (Fin n)).fold max ⊥ s

/-- The weight of one entry: the exponential of its score less the greatest. -/
def wt (s : Fin n → EReal) (k : Fin n) : EReal := Ideal.exp (s k - mx s)

/-- The sum of the weights of a row. -/
def den (s : Fin n → EReal) : EReal := ∑ k, wt s k

/-- The weighted mean, the sum divided once at the end. -/
def meanLate (s v : Fin n → EReal) : EReal := (∑ k, wt s k * v k) * Ideal.div 1 (den s)

/-- The weighted mean, each weight divided first. -/
def meanEarly (s v : Fin n → EReal) : EReal := ∑ k, v k * Ideal.div (wt s k) (den s)

/-- The logarithm of the sum of the exponentials of the scores. -/
def lse (s : Fin n → EReal) : EReal := mx s + Ideal.log (den s)

/-- A number of the extended reals that is a real number. -/
def Re (x : EReal) : Prop := ∃ r : ℝ, x = r

theorem Re.coe (r : ℝ) : Re (r : EReal) := ⟨r, rfl⟩

theorem Re.add {x y : EReal} : Re x → Re y → Re (x + y) := by
  rintro ⟨a, rfl⟩ ⟨b, rfl⟩; exact ⟨a + b, (EReal.coe_add a b).symm⟩

theorem Re.mul {x y : EReal} : Re x → Re y → Re (x * y) := by
  rintro ⟨a, rfl⟩ ⟨b, rfl⟩; exact ⟨a * b, (EReal.coe_mul a b).symm⟩

theorem Re.zero : Re 0 := ⟨0, EReal.coe_zero.symm⟩

/-- A finite sum of reals in the extended reals is the real sum. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem Re.sum {ι : Type*} (t : Finset ι) (f : ι → EReal) (h : ∀ i ∈ t, Re (f i)) : Re (∑ i ∈ t, f i) := by
  classical
  induction t using Finset.induction_on with
  | empty => simpa using Re.zero
  | insert a t ha ih =>
    rw [Finset.sum_insert ha]
    exact (h a (Finset.mem_insert_self a t)).add (ih fun i hi => h i (Finset.mem_insert_of_mem hi))

/-- The greatest score is the supremum of the row. -/
theorem mx_eq_sup (s : Fin n → EReal) : mx s = Finset.univ.sup s := rfl

theorem le_mx (s : Fin n → EReal) (k : Fin n) : s k ≤ mx s := by
  rw [mx_eq_sup]; exact Finset.le_sup (Finset.mem_univ k)

/-- A row of reals and minus infinities with at least one real has a real for its greatest score. -/
theorem Re.mx {s : Fin n → EReal} (h : ∀ k, s k = ⊥ ∨ Re (s k)) (k₀ : Fin n) (h₀ : Re (s k₀)) : Re (mx s) := by
  obtain ⟨k, -, hk⟩ := Finset.exists_mem_eq_sup (Finset.univ : Finset (Fin n)) ⟨k₀, Finset.mem_univ k₀⟩ s
  have e : Soft.mx s = s k := hk
  rcases h k with hb | hr
  · exfalso
    obtain ⟨r, hr⟩ := h₀
    have := le_mx s k₀
    rw [e, hb, hr] at this
    exact absurd this (by simp)
  · rw [e]; exact hr

/-- A real weight written down: zero at minus infinity, a positive real elsewhere. -/
theorem wt_cases {s : Fin n → EReal} (h : ∀ k, s k = ⊥ ∨ Re (s k)) (hm : Re (mx s)) (k : Fin n) :
    (s k = ⊥ ∧ wt s k = 0) ∨ ∃ r : ℝ, 0 < r ∧ wt s k = r := by
  obtain ⟨M, hM⟩ := hm
  rcases h k with hb | ⟨r, hr⟩
  · left; refine ⟨hb, ?_⟩
    rw [wt, hb, hM, EReal.bot_sub]; rfl
  · right; refine ⟨Real.exp (r - M), Real.exp_pos _, ?_⟩
    rw [wt, hr, hM, ← EReal.coe_sub]; rfl

/-- The sum of the weights is a positive real. -/
theorem den_pos {s : Fin n → EReal} (h : ∀ k, s k = ⊥ ∨ Re (s k)) (k₀ : Fin n) (h₀ : Re (s k₀)) :
    ∃ D : ℝ, 0 < D ∧ den s = D := by
  have hm := Re.mx h k₀ h₀
  have hw : ∀ k, ∃ r : ℝ, 0 ≤ r ∧ wt s k = r := fun k => by
    rcases wt_cases h hm k with ⟨-, e⟩ | ⟨r, hr, e⟩
    · exact ⟨0, le_rfl, by rw [e, EReal.coe_zero]⟩
    · exact ⟨r, hr.le, e⟩
  choose w hw0 hwe using hw
  refine ⟨∑ k, w k, ?_, ?_⟩
  · refine Finset.sum_pos' (fun k _ => hw0 k) ⟨k₀, Finset.mem_univ _, ?_⟩
    rcases wt_cases h hm k₀ with ⟨hb, -⟩ | ⟨r, hr, e⟩
    · obtain ⟨x, hx⟩ := h₀
      rw [hb] at hx; exact absurd hx (by simp)
    · have : (w k₀ : EReal) = r := (hwe k₀).symm.trans e
      rw [EReal.coe_eq_coe_iff.1 this]; exact hr
  · rw [coe_sum, den]; exact Finset.sum_congr rfl fun k _ => hwe k

/-- THE TWO SPELLINGS AGREE on a row with a real score, its values real wherever the score is not minus infinity;
    where the score is minus infinity the two value rows may differ, since the weight there is zero. -/
theorem mean_eq {s v v' : Fin n → EReal} (h : ∀ k, s k = ⊥ ∨ Re (s k)) (k₀ : Fin n) (h₀ : Re (s k₀))
    (hv : ∀ k, s k ≠ ⊥ → v k = v' k ∧ Re (v k)) : meanLate s v = meanEarly s v' := by
  have hm := Re.mx h k₀ h₀
  obtain ⟨D, hD, hden⟩ := den_pos h k₀ h₀
  have hw : ∀ k, ∃ r x : ℝ, wt s k = r ∧ wt s k * v k = ((r * x : ℝ) : EReal)
      ∧ v' k * Ideal.div (wt s k) (den s) = ((x * (r * (1 / D)) : ℝ) : EReal) := fun k => by
    rcases wt_cases h hm k with ⟨hb, e⟩ | ⟨r, hr, e⟩
    · refine ⟨0, 0, by rw [e, EReal.coe_zero], by rw [e]; simp, ?_⟩
      rw [e, hden, Ideal.div_coe hD.ne', zero_mul, mul_zero]; simp
    · have hne : s k ≠ ⊥ := fun hb => by
        obtain ⟨M, hM⟩ := hm
        rw [wt, hb, hM, EReal.bot_sub] at e
        have e0 : (0 : EReal) = r := e
        rw [← EReal.coe_zero] at e0
        exact hr.ne (EReal.coe_eq_coe_iff.1 e0)
      obtain ⟨hvv, x, hx⟩ := hv k hne
      refine ⟨r, x, e, by rw [e, hx, EReal.coe_mul], ?_⟩
      rw [← hvv, e, hx, hden, Ideal.div_coe hD.ne', EReal.coe_mul, EReal.coe_mul]
  choose w x hwe h1 h2 using hw
  unfold meanLate meanEarly
  rw [Finset.sum_congr rfl fun k _ => h1 k, Finset.sum_congr rfl fun k _ => h2 k, ← coe_sum, ← coe_sum, hden,
    Ideal.div_coe hD.ne', one_mul, ← EReal.coe_mul, Finset.sum_mul]
  exact congrArg _ (Finset.sum_congr rfl fun k _ => by ring)

end Cert.Soft

end
-- ==== Proof.Band.lean ====
/-  The BAND of the dilation-1 attention: which array entries a query's scores and values are made of, which keys it sees,
    and the masked score.  Both programs' values are stated in these terms. -/
module

public import proofs.«01_k».proof.Proof.Soft
public import Idealize.ShloMosaic.Lib.ValueIdx
public import Idealize.ShloMosaic.Lib.IdealHost

@[expose] public section

noncomputable section

namespace Cert.Band

open Idealize.ShloMosaic Idealize.ShloMosaic.ValueIdx Cert.Soft

/-- Row `r` of head `h` among the stacked rows of the eight heads. -/
def hrow (h : Fin 8) (r : Fin 128) : Fin 1024 := ⟨128 * h.val + r.val, by omega⟩

/-- Channel `e` of head `h` among the lanes of the eight heads. -/
def hcol (h : Fin 8) (e : Fin 64) : Fin 512 := ⟨64 * h.val + e.val, by omega⟩

/-- Row `r` of block `j` of a batch's 4096 rows. -/
def brow (j : Fin 32) (r : Fin 128) : Fin 4096 := ⟨128 * j.val + r.val, by omega⟩

/-- Row `s` of batch `b` among the array's rows. -/
def arow (b : Fin 4) (s : Fin 4096) : Fin 16384 := ⟨4096 * b.val + s.val, by omega⟩

/-- Lane `x` of the queries (`w = 0`), keys (`w = 1`) or values (`w = 2`) of the first group. -/
def acol (w : Fin 3) (x : Fin 512) : Fin 4608 := ⟨512 * w.val + x.val, by omega⟩

/-- The row of key `c` of block `j`'s two blocks of keys, the first of them the block before. -/
def krow (j : Fin 32) (c : Fin 256) : Fin 4096 := ⟨128 * j.val + c.val - 128, by omega⟩

/-- Whether the mask lets query `r` of block `j` see key `c` of the two blocks: no later than itself, no more than
    128 before it, and not in the block before the first. -/
def seen (j : Nat) (r : Fin 128) (c : Fin 256) : Prop :=
  c.val ≤ r.val + 128 ∧ r.val ≤ c.val ∧ (128 ≤ c.val ∨ 0 < j)

instance (j : Nat) (r : Fin 128) (c : Fin 256) : Decidable (seen j r c) := by unfold seen; infer_instance

/-- The arrays the programs take: 16384 rows of nine bands of 512 lanes. -/
abbrev Arr := (⟨2, ![16384, 4608]⟩ : Shape).Idx → EReal

/-- The factor of the scores, one over the square root of 64. -/
def scale : EReal := Ideal.ofBits .f32 0x3E000000#32

theorem scale_re : Re scale := ⟨1 / 8, by unfold scale; simp [Ideal.ofBits, Ideal.ieee]; norm_num; rw [← EReal.coe_mul]; norm_num⟩

/-- The masked score of query `r` of block `j` against key `c`, in batch `b` and head `h`. -/
def sc (x : Arr) (b : Fin 4) (j : Fin 32) (h : Fin 8) (r : Fin 128) (c : Fin 256) : EReal :=
  if seen j.val r c then
    (∑ e : Fin 64, x (ix2 (arow b (brow j r)) (acol 0 (hcol h e))) * x (ix2 (arow b (krow j c)) (acol 1 (hcol h e)))) * scale
  else ⊥

/-- The value of key `c` at channel `e`. -/
def vv (x : Arr) (b : Fin 4) (j : Fin 32) (h : Fin 8) (e : Fin 64) (c : Fin 256) : EReal :=
  x (ix2 (arow b (krow j c)) (acol 2 (hcol h e)))

variable {x : Arr}

/-- Scaling the queries before the product of sums is scaling the sum, on reals. -/
theorem scaled_sum {n : Nat} (u v : Fin n → EReal) (hu : ∀ e, Re (u e)) (hv : ∀ e, Re (v e)) :
    ∑ e, (u e * scale) * v e = (∑ e, u e * v e) * scale := by
  obtain ⟨s, hs⟩ := scale_re
  choose a ha using hu
  choose b hb using hv
  simp only [ha, hb, hs, ← EReal.coe_mul, ← coe_sum]
  rw [Finset.sum_mul]
  exact congrArg _ (Finset.sum_congr rfl fun e _ => by ring)

/-- Over real entries every score is minus infinity or real … -/
theorem sc_cases (hx : ∀ i, Re (x i)) (b : Fin 4) (j : Fin 32) (h : Fin 8) (r : Fin 128) (c : Fin 256) :
    sc x b j h r c = ⊥ ∨ Re (sc x b j h r c) := by
  unfold sc
  split
  · exact .inr ((Re.sum _ _ fun e _ => (hx _).mul (hx _)).mul scale_re)
  · exact .inl rfl

/-- … a key it sees scores a real … -/
theorem sc_re (hx : ∀ i, Re (x i)) (b : Fin 4) (j : Fin 32) (h : Fin 8) (r : Fin 128) (c : Fin 256) (hs : seen j.val r c) :
    Re (sc x b j h r c) := by
  unfold sc
  rw [if_pos hs]
  exact (Re.sum _ _ fun e _ => (hx _).mul (hx _)).mul scale_re

/-- … a score that is not minus infinity is of a key it sees … -/
theorem seen_of_ne (b : Fin 4) (j : Fin 32) (h : Fin 8) (r : Fin 128) (c : Fin 256) (hs : sc x b j h r c ≠ ⊥) : seen j.val r c := by
  by_contra hn
  exact hs (by unfold sc; rw [if_neg hn])

/-- … and every query sees itself. -/
theorem seen_self (j : Nat) (r : Fin 128) : seen j r ⟨r.val + 128, by omega⟩ := by
  unfold seen
  simp

end Cert.Band

end
-- ==== Proof.BandBlock.lean ====
/-  The banded attention kernel's BODY as a value: what one grid point leaves in its two result blocks, as the softmax row
    of Proof/Soft.lean over the point's query, key and value blocks. -/
module

public import proofs.«01_k».proof.Proof.Gen.KernelA1Ideal.Value
public import proofs.«01_k».proof.Proof.Band
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.KernelVsHost

@[expose] public section

noncomputable section

namespace Cert.BandBlock

open Cert.KernelA1Ideal Cert.KernelA1Ideal.Gen Idealize.ShloMosaic Idealize.ShloMosaic.ValueIdx Cert.Soft Cert.Band

theorem slices_q (h : Fin 8) : S128x512.Slices ![0, 64 * h.val] S128x64 := by revert h; decide
theorem slices_k (h : Fin 8) : S256x512.Slices ![0, 64 * h.val] S256x64 := by revert h; decide
theorem slices_p (h : Fin 8) : S1024x256.Slices ![128 * h.val, 0] S128x256 := by revert h; decide
theorem slices_c (h : Fin 8) : S1024x1.Slices ![128 * h.val, 0] S128x1 := by revert h; decide

theorem slice_q_apply (q : FVec Ideal S128x512 .bf16) (h : Fin 8) (r : Fin 128) (e : Fin 64) :
    extractStridedSlice S128x64 ![0, 64 * h.val] q (slices_q h) (ix2 r e) = q (ix2 r (hcol h e)) :=
  extractStridedSlice_apply _ q _ (ix2 r e) _ fun a => match a with
    | ⟨0, _⟩ => by show r.val = 0 + r.val; omega
    | ⟨1, _⟩ => rfl

theorem slice_k_apply (k : FVec Ideal S256x512 .bf16) (h : Fin 8) (r : Fin 256) (e : Fin 64) :
    extractStridedSlice S256x64 ![0, 64 * h.val] k (slices_k h) (ix2 r e) = k (ix2 r (hcol h e)) :=
  extractStridedSlice_apply _ k _ (ix2 r e) _ fun a => match a with
    | ⟨0, _⟩ => by show r.val = 0 + r.val; omega
    | ⟨1, _⟩ => rfl

theorem slice_p_apply (p : FVec Ideal S1024x256 .bf16) (h : Fin 8) (r : Fin 128) (c : Fin 256) :
    extractStridedSlice S128x256 ![128 * h.val, 0] p (slices_p h) (ix2 r c) = p (ix2 (hrow h r) c) :=
  extractStridedSlice_apply _ p _ (ix2 r c) _ fun a => match a with
    | ⟨0, _⟩ => rfl
    | ⟨1, _⟩ => by show c.val = 0 + c.val; omega

/-- A column of per-row numbers, the head's rows taken and spread over the head's lanes. -/
theorem slice_c_apply (p : FVec Ideal S1024x1 .f32) (h : Fin 8) (r : Fin 128) (e : Fin 64) :
    broadcastTo S128x64 (extractStridedSlice S128x1 ![128 * h.val, 0] p (slices_c h)) broadcasts_S128x1_S128x64 (ix2 r e)
      = p (ix2 (hrow h r) (0 : Fin 1)) := by
  refine (broadcastTo_apply _ _ (ix2 r e) (ix2 r (0 : Fin 1)) fun a => ?_).trans
    (extractStridedSlice_apply _ p _ (ix2 r (0 : Fin 1)) _ fun a => ?_)
  · match a with
    | ⟨0, _⟩ => rfl
    | ⟨1, _⟩ => rfl
  · match a with
    | ⟨0, _⟩ => rfl
    | ⟨1, _⟩ => rfl

/-- The scores of one head: its queries against its keys. -/
def scoreHead (q : FVec Ideal S128x512 .bf16) (k : FVec Ideal S256x512 .bf16) (h : Fin 8) : FVec Ideal S128x256 .f32 :=
  matmul dot_S128x64_S256x64_S128x256_1_1_0_0_n_n none (extractStridedSlice S128x64 ![0, 64 * h.val] q (slices_q h))
    (extractStridedSlice S256x64 ![0, 64 * h.val] k (slices_k h)) (constant S128x256 .f32 0x00000000#32)

theorem scoreHead_apply (q : FVec Ideal S128x512 .bf16) (k : FVec Ideal S256x512 .bf16) (h : Fin 8) (r : Fin 128) (c : Fin 256) :
    scoreHead q k h (ix2 r c) = ∑ e : Fin 64, q (ix2 r (hcol h e)) * k (ix2 c (hcol h e)) := by
  refine (Ideal.matmul_transposedRhs_apply none _ _ _ r c).trans ?_
  rw [constant_apply, Ideal.ofBits_zero_f32, zero_add]
  exact Finset.sum_congr rfl fun e _ => by rw [slice_q_apply, slice_k_apply]

/-- The masked score of a row of the stacked heads, the weight of every later step. -/
def srow (M : IVec S1024x256 1) (q : FVec Ideal S128x512 .bf16) (k : FVec Ideal S256x512 .bf16) (h : Fin 8) (r : Fin 128)
    (c : Fin 256) : EReal :=
  Scalar.select (M (ix2 (hrow h r) c)) (∑ e : Fin 64, q (ix2 r (hcol h e)) * k (ix2 c (hcol h e))) ⊥

theorem ofBits_neg_inf : Ideal.ofBits .f32 0xFF800000#32 = ⊥ := by simp [Ideal.ofBits, Ideal.ieee]

variable (M : IVec S1024x256 1) (q : FVec Ideal S128x512 .bf16) (k v : FVec Ideal S256x512 .bf16)

theorem pay7_eq : k0_pay7 M q k = select M (concatenate S1024x256 0
      (List.ofFn fun h : Fin 8 => (⟨S128x256, scoreHead q k h⟩ : (s : Shape) × (s.Idx → EReal)))
      concatenates_S128x256_S128x256_S128x256_S128x256_S128x256_S128x256_S128x256_S128x256_S1024x256_d0)
    (broadcast S1024x256 (Scalar.ofBits (F := Ideal) .f32 0xFF800000#32)) := rfl

theorem pay7_apply (h : Fin 8) (r : Fin 128) (c : Fin 256) : k0_pay7 M q k (ix2 (hrow h r) c) = srow M q k h r c := by
  rw [pay7_eq, select_apply, broadcast_apply]
  have e := concatenate_ofFn_apply (t := S1024x256) (0 : Fin 2) (fun h : Fin 8 => scoreHead q k h)
    concatenates_S128x256_S128x256_S128x256_S128x256_S128x256_S128x256_S128x256_S128x256_S1024x256_d0 rfl 128 rfl
    (ix2 (hrow h r) c) h (by show (128 * h.val + r.val) / 128 = h.val; omega) (ix2 r c)
    (by show r.val = (128 * h.val + r.val) % 128; omega)
    (fun b hb => match b with
      | ⟨0, _⟩ => absurd rfl hb
      | ⟨1, _⟩ => rfl)
  rw [e, scoreHead_apply]
  show Scalar.select _ _ (Ideal.ofBits .f32 0xFF800000#32) = _
  rw [ofBits_neg_inf]; rfl

theorem pay8_apply (h : Fin 8) (r : Fin 128) : k0_pay8 M q k (ix2 (hrow h r) (0 : Fin 1)) = mx (srow M q k h r) := by
  unfold k0_pay8
  refine (shapeCast_a_a1_apply _ _ (hrow h r) (0 : Fin 1)).trans ?_
  refine (Ideal.multiReduction_maximumf_single _ _ _ _ _ (ix1 (hrow h r))).trans ?_
  rw [show FloatOps.ofBits (F := Ideal) .f32 0xFF800000#32 = (⊥ : EReal) from ofBits_neg_inf]
  unfold mx
  congr 1
  funext c
  exact (congrArg (k0_pay7 M q k) (by funext a; match a with | ⟨0, _⟩ => rfl | ⟨1, _⟩ => rfl)).trans (pay7_apply M q k h r c)

theorem pay9_apply (h : Fin 8) (r : Fin 128) (c : Fin 256) :
    k0_pay9 M q k (ix2 (hrow h r) c) = wt (srow M q k h r) c := by
  show Ideal.exp (k0_pay7 M q k (ix2 (hrow h r) c) - broadcastTo S1024x256 (k0_pay8 M q k) broadcasts_S1024x1_S1024x256 (ix2 (hrow h r) c)) = _
  rw [pay7_apply, broadcastTo_apply (k0_pay8 M q k) broadcasts_S1024x1_S1024x256 (ix2 (hrow h r) c) (ix2 (hrow h r) (0 : Fin 1))
    (fun a => match a with | ⟨0, _⟩ => rfl | ⟨1, _⟩ => rfl), pay8_apply]
  rfl

theorem pay10_apply (h : Fin 8) (r : Fin 128) : k0_pay10 M q k (ix2 (hrow h r) (0 : Fin 1)) = den (srow M q k h r) := by
  unfold k0_pay10
  refine (shapeCast_a_a1_apply _ _ (hrow h r) (0 : Fin 1)).trans ?_
  refine (Ideal.multiReduction_add_single _ _ _ _ _ (ix1 (hrow h r))).trans ?_
  exact Finset.sum_congr rfl fun c _ =>
    (congrArg (k0_pay9 M q k) (by funext a; match a with | ⟨0, _⟩ => rfl | ⟨1, _⟩ => rfl)).trans (pay9_apply M q k h r c)

theorem pay12_apply (h : Fin 8) (r : Fin 128) : k0_pay12 M q k (ix2 (hrow h r) (0 : Fin 1)) = lse (srow M q k h r) := by
  show k0_pay8 M q k (ix2 (hrow h r) (0 : Fin 1)) + Ideal.log (k0_pay10 M q k (ix2 (hrow h r) (0 : Fin 1))) = _
  rw [pay8_apply, pay10_apply]; rfl

theorem pay13_apply (h : Fin 8) (r : Fin 128) :
    k0_pay13 M q k (ix2 (hrow h r) (0 : Fin 1)) = Ideal.div 1 (den (srow M q k h r)) := by
  show Ideal.div (Ideal.ofBits .f32 0x3F800000#32) (k0_pay10 M q k (ix2 (hrow h r) (0 : Fin 1))) = _
  rw [pay10_apply, Ideal.ofBits_one_f32]

/-- One head's result: its weights against its values, each row times the reciprocal of its sum. -/
def outHead (v : FVec Ideal S256x512 .bf16) (p : FVec Ideal S1024x256 .bf16) (d : FVec Ideal S1024x1 .f32) (h : Fin 8) :
    FVec Ideal S128x64 .f32 :=
  mulf (matmul dot_S128x256_S256x64_S128x64_1_0_0_1_n_n none (extractStridedSlice S128x256 ![128 * h.val, 0] p (slices_p h))
      (extractStridedSlice S256x64 ![0, 64 * h.val] v (slices_k h)) (constant S128x64 .f32 0x00000000#32))
    (broadcastTo S128x64 (extractStridedSlice S128x1 ![128 * h.val, 0] d (slices_c h)) broadcasts_S128x1_S128x64)

theorem outHead_apply (p : FVec Ideal S1024x256 .bf16) (d : FVec Ideal S1024x1 .f32) (h : Fin 8) (r : Fin 128) (e : Fin 64) :
    outHead v p d h (ix2 r e)
      = (∑ c : Fin 256, p (ix2 (hrow h r) c) * v (ix2 c (hcol h e))) * d (ix2 (hrow h r) (0 : Fin 1)) := by
  unfold outHead
  rw [mulf_apply, slice_c_apply]
  refine congrArg (· * d (ix2 (hrow h r) (0 : Fin 1))) ((Ideal.matmul_plain_apply none _ _ _ r e).trans ?_)
  rw [constant_apply, Ideal.ofBits_zero_f32, zero_add]
  exact Finset.sum_congr rfl fun c _ => by rw [slice_p_apply, slice_k_apply]

/-- One head's logarithms, each row's spread over the head's lanes. -/
def lseHead (d : FVec Ideal S1024x1 .f32) (h : Fin 8) : FVec Ideal S128x64 .f32 :=
  broadcastTo S128x64 (shapeCast S128x1 (extractStridedSlice S128x1 ![128 * h.val, 0] d (slices_c h)) shapeCasts_S128x1_S128x1)
    broadcasts_S128x1_S128x64

theorem lseHead_apply (d : FVec Ideal S1024x1 .f32) (h : Fin 8) (r : Fin 128) (e : Fin 64) :
    lseHead d h (ix2 r e) = d (ix2 (hrow h r) (0 : Fin 1)) := by
  unfold lseHead
  rw [shapeCast_self, slice_c_apply]

/-- Eight heads side by side, then a unit axis in front: the block's entry is its head's. -/
theorem heads_apply (f : Fin 8 → FVec Ideal S128x64 .f32) (h : Fin 8) (r : Fin 128) (e : Fin 64) :
    shapeCast S1x128x512 (concatenate S128x512 1 (List.ofFn fun h : Fin 8 => (⟨S128x64, f h⟩ : (s : Shape) × (s.Idx → EReal)))
      concatenates_S128x64_S128x64_S128x64_S128x64_S128x64_S128x64_S128x64_S128x64_S128x512_d1) shapeCasts_S128x512_S1x128x512
      (ix3 (0 : Fin 1) r (hcol h e)) = f h (ix2 r e) := by
  refine (shapeCast_ab_1ab_apply _ _ (0 : Fin 1) r (hcol h e)).trans ?_
  exact concatenate_ofFn_apply (t := S128x512) (1 : Fin 2) f
    concatenates_S128x64_S128x64_S128x64_S128x64_S128x64_S128x64_S128x64_S128x64_S128x512_d1 rfl 64 rfl
    (ix2 r (hcol h e)) h (by show (64 * h.val + e.val) / 64 = h.val; omega) (ix2 r e)
    (by show e.val = (64 * h.val + e.val) % 64; omega)
    (fun b hb => match b with
      | ⟨0, _⟩ => rfl
      | ⟨1, _⟩ => absurd rfl hb)

variable (i : grid0.Coords) (x0 x1 x2 x3 x4 : Vec Ideal S1x128x512 .f32)

theorem hz : (![0, 0, 0] : Fin 3 → Nat) = fun _ => 0 := funext fun a => by fin_cases a <;> rfl

theorem out5_eq : out0_5 i x0 x1 x2 x3 x4 = shapeCast S1x128x512 (concatenate S128x512 1
      (List.ofFn fun h : Fin 8 => (⟨S128x64, outHead (k0_pay32 i x0 x1 x2 x3 x4) (k0_pay33 i x0 x1 x2 x3 x4)
        (k0_pay35 i x0 x1 x2 x3 x4) h⟩ : (s : Shape) × (s.Idx → EReal)))
      concatenates_S128x64_S128x64_S128x64_S128x64_S128x64_S128x64_S128x64_S128x64_S128x512_d1) shapeCasts_S128x512_S1x128x512 :=
  View.canon_unit_zero hz _ _

theorem out6_eq : out0_6 i x0 x1 x2 x3 x4 = shapeCast S1x128x512 (concatenate S128x512 1
      (List.ofFn fun h : Fin 8 => (⟨S128x64, lseHead (k0_pay34 i x0 x1 x2 x3 x4) h⟩ : (s : Shape) × (s.Idx → EReal)))
      concatenates_S128x64_S128x64_S128x64_S128x64_S128x64_S128x64_S128x64_S128x64_S128x512_d1) shapeCasts_S128x512_S1x128x512 :=
  View.canon_unit_zero hz _ _

/-! ## The body's operands: scaled queries, two blocks of keys, two blocks of values -/

/-- The two key (or value) blocks one after the other, read at a row of either. -/
def two (a b : Vec Ideal S1x128x512 .f32) (c : Fin 256) (x : Fin 512) : EReal :=
  if h : c.val < 128 then a (ix3 (0 : Fin 1) ⟨c.val, h⟩ x) else b (ix3 (0 : Fin 1) ⟨c.val - 128, by omega⟩ x)

theorem two_apply (a b : Vec Ideal S1x128x512 .f32) (c : Fin 256) (x : Fin 512) :
    concatenate S256x512 0 [⟨S128x512, shapeCast S128x512 a shapeCasts_S1x128x512_S128x512⟩,
      ⟨S128x512, shapeCast S128x512 b shapeCasts_S1x128x512_S128x512⟩] concatenates_S128x512_S128x512_S256x512_d0 (ix2 c x)
      = two a b c x := by
  unfold two
  split
  · rename_i h
    refine (concatenate_pair_apply_left (t := S256x512) (s₁ := S128x512) (s₂ := S128x512) (0 : Fin 2) _ _
      concatenates_S128x512_S128x512_S256x512_d0 (ix2 c x) rfl (ix2 (⟨c.val, h⟩ : Fin 128) x) fun b => match b with | ⟨0, _⟩ => rfl | ⟨1, _⟩ => rfl).trans ?_
    exact shapeCast_1ab_ab_apply _ _ _ _
  · rename_i h
    refine (concatenate_pair_apply_right (t := S256x512) (s₁ := S128x512) (s₂ := S128x512) (0 : Fin 2) _ _
      concatenates_S128x512_S128x512_S256x512_d0 (ix2 c x) rfl rfl (ix2 (⟨c.val - 128, by omega⟩ : Fin 128) x) (fun b hb => match b with | ⟨0, _⟩ => absurd rfl hb | ⟨1, _⟩ => rfl)
      (by show c.val - 128 + 128 = c.val; omega)).trans ?_
    exact shapeCast_1ab_ab_apply _ _ _ _

theorem pay30_apply (r : Fin 128) (x : Fin 512) : k0_pay30 i x0 x1 x2 x3 x4 (ix2 r x)
    = x0 (ix3 (0 : Fin 1) r x) * scale := by
  show shapeCast S128x512 (View.ld x0 r0_0) shapeCasts_S1x128x512_S128x512 (ix2 r x) * _ = _
  rw [View.ld_unit_zero hz, shapeCast_1ab_ab_apply]; rfl

theorem pay31_apply (c : Fin 256) (x : Fin 512) : k0_pay31 i x0 x1 x2 x3 x4 (ix2 c x) = two x1 x2 c x := by
  refine Eq.trans ?_ (two_apply x1 x2 c x)
  show concatenate S256x512 0 [⟨S128x512, shapeCast S128x512 (View.ld x1 r0_0) shapeCasts_S1x128x512_S128x512⟩,
      ⟨S128x512, shapeCast S128x512 (View.ld x2 r0_0) shapeCasts_S1x128x512_S128x512⟩] concatenates_S128x512_S128x512_S256x512_d0 (ix2 c x) = _
  rw [View.ld_unit_zero hz, View.ld_unit_zero hz]

theorem pay32_apply (c : Fin 256) (x : Fin 512) : k0_pay32 i x0 x1 x2 x3 x4 (ix2 c x) = two x3 x4 c x := by
  refine Eq.trans ?_ (two_apply x3 x4 c x)
  show concatenate S256x512 0 [⟨S128x512, shapeCast S128x512 (View.ld x3 r0_0) shapeCasts_S1x128x512_S128x512⟩,
      ⟨S128x512, shapeCast S128x512 (View.ld x4 r0_0) shapeCasts_S1x128x512_S128x512⟩] concatenates_S128x512_S128x512_S256x512_d0 (ix2 c x) = _
  rw [View.ld_unit_zero hz, View.ld_unit_zero hz]

theorem mask_words (r c j : BitVec 32) (hr : r.toNat < 128) (hc : c.toNat < 256) (hj : j.toNat < 32) (x : BitVec 32)
    (hx : x &&& 127#32 = r) :
    (IntOp.cmpi .sge (((x &&& 127#32) + 128#32) - c) 0#32 &&& IntOp.cmpi .sle (((x &&& 127#32) + 128#32) - c) 128#32)
      &&& (IntOp.cmpi .sge c 128#32 ||| IntOp.cmpi .sgt j 0#32)
    = if c.toNat ≤ r.toNat + 128 ∧ r.toNat ≤ c.toNat ∧ (128 ≤ c.toNat ∨ 0 < j.toNat) then 1#1 else 0#1 := by
  rw [hx]
  have ec : c.toInt = (c.toNat : Int) := BitVec.toInt_eq_toNat_of_lt (by omega)
  have er : r.toInt = (r.toNat : Int) := BitVec.toInt_eq_toNat_of_lt (by omega)
  have e1 : (r + 128#32 - c).toInt = (r.toNat : Int) + 128 - c.toNat := by
    have h : (128#32 : BitVec 32).toInt = 128 := by decide
    have h1 : ((r.toNat : Int) + 128).bmod (2 ^ 32) = (r.toNat : Int) + 128 := Int.bmod_eq_of_le (by omega) (by omega)
    rw [BitVec.toInt_sub, BitVec.toInt_add, er, ec, h, h1, Int.bmod_eq_of_le (by omega) (by omega)]
  have ej : j.toInt = (j.toNat : Int) := BitVec.toInt_eq_toNat_of_lt (by omega)
  have h128 : (128#32 : BitVec 32).toInt = 128 := by decide
  have h0 : (0#32 : BitVec 32).toInt = 0 := by decide
  simp only [IntOp.cmpi, BitVec.sle, BitVec.slt, e1, ec, ej, h128, h0]
  by_cases a : c.toNat ≤ r.toNat + 128 <;> by_cases b : r.toNat ≤ c.toNat <;> by_cases d : 128 ≤ c.toNat <;>
    by_cases f : 0 < j.toNat
  all_goals
    have a' : decide ((0 : Int) ≤ r.toNat + 128 - c.toNat) = decide (c.toNat ≤ r.toNat + 128) := by
      apply decide_eq_decide.2; omega
    have b' : decide ((r.toNat : Int) + 128 - c.toNat ≤ 128) = decide (r.toNat ≤ c.toNat) := by
      apply decide_eq_decide.2; omega
    have d' : decide ((128 : Int) ≤ c.toNat) = decide (128 ≤ c.toNat) := by apply decide_eq_decide.2; omega
    have f' : decide ((0 : Int) < j.toNat) = decide (0 < j.toNat) := by apply decide_eq_decide.2; omega
    rw [a', b', d', f']
    simp [a, b, d, f]

theorem pay29_apply (h : Fin 8) (r : Fin 128) (c : Fin 256) :
    k0_pay29 (F := Ideal) i x0 x1 x2 x3 x4 (ix2 (hrow h r) c) = if seen (i 1).val r c then 1#1 else 0#1 := by
  have hj : (i 1).val < 32 := (i 1).isLt
  have hr := r.isLt
  have hc := c.isLt
  have hh := h.isLt
  have i0 : iota .tc S1024x256 32 [0] iota_S1024x256_d0_w32 (ix2 (hrow h r) c) = BitVec.ofNat 32 (128 * h.val + r.val) :=
    congrArg (BitVec.ofNat 32) (by show 0 * 1024 + (128 * h.val + r.val) = _; omega)
  have i1 : iota .tc S1024x256 32 [1] iota_S1024x256_d1_w32 (ix2 (hrow h r) c) = BitVec.ofNat 32 c.val :=
    congrArg (BitVec.ofNat 32) (by show 0 * 256 + c.val = _; omega)
  have e : k0_pay29 (F := Ideal) i x0 x1 x2 x3 x4 (ix2 (hrow h r) c)
      = (IntOp.cmpi .sge (((iota .tc S1024x256 32 [0] iota_S1024x256_d0_w32 (ix2 (hrow h r) c) &&& 127#32) + 128#32)
            - iota .tc S1024x256 32 [1] iota_S1024x256_d1_w32 (ix2 (hrow h r) c)) 0#32
          &&& IntOp.cmpi .sle (((iota .tc S1024x256 32 [0] iota_S1024x256_d0_w32 (ix2 (hrow h r) c) &&& 127#32) + 128#32)
            - iota .tc S1024x256 32 [1] iota_S1024x256_d1_w32 (ix2 (hrow h r) c)) 128#32)
        &&& (IntOp.cmpi .sge (iota .tc S1024x256 32 [1] iota_S1024x256_d1_w32 (ix2 (hrow h r) c)) 128#32
          ||| IntOp.cmpi .sgt (BitVec.ofNat 32 (i 1).val) 0#32) := rfl
  rw [e, i0, i1]
  refine (mask_words (BitVec.ofNat 32 r.val) (BitVec.ofNat 32 c.val) (BitVec.ofNat 32 (i 1).val) (by simp; omega) (by simp; omega)
    (by simp; omega) (BitVec.ofNat 32 (128 * h.val + r.val)) ?_).trans ?_
  · apply BitVec.eq_of_toNat_eq
    rw [BitVec.toNat_and]
    simp only [BitVec.toNat_ofNat]
    rw [show (127 % 2 ^ 32) = 2 ^ 7 - 1 by norm_num, Nat.and_two_pow_sub_one_eq_mod]
    omega
  · have t1 : (BitVec.ofNat 32 r.val).toNat = r.val := by simp; omega
    have t2 : (BitVec.ofNat 32 c.val).toNat = c.val := by simp; omega
    have t3 : (BitVec.ofNat 32 (i 1).val).toNat = (i 1).val := by simp; omega
    rw [t1, t2, t3]; rfl

/-- The score of query `r` against key `c` in head `h`, minus infinity where the mask forbids it. -/
def score (h : Fin 8) (r : Fin 128) (c : Fin 256) : EReal :=
  if seen (i 1).val r c then ∑ e : Fin 64, (x0 (ix3 (0 : Fin 1) r (hcol h e)) * scale) * two x1 x2 c (hcol h e) else ⊥

theorem srow_eq (h : Fin 8) (r : Fin 128) : srow (k0_pay29 (F := Ideal) i x0 x1 x2 x3 x4) (k0_pay30 i x0 x1 x2 x3 x4) (k0_pay31 i x0 x1 x2 x3 x4) h r
    = score i x0 x1 x2 h r := by
  funext c
  unfold srow score
  rw [pay29_apply]
  simp only [pay30_apply, pay31_apply]
  split
  · exact select_one _ _
  · exact select_zero _ _

/-- WHAT A POINT LEAVES IN THE RESULT BLOCK: each head's softmax mean of the values. -/
theorem out5_apply (h : Fin 8) (r : Fin 128) (e : Fin 64) : out0_5 i x0 x1 x2 x3 x4 (ix3 (0 : Fin 1) r (hcol h e))
    = meanLate (score i x0 x1 x2 h r) fun c => two x3 x4 c (hcol h e) := by
  rw [out5_eq]
  refine (heads_apply (fun h => outHead (k0_pay32 i x0 x1 x2 x3 x4) (k0_pay33 i x0 x1 x2 x3 x4) (k0_pay35 i x0 x1 x2 x3 x4) h) h r e).trans ?_
  refine (outHead_apply _ _ _ h r e).trans ?_
  unfold meanLate
  rw [← srow_eq i x0 x1 x2 x3 x4 h r]
  congr 1
  · exact Finset.sum_congr rfl fun c _ => congrArg₂ (· * ·) (pay9_apply _ _ _ h r c) (pay32_apply i x0 x1 x2 x3 x4 c _)
  · exact pay13_apply _ _ _ h r

/-- WHAT A POINT LEAVES IN THE LOGARITHM BLOCK: each head's logarithm of the sum, over the head's lanes. -/
theorem out6_apply (h : Fin 8) (r : Fin 128) (e : Fin 64) : out0_6 i x0 x1 x2 x3 x4 (ix3 (0 : Fin 1) r (hcol h e))
    = lse (score i x0 x1 x2 h r) := by
  rw [out6_eq]
  refine (heads_apply (fun h => lseHead (k0_pay34 i x0 x1 x2 x3 x4) h) h r e).trans ?_
  refine (lseHead_apply _ h r e).trans ?_
  rw [← srow_eq i x0 x1 x2 x3 x4 h r]
  exact pay12_apply _ _ _ h r

end Cert.BandBlock

end
-- ==== Proof.BandRef.lean ====
/-  The REFERENCE's values: each stage of the dilated band attention read at an index, down to the masked score, the softmax
    row and the array entries of Proof/Band.lean. -/
module

public import proofs.«01_k».proof.Proof.Gen.ReferenceA1Ideal.Read
public import proofs.«01_k».proof.Proof.Band
public import Idealize.ShloMosaic.Lib.ValueIdx
public import Idealize.ShloMosaic.Lib.ValueIdxRank6
public import Idealize.ShloMosaic.Lib.IdealHost
public import Idealize.ShloMosaic.Lib.KernelVsHost

@[expose] public section

noncomputable section

namespace Cert.BandRef

open Cert.ReferenceA1Ideal Cert.ReferenceA1Ideal.Gen Cert.ReferenceA1Ideal.Read Idealize.ShloMosaic Idealize.ShloMosaic.ValueIdx
open Cert.Soft Cert.Band

variable (x : Arr) (b : Fin 4) (s : Fin 4096) (j : Fin 32) (h : Fin 8) (r : Fin 128) (c : Fin 256) (e : Fin 64)

/-- The array as batch, row, group, kind, head, channel. -/
theorem v0_at (w : Fin 3) : val_main_v0 (F := Ideal) x (ix6 b s (0 : Fin 3) w h e) = x (ix2 (arow b s) (acol w (hcol h e))) := by
  unfold val_main_v0
  refine shapeCast_apply _ _ _ _ ?_
  rw [Shape.rowMajor_val_two, Shape.rowMajor_val_six]
  show (4096 * b.val + s.val) * 4608 + (512 * w.val + (64 * h.val + e.val))
    = ((((b.val * 4096 + s.val) * 3 + 0) * 3 + w.val) * 8 + h.val) * 64 + e.val
  omega

/-- The queries, the residue axis in front of the rows. -/
theorem v8_at : val_main_v8 (F := Ideal) x (ix5 b (0 : Fin 1) s h e) = x (ix2 (arow b s) (acol 0 (hcol h e))) := by
  rw [val_main_v8_apply, show idx_main_v8 (ix5 b (0 : Fin 1) s h e) = ix5 b s (0 : Fin 1) h e from
    funext fun a => match a with | ⟨0, _⟩ => rfl | ⟨1, _⟩ => rfl | ⟨2, _⟩ => rfl | ⟨3, _⟩ => rfl | ⟨4, _⟩ => rfl]
  unfold val_main_v7
  refine (shapeCast_apply _ _ _ (ix4 b s h e) ?_).trans ?_
  · rw [Shape.rowMajor_val_four, Shape.rowMajor_val_five]
    show ((b.val * 4096 + s.val) * 8 + h.val) * 64 + e.val = (((b.val * 4096 + s.val) * 1 + 0) * 8 + h.val) * 64 + e.val
    omega
  unfold val_main_v2
  refine (shapeCast_apply _ _ _ (ix6 b s (0 : Fin 1) (0 : Fin 1) h e) ?_).trans ?_
  · rw [Shape.rowMajor_val_four, Shape.rowMajor_val_six]
    show ((((b.val * 4096 + s.val) * 1 + 0) * 1 + 0) * 8 + h.val) * 64 + e.val = ((b.val * 4096 + s.val) * 8 + h.val) * 64 + e.val
    omega
  rw [val_main_v1_apply]
  exact (congrArg (val_main_v0 (F := Ideal) x) (funext fun a => match a with
    | ⟨0, _⟩ => rfl | ⟨1, _⟩ => rfl | ⟨2, _⟩ => rfl | ⟨3, _⟩ => rfl | ⟨4, _⟩ => rfl | ⟨5, _⟩ => rfl)).trans (v0_at x b s h e 0)

/-- The keys, the residue axis in front of the rows. -/
theorem v10_at : val_main_v10 (F := Ideal) x (ix5 b (0 : Fin 1) s h e) = x (ix2 (arow b s) (acol 1 (hcol h e))) := by
  rw [val_main_v10_apply, show idx_main_v10 (ix5 b (0 : Fin 1) s h e) = ix5 b s (0 : Fin 1) h e from
    funext fun a => match a with | ⟨0, _⟩ => rfl | ⟨1, _⟩ => rfl | ⟨2, _⟩ => rfl | ⟨3, _⟩ => rfl | ⟨4, _⟩ => rfl]
  unfold val_main_v9
  refine (shapeCast_apply _ _ _ (ix4 b s h e) ?_).trans ?_
  · rw [Shape.rowMajor_val_four, Shape.rowMajor_val_five]
    show ((b.val * 4096 + s.val) * 8 + h.val) * 64 + e.val = (((b.val * 4096 + s.val) * 1 + 0) * 8 + h.val) * 64 + e.val
    omega
  unfold val_main_v4
  refine (shapeCast_apply _ _ _ (ix6 b s (0 : Fin 1) (0 : Fin 1) h e) ?_).trans ?_
  · rw [Shape.rowMajor_val_four, Shape.rowMajor_val_six]
    show ((((b.val * 4096 + s.val) * 1 + 0) * 1 + 0) * 8 + h.val) * 64 + e.val = ((b.val * 4096 + s.val) * 8 + h.val) * 64 + e.val
    omega
  rw [val_main_v3_apply]
  exact (congrArg (val_main_v0 (F := Ideal) x) (funext fun a => match a with
    | ⟨0, _⟩ => rfl | ⟨1, _⟩ => rfl | ⟨2, _⟩ => rfl | ⟨3, _⟩ => rfl | ⟨4, _⟩ => rfl | ⟨5, _⟩ => rfl)).trans (v0_at x b s h e 1)

/-- The values, the residue axis in front of the rows. -/
theorem v12_at : val_main_v12 (F := Ideal) x (ix5 b (0 : Fin 1) s h e) = x (ix2 (arow b s) (acol 2 (hcol h e))) := by
  rw [val_main_v12_apply, show idx_main_v12 (ix5 b (0 : Fin 1) s h e) = ix5 b s (0 : Fin 1) h e from
    funext fun a => match a with | ⟨0, _⟩ => rfl | ⟨1, _⟩ => rfl | ⟨2, _⟩ => rfl | ⟨3, _⟩ => rfl | ⟨4, _⟩ => rfl]
  unfold val_main_v11
  refine (shapeCast_apply _ _ _ (ix4 b s h e) ?_).trans ?_
  · rw [Shape.rowMajor_val_four, Shape.rowMajor_val_five]
    show ((b.val * 4096 + s.val) * 8 + h.val) * 64 + e.val = (((b.val * 4096 + s.val) * 1 + 0) * 8 + h.val) * 64 + e.val
    omega
  unfold val_main_v6
  refine (shapeCast_apply _ _ _ (ix6 b s (0 : Fin 1) (0 : Fin 1) h e) ?_).trans ?_
  · rw [Shape.rowMajor_val_four, Shape.rowMajor_val_six]
    show ((((b.val * 4096 + s.val) * 1 + 0) * 1 + 0) * 8 + h.val) * 64 + e.val = ((b.val * 4096 + s.val) * 8 + h.val) * 64 + e.val
    omega
  rw [val_main_v5_apply]
  exact (congrArg (val_main_v0 (F := Ideal) x) (funext fun a => match a with
    | ⟨0, _⟩ => rfl | ⟨1, _⟩ => rfl | ⟨2, _⟩ => rfl | ⟨3, _⟩ => rfl | ⟨4, _⟩ => rfl | ⟨5, _⟩ => rfl)).trans (v0_at x b s h e 2)

/-- The queries by block: no row is padded. -/
theorem v14_at : val_main_v14 (F := Ideal) x (ix6 b (0 : Fin 1) j r h e) = x (ix2 (arow b (brow j r)) (acol 0 (hcol h e))) := by
  unfold val_main_v14
  refine (shapeCast_apply _ _ _ (ix5 b (0 : Fin 1) (brow j r) h e) ?_).trans ?_
  · rw [Shape.rowMajor_val_five, Shape.rowMajor_val_six]
    show (((b.val * 1 + 0) * 4096 + (128 * j.val + r.val)) * 8 + h.val) * 64 + e.val
      = ((((b.val * 1 + 0) * 32 + j.val) * 128 + r.val) * 8 + h.val) * 64 + e.val
    omega
  unfold val_main_v13
  refine (pad_apply_of_inside _ _ _ _ _ _ _ _ (ix5 b (0 : Fin 1) (brow j r) h e) fun a => ?_).trans (v8_at x b (brow j r) h e)
  match a with
  | ⟨0, _⟩ => show b.val = 0 + b.val * (0 + 1); omega
  | ⟨1, _⟩ => rfl
  | ⟨2, _⟩ => show (128 * j.val + r.val) = 0 + (128 * j.val + r.val) * (0 + 1); omega
  | ⟨3, _⟩ => show h.val = 0 + h.val * (0 + 1); omega
  | ⟨4, _⟩ => show e.val = 0 + e.val * (0 + 1); omega

/-- The keys by block, a block of zeros in front of the first: past it, the array's rows. -/
theorem v16_at (j' : Fin 33) (s : Fin 4096) (hs : 128 * j'.val + r.val = s.val + 128) :
    val_main_v16 (F := Ideal) x (ix6 b (0 : Fin 1) j' r h e) = x (ix2 (arow b s) (acol 1 (hcol h e))) := by
  unfold val_main_v16
  refine (shapeCast_apply _ _ _ (ix5 b (0 : Fin 1) (⟨s.val + 128, by omega⟩ : Fin 4224) h e) ?_).trans ?_
  · rw [Shape.rowMajor_val_five, Shape.rowMajor_val_six]
    show (((b.val * 1 + 0) * 4224 + (s.val + 128)) * 8 + h.val) * 64 + e.val
      = ((((b.val * 1 + 0) * 33 + j'.val) * 128 + r.val) * 8 + h.val) * 64 + e.val
    omega
  unfold val_main_v15
  refine (pad_apply_of_inside _ _ _ _ _ _ _ _ (ix5 b (0 : Fin 1) s h e) fun a => ?_).trans (v10_at x b s h e)
  match a with
  | ⟨0, _⟩ => show b.val = 0 + b.val * (0 + 1); omega
  | ⟨1, _⟩ => rfl
  | ⟨2, _⟩ => show s.val + 128 = 128 + s.val * (0 + 1); omega
  | ⟨3, _⟩ => show h.val = 0 + h.val * (0 + 1); omega
  | ⟨4, _⟩ => show e.val = 0 + e.val * (0 + 1); omega

/-- The band of keys: two blocks, the one before first; at a key a query sees, the array's row. -/
theorem v21_at (hs : seen j.val r c) :
    val_main_v21 (F := Ideal) x (ix6 b (0 : Fin 1) j c h e) = x (ix2 (arow b (krow j c)) (acol 1 (hcol h e))) := by
  have hs' : 128 ≤ 128 * j.val + c.val := by unfold seen at hs; omega
  have hj := j.isLt
  have hc := c.isLt
  unfold val_main_v21
  by_cases h1 : c.val < 128
  · refine (concatenate_pair_apply_left (t := S4x1x32x256x8x64) (s₁ := S4x1x32x128x8x64) (s₂ := S4x1x32x128x8x64) (3 : Fin 6) _ _
      concatenates_S4x1x32x128x8x64_S4x1x32x128x8x64_S4x1x32x256x8x64_d3 _ rfl (ix6 b (0 : Fin 1) j (⟨c.val, h1⟩ : Fin 128) h e) fun a =>
        match a with
        | ⟨0, _⟩ => rfl | ⟨1, _⟩ => rfl | ⟨2, _⟩ => rfl | ⟨3, _⟩ => rfl | ⟨4, _⟩ => rfl | ⟨5, _⟩ => rfl).trans ?_
    rw [val_main_v19_apply]
    refine (congrArg (val_main_v16 (F := Ideal) x) (?_ : _ = ix6 b (0 : Fin 1) (⟨j.val, by omega⟩ : Fin 33) (⟨c.val, h1⟩ : Fin 128) h e)).trans
      (v16_at x b h _ e _ (krow j c) ?_)
    · funext a
      match a with
      | ⟨0, _⟩ => rfl | ⟨1, _⟩ => rfl | ⟨2, _⟩ => rfl | ⟨3, _⟩ => rfl | ⟨4, _⟩ => rfl | ⟨5, _⟩ => rfl
    · show 128 * j.val + c.val = 128 * j.val + c.val - 128 + 128
      omega
  · refine (concatenate_pair_apply_right (t := S4x1x32x256x8x64) (s₁ := S4x1x32x128x8x64) (s₂ := S4x1x32x128x8x64) (3 : Fin 6) _ _
      concatenates_S4x1x32x128x8x64_S4x1x32x128x8x64_S4x1x32x256x8x64_d3 _ rfl rfl (ix6 b (0 : Fin 1) j (⟨c.val - 128, by omega⟩ : Fin 128) h e)
      (fun a ha =>
        match a with
        | ⟨0, _⟩ => rfl | ⟨1, _⟩ => rfl | ⟨2, _⟩ => rfl | ⟨3, _⟩ => absurd rfl ha | ⟨4, _⟩ => rfl | ⟨5, _⟩ => rfl)
      (by show c.val - 128 + 128 = c.val; omega)).trans ?_
    rw [val_main_v20_apply]
    refine (congrArg (val_main_v16 (F := Ideal) x) (?_ : _ = ix6 b (0 : Fin 1) (⟨j.val + 1, by omega⟩ : Fin 33)
      (⟨c.val - 128, by omega⟩ : Fin 128) h e)).trans (v16_at x b h _ e _ (krow j c) ?_)
    · funext a
      match a with
      | ⟨0, _⟩ => rfl | ⟨1, _⟩ => rfl | ⟨2, _⟩ => exact Fin.ext (Nat.add_comm 1 j.val) | ⟨3, _⟩ => rfl | ⟨4, _⟩ => rfl | ⟨5, _⟩ => rfl
    · show 128 * (j.val + 1) + (c.val - 128) = 128 * j.val + c.val - 128 + 128
      omega

/-- The values by block, a block of zeros in front of the first: past it, the array's rows. -/
theorem v18_at (j' : Fin 33) (s : Fin 4096) (hs : 128 * j'.val + r.val = s.val + 128) :
    val_main_v18 (F := Ideal) x (ix6 b (0 : Fin 1) j' r h e) = x (ix2 (arow b s) (acol 2 (hcol h e))) := by
  unfold val_main_v18
  refine (shapeCast_apply _ _ _ (ix5 b (0 : Fin 1) (⟨s.val + 128, by omega⟩ : Fin 4224) h e) ?_).trans ?_
  · rw [Shape.rowMajor_val_five, Shape.rowMajor_val_six]
    show (((b.val * 1 + 0) * 4224 + (s.val + 128)) * 8 + h.val) * 64 + e.val
      = ((((b.val * 1 + 0) * 33 + j'.val) * 128 + r.val) * 8 + h.val) * 64 + e.val
    omega
  unfold val_main_v17
  refine (pad_apply_of_inside _ _ _ _ _ _ _ _ (ix5 b (0 : Fin 1) s h e) fun a => ?_).trans (v12_at x b s h e)
  match a with
  | ⟨0, _⟩ => show b.val = 0 + b.val * (0 + 1); omega
  | ⟨1, _⟩ => rfl
  | ⟨2, _⟩ => show s.val + 128 = 128 + s.val * (0 + 1); omega
  | ⟨3, _⟩ => show h.val = 0 + h.val * (0 + 1); omega
  | ⟨4, _⟩ => show e.val = 0 + e.val * (0 + 1); omega

/-- The band of values: two blocks, the one before first; at a key a query sees, the array's row. -/
theorem v24_at (hs : seen j.val r c) :
    val_main_v24 (F := Ideal) x (ix6 b (0 : Fin 1) j c h e) = x (ix2 (arow b (krow j c)) (acol 2 (hcol h e))) := by
  have hs' : 128 ≤ 128 * j.val + c.val := by unfold seen at hs; omega
  have hj := j.isLt
  have hc := c.isLt
  unfold val_main_v24
  by_cases h1 : c.val < 128
  · refine (concatenate_pair_apply_left (t := S4x1x32x256x8x64) (s₁ := S4x1x32x128x8x64) (s₂ := S4x1x32x128x8x64) (3 : Fin 6) _ _
      concatenates_S4x1x32x128x8x64_S4x1x32x128x8x64_S4x1x32x256x8x64_d3 _ rfl (ix6 b (0 : Fin 1) j (⟨c.val, h1⟩ : Fin 128) h e) fun a =>
        match a with
        | ⟨0, _⟩ => rfl | ⟨1, _⟩ => rfl | ⟨2, _⟩ => rfl | ⟨3, _⟩ => rfl | ⟨4, _⟩ => rfl | ⟨5, _⟩ => rfl).trans ?_
    rw [val_main_v22_apply]
    refine (congrArg (val_main_v18 (F := Ideal) x) (?_ : _ = ix6 b (0 : Fin 1) (⟨j.val, by omega⟩ : Fin 33) (⟨c.val, h1⟩ : Fin 128) h e)).trans
      (v18_at x b h _ e _ (krow j c) ?_)
    · funext a
      match a with
      | ⟨0, _⟩ => rfl | ⟨1, _⟩ => rfl | ⟨2, _⟩ => rfl | ⟨3, _⟩ => rfl | ⟨4, _⟩ => rfl | ⟨5, _⟩ => rfl
    · show 128 * j.val + c.val = 128 * j.val + c.val - 128 + 128
      omega
  · refine (concatenate_pair_apply_right (t := S4x1x32x256x8x64) (s₁ := S4x1x32x128x8x64) (s₂ := S4x1x32x128x8x64) (3 : Fin 6) _ _
      concatenates_S4x1x32x128x8x64_S4x1x32x128x8x64_S4x1x32x256x8x64_d3 _ rfl rfl (ix6 b (0 : Fin 1) j (⟨c.val - 128, by omega⟩ : Fin 128) h e)
      (fun a ha =>
        match a with
        | ⟨0, _⟩ => rfl | ⟨1, _⟩ => rfl | ⟨2, _⟩ => rfl | ⟨3, _⟩ => absurd rfl ha | ⟨4, _⟩ => rfl | ⟨5, _⟩ => rfl)
      (by show c.val - 128 + 128 = c.val; omega)).trans ?_
    rw [val_main_v23_apply]
    refine (congrArg (val_main_v18 (F := Ideal) x) (?_ : _ = ix6 b (0 : Fin 1) (⟨j.val + 1, by omega⟩ : Fin 33)
      (⟨c.val - 128, by omega⟩ : Fin 128) h e)).trans (v18_at x b h _ e _ (krow j c) ?_)
    · funext a
      match a with
      | ⟨0, _⟩ => rfl | ⟨1, _⟩ => rfl | ⟨2, _⟩ => exact Fin.ext (Nat.add_comm 1 j.val) | ⟨3, _⟩ => rfl | ⟨4, _⟩ => rfl | ⟨5, _⟩ => rfl
    · show 128 * (j.val + 1) + (c.val - 128) = 128 * j.val + c.val - 128 + 128
      omega

/-! ## The mask -/

/-- The reference's mask on words: the key no later than the query, at most 128 before it, and its position not negative. -/
theorem mask_words (r c j : BitVec 32) (hr : r.toNat < 128) (hc : c.toNat < 256) (hj : j.toNat < 32) :
    (IntOp.cmpi .sge (r + 128#32 - c) 0#32 &&& IntOp.cmpi .sle (r + 128#32 - c) 128#32)
      &&& IntOp.cmpi .sge (j * 128#32 - 128#32 + c) 0#32
    = if c.toNat ≤ r.toNat + 128 ∧ r.toNat ≤ c.toNat ∧ (128 ≤ c.toNat ∨ 0 < j.toNat) then 1#1 else 0#1 := by
  have h128 : (128#32 : BitVec 32).toInt = 128 := by decide
  have h0 : (0#32 : BitVec 32).toInt = 0 := by decide
  have ec : c.toInt = (c.toNat : Int) := BitVec.toInt_eq_toNat_of_lt (by omega)
  have er : r.toInt = (r.toNat : Int) := BitVec.toInt_eq_toNat_of_lt (by omega)
  have ej : j.toInt = (j.toNat : Int) := BitVec.toInt_eq_toNat_of_lt (by omega)
  have e1 : (r + 128#32 - c).toInt = (r.toNat : Int) + 128 - c.toNat := by
    have h1 : ((r.toNat : Int) + 128).bmod (2 ^ 32) = (r.toNat : Int) + 128 := Int.bmod_eq_of_le (by omega) (by omega)
    rw [BitVec.toInt_sub, BitVec.toInt_add, er, ec, h128, h1, Int.bmod_eq_of_le (by omega) (by omega)]
  have e2 : (j * 128#32 - 128#32 + c).toInt = (j.toNat : Int) * 128 - 128 + c.toNat := by
    have h1 : ((j.toNat : Int) * 128).bmod (2 ^ 32) = (j.toNat : Int) * 128 := Int.bmod_eq_of_le (by omega) (by omega)
    have h2 : ((j.toNat : Int) * 128 - 128).bmod (2 ^ 32) = (j.toNat : Int) * 128 - 128 := Int.bmod_eq_of_le (by omega) (by omega)
    rw [BitVec.toInt_add, BitVec.toInt_sub, BitVec.toInt_mul, ej, ec, h128, h1, h2, Int.bmod_eq_of_le (by omega) (by omega)]
  simp only [IntOp.cmpi, BitVec.sle, e1, e2, h128, h0]
  have a' : decide ((0 : Int) ≤ r.toNat + 128 - c.toNat) = decide (c.toNat ≤ r.toNat + 128) := by
    apply decide_eq_decide.2; omega
  have b' : decide ((r.toNat : Int) + 128 - c.toNat ≤ 128) = decide (r.toNat ≤ c.toNat) := by
    apply decide_eq_decide.2; omega
  have d' : decide ((0 : Int) ≤ (j.toNat : Int) * 128 - 128 + c.toNat) = decide (128 ≤ c.toNat ∨ 0 < j.toNat) := by
    apply decide_eq_decide.2; omega
  rw [a', b', d']
  by_cases a : c.toNat ≤ r.toNat + 128 <;> by_cases b : r.toNat ≤ c.toNat <;> by_cases d : 128 ≤ c.toNat <;>
    by_cases f : 0 < j.toNat <;> simp [a, b, d, f]

theorem v57_at : val_main_v57 (F := Ideal) (ix3 j r c) = if seen j.val r c then 1#1 else 0#1 := by
  have hj := j.isLt
  have hr := r.isLt
  have hc := c.isLt
  have e : val_main_v57 (F := Ideal) (ix3 j r c)
      = (IntOp.cmpi .sge (BitVec.ofNat 32 r.val + 128#32 - BitVec.ofNat 32 c.val) 0#32
          &&& IntOp.cmpi .sle (BitVec.ofNat 32 r.val + 128#32 - BitVec.ofNat 32 c.val) 128#32)
        &&& IntOp.cmpi .sge (BitVec.ofNat 32 j.val * 128#32 - 128#32 + BitVec.ofNat 32 c.val) 0#32 := by
    simp only [val_main_v57_apply, val_main_v55_apply, val_main_v56_apply, val_main_v52_apply, val_main_v54_apply, val_main_v51_apply,
      val_main_v48_apply, val_main_v50_apply, val_main_v36_apply, val_main_v34_apply, val_main_v35_apply, val_main_v33_apply,
      val_main_v29_apply, val_main_v28_apply, val_main_v32_apply, val_main_c_2_apply, val_main_v31_apply, val_main_v30_apply,
      val_main_v47_apply, val_main_c_5_apply, val_main_v49_apply, val_main_c_6_apply, val_main_v46_apply, val_main_v44_apply,
      val_main_v45_apply, val_main_v42_apply, val_main_v40_apply, val_main_v38_apply, val_main_v37_apply, val_main_v39_apply,
      val_main_c_3_apply, val_main_v41_apply, val_main_c_4_apply, val_main_v43_apply, val_main_v53_apply, val_main_c_7_apply]
    rfl
  rw [e, mask_words _ _ _ (by simp; omega) (by simp; omega) (by simp; omega)]
  have t1 : (BitVec.ofNat 32 r.val).toNat = r.val := by simp; omega
  have t2 : (BitVec.ofNat 32 c.val).toNat = c.val := by simp; omega
  have t3 : (BitVec.ofNat 32 j.val).toNat = j.val := by simp; omega
  rw [t1, t2, t3]; rfl

/-! ## The scores and the softmax -/

/-- The masked scores. -/
theorem v59_at : val_main_v59 (F := Ideal) x (ix6 b (0 : Fin 1) j h r c) = sc x b j h r c := by
  rw [val_main_v59_apply, val_main_call3_v1_apply, val_main_v58_apply, val_main_call3_v2_apply, val_main_call3_v0_apply, val_main_cst_8_apply]
  rw [show (idx_main_v58 (idx_main_call3_v1 (ix6 b (0 : Fin 1) j h r c))) = ix3 j r c from
    funext fun a => match a with | ⟨0, _⟩ => rfl | ⟨1, _⟩ => rfl | ⟨2, _⟩ => rfl, v57_at]
  unfold sc
  split
  · rename_i hs
    refine (select_one _ _).trans ?_
    rw [val_main_v27_apply, val_main_v26_apply, val_main_cst_apply, val_main_v25_apply]
    have el : ∀ e, lidx_main_v25 (ix6 b (0 : Fin 1) j h r c) e = ix6 b (0 : Fin 1) j r h e := fun e => funext fun a => match a with
      | ⟨0, _⟩ => rfl | ⟨1, _⟩ => rfl | ⟨2, _⟩ => rfl | ⟨3, _⟩ => rfl | ⟨4, _⟩ => rfl | ⟨5, _⟩ => rfl
    have er : ∀ e, ridx_main_v25 (ix6 b (0 : Fin 1) j h r c) e = ix6 b (0 : Fin 1) j c h e := fun e => funext fun a => match a with
      | ⟨0, _⟩ => rfl | ⟨1, _⟩ => rfl | ⟨2, _⟩ => rfl | ⟨3, _⟩ => rfl | ⟨4, _⟩ => rfl | ⟨5, _⟩ => rfl
    refine congrArg (· * scale) (Finset.sum_congr rfl fun e _ => ?_)
    rw [el, er, v14_at, v21_at x b j h r c e hs]
  · refine (select_zero _ _).trans ?_
    show Ideal.ofBits .f32 0xFF800000#32 = ⊥
    simp [Ideal.ofBits, Ideal.ieee]

theorem reduces_keys : S4x1x32x8x128x256.Reduces [5] S4x1x32x8x128 := by decide

theorem lift_keys (c : Fin 256) : reduces_keys.lift (ix5 b (0 : Fin 1) j h r) c = ix6 b (0 : Fin 1) j h r c := funext fun a => match a with
      | ⟨0, _⟩ => rfl | ⟨1, _⟩ => rfl | ⟨2, _⟩ => rfl | ⟨3, _⟩ => rfl | ⟨4, _⟩ => rfl | ⟨5, _⟩ => rfl

/-- The greatest score of a row. -/
theorem v60_at : val_main_v60 (F := Ideal) x (ix5 b (0 : Fin 1) j h r) = mx (sc x b j h r) := by
  unfold val_main_v60
  refine (Host.reduce_eq_fold_single (FloatOps.maximumf (F := Ideal) (φ := .f32)) _ _ _ reduces_keys _ _).trans ?_
  unfold mx
  rw [show val_main_cst_9 (F := Ideal) (Shape.Idx.first h_S_) = (⊥ : EReal) by
    show Ideal.ofBits .f32 0xFF800000#32 = ⊥
    simp [Ideal.ofBits, Ideal.ieee]]
  exact Finset.fold_congr fun c _ => (congrArg (val_main_v59 (F := Ideal) x) (lift_keys b j h r c)).trans (v59_at x b j h r c)

/-- The greatest score with a unit axis after it. -/
theorem v61_at : val_main_v61 (F := Ideal) x (ix6 b (0 : Fin 1) j h r (0 : Fin 1)) = mx (sc x b j h r) := by
  have ei : idx_main_v61 (ix6 b (0 : Fin 1) j h r (0 : Fin 1)) = ix5 b (0 : Fin 1) j h r := funext fun a => match a with
      | ⟨0, _⟩ => rfl | ⟨1, _⟩ => rfl | ⟨2, _⟩ => rfl | ⟨3, _⟩ => rfl | ⟨4, _⟩ => rfl
  rw [val_main_v61_apply, ei, v60_at]

/-- The weights of a row. -/
theorem v64_at : val_main_v64 (F := Ideal) x (ix6 b (0 : Fin 1) j h r c) = wt (sc x b j h r) c := by
  rw [val_main_v64_apply, val_main_v63_apply, v59_at, val_main_v62_apply]
  rw [show idx_main_v62 (ix6 b (0 : Fin 1) j h r c) = ix6 b (0 : Fin 1) j h r (0 : Fin 1) from funext fun a => match a with
    | ⟨0, _⟩ => rfl | ⟨1, _⟩ => rfl | ⟨2, _⟩ => rfl | ⟨3, _⟩ => rfl | ⟨4, _⟩ => rfl | ⟨5, _⟩ => rfl, v61_at]
  rfl

/-- The sum of a row's weights. -/
theorem v65_at : val_main_v65 (F := Ideal) x (ix5 b (0 : Fin 1) j h r) = den (sc x b j h r) := by
  rw [val_main_v65_apply, val_main_cst_10_apply]
  rw [show FloatOps.ofBits (F := Ideal) .f32 0x00000000#32 = (0 : EReal) from Ideal.ofBits_zero_f32, zero_add]
  have ei : ∀ c, idx_main_v65 (ix5 b (0 : Fin 1) j h r) c = ix6 b (0 : Fin 1) j h r c := fun c => funext fun a => match a with
      | ⟨0, _⟩ => rfl | ⟨1, _⟩ => rfl | ⟨2, _⟩ => rfl | ⟨3, _⟩ => rfl | ⟨4, _⟩ => rfl | ⟨5, _⟩ => rfl
  unfold den
  refine Finset.sum_congr rfl fun c _ => ?_
  rw [ei, v64_at]

theorem v66_at : val_main_v66 (F := Ideal) x (ix6 b (0 : Fin 1) j h r (0 : Fin 1)) = den (sc x b j h r) := by
  have ei : idx_main_v66 (ix6 b (0 : Fin 1) j h r (0 : Fin 1)) = ix5 b (0 : Fin 1) j h r := funext fun a => match a with
      | ⟨0, _⟩ => rfl | ⟨1, _⟩ => rfl | ⟨2, _⟩ => rfl | ⟨3, _⟩ => rfl | ⟨4, _⟩ => rfl
  rw [val_main_v66_apply, ei, v65_at]

/-- The divided weights of a row. -/
theorem v68_at : val_main_v68 (F := Ideal) x (ix6 b (0 : Fin 1) j h r c) = Ideal.div (wt (sc x b j h r) c) (den (sc x b j h r)) := by
  rw [val_main_v68_apply, v64_at, val_main_v67_apply]
  rw [show idx_main_v67 (ix6 b (0 : Fin 1) j h r c) = ix6 b (0 : Fin 1) j h r (0 : Fin 1) from funext fun a => match a with
    | ⟨0, _⟩ => rfl | ⟨1, _⟩ => rfl | ⟨2, _⟩ => rfl | ⟨3, _⟩ => rfl | ⟨4, _⟩ => rfl | ⟨5, _⟩ => rfl, v66_at]
  rfl

/-- THE ATTENTION: a row's mean of the values in its band. -/
theorem v70_at : val_main_v70 (F := Ideal) x (ix6 b (0 : Fin 1) j r h e)
    = meanEarly (sc x b j h r) fun c => val_main_v24 (F := Ideal) x (ix6 b (0 : Fin 1) j c h e) := by
  have e0 : idx_main_v70 (ix6 b (0 : Fin 1) j r h e) = ix6 b (0 : Fin 1) j h e r := funext fun a => match a with
      | ⟨0, _⟩ => rfl | ⟨1, _⟩ => rfl | ⟨2, _⟩ => rfl | ⟨3, _⟩ => rfl | ⟨4, _⟩ => rfl | ⟨5, _⟩ => rfl
  have el : ∀ c, lidx_main_v69 (ix6 b (0 : Fin 1) j h e r) c = ix6 b (0 : Fin 1) j c h e := fun c => funext fun a => match a with
      | ⟨0, _⟩ => rfl | ⟨1, _⟩ => rfl | ⟨2, _⟩ => rfl | ⟨3, _⟩ => rfl | ⟨4, _⟩ => rfl | ⟨5, _⟩ => rfl
  have er : ∀ c, ridx_main_v69 (ix6 b (0 : Fin 1) j h e r) c = ix6 b (0 : Fin 1) j h r c := fun c => funext fun a => match a with
      | ⟨0, _⟩ => rfl | ⟨1, _⟩ => rfl | ⟨2, _⟩ => rfl | ⟨3, _⟩ => rfl | ⟨4, _⟩ => rfl | ⟨5, _⟩ => rfl
  rw [val_main_v70_apply, e0, val_main_v69_apply]
  unfold meanEarly
  refine Finset.sum_congr rfl fun c _ => ?_
  rw [el, er, v68_at]

/-- The first result: at row `128 j + r` of batch `b` and channel `e` of head `h`. -/
theorem v81_at : val_main_v81 (F := Ideal) x (ix3 b (brow j r) (hcol h e))
    = meanEarly (sc x b j h r) fun c => val_main_v24 (F := Ideal) x (ix6 b (0 : Fin 1) j c h e) := by
  unfold val_main_v81
  refine (shapeCast_apply _ _ _ (ix4 b (brow j r) h e) ?_).trans ?_
  · rw [Shape.rowMajor_val_three, Shape.rowMajor_val_four]
    show ((b.val * 4096 + (128 * j.val + r.val)) * 8 + h.val) * 64 + e.val = (b.val * 4096 + (128 * j.val + r.val)) * 512 + (64 * h.val + e.val)
    omega
  unfold val_main_v77
  refine (shapeCast_apply _ _ _ (ix5 b (brow j r) (0 : Fin 1) h e) ?_).trans ?_
  · rw [Shape.rowMajor_val_four, Shape.rowMajor_val_five]
    show (((b.val * 4096 + (128 * j.val + r.val)) * 1 + 0) * 8 + h.val) * 64 + e.val = ((b.val * 4096 + (128 * j.val + r.val)) * 8 + h.val) * 64 + e.val
    omega
  have ei : idx_main_v76 (ix5 b (brow j r) (0 : Fin 1) h e) = ix5 b (0 : Fin 1) (brow j r) h e := funext fun a => match a with
      | ⟨0, _⟩ => rfl | ⟨1, _⟩ => rfl | ⟨2, _⟩ => rfl | ⟨3, _⟩ => rfl | ⟨4, _⟩ => rfl
  rw [val_main_v76_apply, ei]
  unfold val_main_v75
  refine (shapeCast_apply _ _ _ (ix6 b (0 : Fin 1) j r h e) ?_).trans (v70_at x b j h r e)
  rw [Shape.rowMajor_val_six, Shape.rowMajor_val_five]
  show ((((b.val * 1 + 0) * 32 + j.val) * 128 + r.val) * 8 + h.val) * 64 + e.val
    = (((b.val * 1 + 0) * 4096 + (128 * j.val + r.val)) * 8 + h.val) * 64 + e.val
  omega

/-- The logarithm of a row's sum. -/
theorem v72_at : val_main_v72 (F := Ideal) x (ix6 b (0 : Fin 1) j h r (0 : Fin 1)) = lse (sc x b j h r) := by
  rw [val_main_v72_apply, v61_at, val_main_v71_apply, v66_at]; rfl

/-- The second result: at the same place, the logarithm of the row's sum. -/
theorem v84_at : val_main_v84 (F := Ideal) x (ix3 b (brow j r) (hcol h e)) = lse (sc x b j h r) := by
  unfold val_main_v84
  refine (shapeCast_apply _ _ _ (ix4 b (brow j r) h e) ?_).trans ?_
  · rw [Shape.rowMajor_val_three, Shape.rowMajor_val_four]
    show ((b.val * 4096 + (128 * j.val + r.val)) * 8 + h.val) * 64 + e.val = (b.val * 4096 + (128 * j.val + r.val)) * 512 + (64 * h.val + e.val)
    omega
  have ei : idx_main_v82 (idx_main_v83 (ix4 b (brow j r) h e)) = ix3 b (brow j r) h :=
    funext fun a => match a with | ⟨0, _⟩ => rfl | ⟨1, _⟩ => rfl | ⟨2, _⟩ => rfl
  rw [val_main_v83_apply, val_main_v82_apply, ei]
  unfold val_main_v80
  refine (shapeCast_apply _ _ _ (ix4 b (brow j r) (0 : Fin 1) h) ?_).trans ?_
  · rw [Shape.rowMajor_val_four, Shape.rowMajor_val_three]
    show ((b.val * 4096 + (128 * j.val + r.val)) * 1 + 0) * 8 + h.val = (b.val * 4096 + (128 * j.val + r.val)) * 8 + h.val
    omega
  have ei : idx_main_v79 (ix4 b (brow j r) (0 : Fin 1) h) = ix4 b (0 : Fin 1) (brow j r) h :=
    funext fun a => match a with | ⟨0, _⟩ => rfl | ⟨1, _⟩ => rfl | ⟨2, _⟩ => rfl | ⟨3, _⟩ => rfl
  rw [val_main_v79_apply, ei]
  unfold val_main_v78
  refine (shapeCast_apply _ _ _ (ix5 b (0 : Fin 1) j r h) ?_).trans ?_
  · rw [Shape.rowMajor_val_five, Shape.rowMajor_val_four]
    show (((b.val * 1 + 0) * 32 + j.val) * 128 + r.val) * 8 + h.val = ((b.val * 1 + 0) * 4096 + (128 * j.val + r.val)) * 8 + h.val
    omega
  have ei : idx_main_v74 (ix5 b (0 : Fin 1) j r h) = ix5 b (0 : Fin 1) j h r := funext fun a => match a with
      | ⟨0, _⟩ => rfl | ⟨1, _⟩ => rfl | ⟨2, _⟩ => rfl | ⟨3, _⟩ => rfl | ⟨4, _⟩ => rfl
  rw [val_main_v74_apply, ei]
  unfold val_main_v73
  refine (shapeCast_apply _ _ _ (ix6 b (0 : Fin 1) j h r (0 : Fin 1)) ?_).trans (v72_at x b j h r)
  rw [Shape.rowMajor_val_six, Shape.rowMajor_val_five]
  show ((((b.val * 1 + 0) * 32 + j.val) * 8 + h.val) * 128 + r.val) * 1 + 0 = (((b.val * 1 + 0) * 32 + j.val) * 8 + h.val) * 128 + r.val
  omega

end Cert.BandRef

end
-- ==== Proof.BandArray.lean ====
/-  The KERNEL's arrays: a grid point's blocks as entries of the argument array, the body's block as the block of the
    reference's results, and so the two result arrays whole. -/
module

public import proofs.«01_k».proof.Proof.Gen.KernelA1Ideal.Value
public import proofs.«01_k».proof.Proof.BandBlock
public import proofs.«01_k».proof.Proof.BandRef
public import Idealize.ShloMosaic.Lib.Pipeline.Value
public import Idealize.ShloMosaic.Lib.Pipeline.Covers
public import Idealize.ShloMosaic.Lib.Tactic

@[expose] public section

set_option maxRecDepth 4096

noncomputable section

namespace Cert.BandArray

open Cert.KernelA1Ideal Cert.KernelA1Ideal.Gen Idealize.ShloMosaic Idealize.ShloMosaic.ValueIdx Idealize.ShloMosaic.TcCoe
open Idealize.ShloMosaic.Pipeline (Dat)
open Cert.Soft Cert.Band Cert.BandBlock Cert.BandRef
open Cert.ReferenceA1Ideal.Read (val_main_v81 val_main_v84 val_main_v24)

variable (m : (ℓ : Loc nD τ sig) → Buf (Elt Ideal) ℓ) (c : Dev nD)

/-- The argument array on device `c`. -/
abbrev arg : Arr := m ((c : Thread nD τ).loc main_arg0)

/-- The batch and the block of rows of a grid point. -/
def bt (t : Fin cfg0.N) : Fin 4 := grid0.coords t 0
def jt (t : Fin cfg0.N) : Fin 32 := grid0.coords t 1

/-- The array the region reads: the argument's rows by batch. -/
theorem entry_at (b : Fin 4) (s : Fin 4096) (l : Fin 4608) : V m c main_v0 (ix3 b s l) = arg m c (ix2 (arow b s) l) := by
  have e : V m c main_v0 = shapeCast S4x4096x4608 (arg m c) shapeCasts_S16384x4608_S4x4096x4608 := by
    show StableHlo.after hostOps0 (fun b => m (c, b)) main_v0 = _
    simp only [hostOps0]
    after_results
    rfl
  rw [e]
  refine shapeCast_apply _ _ _ _ ?_
  rw [Shape.rowMajor_val_two, Shape.rowMajor_val_three]
  show (4096 * b.val + s.val) * 4608 + l.val = (b.val * 4096 + s.val) * 4608 + l.val
  omega

/-! ## The windows' block indices -/

theorem ix_0 : ∀ t : Fin grid0.N, win0_0.index t 0 = (grid0.coords t 0).val ∧ win0_0.index t 1 = (grid0.coords t 1).val ∧ win0_0.index t 2 = 0 := by
  decide +kernel
theorem ix_1 : ∀ t : Fin grid0.N, win0_1.index t 0 = (grid0.coords t 0).val ∧ win0_1.index t 1 = (grid0.coords t 1).val - 1 ∧ win0_1.index t 2 = 1 := by
  decide +kernel
theorem ix_2 : ∀ t : Fin grid0.N, win0_2.index t 0 = (grid0.coords t 0).val ∧ win0_2.index t 1 = (grid0.coords t 1).val ∧ win0_2.index t 2 = 1 := by
  decide +kernel
theorem ix_3 : ∀ t : Fin grid0.N, win0_3.index t 0 = (grid0.coords t 0).val ∧ win0_3.index t 1 = (grid0.coords t 1).val - 1 ∧ win0_3.index t 2 = 2 := by
  decide +kernel
theorem ix_4 : ∀ t : Fin grid0.N, win0_4.index t 0 = (grid0.coords t 0).val ∧ win0_4.index t 1 = (grid0.coords t 1).val ∧ win0_4.index t 2 = 2 := by
  decide +kernel
theorem ix_5 : ∀ t : Fin grid0.N, win0_5.index t 0 = (grid0.coords t 0).val ∧ win0_5.index t 1 = (grid0.coords t 1).val ∧ win0_5.index t 2 = 0 := by
  decide +kernel
theorem ix_6 : ∀ t : Fin grid0.N, win0_6.index t 0 = (grid0.coords t 0).val ∧ win0_6.index t 1 = (grid0.coords t 1).val ∧ win0_6.index t 2 = 0 := by
  decide +kernel

/-- The block before a point's block, the first block's own where there is none. -/
def prevj (j : Fin 32) : Fin 32 := ⟨j.val - 1, by omega⟩

theorem blk_0 (t : Fin cfg0.N) (r : Fin 128) (l : Fin 512) :
    iblk m c 0 t (ix3 (0 : Fin 1) r l) = arg m c (ix2 (arow (bt t) (brow (jt t) r)) (acol 0 l)) := by
  obtain ⟨e0, e1, e2⟩ := ix_0 t
  refine Eq.trans ?_ (entry_at m c (bt t) (brow (jt t) r) (acol 0 l))
  unfold iblk
  rw [View.read_apply]
  show V m c main_v0 _ = _
  congr 1
  funext a
  apply Fin.ext
  match a with
  | ⟨0, _⟩ => show win0_0.index t 0 * 1 + 1 * 0 = (grid0.coords t 0).val; omega
  | ⟨1, _⟩ => show win0_0.index t 1 * 128 + 1 * r.val = 128 * ((grid0.coords t 1).val) + r.val; omega
  | ⟨2, _⟩ => show win0_0.index t 2 * 512 + 1 * l.val = 512 * 0 + l.val; omega

theorem blk_1 (t : Fin cfg0.N) (r : Fin 128) (l : Fin 512) :
    iblk m c 1 t (ix3 (0 : Fin 1) r l) = arg m c (ix2 (arow (bt t) (brow (prevj (jt t)) r)) (acol 1 l)) := by
  obtain ⟨e0, e1, e2⟩ := ix_1 t
  refine Eq.trans ?_ (entry_at m c (bt t) (brow (prevj (jt t)) r) (acol 1 l))
  unfold iblk
  rw [View.read_apply]
  show V m c main_v0 _ = _
  congr 1
  funext a
  apply Fin.ext
  match a with
  | ⟨0, _⟩ => show win0_1.index t 0 * 1 + 1 * 0 = (grid0.coords t 0).val; omega
  | ⟨1, _⟩ => show win0_1.index t 1 * 128 + 1 * r.val = 128 * (((grid0.coords t 1).val - 1)) + r.val; omega
  | ⟨2, _⟩ => show win0_1.index t 2 * 512 + 1 * l.val = 512 * 1 + l.val; omega

theorem blk_2 (t : Fin cfg0.N) (r : Fin 128) (l : Fin 512) :
    iblk m c 2 t (ix3 (0 : Fin 1) r l) = arg m c (ix2 (arow (bt t) (brow (jt t) r)) (acol 1 l)) := by
  obtain ⟨e0, e1, e2⟩ := ix_2 t
  refine Eq.trans ?_ (entry_at m c (bt t) (brow (jt t) r) (acol 1 l))
  unfold iblk
  rw [View.read_apply]
  show V m c main_v0 _ = _
  congr 1
  funext a
  apply Fin.ext
  match a with
  | ⟨0, _⟩ => show win0_2.index t 0 * 1 + 1 * 0 = (grid0.coords t 0).val; omega
  | ⟨1, _⟩ => show win0_2.index t 1 * 128 + 1 * r.val = 128 * ((grid0.coords t 1).val) + r.val; omega
  | ⟨2, _⟩ => show win0_2.index t 2 * 512 + 1 * l.val = 512 * 1 + l.val; omega

theorem blk_3 (t : Fin cfg0.N) (r : Fin 128) (l : Fin 512) :
    iblk m c 3 t (ix3 (0 : Fin 1) r l) = arg m c (ix2 (arow (bt t) (brow (prevj (jt t)) r)) (acol 2 l)) := by
  obtain ⟨e0, e1, e2⟩ := ix_3 t
  refine Eq.trans ?_ (entry_at m c (bt t) (brow (prevj (jt t)) r) (acol 2 l))
  unfold iblk
  rw [View.read_apply]
  show V m c main_v0 _ = _
  congr 1
  funext a
  apply Fin.ext
  match a with
  | ⟨0, _⟩ => show win0_3.index t 0 * 1 + 1 * 0 = (grid0.coords t 0).val; omega
  | ⟨1, _⟩ => show win0_3.index t 1 * 128 + 1 * r.val = 128 * (((grid0.coords t 1).val - 1)) + r.val; omega
  | ⟨2, _⟩ => show win0_3.index t 2 * 512 + 1 * l.val = 512 * 2 + l.val; omega

theorem blk_4 (t : Fin cfg0.N) (r : Fin 128) (l : Fin 512) :
    iblk m c 4 t (ix3 (0 : Fin 1) r l) = arg m c (ix2 (arow (bt t) (brow (jt t) r)) (acol 2 l)) := by
  obtain ⟨e0, e1, e2⟩ := ix_4 t
  refine Eq.trans ?_ (entry_at m c (bt t) (brow (jt t) r) (acol 2 l))
  unfold iblk
  rw [View.read_apply]
  show V m c main_v0 _ = _
  congr 1
  funext a
  apply Fin.ext
  match a with
  | ⟨0, _⟩ => show win0_4.index t 0 * 1 + 1 * 0 = (grid0.coords t 0).val; omega
  | ⟨1, _⟩ => show win0_4.index t 1 * 128 + 1 * r.val = 128 * ((grid0.coords t 1).val) + r.val; omega
  | ⟨2, _⟩ => show win0_4.index t 2 * 512 + 1 * l.val = 512 * 2 + l.val; omega

/-! ## The body's block -/

/-- At a key the query sees, the two blocks hold the rows the band names. -/
theorem two_at {j : Fin 32} {r : Fin 128} {k : Fin 256} (hs : seen j.val r k) (b : Fin 4) (w : Fin 3) (l : Fin 512)
    (x1 x2 : FVec Ideal S1x128x512 .f32) (X : Arr)
    (h1 : ∀ r l, x1 (ix3 (0 : Fin 1) r l) = X (ix2 (arow b (brow (prevj j) r)) (acol w l)))
    (h2 : ∀ r l, x2 (ix3 (0 : Fin 1) r l) = X (ix2 (arow b (brow j r)) (acol w l))) :
    two x1 x2 k l = X (ix2 (arow b (krow j k)) (acol w l)) := by
  unfold two
  split
  · rename_i hk
    rw [h1]
    refine congrArg (fun s => X (ix2 (arow b s) (acol w l))) (Fin.ext ?_)
    show 128 * (j.val - 1) + k.val = 128 * j.val + k.val - 128
    unfold seen at hs
    omega
  · rename_i hk
    rw [h2]
    refine congrArg (fun s => X (ix2 (arow b s) (acol w l))) (Fin.ext ?_)
    show 128 * j.val + (k.val - 128) = 128 * j.val + k.val - 128
    omega

variable {m c}

/-- The body's scores are the reference's. -/
theorem score_at (hx : ∀ i, Re (arg m c i)) (t : Fin cfg0.N) (h : Fin 8) (r : Fin 128) :
    score (grid0.coords t) (iblk m c 0 t) (iblk m c 1 t) (iblk m c 2 t) h r = sc (arg m c) (bt t) (jt t) h r := by
  funext k
  unfold score sc
  show (if seen (jt t).val r k then _ else _) = _
  split
  · rename_i hs
    refine Eq.trans (Finset.sum_congr rfl fun e _ => ?_) (scaled_sum
      (fun e => arg m c (ix2 (arow (bt t) (brow (jt t) r)) (acol 0 (hcol h e))))
      (fun e => arg m c (ix2 (arow (bt t) (krow (jt t) k)) (acol 1 (hcol h e)))) (fun e => hx _) (fun e => hx _))
    rw [blk_0, two_at hs (bt t) 1 (hcol h e) (iblk m c 1 t) (iblk m c 2 t) (arg m c) (blk_1 m c t) (blk_2 m c t)]
  · rfl

theorem out5_at (hx : ∀ i, Re (arg m c i)) (t : Fin cfg0.N) (h : Fin 8) (r : Fin 128) (e : Fin 64) :
    out0_5 (grid0.coords t) (iblk m c 0 t) (iblk m c 1 t) (iblk m c 2 t) (iblk m c 3 t) (iblk m c 4 t) (ix3 (0 : Fin 1) r (hcol h e))
      = val_main_v81 (F := Ideal) (arg m c) (ix3 (bt t) (brow (jt t) r) (hcol h e)) := by
  rw [out5_apply, v81_at, score_at hx]
  refine mean_eq (fun k => sc_cases hx _ _ _ _ _) _ (sc_re hx _ _ h _ _ (seen_self (jt t).val r)) fun k hk => ?_
  have hs := seen_of_ne _ _ _ _ _ hk
  rw [v24_at _ _ _ _ _ _ _ hs, two_at hs (bt t) 2 (hcol h e) (iblk m c 3 t) (iblk m c 4 t) (arg m c) (blk_3 m c t) (blk_4 m c t)]
  exact ⟨rfl, hx _⟩

theorem out6_at (hx : ∀ i, Re (arg m c i)) (t : Fin cfg0.N) (h : Fin 8) (r : Fin 128) (e : Fin 64) :
    out0_6 (grid0.coords t) (iblk m c 0 t) (iblk m c 1 t) (iblk m c 2 t) (iblk m c 3 t) (iblk m c 4 t) (ix3 (0 : Fin 1) r (hcol h e))
      = val_main_v84 (F := Ideal) (arg m c) (ix3 (bt t) (brow (jt t) r) (hcol h e)) := by
  rw [out6_apply, v84_at, score_at hx]

/-! ## The result arrays -/

/-- Every index of a block is some row and some channel of some head. -/
theorem block_index (y : S1x128x512.Idx) : ∃ (r : Fin 128) (h : Fin 8) (e : Fin 64), y = ix3 (0 : Fin 1) r (hcol h e) := by
  have h1 : (y 1 : Nat) < 128 := (y 1).isLt
  have h2 : (y 2 : Nat) < 512 := (y 2).isLt
  have h0 : (y 0 : Nat) < 1 := (y 0).isLt
  refine ⟨⟨y 1, h1⟩, ⟨(y 2 : Nat) / 64, by omega⟩, ⟨(y 2 : Nat) % 64, by omega⟩, funext fun a => Fin.ext ?_⟩
  match a with
  | ⟨0, _⟩ => show (y 0 : Nat) = 0; omega
  | ⟨1, _⟩ => rfl
  | ⟨2, _⟩ => show (y 2 : Nat) = 64 * ((y 2 : Nat) / 64) + (y 2 : Nat) % 64; omega

/-- Every batch and block of rows is some grid point's. -/
theorem point_of (b : Fin 4) (j : Fin 32) : ∃ t : Fin cfg0.N, bt t = b ∧ jt t = j := by
  obtain ⟨t, ht⟩ := Pipeline.Grid.coords_surjective grid0 (fun a => match a with | ⟨0, _⟩ => b | ⟨1, _⟩ => j | ⟨2, _⟩ => (0 : Fin 1))
  exact ⟨t, congrFun ht 0, congrFun ht 1⟩

theorem cut5 (t : Fin cfg0.N) (f : S1x128x512.Idx → EReal) (y : S1x128x512.Idx) : (cfg0.win 5).cut (grid0.coords t) f y = f y := rfl

/-- An array of result 0's shape read through a point's block. -/
theorem read5 (t : Fin cfg0.N) (G : S4x4096x512.Idx → EReal) (r : Fin 128) (l : Fin 512) :
    ((cfg0.win 5).blk t).view.read (Elt Ideal) G (ix3 (0 : Fin 1) r l) = G (ix3 (bt t) (brow (jt t) r) l) := by
  obtain ⟨e0, e1, e2⟩ := ix_5 t
  rw [View.read_apply]
  show G _ = G _
  congr 1
  funext a
  apply Fin.ext
  match a with
  | ⟨0, _⟩ => show win0_5.index t 0 * 1 + 1 * 0 = (grid0.coords t 0).val; omega
  | ⟨1, _⟩ => show win0_5.index t 1 * 128 + 1 * r.val = 128 * (grid0.coords t 1).val + r.val; omega
  | ⟨2, _⟩ => show win0_5.index t 2 * 512 + 1 * l.val = l.val; omega

/-- Where every point's block agrees with an array `G` through the block, the result array is `G`. -/
theorem cover5 (G : S4x4096x512.Idx → EReal)
    (hG : ∀ (t : Fin cfg0.N) (h : Fin 8) (r : Fin 128) (e : Fin 64),
      out0_5 (grid0.coords t) (iblk m c 0 t) (iblk m c 1 t) (iblk m c 2 t) (iblk m c 3 t) (iblk m c 4 t) (ix3 (0 : Fin 1) r (hcol h e))
        = G (ix3 (bt t) (brow (jt t) r) (hcol h e))) : (dats m 0 c).arrAt 5 cfg0.N = G := by
  refine (dats m 0 c).arrAt_eq_of_cover 5 G (fun t _ => ?_) fun i => ?_
  · rw [Value.flushed5]
    funext y
    obtain ⟨r, h, e, hy⟩ := block_index y
    refine (cut5 t _ y).trans ?_
    rw [hy]
    exact (hG t h r e).trans (read5 t G r (hcol h e)).symm
  · have h0 : (i 0 : Nat) < 4 := (i 0).isLt
    have h1 : (i 1 : Nat) < 4096 := (i 1).isLt
    have h2 : (i 2 : Nat) < 512 := (i 2).isLt
    obtain ⟨t, hb, hj⟩ := point_of ⟨(i 0 : Nat), h0⟩ ⟨(i 1 : Nat) / 128, by omega⟩
    obtain ⟨e0, e1, e2⟩ := ix_5 t
    have hb' : (grid0.coords t 0).val = (i 0 : Nat) := congrArg Fin.val hb
    have hj' : (grid0.coords t 1).val = (i 1 : Nat) / 128 := congrArg Fin.val hj
    refine ⟨t, flush0_5 t, ?_⟩
    show i ∈ ((View.whole main_v1_0).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; omega
    | ⟨1, _⟩ => show win0_5.index t 1 * 128 ≤ (i 1 : Nat) ∧ (i 1 : Nat) < win0_5.index t 1 * 128 + 128; omega
    | ⟨2, _⟩ => show win0_5.index t 2 * 512 ≤ (i 2 : Nat) ∧ (i 2 : Nat) < win0_5.index t 2 * 512 + 512; omega

/-- Result 0 of the kernel is result 0 of the reference. -/
theorem final5 (hx : ∀ i, Re (arg m c i)) : (dats m 0 c).arrAt 5 cfg0.N = val_main_v81 (F := Ideal) (arg m c) :=
  cover5 _ fun t h r e => out5_at hx t h r e

theorem cut6 (t : Fin cfg0.N) (f : S1x128x512.Idx → EReal) (y : S1x128x512.Idx) : (cfg0.win 6).cut (grid0.coords t) f y = f y := rfl

/-- An array of result 1's shape read through a point's block. -/
theorem read6 (t : Fin cfg0.N) (G : S4x4096x512.Idx → EReal) (r : Fin 128) (l : Fin 512) :
    ((cfg0.win 6).blk t).view.read (Elt Ideal) G (ix3 (0 : Fin 1) r l) = G (ix3 (bt t) (brow (jt t) r) l) := by
  obtain ⟨e0, e1, e2⟩ := ix_6 t
  rw [View.read_apply]
  show G _ = G _
  congr 1
  funext a
  apply Fin.ext
  match a with
  | ⟨0, _⟩ => show win0_6.index t 0 * 1 + 1 * 0 = (grid0.coords t 0).val; omega
  | ⟨1, _⟩ => show win0_6.index t 1 * 128 + 1 * r.val = 128 * (grid0.coords t 1).val + r.val; omega
  | ⟨2, _⟩ => show win0_6.index t 2 * 512 + 1 * l.val = l.val; omega

/-- Where every point's block agrees with an array `G` through the block, the result array is `G`. -/
theorem cover6 (G : S4x4096x512.Idx → EReal)
    (hG : ∀ (t : Fin cfg0.N) (h : Fin 8) (r : Fin 128) (e : Fin 64),
      out0_6 (grid0.coords t) (iblk m c 0 t) (iblk m c 1 t) (iblk m c 2 t) (iblk m c 3 t) (iblk m c 4 t) (ix3 (0 : Fin 1) r (hcol h e))
        = G (ix3 (bt t) (brow (jt t) r) (hcol h e))) : (dats m 0 c).arrAt 6 cfg0.N = G := by
  refine (dats m 0 c).arrAt_eq_of_cover 6 G (fun t _ => ?_) fun i => ?_
  · rw [Value.flushed6]
    funext y
    obtain ⟨r, h, e, hy⟩ := block_index y
    refine (cut6 t _ y).trans ?_
    rw [hy]
    exact (hG t h r e).trans (read6 t G r (hcol h e)).symm
  · have h0 : (i 0 : Nat) < 4 := (i 0).isLt
    have h1 : (i 1 : Nat) < 4096 := (i 1).isLt
    have h2 : (i 2 : Nat) < 512 := (i 2).isLt
    obtain ⟨t, hb, hj⟩ := point_of ⟨(i 0 : Nat), h0⟩ ⟨(i 1 : Nat) / 128, by omega⟩
    obtain ⟨e0, e1, e2⟩ := ix_6 t
    have hb' : (grid0.coords t 0).val = (i 0 : Nat) := congrArg Fin.val hb
    have hj' : (grid0.coords t 1).val = (i 1 : Nat) / 128 := congrArg Fin.val hj
    refine ⟨t, flush0_6 t, ?_⟩
    show i ∈ ((View.whole main_v1_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; omega
    | ⟨1, _⟩ => show win0_6.index t 1 * 128 ≤ (i 1 : Nat) ∧ (i 1 : Nat) < win0_6.index t 1 * 128 + 128; omega
    | ⟨2, _⟩ => show win0_6.index t 2 * 512 ≤ (i 2 : Nat) ∧ (i 2 : Nat) < win0_6.index t 2 * 512 + 512; omega

/-- Result 1 of the kernel is result 1 of the reference. -/
theorem final6 (hx : ∀ i, Re (arg m c i)) : (dats m 0 c).arrAt 6 cfg0.N = val_main_v84 (F := Ideal) (arg m c) :=
  cover6 _ fun t h r e => out6_at hx t h r e

end Cert.BandArray

end
-- ==== Proof.FfnBlock.lean ====
/-  The feed-forward kernel's BODY as a value: the block of rows one grid point leaves, a row of Proof/Ffn.lean at a time. -/
module

public import proofs.«01_k».proof.Proof.Gen.KernelFIdeal.Skeleton
public import proofs.«01_k».proof.Proof.Ffn

@[expose] public section

noncomputable section

namespace Cert.FfnBlock

open Cert.KernelFIdeal Cert.KernelFIdeal.Gen Idealize.ShloMosaic Idealize.ShloMosaic.ValueIdx Cert.Ffn

variable (x : FVec Ideal S512x1024 .f32) (g : FVec Ideal S1x1024 .f32) (wg wu : FVec Ideal S1x1x1024x2816 .bf16)
  (wd : FVec Ideal S1x1x2816x1024 .bf16)

/-- The normalized rows. -/
def normed : FVec Ideal S512x1024 .f32 :=
  mulf (mulf x (broadcastTo S512x1024 (rsqrt (addf (divf (shapeCast S512x1
    (multiReduction .add [1] S512 (mulf x x) 0x00000000#32 reduces_S512x1024_S512 (.inl rfl) rfl) shapeCasts_S512_S512x1)
    (broadcast S512x1 (Scalar.ofBits (F := Ideal) .f32 0x44800000#32))) (broadcast S512x1 (Scalar.ofBits (F := Ideal) .f32 0x358637BD#32)))) broadcasts_S512x1_S512x1024))
    (broadcastTo S512x1024 g broadcasts_S1x1024_S512x1024)

theorem normed_apply (r : Fin 512) (c : Fin 1024) : normed x g (ix2 r c) = rmsRow width (lane x r) (lane g 0) c :=
  rmsBlock_apply x g _ _ _ _ _ _ _ r c

/-- The product of the normalized rows with one half of the first weights. -/
def upper (w : FVec Ideal S1x1x1024x2816 .bf16) : FVec Ideal S512x2816 .f32 :=
  matmul dot_S512x1024_S1024x2816_S512x2816_1_0_0_1_n_n none (truncf .bf16 (normed x g) bitsLt_bf16_f32)
    (shapeCast S1024x2816 w shapeCasts_S1x1x1024x2816_S1024x2816) (constant S512x2816 .f32 0x00000000#32)

theorem upper_apply (w : FVec Ideal S1x1x1024x2816 .bf16) (r : Fin 512) (j : Fin 2816) :
    upper x g w (ix2 r j) = rowMul (rmsRow width (lane x r) (lane g 0)) (fun k j => w (ix4 (0 : Fin 1) (0 : Fin 1) k j)) j := by
  refine (product_apply _ _ r j).trans (Finset.sum_congr rfl fun k _ => ?_)
  exact congrArg₂ (fun a b : EReal => a * b) (normed_apply x g r k) (under2_apply w _ k j)

/-- The gated rows. -/
def gated : FVec Ideal S512x2816 .f32 := mulf (mulf (upper x g wg) (logistic (upper x g wg))) (upper x g wu)

theorem gated_apply (r : Fin 512) (j : Fin 2816) : gated x g wg wu (ix2 r j) = silu (upper x g wg (ix2 r j)) * upper x g wu (ix2 r j) := by
  show upper x g wg (ix2 r j) * Ideal.logistic (upper x g wg (ix2 r j)) * upper x g wu (ix2 r j) = _
  rw [logistic_eq]; rfl

theorem pay_eq : k0_pay1 (F := Ideal) x g wg wu wd = addf x (mulf (broadcast S512x1024 (Scalar.ofBits (F := Ideal) .f32 0x3F000000#32))
    (matmul dot_S512x2816_S2816x1024_S512x1024_1_0_0_1_n_n none (truncf .bf16 (gated x g wg wu) bitsLt_bf16_f32)
      (shapeCast S2816x1024 wd shapeCasts_S1x1x2816x1024_S2816x1024) (constant S512x1024 .f32 0x00000000#32))) := by
  have e : shapeCast S1x1024 g shapeCasts_S1x1024_S1x1024 = g := shapeCast_self _ _
  unfold k0_pay1
  rw [e]
  rfl

/-- One entry of the block the body stores. -/
theorem pay_apply (r : Fin 512) (c : Fin 1024) : k0_pay1 (F := Ideal) x g wg wu wd (ix2 r c)
    = ffnRow (lane x r) (lane g 0) (fun k j => wg (ix4 (0 : Fin 1) (0 : Fin 1) k j)) (fun k j => wu (ix4 (0 : Fin 1) (0 : Fin 1) k j))
        (fun j c => wd (ix4 (0 : Fin 1) (0 : Fin 1) j c)) c := by
  rw [pay_eq]
  show x (ix2 r c) + half * matmul dot_S512x2816_S2816x1024_S512x1024_1_0_0_1_n_n none _ _ _ (ix2 r c) = _
  refine congrArg (fun s => x (ix2 r c) + half * s) ((product_apply _ _ r c).trans (Finset.sum_congr rfl fun j _ => ?_))
  refine congrArg₂ (fun a b : EReal => a * b) ((gated_apply x g wg wu r j).trans ?_) (under2_apply wd _ j c)
  rw [upper_apply, upper_apply]

end Cert.FfnBlock

end
-- ==== Proof.FfnArray.lean ====
/-  The first feed-forward KERNEL's arrays: a grid point's blocks as entries of the argument arrays, the body's block as the
    block of the reference's result, and so the result array whole. -/
module

public import proofs.«01_k».proof.Proof.Gen.KernelFIdeal.Value
public import proofs.«01_k».proof.Proof.FfnBlock
public import proofs.«01_k».proof.Proof.FfnRef
public import Idealize.ShloMosaic.Lib.Pipeline.Value
public import Idealize.ShloMosaic.Lib.Pipeline.Covers
public import Idealize.ShloMosaic.Lib.Tactic

@[expose] public section

set_option maxRecDepth 4096

noncomputable section

namespace Cert.FfnArray

open Cert.KernelFIdeal Cert.KernelFIdeal.Gen Idealize.ShloMosaic Idealize.ShloMosaic.ValueIdx Idealize.ShloMosaic.TcCoe
open Idealize.ShloMosaic.Pipeline (Dat)
open Cert.Ffn Cert.FfnRef

variable (m : (ℓ : Loc nD τ sig) → Buf (Elt Ideal) ℓ) (c : Dev nD)

/-- The argument arrays on device `c`. -/
abbrev arg0 : Rows := m ((c : Thread nD τ).loc main_arg0)
abbrev arg1 : Gain := m ((c : Thread nD τ).loc main_arg1)
abbrev arg2 : Up := m ((c : Thread nD τ).loc main_arg2)
abbrev arg3 : Down := m ((c : Thread nD τ).loc main_arg3)

/-- Row `r` of a grid point's block of 512 rows. -/
def prow (t : Fin cfg0.N) (r : Fin 512) : Fin 16384 :=
  ⟨512 * (grid0.coords t 0).val + r.val, by have h : (grid0.coords t 0).val < 32 := (grid0.coords t 0).isLt; omega⟩

/-! ## The arrays the region reads -/

theorem entry_up : V m c main_v0 = arg2 m c := by
  show StableHlo.after hostOps0 (fun b => m (c, b)) main_v0 = _
  simp only [hostOps0]
  after_results
  rfl

theorem entry_down : V m c main_v1 = arg3 m c := by
  show StableHlo.after hostOps0 (fun b => m (c, b)) main_v1 = _
  simp only [hostOps0]
  after_results
  rfl

theorem entry_gain (k : Fin 1024) : V m c main_v2 (ix2 (0 : Fin 1) k) = arg1 m c (ix1 k) := by
  have e : V m c main_v2 = shapeCast S1x1024 (arg1 m c) shapeCasts_S1024_S1x1024 := by
    show StableHlo.after hostOps0 (fun b => m (c, b)) main_v2 = _
    simp only [hostOps0]
    after_results
    rfl
  rw [e]
  exact shapeCast_a_1a_apply _ _ _ k

/-! ## The windows' block indices and blocks -/

theorem ix_0 : ∀ t : Fin grid0.N, win0_0.index t 0 = (grid0.coords t 0).val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 ∧ win0_2.index t 2 = 0 ∧ win0_2.index t 3 = 0 := by decide +kernel
theorem ix_3 : ∀ t : Fin grid0.N, win0_3.index t 0 = 0 ∧ win0_3.index t 1 = 0 ∧ win0_3.index t 2 = 0 ∧ win0_3.index t 3 = 1 := by decide +kernel
theorem ix_4 : ∀ t : Fin grid0.N, win0_4.index t 0 = 0 ∧ win0_4.index t 1 = 0 ∧ win0_4.index t 2 = 0 ∧ win0_4.index t 3 = 0 := by decide +kernel
theorem ix_5 : ∀ t : Fin grid0.N, win0_5.index t 0 = (grid0.coords t 0).val ∧ win0_5.index t 1 = 0 := by decide +kernel

theorem blk_0 (t : Fin cfg0.N) (r : Fin 512) (k : Fin 1024) : iblk m c 0 t (ix2 r k) = arg0 m c (ix2 (prow t r) k) := by
  obtain ⟨e0, e1⟩ := ix_0 t
  refine Eq.trans ?_ (congrFun (V_main_arg0 m c) (ix2 (prow t r) k))
  unfold iblk
  rw [View.read_apply]
  show V m c main_arg0 _ = _
  congr 1
  funext a
  apply Fin.ext
  match a with
  | ⟨0, _⟩ => show win0_0.index t 0 * 512 + 1 * r.val = 512 * (grid0.coords t 0).val + r.val; omega
  | ⟨1, _⟩ => show win0_0.index t 1 * 1024 + 1 * k.val = k.val; omega

theorem blk_1 (t : Fin cfg0.N) (k : Fin 1024) : iblk m c 1 t (ix2 (0 : Fin 1) k) = arg1 m c (ix1 k) := by
  obtain ⟨e0, e1⟩ := ix_1 t
  refine Eq.trans ?_ (entry_gain m c k)
  unfold iblk
  rw [View.read_apply]
  show V m c main_v2 _ = _
  congr 1
  funext a
  apply Fin.ext
  match a with
  | ⟨0, _⟩ => show win0_1.index t 0 * 1 + 1 * 0 = 0; omega
  | ⟨1, _⟩ => show win0_1.index t 1 * 1024 + 1 * k.val = k.val; omega

theorem blk_2 (t : Fin cfg0.N) (k : Fin 1024) (j : Fin 2816) :
    iblk m c 2 t (ix4 (0 : Fin 1) (0 : Fin 1) k j) = arg2 m c (ix4 (0 : Fin 4) (0 : Fin 2) k (gcol j)) := by
  obtain ⟨e0, e1, e2, e3⟩ := ix_2 t
  refine Eq.trans ?_ (congrFun (entry_up m c) (ix4 (0 : Fin 4) (0 : Fin 2) k (gcol j)))
  unfold iblk
  rw [View.read_apply]
  show V m c main_v0 _ = _
  congr 1
  funext a
  apply Fin.ext
  match a with
  | ⟨0, _⟩ => show win0_2.index t 0 * 1 + 1 * 0 = 0; omega
  | ⟨1, _⟩ => show win0_2.index t 1 * 1 + 1 * 0 = 0; omega
  | ⟨2, _⟩ => show win0_2.index t 2 * 1024 + 1 * k.val = k.val; omega
  | ⟨3, _⟩ => show win0_2.index t 3 * 2816 + 1 * j.val = j.val; omega

theorem blk_3 (t : Fin cfg0.N) (k : Fin 1024) (j : Fin 2816) :
    iblk m c 3 t (ix4 (0 : Fin 1) (0 : Fin 1) k j) = arg2 m c (ix4 (0 : Fin 4) (0 : Fin 2) k (ucol j)) := by
  obtain ⟨e0, e1, e2, e3⟩ := ix_3 t
  refine Eq.trans ?_ (congrFun (entry_up m c) (ix4 (0 : Fin 4) (0 : Fin 2) k (ucol j)))
  unfold iblk
  rw [View.read_apply]
  show V m c main_v0 _ = _
  congr 1
  funext a
  apply Fin.ext
  match a with
  | ⟨0, _⟩ => show win0_3.index t 0 * 1 + 1 * 0 = 0; omega
  | ⟨1, _⟩ => show win0_3.index t 1 * 1 + 1 * 0 = 0; omega
  | ⟨2, _⟩ => show win0_3.index t 2 * 1024 + 1 * k.val = k.val; omega
  | ⟨3, _⟩ => show win0_3.index t 3 * 2816 + 1 * j.val = 2816 + j.val; omega

theorem blk_4 (t : Fin cfg0.N) (j : Fin 2816) (k : Fin 1024) :
    iblk m c 4 t (ix4 (0 : Fin 1) (0 : Fin 1) j k) = arg3 m c (ix4 (0 : Fin 4) (0 : Fin 2) j k) := by
  obtain ⟨e0, e1, e2, e3⟩ := ix_4 t
  refine Eq.trans ?_ (congrFun (entry_down m c) (ix4 (0 : Fin 4) (0 : Fin 2) j k))
  unfold iblk
  rw [View.read_apply]
  show V m c main_v1 _ = _
  congr 1
  funext a
  apply Fin.ext
  match a with
  | ⟨0, _⟩ => show win0_4.index t 0 * 1 + 1 * 0 = 0; omega
  | ⟨1, _⟩ => show win0_4.index t 1 * 1 + 1 * 0 = 0; omega
  | ⟨2, _⟩ => show win0_4.index t 2 * 2816 + 1 * j.val = j.val; omega
  | ⟨3, _⟩ => show win0_4.index t 3 * 1024 + 1 * k.val = k.val; omega

/-! ## The body's block and the result array -/

/-- One entry of a point's block of the result. -/
theorem out_at (t : Fin cfg0.N) (r : Fin 512) (k : Fin 1024) :
    out0_5 (iblk m c 0 t) (iblk m c 1 t) (iblk m c 2 t) (iblk m c 3 t) (iblk m c 4 t) (ix2 r k)
      = row (arg0 m c) (arg1 m c) (arg2 m c) (arg3 m c) 0 0 (prow t r) k := by
  have hz2 : (![0, 0] : Fin 2 → Nat) = fun _ => 0 := by funext a; match a with | ⟨0, _⟩ => rfl | ⟨1, _⟩ => rfl
  have hz4 : (![0, 0, 0, 0] : Fin 4 → Nat) = fun _ => 0 := by
    funext a; match a with | ⟨0, _⟩ => rfl | ⟨1, _⟩ => rfl | ⟨2, _⟩ => rfl | ⟨3, _⟩ => rfl
  unfold out0_5
  rw [View.canon_unit_zero hz2, View.ld_unit_zero hz2, View.ld_unit_zero hz2, View.ld_unit_zero hz4, View.ld_unit_zero hz4, View.ld_unit_zero hz4,
    FfnBlock.pay_apply]
  unfold row
  have f0 : lane (φ := .f32) (iblk m c 0 t) r = lane (arg0 m c) (prow t r) := funext fun k => blk_0 m c t r k
  have f1 : lane (φ := .f32) (iblk m c 1 t) (0 : Fin 1) = fun k => arg1 m c (ix1 k) := funext fun k => blk_1 m c t k
  rw [f0, f1, funext fun k => funext fun j => blk_2 m c t k j, funext fun k => funext fun j => blk_3 m c t k j,
    funext fun j => funext fun k => blk_4 m c t j k]

theorem cut_at (t : Fin cfg0.N) (f : S512x1024.Idx → EReal) (y : S512x1024.Idx) : (cfg0.win 5).cut (grid0.coords t) f y = f y := rfl

/-- An array of the result's shape read through a point's block. -/
theorem read_at (t : Fin cfg0.N) (G : S16384x1024.Idx → EReal) (r : Fin 512) (k : Fin 1024) :
    ((cfg0.win 5).blk t).view.read (Elt Ideal) G (ix2 r k) = G (ix2 (prow t r) k) := by
  obtain ⟨e0, e1⟩ := ix_5 t
  rw [View.read_apply]
  show G _ = G _
  congr 1
  funext a
  apply Fin.ext
  match a with
  | ⟨0, _⟩ => show win0_5.index t 0 * 512 + 1 * r.val = 512 * (grid0.coords t 0).val + r.val; omega
  | ⟨1, _⟩ => show win0_5.index t 1 * 1024 + 1 * k.val = k.val; omega

/-- Where every point's block agrees with an array `G` through the block, the result array is `G`. -/
theorem cover (G : S16384x1024.Idx → EReal)
    (hG : ∀ (t : Fin cfg0.N) (r : Fin 512) (k : Fin 1024),
      out0_5 (iblk m c 0 t) (iblk m c 1 t) (iblk m c 2 t) (iblk m c 3 t) (iblk m c 4 t) (ix2 r k) = G (ix2 (prow t r) k)) :
    (dats m 0 c).arrAt 5 cfg0.N = G := by
  refine (dats m 0 c).arrAt_eq_of_cover 5 G (fun t _ => ?_) fun i => ?_
  · rw [Value.flushed5]
    funext y
    have hy : y = ix2 (y 0) (y 1) := funext fun a => match a with | ⟨0, _⟩ => rfl | ⟨1, _⟩ => rfl
    refine (cut_at t _ y).trans ?_
    rw [hy]
    exact (hG t (y 0) (y 1)).trans (read_at t G (y 0) (y 1)).symm
  · have h0 : (i 0 : Nat) < 16384 := (i 0).isLt
    have h1 : (i 1 : Nat) < 1024 := (i 1).isLt
    obtain ⟨t, ht⟩ := Pipeline.Grid.coords_surjective grid0 (fun a => match a with | ⟨0, _⟩ => (⟨(i 0 : Nat) / 512, by omega⟩ : Fin 32))
    have hj : (grid0.coords t 0).val = (i 0 : Nat) / 512 := congrArg Fin.val (congrFun ht 0)
    obtain ⟨e0, e1⟩ := ix_5 t
    refine ⟨t, flush0_5 t, ?_⟩
    show i ∈ ((View.whole main_v3).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; omega
    | ⟨1, _⟩ => show win0_5.index t 1 * 1024 ≤ (i 1 : Nat) ∧ (i 1 : Nat) < win0_5.index t 1 * 1024 + 1024; omega

/-- The kernel's result is the reference's. -/
theorem final : (dats m 0 c).arrAt 5 cfg0.N
    = Cert.ReferenceFIdeal.Read.val_main_v25 (F := Ideal) (arg0 m c) (arg1 m c) (arg2 m c) (arg3 m c) :=
  cover m c _ fun t r k => (out_at m c t r k).trans (ref_at (arg0 m c) (arg1 m c) (arg2 m c) (arg3 m c) (prow t r) k).symm

end Cert.FfnArray

end
-- ==== Proof.MixB.lean ====
/-  The feed-forward block AFTER A MIXING STEP: the block applied to rows a projection was added to.  Here what every such call
    shares (a layer's weights taken out of the stack), and the call whose mixing step only projects its input. -/
module

public import proofs.«01_k».proof.Proof.Gen.KernelFBIdeal.Skeleton
public import proofs.«01_k».proof.Proof.Gen.ReferenceFBIdeal.Read
public import proofs.«01_k».proof.Proof.FfnBlock
public import proofs.«01_k».proof.Proof.FfnRef

@[expose] public section

noncomputable section

namespace Cert.Mix

open Idealize.ShloMosaic Idealize.ShloMosaic.ValueIdx Cert.Ffn Cert.FfnRef

/-- A stack of weights whose every member is member `(a, b)` of `w`. -/
def layerOf {p q : Nat} (w : FVec Ideal ⟨4, ![4, 2, p, q]⟩ .f32) (a : Fin 4) (b : Fin 2) : FVec Ideal ⟨4, ![4, 2, p, q]⟩ .f32 :=
  fun i => w (ix4 a b (i 2) (i 3))

/-- Member `(a, b)` cut out of a stack is the first member of the stack `layerOf` makes of it. -/
theorem cut_layerOf {p q : Nat} (w : FVec Ideal ⟨4, ![4, 2, p, q]⟩ .f32) (a : Fin 4) (b : Fin 2) (off : Fin 4 → Nat) (hoff : off = ![a.val, b.val, 0, 0])
    (h : (⟨4, ![4, 2, p, q]⟩ : Shape).Slices off ⟨4, ![1, 1, p, q]⟩)
    (h' : (⟨4, ![4, 2, p, q]⟩ : Shape).Slices ![0, 0, 0, 0] ⟨4, ![1, 1, p, q]⟩) :
    extractStridedSlice ⟨4, ![1, 1, p, q]⟩ off w h = extractStridedSlice ⟨4, ![1, 1, p, q]⟩ ![0, 0, 0, 0] (layerOf w a b) h' := by
  subst hoff
  funext j
  have j0 : (j 0).val < 1 := (j 0).isLt
  have j1 : (j 1).val < 1 := (j 1).isLt
  refine congrArg w (funext fun ax => Fin.ext ?_)
  match ax with
  | ⟨0, _⟩ => show a.val + (j 0).val = a.val; omega
  | ⟨1, _⟩ => show b.val + (j 1).val = b.val; omega
  | ⟨2, _⟩ => rfl
  | ⟨3, _⟩ => rfl

theorem row_layerOf (x : Rows) (g : Gain) (up : Up) (dn : Down) (a : Fin 4) (b : Fin 2) (i : Fin 16384) (c : Fin 1024) :
    row x g (layerOf up a b) (layerOf dn a b) 0 0 i c = row x g up dn a b i c := rfl

end Cert.Mix

namespace Cert.MixB

open Idealize.ShloMosaic Idealize.ShloMosaic.ValueIdx Cert.Ffn Cert.FfnRef Cert.Mix

section kernel

open Cert.KernelFBIdeal Cert.KernelFBIdeal.Gen

variable (x o : FVec Ideal S512x1024 .f32) (w : FVec Ideal S1024x1024 .bf16) (g : FVec Ideal S1x1024 .f32) (wg wu : FVec Ideal S1x1x1024x2816 .bf16)
  (wd : FVec Ideal S1x1x2816x1024 .bf16)

/-- The stored block is the feed-forward kernel's, of the mixed rows. -/
theorem pay_eq : k0_pay1 (F := Ideal) (k0_pay2 (F := Ideal) x o w) (k0_pay3 (F := Ideal) x o w g wg wu) wd
    = Cert.KernelFIdeal.Gen.k0_pay1 (F := Ideal) (k0_pay2 (F := Ideal) x o w) g wg wu wd := rfl

/-- The mixed rows: a row plus the projection of the mixing step's row. -/
theorem mixed_apply (r : Fin 512) (c : Fin 1024) :
    k0_pay2 (F := Ideal) x o w (ix2 r c) = x (ix2 r c) + rowMul (lane o r) (fun k j => w (ix2 k j)) c := by
  have e : shapeCast S1024x1024 w shapeCasts_S1024x1024_S1024x1024 = w := shapeCast_self _ _
  unfold k0_pay2
  rw [e]
  exact congrArg (fun s => x (ix2 r c) + s) (product_apply (truncf .bf16 o bitsLt_bf16_f32) w r c)

end kernel

section reference

open Cert.ReferenceFBIdeal Cert.ReferenceFBIdeal.Read

variable (x : Rows) (g : Gain) (up : Up) (dn : Down) (o : Rows) (w : FVec Ideal ⟨2, ![1024, 1024]⟩ .f32)

/-- The reference's mixed rows. -/
theorem mixed_at (i : Fin 16384) (c : Fin 1024) :
    val_main_v1 (F := Ideal) x o w (ix2 i c) = x (ix2 i c) + rowMul (lane o i) (fun k j => w (ix2 k j)) c := by
  have el : ∀ k, lidx_main_v0 (ix2 i c) k = ix2 i k := fun k => funext fun a => match a with | ⟨0, _⟩ => rfl | ⟨1, _⟩ => rfl
  have er : ∀ k, ridx_main_v0 (ix2 i c) k = ix2 k c := fun k => funext fun a => match a with | ⟨0, _⟩ => rfl | ⟨1, _⟩ => rfl
  rw [val_main_v1_apply, val_main_v0_apply]
  exact congrArg (fun s => x (ix2 i c) + s) (Finset.sum_congr rfl fun k _ => by rw [el k, er k])

/-- The reference is the feed-forward reference of the mixed rows. -/
theorem ref_at (i : Fin 16384) (c : Fin 1024) :
    val_main_v27 (F := Ideal) x g up dn o w (ix2 i c) = row (val_main_v1 (F := Ideal) x o w) g up dn 1 1 i c := by
  have e15 : val_main_v15 (F := Ideal) up = Cert.ReferenceFIdeal.Read.val_main_v13 (F := Ideal) (layerOf up 1 1) := cut_layerOf up 1 1 _ rfl _ _
  have e17 : val_main_v17 (F := Ideal) dn = Cert.ReferenceFIdeal.Read.val_main_v15 (F := Ideal) (layerOf dn 1 1) := cut_layerOf dn 1 1 _ rfl _ _
  have e16 : val_main_v16 (F := Ideal) up = Cert.ReferenceFIdeal.Read.val_main_v14 (F := Ideal) (layerOf up 1 1) := by
    unfold val_main_v16; rw [e15]; rfl
  have e18 : val_main_v18 (F := Ideal) dn = Cert.ReferenceFIdeal.Read.val_main_v16 (F := Ideal) (layerOf dn 1 1) := by
    unfold val_main_v18; rw [e17]; rfl
  have e : val_main_v27 (F := Ideal) x g up dn o w
      = Cert.ReferenceFIdeal.Read.val_main_v25 (F := Ideal) (val_main_v1 (F := Ideal) x o w) g (layerOf up 1 1) (layerOf dn 1 1) := by
    have e19 : val_main_v19 (F := Ideal) x g up o w
        = Cert.ReferenceFIdeal.Read.val_main_v17 (F := Ideal) (val_main_v1 (F := Ideal) x o w) g (layerOf up 1 1) := by
      unfold val_main_v19; rw [e16]; rfl
    have e23 : val_main_v23 (F := Ideal) x g up o w
        = Cert.ReferenceFIdeal.Read.val_main_v21 (F := Ideal) (val_main_v1 (F := Ideal) x o w) g (layerOf up 1 1) := by
      unfold val_main_v23 val_main_v22 val_main_call0_v5 val_main_call0_v3 val_main_call0_v1 val_main_call0_v0 val_main_v21 val_main_v20; rw [e19]; rfl
    unfold val_main_v27 val_main_v26 val_main_v24; rw [e23, e18]; rfl
  rw [e, FfnRef.ref_at]
  exact row_layerOf _ g up dn 1 1 i c

end reference

end Cert.MixB

end
-- ==== Proof.MixBArray.lean ====
/-  The feed-forward kernel after the attention's projection: its arrays, a grid point's blocks as entries of the arguments, and the
    result array whole. -/
module

public import proofs.«01_k».proof.Proof.Gen.KernelFBIdeal.Value
public import proofs.«01_k».proof.Proof.MixB
public import Idealize.ShloMosaic.Lib.Pipeline.Value
public import Idealize.ShloMosaic.Lib.Pipeline.Covers
public import Idealize.ShloMosaic.Lib.Tactic

@[expose] public section

set_option maxRecDepth 4096

noncomputable section

namespace Cert.MixBArray

open Cert.KernelFBIdeal Cert.KernelFBIdeal.Gen Idealize.ShloMosaic Idealize.ShloMosaic.ValueIdx Idealize.ShloMosaic.TcCoe
open Idealize.ShloMosaic.Pipeline (Dat)
open Cert.Ffn Cert.FfnRef

variable (m : (ℓ : Loc nD τ sig) → Buf (Elt Ideal) ℓ) (c : Dev nD)

/-- The argument arrays on device `c`. -/
abbrev arg0 : Rows := m ((c : Thread nD τ).loc main_arg0)
abbrev arg1 : Gain := m ((c : Thread nD τ).loc main_arg1)
abbrev arg2 : Up := m ((c : Thread nD τ).loc main_arg2)
abbrev arg3 : Down := m ((c : Thread nD τ).loc main_arg3)
abbrev arg4 : Rows := m ((c : Thread nD τ).loc main_arg4)
abbrev arg5 : FVec Ideal ⟨2, ![1024, 1024]⟩ .f32 := m ((c : Thread nD τ).loc main_arg5)

/-- Row `r` of a grid point's block of 512 rows. -/
def prow (t : Fin cfg0.N) (r : Fin 512) : Fin 16384 :=
  ⟨512 * (grid0.coords t 0).val + r.val, by have h : (grid0.coords t 0).val < 32 := (grid0.coords t 0).isLt; omega⟩

/-! ## The arrays the region reads -/

theorem entry_0 : V m c main_v0 = arg5 m c := by
  show StableHlo.after hostOps0 (fun b => m (c, b)) main_v0 = _
  simp only [hostOps0]
  after_results
  rfl

theorem entry_1 : V m c main_v1 = arg2 m c := by
  show StableHlo.after hostOps0 (fun b => m (c, b)) main_v1 = _
  simp only [hostOps0]
  after_results
  rfl

theorem entry_2 : V m c main_v2 = arg3 m c := by
  show StableHlo.after hostOps0 (fun b => m (c, b)) main_v2 = _
  simp only [hostOps0]
  after_results
  rfl

theorem entry_3 (k : Fin 1024) : V m c main_v3 (ix2 (0 : Fin 1) k) = arg1 m c (ix1 k) := by
  have e : V m c main_v3 = shapeCast S1x1024 (arg1 m c) shapeCasts_S1024_S1x1024 := by
    show StableHlo.after hostOps0 (fun b => m (c, b)) main_v3 = _
    simp only [hostOps0]
    after_results
    rfl
  rw [e]
  exact shapeCast_a_1a_apply _ _ _ k

/-! ## The windows' block indices and blocks -/

theorem ix_0 : ∀ t : Fin grid0.N, win0_0.index t 0 = (grid0.coords t 0).val ∧ win0_0.index t 1 = 0 := by decide +kernel
theorem ix_1 : ∀ t : Fin grid0.N, win0_1.index t 0 = (grid0.coords t 0).val ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 1 ∧ win0_4.index t 1 = 1 ∧ win0_4.index t 2 = 0 ∧ win0_4.index t 3 = 0 := by decide +kernel
theorem ix_5 : ∀ t : Fin grid0.N, win0_5.index t 0 = 1 ∧ win0_5.index t 1 = 1 ∧ win0_5.index t 2 = 0 ∧ win0_5.index t 3 = 1 := by decide +kernel
theorem ix_6 : ∀ t : Fin grid0.N, win0_6.index t 0 = 1 ∧ win0_6.index t 1 = 1 ∧ win0_6.index t 2 = 0 ∧ win0_6.index t 3 = 0 := by decide +kernel
theorem ix_7 : ∀ t : Fin grid0.N, win0_7.index t 0 = (grid0.coords t 0).val ∧ win0_7.index t 1 = 0 := by decide +kernel

theorem blk_0 (t : Fin cfg0.N) (r : Fin 512) (k : Fin 1024) : iblk m c 0 t (ix2 r k) = arg0 m c (ix2 (prow t r) k) := by
  obtain ⟨e0, e1⟩ := ix_0 t
  refine Eq.trans ?_ (congrFun (V_main_arg0 m c) (ix2 (prow t r) k))
  unfold iblk
  rw [View.read_apply]
  show V m c main_arg0 _ = _
  congr 1
  funext a
  apply Fin.ext
  match a with
  | ⟨0, _⟩ => show win0_0.index t 0 * 512 + 1 * r.val = 512 * (grid0.coords t 0).val + r.val; omega
  | ⟨1, _⟩ => show win0_0.index t 1 * 1024 + 1 * k.val = k.val; omega

theorem blk_1 (t : Fin cfg0.N) (r : Fin 512) (k : Fin 1024) : iblk m c 1 t (ix2 r k) = arg4 m c (ix2 (prow t r) k) := by
  obtain ⟨e0, e1⟩ := ix_1 t
  refine Eq.trans ?_ (congrFun (V_main_arg4 m c) (ix2 (prow t r) k))
  unfold iblk
  rw [View.read_apply]
  show V m c main_arg4 _ = _
  congr 1
  funext a
  apply Fin.ext
  match a with
  | ⟨0, _⟩ => show win0_1.index t 0 * 512 + 1 * r.val = 512 * (grid0.coords t 0).val + r.val; omega
  | ⟨1, _⟩ => show win0_1.index t 1 * 1024 + 1 * k.val = k.val; omega

theorem blk_2 (t : Fin cfg0.N) (k : Fin 1024) (j : Fin 1024) : iblk m c 2 t (ix2 k j) = arg5 m c (ix2 k j) := by
  obtain ⟨e0, e1⟩ := ix_2 t
  refine Eq.trans ?_ (congrFun (entry_0 m c) (ix2 k j))
  unfold iblk
  rw [View.read_apply]
  show V m c main_v0 _ = _
  congr 1
  funext a
  apply Fin.ext
  match a with
  | ⟨0, _⟩ => show win0_2.index t 0 * 1024 + 1 * k.val = k.val; omega
  | ⟨1, _⟩ => show win0_2.index t 1 * 1024 + 1 * j.val = j.val; omega

theorem blk_3 (t : Fin cfg0.N) (k : Fin 1024) : iblk m c 3 t (ix2 (0 : Fin 1) k) = arg1 m c (ix1 k) := by
  obtain ⟨e0, e1⟩ := ix_3 t
  refine Eq.trans ?_ (entry_3 m c k)
  unfold iblk
  rw [View.read_apply]
  show V m c main_v3 _ = _
  congr 1
  funext a
  apply Fin.ext
  match a with
  | ⟨0, _⟩ => show win0_3.index t 0 * 1 + 1 * 0 = 0; omega
  | ⟨1, _⟩ => show win0_3.index t 1 * 1024 + 1 * k.val = k.val; omega

theorem blk_4 (t : Fin cfg0.N) (k : Fin 1024) (j : Fin 2816) :
    iblk m c 4 t (ix4 (0 : Fin 1) (0 : Fin 1) k j) = arg2 m c (ix4 (1 : Fin 4) (1 : Fin 2) k (gcol j)) := by
  obtain ⟨e0, e1, e2, e3⟩ := ix_4 t
  refine Eq.trans ?_ (congrFun (entry_1 m c) (ix4 (1 : Fin 4) (1 : Fin 2) k (gcol j)))
  unfold iblk
  rw [View.read_apply]
  show V m c main_v1 _ = _
  congr 1
  funext a
  apply Fin.ext
  match a with
  | ⟨0, _⟩ => show win0_4.index t 0 * 1 + 1 * 0 = 1; omega
  | ⟨1, _⟩ => show win0_4.index t 1 * 1 + 1 * 0 = 1; omega
  | ⟨2, _⟩ => show win0_4.index t 2 * 1024 + 1 * k.val = k.val; omega
  | ⟨3, _⟩ => show win0_4.index t 3 * 2816 + 1 * j.val = j.val; omega

theorem blk_5 (t : Fin cfg0.N) (k : Fin 1024) (j : Fin 2816) :
    iblk m c 5 t (ix4 (0 : Fin 1) (0 : Fin 1) k j) = arg2 m c (ix4 (1 : Fin 4) (1 : Fin 2) k (ucol j)) := by
  obtain ⟨e0, e1, e2, e3⟩ := ix_5 t
  refine Eq.trans ?_ (congrFun (entry_1 m c) (ix4 (1 : Fin 4) (1 : Fin 2) k (ucol j)))
  unfold iblk
  rw [View.read_apply]
  show V m c main_v1 _ = _
  congr 1
  funext a
  apply Fin.ext
  match a with
  | ⟨0, _⟩ => show win0_5.index t 0 * 1 + 1 * 0 = 1; omega
  | ⟨1, _⟩ => show win0_5.index t 1 * 1 + 1 * 0 = 1; omega
  | ⟨2, _⟩ => show win0_5.index t 2 * 1024 + 1 * k.val = k.val; omega
  | ⟨3, _⟩ => show win0_5.index t 3 * 2816 + 1 * j.val = 2816 + j.val; omega

theorem blk_6 (t : Fin cfg0.N) (j : Fin 2816) (k : Fin 1024) :
    iblk m c 6 t (ix4 (0 : Fin 1) (0 : Fin 1) j k) = arg3 m c (ix4 (1 : Fin 4) (1 : Fin 2) j k) := by
  obtain ⟨e0, e1, e2, e3⟩ := ix_6 t
  refine Eq.trans ?_ (congrFun (entry_2 m c) (ix4 (1 : Fin 4) (1 : Fin 2) j k))
  unfold iblk
  rw [View.read_apply]
  show V m c main_v2 _ = _
  congr 1
  funext a
  apply Fin.ext
  match a with
  | ⟨0, _⟩ => show win0_6.index t 0 * 1 + 1 * 0 = 1; omega
  | ⟨1, _⟩ => show win0_6.index t 1 * 1 + 1 * 0 = 1; omega
  | ⟨2, _⟩ => show win0_6.index t 2 * 2816 + 1 * j.val = j.val; omega
  | ⟨3, _⟩ => show win0_6.index t 3 * 1024 + 1 * k.val = k.val; omega

/-! ## The body's block and the result array -/

/-- One entry of a point's block of the result. -/
theorem out_at (t : Fin cfg0.N) (r : Fin 512) (k : Fin 1024) :
    out0_7 (iblk m c 0 t) (iblk m c 1 t) (iblk m c 2 t) (iblk m c 3 t) (iblk m c 4 t) (iblk m c 5 t) (iblk m c 6 t) (ix2 r k)
      = row (Cert.ReferenceFBIdeal.Read.val_main_v1 (F := Ideal) (arg0 m c) (arg4 m c) (arg5 m c)) (arg1 m c) (arg2 m c) (arg3 m c) 1 1 (prow t r) k := by
  have hz2 : (![0, 0] : Fin 2 → Nat) = fun _ => 0 := by funext a; match a with | ⟨0, _⟩ => rfl | ⟨1, _⟩ => rfl
  have hz4 : (![0, 0, 0, 0] : Fin 4 → Nat) = fun _ => 0 := by
    funext a; match a with | ⟨0, _⟩ => rfl | ⟨1, _⟩ => rfl | ⟨2, _⟩ => rfl | ⟨3, _⟩ => rfl
  have f0 : lane (φ := .f32) (Cert.KernelFBIdeal.Gen.k0_pay2 (F := Ideal) (iblk m c 0 t) (iblk m c 1 t) (iblk m c 2 t)) r
      = lane (φ := .f32) (Cert.ReferenceFBIdeal.Read.val_main_v1 (F := Ideal) (arg0 m c) (arg4 m c) (arg5 m c)) (prow t r) := funext fun k => by
    have fo : lane (φ := .f32) (iblk m c 1 t) r = lane (arg4 m c) (prow t r) := funext fun k => blk_1 m c t r k
    refine (MixB.mixed_apply _ _ _ r k).trans (Eq.trans ?_ (MixB.mixed_at (arg0 m c) (arg4 m c) (arg5 m c) (prow t r) k).symm)
    rw [fo, blk_0, funext fun k => funext fun j => blk_2 m c t k j]
  have f1 : lane (φ := .f32) (iblk m c 3 t) (0 : Fin 1) = fun k => arg1 m c (ix1 k) := funext fun k => blk_3 m c t k
  unfold out0_7
  rw [View.canon_unit_zero hz2, View.ld_unit_zero hz2, View.ld_unit_zero hz2, View.ld_unit_zero hz2, View.ld_unit_zero hz2, View.ld_unit_zero hz4,
    View.ld_unit_zero hz4, View.ld_unit_zero hz4, MixB.pay_eq, FfnBlock.pay_apply]
  unfold row
  rw [f0, f1, funext fun k => funext fun j => blk_4 m c t k j, funext fun k => funext fun j => blk_5 m c t k j,
    funext fun j => funext fun k => blk_6 m c t j k]

theorem cut_at (t : Fin cfg0.N) (f : S512x1024.Idx → EReal) (y : S512x1024.Idx) : (cfg0.win 7).cut (grid0.coords t) f y = f y := rfl

/-- An array of the result's shape read through a point's block. -/
theorem read_at (t : Fin cfg0.N) (G : S16384x1024.Idx → EReal) (r : Fin 512) (k : Fin 1024) :
    ((cfg0.win 7).blk t).view.read (Elt Ideal) G (ix2 r k) = G (ix2 (prow t r) k) := by
  obtain ⟨e0, e1⟩ := ix_7 t
  rw [View.read_apply]
  show G _ = G _
  congr 1
  funext a
  apply Fin.ext
  match a with
  | ⟨0, _⟩ => show win0_7.index t 0 * 512 + 1 * r.val = 512 * (grid0.coords t 0).val + r.val; omega
  | ⟨1, _⟩ => show win0_7.index t 1 * 1024 + 1 * k.val = k.val; omega

/-- Where every point's block agrees with an array `G` through the block, the result array is `G`. -/
theorem cover (G : S16384x1024.Idx → EReal)
    (hG : ∀ (t : Fin cfg0.N) (r : Fin 512) (k : Fin 1024),
      out0_7 (iblk m c 0 t) (iblk m c 1 t) (iblk m c 2 t) (iblk m c 3 t) (iblk m c 4 t) (iblk m c 5 t) (iblk m c 6 t) (ix2 r k) = G (ix2 (prow t r) k)) :
    (dats m 0 c).arrAt 7 cfg0.N = G := by
  refine (dats m 0 c).arrAt_eq_of_cover 7 G (fun t _ => ?_) fun i => ?_
  · rw [Value.flushed7]
    funext y
    have hy : y = ix2 (y 0) (y 1) := funext fun a => match a with | ⟨0, _⟩ => rfl | ⟨1, _⟩ => rfl
    refine (cut_at t _ y).trans ?_
    rw [hy]
    exact (hG t (y 0) (y 1)).trans (read_at t G (y 0) (y 1)).symm
  · have h0 : (i 0 : Nat) < 16384 := (i 0).isLt
    have h1 : (i 1 : Nat) < 1024 := (i 1).isLt
    obtain ⟨t, ht⟩ := Pipeline.Grid.coords_surjective grid0 (fun a => match a with | ⟨0, _⟩ => (⟨(i 0 : Nat) / 512, by omega⟩ : Fin 32))
    have hj : (grid0.coords t 0).val = (i 0 : Nat) / 512 := congrArg Fin.val (congrFun ht 0)
    obtain ⟨e0, e1⟩ := ix_7 t
    refine ⟨t, flush0_7 t, ?_⟩
    show i ∈ ((View.whole main_v4).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; omega
    | ⟨1, _⟩ => show win0_7.index t 1 * 1024 ≤ (i 1 : Nat) ∧ (i 1 : Nat) < win0_7.index t 1 * 1024 + 1024; omega

/-- The kernel's result is the reference's. -/
theorem final : (dats m 0 c).arrAt 7 cfg0.N
    = Cert.ReferenceFBIdeal.Read.val_main_v27 (F := Ideal) (arg0 m c) (arg1 m c) (arg2 m c) (arg3 m c) (arg4 m c) (arg5 m c) :=
  cover m c _ fun t r k => (out_at m c t r k).trans (MixB.ref_at (arg0 m c) (arg1 m c) (arg2 m c) (arg3 m c) (arg4 m c) (arg5 m c) (prow t r) k).symm

end Cert.MixBArray

end
-- ==== Proof.MixC.lean ====
/-  The feed-forward block after the mixing step that normalizes its input in GROUPS of 256 columns, gates it by columns of the
    projections and projects it. -/
module

public import proofs.«01_k».proof.Proof.Gen.KernelFCIdeal.Skeleton
public import proofs.«01_k».proof.Proof.Gen.ReferenceFCIdeal.Read
public import proofs.«01_k».proof.Proof.MixB

@[expose] public section

noncomputable section

namespace Cert.MixC

open Idealize.ShloMosaic Idealize.ShloMosaic.ValueIdx Cert.Ffn Cert.FfnRef Cert.Mix

/-- Entry `e` of group `h`, as a column. -/
abbrev col (h : Fin 4) (e : Fin 256) : Fin 1024 := ⟨256 * h.val + e.val, by omega⟩

/-- The group of a column. -/
abbrev grp (c : Fin 1024) : Fin 4 := ⟨c.val / 256, by omega⟩

/-- The place of a column in its group. -/
abbrev ent (c : Fin 1024) : Fin 256 := ⟨c.val % 256, by omega⟩

/-- A row normalized in groups, each by its own root mean square, and gated. -/
def gatedRow (o y : Fin 1024 → EReal) (ng : Fin 256 → EReal) (c : Fin 1024) : EReal :=
  rmsRow (Ideal.ofBits .f32 0x43800000#32) (fun e => o (col (grp c) e)) ng (ent c) * silu (y c)

section kernel

open Cert.KernelFCIdeal Cert.KernelFCIdeal.Gen

variable (x o y : FVec Ideal S512x1024 .f32) (ng : FVec Ideal S1x256 .f32) (w : FVec Ideal S1024x1024 .bf16) (g : FVec Ideal S1x1024 .f32)
  (wg wu : FVec Ideal S1x1x1024x2816 .bf16) (wd : FVec Ideal S1x1x2816x1024 .bf16)

/-- The mixed rows as the body has them. -/
def mixed : FVec Ideal S512x1024 .f32 :=
  k0_pay7 (F := Ideal) x (k0_pay2 (F := Ideal) ng) (k0_pay3 (F := Ideal) o ng) (k0_pay4 (F := Ideal) o ng) (k0_pay5 (F := Ideal) o ng)
    (k0_pay6 (F := Ideal) o) y w

/-- The stored block is the feed-forward kernel's, of the mixed rows. -/
theorem pay_eq : k0_pay1 (F := Ideal) (mixed x o y ng w)
      (k0_pay8 (F := Ideal) x (k0_pay2 (F := Ideal) ng) (k0_pay3 (F := Ideal) o ng) (k0_pay4 (F := Ideal) o ng) (k0_pay5 (F := Ideal) o ng)
        (k0_pay6 (F := Ideal) o) y w g)
      (k0_pay9 (F := Ideal) x (k0_pay2 (F := Ideal) ng) (k0_pay3 (F := Ideal) o ng) (k0_pay4 (F := Ideal) o ng) (k0_pay5 (F := Ideal) o ng)
        (k0_pay6 (F := Ideal) o) y w g wg) wu wd
    = Cert.KernelFIdeal.Gen.k0_pay1 (F := Ideal) (mixed x o y ng w) g wg wu wd := rfl

theorem slices_o (h : Fin 4) : S512x1024.Slices ![0, 256 * h.val] S512x256 := by
  match h with
  | ⟨0, _⟩ => exact slices_S512x1024_o0_0_S512x256
  | ⟨1, _⟩ => exact slices_S512x1024_o0_256_S512x256
  | ⟨2, _⟩ => exact slices_S512x1024_o0_512_S512x256
  | ⟨3, _⟩ => exact slices_S512x1024_o0_768_S512x256

/-- One group of the block's columns. -/
def group (h : Fin 4) : FVec Ideal S512x256 .f32 := extractStridedSlice S512x256 ![0, 256 * h.val] o (slices_o h)

theorem group_apply (h : Fin 4) (r : Fin 512) (e : Fin 256) : group o h (ix2 r e) = o (ix2 r (col h e)) :=
  extractStridedSlice_apply _ o (slices_o h) (ix2 r e) (ix2 r (col h e)) fun a => match a with
    | ⟨0, _⟩ => by show r.val = 0 + r.val; omega
    | ⟨1, _⟩ => rfl

/-- One group normalized. -/
def normedGroup (h : Fin 4) : FVec Ideal S512x256 .f32 :=
  mulf (mulf (group o h) (broadcastTo S512x256 (rsqrt (addf (divf (shapeCast S512x1
    (multiReduction .add [1] S512 (mulf (group o h) (group o h)) 0x00000000#32 reduces_S512x256_S512 (.inl rfl) rfl) shapeCasts_S512_S512x1)
    (broadcast S512x1 (Scalar.ofBits (F := Ideal) .f32 0x43800000#32))) (broadcast S512x1 (Scalar.ofBits (F := Ideal) .f32 0x358637BD#32)))) broadcasts_S512x1_S512x256))
    (broadcastTo S512x256 ng broadcasts_S1x256_S512x256)

theorem normedGroup_apply (h : Fin 4) (r : Fin 512) (e : Fin 256) :
    normedGroup o ng h (ix2 r e) = rmsRow (Ideal.ofBits .f32 0x43800000#32) (fun e => o (ix2 r (col h e))) (lane ng 0) e :=
  (rmsBlock_apply (group o h) ng _ _ _ _ _ _ _ r e).trans
    (congrArg (fun z : Fin 256 → EReal => rmsRow (Ideal.ofBits .f32 0x43800000#32) z (lane ng 0) e) (funext fun e => group_apply o h r e))

/-- The normalized groups side by side. -/
def groups : FVec Ideal S512x1024 .f32 := concatenate S512x1024 1
  (List.ofFn fun h : Fin 4 => (⟨S512x256, normedGroup o ng h⟩ : (s : Shape) × (s.Idx → EReal))) concatenates_S512x256_S512x256_S512x256_S512x256_S512x1024_d1

theorem groups_apply (r : Fin 512) (c : Fin 1024) :
    groups o ng (ix2 r c) = rmsRow (Ideal.ofBits .f32 0x43800000#32) (fun e => o (ix2 r (col (grp c) e))) (lane ng 0) (ent c) := by
  refine (concatenate_ofFn_apply (t := S512x1024) (1 : Fin 2) (fun h : Fin 4 => normedGroup o ng h)
    concatenates_S512x256_S512x256_S512x256_S512x256_S512x1024_d1 rfl 256 rfl (ix2 r c) (grp c) rfl (ix2 r (ent c)) rfl
    (fun b hb => match b with
      | ⟨0, _⟩ => rfl
      | ⟨1, _⟩ => absurd rfl hb)).trans ?_
  exact normedGroup_apply o ng (grp c) r (ent c)

theorem mixed_eq : mixed x o y ng w = addf x (matmul dot_S512x1024_S1024x1024_S512x1024_1_0_0_1_n_n none
    (truncf .bf16 (mulf (groups o ng) (mulf y (logistic y))) bitsLt_bf16_f32) w (constant S512x1024 .f32 0x00000000#32)) := by
  have e : shapeCast S1024x1024 w shapeCasts_S1024x1024_S1024x1024 = w := shapeCast_self _ _
  have e2 : k0_pay2 (F := Ideal) ng = ng := shapeCast_self _ _
  unfold mixed k0_pay7 k0_pay3 k0_pay4 k0_pay5 k0_pay6
  rw [e, e2]
  rfl

/-- The mixed rows: a row plus the projection of the gated row. -/
theorem mixed_apply (r : Fin 512) (c : Fin 1024) :
    mixed x o y ng w (ix2 r c) = x (ix2 r c) + rowMul (gatedRow (lane o r) (lane y r) (lane ng 0)) (fun k j => w (ix2 k j)) c := by
  rw [mixed_eq]
  refine congrArg (fun s => x (ix2 r c) + s) ((product_apply _ w r c).trans (Finset.sum_congr rfl fun k _ => ?_))
  refine congrArg (fun s : EReal => s * w (ix2 k c)) ?_
  show groups o ng (ix2 r k) * (y (ix2 r k) * Ideal.logistic (y (ix2 r k))) = _
  rw [groups_apply, logistic_eq]
  rfl

end kernel

section reference

open Cert.ReferenceFCIdeal Cert.ReferenceFCIdeal.Read

variable (x : Rows) (g : Gain) (up : Up) (dn : Down) (o : Rows) (y : FVec Ideal ⟨2, ![16384, 3200]⟩ .f32) (ng : FVec Ideal ⟨1, ![256]⟩ .f32)
  (w : FVec Ideal ⟨2, ![1024, 1024]⟩ .f32)

theorem v1_at (i : Fin 16384) (h : Fin 4) (e : Fin 256) : val_main_v1 (F := Ideal) o (ix3 i h e) = o (ix2 i (col h e)) := by
  have ei : idx_main_v1 (ix3 i h e) = ix2 i (col h e) := funext fun a => match a with
    | ⟨0, _⟩ => Fin.ext (by show ((i.val * 4 + h.val) * 256 + e.val) / 1024 = i.val; omega)
    | ⟨1, _⟩ => Fin.ext (by show ((i.val * 4 + h.val) * 256 + e.val) % 1024 = 256 * h.val + e.val; omega)
  rw [val_main_v1_apply, ei]

theorem v14_at (i : Fin 16384) (h : Fin 4) (e : Fin 256) : val_main_v14 (F := Ideal) o ng (ix3 i h e)
    = rmsRow (Ideal.ofBits .f32 0x43800000#32) (fun e => o (ix2 i (col h e))) (fun e => ng (ix1 e)) e := by
  have e10 : idx_main_v10 (ix3 i h e) = ix3 i h (0 : Fin 1) := funext fun a => match a with | ⟨0, _⟩ => rfl | ⟨1, _⟩ => rfl | ⟨2, _⟩ => rfl
  have e13 : idx_main_v13 (ix3 i h e) = ix3 (0 : Fin 1) (0 : Fin 1) e := funext fun a => match a with | ⟨0, _⟩ => rfl | ⟨1, _⟩ => rfl | ⟨2, _⟩ => rfl
  have e12 : idx_main_v12 (ix3 (0 : Fin 1) (0 : Fin 1) e) = ix1 e := funext fun a => match a with | ⟨0, _⟩ => rfl
  have e4 : idx_main_v4 (ix3 i h (0 : Fin 1)) = ix2 i h := funext fun a => match a with | ⟨0, _⟩ => rfl | ⟨1, _⟩ => rfl
  have e3 : ∀ k : Fin 256, idx_main_v3 (ix2 i h) k = ix3 i h k := fun k => funext fun a => match a with | ⟨0, _⟩ => rfl | ⟨1, _⟩ => rfl | ⟨2, _⟩ => rfl
  have hs : val_main_v3 (F := Ideal) o (ix2 i h) = ∑ k : Fin 256, o (ix2 i (col h k)) * o (ix2 i (col h k)) := by
    rw [val_main_v3_apply, val_main_cst_apply]
    refine (congrArg (fun z => z + _) Ideal.ofBits_zero_f32).trans ?_
    rw [zero_add]
    exact Finset.sum_congr rfl fun k _ => by
      rw [e3 k, val_main_v2_apply, v1_at]; rfl
  rw [val_main_v14_apply, val_main_v11_apply, v1_at, val_main_v10_apply, e10, val_main_v9_apply, val_main_v8_apply, val_main_v6_apply,
    val_main_v4_apply, e4, hs, val_main_v5_apply, val_main_cst_0_apply, val_main_v7_apply, val_main_cst_1_apply, val_main_v13_apply, e13,
    val_main_v12_apply, e12]
  rfl

theorem v15_at (i : Fin 16384) (c : Fin 1024) : val_main_v15 (F := Ideal) o ng (ix2 i c)
    = rmsRow (Ideal.ofBits .f32 0x43800000#32) (fun e => o (ix2 i (col (grp c) e))) (fun e => ng (ix1 e)) (ent c) := by
  have ei : idx_main_v15 (ix2 i c) = ix3 i (grp c) (ent c) := funext fun a => match a with
    | ⟨0, _⟩ => Fin.ext (by show (i.val * 1024 + c.val) / 1024 = i.val; omega)
    | ⟨1, _⟩ => Fin.ext (by show (i.val * 1024 + c.val) / 256 % 4 = c.val / 256; omega)
    | ⟨2, _⟩ => Fin.ext (by show (i.val * 1024 + c.val) % 256 = c.val % 256; omega)
  rw [val_main_v15_apply, ei, v14_at]

/-- The columns of the projections the gate reads. -/
abbrev gateCol (c : Fin 1024) : Fin 3200 := ⟨2048 + c.val, by omega⟩

theorem v16_at (i : Fin 16384) (c : Fin 1024) : val_main_v16 (F := Ideal) y (ix2 i c) = silu (y (ix2 i (gateCol c))) := by
  have e0 : idx_main_v0 (ix2 i c) = ix2 i (gateCol c) := funext fun a => match a with
    | ⟨0, _⟩ => by first | rfl | exact Fin.ext (by show 0 + i.val = i.val; omega)
    | ⟨1, _⟩ => by first | rfl | exact Fin.ext (by show c.val + 2048 = 2048 + c.val; omega)
  rw [val_main_v16_apply, val_main_call0_v5_apply, val_main_call0_v4_apply, val_main_call0_cst_0_apply, val_main_call0_v3_apply,
    val_main_call0_v2_apply, val_main_call0_cst_apply, val_main_call0_v1_apply, val_main_call0_v0_apply, val_main_v0_apply, e0]
  show y (ix2 i (gateCol c)) * Ideal.div (Ideal.ofBits .f32 0x3F800000#32) (Ideal.ofBits .f32 0x3F800000#32 + Ideal.exp (-y (ix2 i (gateCol c)))) = _
  rw [Ideal.ofBits_one_f32]; rfl

/-- The reference's mixed rows. -/
theorem mixed_at (i : Fin 16384) (c : Fin 1024) : val_main_v19 (F := Ideal) x o y ng w (ix2 i c)
    = x (ix2 i c) + rowMul (gatedRow (lane o i) (fun c => y (ix2 i (gateCol c))) (fun e => ng (ix1 e))) (fun k j => w (ix2 k j)) c := by
  have el : ∀ k, lidx_main_v18 (ix2 i c) k = ix2 i k := fun k => funext fun a => match a with | ⟨0, _⟩ => rfl | ⟨1, _⟩ => rfl
  have er : ∀ k, ridx_main_v18 (ix2 i c) k = ix2 k c := fun k => funext fun a => match a with | ⟨0, _⟩ => rfl | ⟨1, _⟩ => rfl
  rw [val_main_v19_apply, val_main_v18_apply]
  refine congrArg (fun s => x (ix2 i c) + s) (Finset.sum_congr rfl fun k _ => ?_)
  rw [el k, er k, val_main_v17_apply, v15_at, v16_at]
  rfl

/-- The reference is the feed-forward reference of the mixed rows. -/
theorem ref_at (i : Fin 16384) (c : Fin 1024) :
    val_main_v45 (F := Ideal) x g up dn o y ng w (ix2 i c) = row (val_main_v19 (F := Ideal) x o y ng w) g up dn 2 1 i c := by
  have e33 : val_main_v33 (F := Ideal) up = Cert.ReferenceFIdeal.Read.val_main_v13 (F := Ideal) (layerOf up 2 1) := cut_layerOf up 2 1 _ rfl _ _
  have e35 : val_main_v35 (F := Ideal) dn = Cert.ReferenceFIdeal.Read.val_main_v15 (F := Ideal) (layerOf dn 2 1) := cut_layerOf dn 2 1 _ rfl _ _
  have e34 : val_main_v34 (F := Ideal) up = Cert.ReferenceFIdeal.Read.val_main_v14 (F := Ideal) (layerOf up 2 1) := by
    unfold val_main_v34; rw [e33]; rfl
  have e36 : val_main_v36 (F := Ideal) dn = Cert.ReferenceFIdeal.Read.val_main_v16 (F := Ideal) (layerOf dn 2 1) := by
    unfold val_main_v36; rw [e35]; rfl
  have e : val_main_v45 (F := Ideal) x g up dn o y ng w
      = Cert.ReferenceFIdeal.Read.val_main_v25 (F := Ideal) (val_main_v19 (F := Ideal) x o y ng w) g (layerOf up 2 1) (layerOf dn 2 1) := by
    have e37 : val_main_v37 (F := Ideal) x g up o y ng w
        = Cert.ReferenceFIdeal.Read.val_main_v17 (F := Ideal) (val_main_v19 (F := Ideal) x o y ng w) g (layerOf up 2 1) := by
      unfold val_main_v37; rw [e34]; rfl
    have e41 : val_main_v41 (F := Ideal) x g up o y ng w
        = Cert.ReferenceFIdeal.Read.val_main_v21 (F := Ideal) (val_main_v19 (F := Ideal) x o y ng w) g (layerOf up 2 1) := by
      unfold val_main_v41 val_main_v40 val_main_call1_v5 val_main_call1_v3 val_main_call1_v1 val_main_call1_v0 val_main_v39 val_main_v38; rw [e37]; rfl
    unfold val_main_v45 val_main_v44 val_main_v42; rw [e41, e36]; rfl
  rw [e, FfnRef.ref_at]
  exact row_layerOf _ g up dn 2 1 i c

end reference

end Cert.MixC

end
-- ==== Proof.MixCArray.lean ====
/-  The feed-forward kernel after the grouped normalization, the gate and the projection: its arrays, a grid point's blocks as entries of
    the arguments, and the result array whole. -/
module

public import proofs.«01_k».proof.Proof.Gen.KernelFCIdeal.Value
public import proofs.«01_k».proof.Proof.MixC
public import Idealize.ShloMosaic.Lib.Pipeline.Value
public import Idealize.ShloMosaic.Lib.Pipeline.Covers
public import Idealize.ShloMosaic.Lib.Tactic

@[expose] public section

set_option maxRecDepth 4096

noncomputable section

namespace Cert.MixCArray

open Cert.KernelFCIdeal Cert.KernelFCIdeal.Gen Idealize.ShloMosaic Idealize.ShloMosaic.ValueIdx Idealize.ShloMosaic.TcCoe
open Idealize.ShloMosaic.Pipeline (Dat)
open Cert.Ffn Cert.FfnRef

variable (m : (ℓ : Loc nD τ sig) → Buf (Elt Ideal) ℓ) (c : Dev nD)

/-- The argument arrays on device `c`. -/
abbrev arg0 : Rows := m ((c : Thread nD τ).loc main_arg0)
abbrev arg1 : Gain := m ((c : Thread nD τ).loc main_arg1)
abbrev arg2 : Up := m ((c : Thread nD τ).loc main_arg2)
abbrev arg3 : Down := m ((c : Thread nD τ).loc main_arg3)
abbrev arg4 : FVec Ideal ⟨2, ![16384, 1024]⟩ .f32 := m ((c : Thread nD τ).loc main_arg4)
abbrev arg5 : FVec Ideal ⟨2, ![16384, 3200]⟩ .f32 := m ((c : Thread nD τ).loc main_arg5)
abbrev arg6 : FVec Ideal ⟨1, ![256]⟩ .f32 := m ((c : Thread nD τ).loc main_arg6)
abbrev arg7 : FVec Ideal ⟨2, ![1024, 1024]⟩ .f32 := m ((c : Thread nD τ).loc main_arg7)

/-- Row `r` of a grid point's block of 512 rows. -/
def prow (t : Fin cfg0.N) (r : Fin 512) : Fin 16384 :=
  ⟨512 * (grid0.coords t 0).val + r.val, by have h : (grid0.coords t 0).val < 32 := (grid0.coords t 0).isLt; omega⟩

/-! ## The arrays the region reads -/

theorem entry_0 (k : Fin 256) : V m c main_v0 (ix2 (0 : Fin 1) k) = arg6 m c (ix1 k) := by
  have e : V m c main_v0 = shapeCast S1x256 (arg6 m c) shapeCasts_S256_S1x256 := by
    show StableHlo.after hostOps0 (fun b => m (c, b)) main_v0 = _
    simp only [hostOps0]
    after_results
    rfl
  rw [e]
  exact shapeCast_a_1a_apply _ _ _ k

theorem entry_1 : V m c main_v1 = arg7 m c := by
  show StableHlo.after hostOps0 (fun b => m (c, b)) main_v1 = _
  simp only [hostOps0]
  after_results
  rfl

theorem entry_2 : V m c main_v2 = arg2 m c := by
  show StableHlo.after hostOps0 (fun b => m (c, b)) main_v2 = _
  simp only [hostOps0]
  after_results
  rfl

theorem entry_3 : V m c main_v3 = arg3 m c := by
  show StableHlo.after hostOps0 (fun b => m (c, b)) main_v3 = _
  simp only [hostOps0]
  after_results
  rfl

theorem entry_4 (k : Fin 1024) : V m c main_v4 (ix2 (0 : Fin 1) k) = arg1 m c (ix1 k) := by
  have e : V m c main_v4 = shapeCast S1x1024 (arg1 m c) shapeCasts_S1024_S1x1024 := by
    show StableHlo.after hostOps0 (fun b => m (c, b)) main_v4 = _
    simp only [hostOps0]
    after_results
    rfl
  rw [e]
  exact shapeCast_a_1a_apply _ _ _ k

/-! ## The windows' block indices and blocks -/

theorem ix_0 : ∀ t : Fin grid0.N, win0_0.index t 0 = (grid0.coords t 0).val ∧ win0_0.index t 1 = 0 := by decide +kernel
theorem ix_1 : ∀ t : Fin grid0.N, win0_1.index t 0 = (grid0.coords t 0).val ∧ win0_1.index t 1 = 0 := by decide +kernel
theorem ix_2 : ∀ t : Fin grid0.N, win0_2.index t 0 = (grid0.coords t 0).val ∧ win0_2.index t 1 = 2 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 2 ∧ win0_6.index t 1 = 1 ∧ win0_6.index t 2 = 0 ∧ win0_6.index t 3 = 0 := by decide +kernel
theorem ix_7 : ∀ t : Fin grid0.N, win0_7.index t 0 = 2 ∧ win0_7.index t 1 = 1 ∧ win0_7.index t 2 = 0 ∧ win0_7.index t 3 = 1 := by decide +kernel
theorem ix_8 : ∀ t : Fin grid0.N, win0_8.index t 0 = 2 ∧ win0_8.index t 1 = 1 ∧ win0_8.index t 2 = 0 ∧ win0_8.index t 3 = 0 := by decide +kernel
theorem ix_9 : ∀ t : Fin grid0.N, win0_9.index t 0 = (grid0.coords t 0).val ∧ win0_9.index t 1 = 0 := by decide +kernel

theorem blk_0 (t : Fin cfg0.N) (r : Fin 512) (k : Fin 1024) : iblk m c 0 t (ix2 r k) = arg0 m c (ix2 (prow t r) k) := by
  obtain ⟨e0, e1⟩ := ix_0 t
  refine Eq.trans ?_ (congrFun (V_main_arg0 m c) (ix2 (prow t r) k))
  unfold iblk
  rw [View.read_apply]
  show V m c main_arg0 _ = _
  congr 1
  funext a
  apply Fin.ext
  match a with
  | ⟨0, _⟩ => show win0_0.index t 0 * 512 + 1 * r.val = 512 * (grid0.coords t 0).val + r.val; omega
  | ⟨1, _⟩ => show win0_0.index t 1 * 1024 + 1 * k.val = k.val; omega

theorem blk_1 (t : Fin cfg0.N) (r : Fin 512) (k : Fin 1024) : iblk m c 1 t (ix2 r k) = arg4 m c (ix2 (prow t r) k) := by
  obtain ⟨e0, e1⟩ := ix_1 t
  refine Eq.trans ?_ (congrFun (V_main_arg4 m c) (ix2 (prow t r) k))
  unfold iblk
  rw [View.read_apply]
  show V m c main_arg4 _ = _
  congr 1
  funext a
  apply Fin.ext
  match a with
  | ⟨0, _⟩ => show win0_1.index t 0 * 512 + 1 * r.val = 512 * (grid0.coords t 0).val + r.val; omega
  | ⟨1, _⟩ => show win0_1.index t 1 * 1024 + 1 * k.val = k.val; omega

/-- The lanes of the projected array the window stages. -/
def gcolY (k : Fin 1024) : Fin 3200 := ⟨2048 + k.val, by omega⟩

theorem blk_2 (t : Fin cfg0.N) (r : Fin 512) (k : Fin 1024) : X0_2 m c t (ix2 r k) = arg5 m c (ix2 (prow t r) (gcolY k)) := by
  obtain ⟨e0, e1⟩ := ix_2 t
  refine Eq.trans ?_ (congrFun (V_main_arg5 m c) (ix2 (prow t r) (gcolY k)))
  unfold X0_2 Pipeline.Window.fill
  rw [dif_pos (moved0_2 t (ix2 r k))]
  unfold iblk
  rw [View.read_apply]
  show V m c main_arg5 _ = _
  congr 1
  funext a
  apply Fin.ext
  match a with
  | ⟨0, _⟩ => show win0_2.index t 0 * 512 + 1 * r.val = 512 * (grid0.coords t 0).val + r.val; omega
  | ⟨1, _⟩ => show win0_2.index t 1 * 1024 + 1 * k.val = 2048 + k.val; omega

theorem blk_3 (t : Fin cfg0.N) (k : Fin 256) : iblk m c 3 t (ix2 (0 : Fin 1) k) = arg6 m c (ix1 k) := by
  obtain ⟨e0, e1⟩ := ix_3 t
  refine Eq.trans ?_ (entry_0 m c k)
  unfold iblk
  rw [View.read_apply]
  show V m c main_v0 _ = _
  congr 1
  funext a
  apply Fin.ext
  match a with
  | ⟨0, _⟩ => show win0_3.index t 0 * 1 + 1 * 0 = 0; omega
  | ⟨1, _⟩ => show win0_3.index t 1 * 256 + 1 * k.val = k.val; omega

theorem blk_4 (t : Fin cfg0.N) (k : Fin 1024) (j : Fin 1024) : iblk m c 4 t (ix2 k j) = arg7 m c (ix2 k j) := by
  obtain ⟨e0, e1⟩ := ix_4 t
  refine Eq.trans ?_ (congrFun (entry_1 m c) (ix2 k j))
  unfold iblk
  rw [View.read_apply]
  show V m c main_v1 _ = _
  congr 1
  funext a
  apply Fin.ext
  match a with
  | ⟨0, _⟩ => show win0_4.index t 0 * 1024 + 1 * k.val = k.val; omega
  | ⟨1, _⟩ => show win0_4.index t 1 * 1024 + 1 * j.val = j.val; omega

theorem blk_5 (t : Fin cfg0.N) (k : Fin 1024) : iblk m c 5 t (ix2 (0 : Fin 1) k) = arg1 m c (ix1 k) := by
  obtain ⟨e0, e1⟩ := ix_5 t
  refine Eq.trans ?_ (entry_4 m c k)
  unfold iblk
  rw [View.read_apply]
  show V m c main_v4 _ = _
  congr 1
  funext a
  apply Fin.ext
  match a with
  | ⟨0, _⟩ => show win0_5.index t 0 * 1 + 1 * 0 = 0; omega
  | ⟨1, _⟩ => show win0_5.index t 1 * 1024 + 1 * k.val = k.val; omega

theorem blk_6 (t : Fin cfg0.N) (k : Fin 1024) (j : Fin 2816) :
    iblk m c 6 t (ix4 (0 : Fin 1) (0 : Fin 1) k j) = arg2 m c (ix4 (2 : Fin 4) (1 : Fin 2) k (gcol j)) := by
  obtain ⟨e0, e1, e2, e3⟩ := ix_6 t
  refine Eq.trans ?_ (congrFun (entry_2 m c) (ix4 (2 : Fin 4) (1 : Fin 2) k (gcol j)))
  unfold iblk
  rw [View.read_apply]
  show V m c main_v2 _ = _
  congr 1
  funext a
  apply Fin.ext
  match a with
  | ⟨0, _⟩ => show win0_6.index t 0 * 1 + 1 * 0 = 2; omega
  | ⟨1, _⟩ => show win0_6.index t 1 * 1 + 1 * 0 = 1; omega
  | ⟨2, _⟩ => show win0_6.index t 2 * 1024 + 1 * k.val = k.val; omega
  | ⟨3, _⟩ => show win0_6.index t 3 * 2816 + 1 * j.val = j.val; omega

theorem blk_7 (t : Fin cfg0.N) (k : Fin 1024) (j : Fin 2816) :
    iblk m c 7 t (ix4 (0 : Fin 1) (0 : Fin 1) k j) = arg2 m c (ix4 (2 : Fin 4) (1 : Fin 2) k (ucol j)) := by
  obtain ⟨e0, e1, e2, e3⟩ := ix_7 t
  refine Eq.trans ?_ (congrFun (entry_2 m c) (ix4 (2 : Fin 4) (1 : Fin 2) k (ucol j)))
  unfold iblk
  rw [View.read_apply]
  show V m c main_v2 _ = _
  congr 1
  funext a
  apply Fin.ext
  match a with
  | ⟨0, _⟩ => show win0_7.index t 0 * 1 + 1 * 0 = 2; omega
  | ⟨1, _⟩ => show win0_7.index t 1 * 1 + 1 * 0 = 1; omega
  | ⟨2, _⟩ => show win0_7.index t 2 * 1024 + 1 * k.val = k.val; omega
  | ⟨3, _⟩ => show win0_7.index t 3 * 2816 + 1 * j.val = 2816 + j.val; omega

theorem blk_8 (t : Fin cfg0.N) (j : Fin 2816) (k : Fin 1024) :
    iblk m c 8 t (ix4 (0 : Fin 1) (0 : Fin 1) j k) = arg3 m c (ix4 (2 : Fin 4) (1 : Fin 2) j k) := by
  obtain ⟨e0, e1, e2, e3⟩ := ix_8 t
  refine Eq.trans ?_ (congrFun (entry_3 m c) (ix4 (2 : Fin 4) (1 : Fin 2) j k))
  unfold iblk
  rw [View.read_apply]
  show V m c main_v3 _ = _
  congr 1
  funext a
  apply Fin.ext
  match a with
  | ⟨0, _⟩ => show win0_8.index t 0 * 1 + 1 * 0 = 2; omega
  | ⟨1, _⟩ => show win0_8.index t 1 * 1 + 1 * 0 = 1; omega
  | ⟨2, _⟩ => show win0_8.index t 2 * 2816 + 1 * j.val = j.val; omega
  | ⟨3, _⟩ => show win0_8.index t 3 * 1024 + 1 * k.val = k.val; omega

/-! ## The body's block and the result array -/

/-- One entry of a point's block of the result. -/
theorem out_at (t : Fin cfg0.N) (r : Fin 512) (k : Fin 1024) :
    outsAt0 m c t (ix2 r k)
      = row (Cert.ReferenceFCIdeal.Read.val_main_v19 (F := Ideal) (arg0 m c) (arg4 m c) (arg5 m c) (arg6 m c) (arg7 m c)) (arg1 m c) (arg2 m c) (arg3 m c) 2 1 (prow t r) k := by
  have hz2 : (![0, 0] : Fin 2 → Nat) = fun _ => 0 := by funext a; match a with | ⟨0, _⟩ => rfl | ⟨1, _⟩ => rfl
  have hz4 : (![0, 0, 0, 0] : Fin 4 → Nat) = fun _ => 0 := by
    funext a; match a with | ⟨0, _⟩ => rfl | ⟨1, _⟩ => rfl | ⟨2, _⟩ => rfl | ⟨3, _⟩ => rfl
  unfold outsAt0 out0_A_9
  rw [View.read_writes_junk_eq_canon]
  unfold kernelRun0_A
  dsimp only
  sl_unfold_words
  rw [View.canon_unit_zero hz2]
  simp only [View.readAt_eq_ld, Memref.IsWhole.read_unread]
  rw [View.ld_unit_zero hz2, View.ld_unit_zero hz2, View.ld_unit_zero hz2, View.ld_unit_zero hz2, View.ld_unit_zero hz2, View.ld_unit_zero hz2,
    View.ld_unit_zero hz4, View.ld_unit_zero hz4, View.ld_unit_zero hz4]
  have f0 : lane (φ := .f32) (MixC.mixed (iblk m c 0 t) (iblk m c 1 t) (X0_2 m c t) (iblk m c 3 t) (iblk m c 4 t)) r
      = lane (φ := .f32) (Cert.ReferenceFCIdeal.Read.val_main_v19 (F := Ideal) (arg0 m c) (arg4 m c) (arg5 m c) (arg6 m c) (arg7 m c)) (prow t r) := funext fun k => by
    have fo : lane (φ := .f32) (iblk m c 1 t) r = lane (arg4 m c) (prow t r) := funext fun k => blk_1 m c t r k
    have fy : lane (φ := .f32) (X0_2 m c t) r = fun k => arg5 m c (ix2 (prow t r) (gcolY k)) := funext fun k => blk_2 m c t r k
    have fg : lane (φ := .f32) (iblk m c 3 t) (0 : Fin 1) = fun k => arg6 m c (ix1 k) := funext fun k => blk_3 m c t k
    refine (MixC.mixed_apply _ _ _ _ _ r k).trans (Eq.trans ?_ (MixC.mixed_at (arg0 m c) (arg4 m c) (arg5 m c) (arg6 m c) (arg7 m c) (prow t r) k).symm)
    rw [fo, fy, fg, blk_0, funext fun k => funext fun j => blk_4 m c t k j]
    try rfl
  have f1 : lane (φ := .f32) (iblk m c 5 t) (0 : Fin 1) = fun k => arg1 m c (ix1 k) := funext fun k => blk_5 m c t k
  refine (congrFun (MixC.pay_eq (iblk m c 0 t) (iblk m c 1 t) (X0_2 m c t) (iblk m c 3 t) (iblk m c 4 t) (iblk m c 5 t) (iblk m c 6 t) (iblk m c 7 t)
    (iblk m c 8 t)) (ix2 r k)).trans ?_
  rw [FfnBlock.pay_apply]
  unfold row
  rw [f0, f1, funext fun k => funext fun j => blk_6 m c t k j, funext fun k => funext fun j => blk_7 m c t k j,
    funext fun j => funext fun k => blk_8 m c t j k]

theorem cut_at (t : Fin cfg0.N) (f : S512x1024.Idx → EReal) (y : S512x1024.Idx) : (cfg0.win 9).cut (grid0.coords t) f y = f y := rfl

/-- An array of the result's shape read through a point's block. -/
theorem read_at (t : Fin cfg0.N) (G : S16384x1024.Idx → EReal) (r : Fin 512) (k : Fin 1024) :
    ((cfg0.win 9).blk t).view.read (Elt Ideal) G (ix2 r k) = G (ix2 (prow t r) k) := by
  obtain ⟨e0, e1⟩ := ix_9 t
  rw [View.read_apply]
  show G _ = G _
  congr 1
  funext a
  apply Fin.ext
  match a with
  | ⟨0, _⟩ => show win0_9.index t 0 * 512 + 1 * r.val = 512 * (grid0.coords t 0).val + r.val; omega
  | ⟨1, _⟩ => show win0_9.index t 1 * 1024 + 1 * k.val = k.val; omega

/-- Where every point's block agrees with an array `G` through the block, the result array is `G`. -/
theorem cover (G : S16384x1024.Idx → EReal)
    (hG : ∀ (t : Fin cfg0.N) (r : Fin 512) (k : Fin 1024),
      outsAt0 m c t (ix2 r k) = G (ix2 (prow t r) k)) :
    (dats m 0 c).arrAt 9 cfg0.N = G := by
  refine (dats m 0 c).arrAt_eq_of_cover 9 G (fun t _ => ?_) fun i => ?_
  · rw [Value.flushed9]
    funext y
    have hy : y = ix2 (y 0) (y 1) := funext fun a => match a with | ⟨0, _⟩ => rfl | ⟨1, _⟩ => rfl
    refine (cut_at t _ y).trans ?_
    rw [hy]
    exact (hG t (y 0) (y 1)).trans (read_at t G (y 0) (y 1)).symm
  · have h0 : (i 0 : Nat) < 16384 := (i 0).isLt
    have h1 : (i 1 : Nat) < 1024 := (i 1).isLt
    obtain ⟨t, ht⟩ := Pipeline.Grid.coords_surjective grid0 (fun a => match a with | ⟨0, _⟩ => (⟨(i 0 : Nat) / 512, by omega⟩ : Fin 32))
    have hj : (grid0.coords t 0).val = (i 0 : Nat) / 512 := congrArg Fin.val (congrFun ht 0)
    obtain ⟨e0, e1⟩ := ix_9 t
    refine ⟨t, flush0_9 t, ?_⟩
    show i ∈ ((View.whole main_v5).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512; omega
    | ⟨1, _⟩ => show win0_9.index t 1 * 1024 ≤ (i 1 : Nat) ∧ (i 1 : Nat) < win0_9.index t 1 * 1024 + 1024; omega

/-- The kernel's result is the reference's. -/
theorem final : (dats m 0 c).arrAt 9 cfg0.N
    = Cert.ReferenceFCIdeal.Read.val_main_v45 (F := Ideal) (arg0 m c) (arg1 m c) (arg2 m c) (arg3 m c) (arg4 m c) (arg5 m c) (arg6 m c) (arg7 m c) :=
  cover m c _ fun t r k => (out_at m c t r k).trans (MixC.ref_at (arg0 m c) (arg1 m c) (arg2 m c) (arg3 m c) (arg4 m c) (arg5 m c) (arg6 m c) (arg7 m c) (prow t r) k).symm

end Cert.MixCArray

end
-- ==== Proof.MixD.lean ====
/-  The feed-forward block after the mixing step that GATES its input by columns of the projections, normalizes it in groups of 512
    columns and projects it. -/
module

public import proofs.«01_k».proof.Proof.Gen.KernelFDIdeal.Skeleton
public import proofs.«01_k».proof.Proof.Gen.ReferenceFDIdeal.Read
public import proofs.«01_k».proof.Proof.MixB

@[expose] public section

noncomputable section

namespace Cert.MixD

open Idealize.ShloMosaic Idealize.ShloMosaic.ValueIdx Cert.Ffn Cert.FfnRef Cert.Mix

/-- Entry `e` of group `h`, as a column. -/
abbrev col (h : Fin 4) (e : Fin 512) : Fin 2048 := ⟨512 * h.val + e.val, by omega⟩

/-- The group of a column. -/
abbrev grp (c : Fin 2048) : Fin 4 := ⟨c.val / 512, by omega⟩

/-- The place of a column in its group. -/
abbrev ent (c : Fin 2048) : Fin 512 := ⟨c.val % 512, by omega⟩

/-- A row gated, then normalized in groups, each by its own root mean square. -/
def groupedRow (o y : Fin 2048 → EReal) (ng : Fin 2048 → EReal) (c : Fin 2048) : EReal :=
  rmsRow (Ideal.ofBits .f32 0x44000000#32) (fun e => o (col (grp c) e) * silu (y (col (grp c) e))) (fun e => ng (col (grp c) e)) (ent c)

section kernel

open Cert.KernelFDIdeal Cert.KernelFDIdeal.Gen

variable (x : FVec Ideal S512x1024 .f32) (o y : FVec Ideal S512x2048 .f32) (ng : FVec Ideal S1x2048 .f32) (w : FVec Ideal S2048x1024 .bf16)
  (g : FVec Ideal S1x1024 .f32) (wg wu : FVec Ideal S1x1x1024x2816 .bf16) (wd : FVec Ideal S1x1x2816x1024 .bf16)

/-- The mixed rows as the body has them. -/
def mixed : FVec Ideal S512x1024 .f32 :=
  k0_pay9 (F := Ideal) x (k0_pay2 (F := Ideal) o y) (k0_pay3 (F := Ideal) ng) (k0_pay4 (F := Ideal) o y ng) (k0_pay5 (F := Ideal) o y ng)
    (k0_pay6 (F := Ideal) o y) (k0_pay7 (F := Ideal) ng) (k0_pay8 (F := Ideal) o y) w

/-- The stored block is the feed-forward kernel's, of the mixed rows. -/
theorem pay_eq : k0_pay1 (F := Ideal) (mixed x o y ng w)
      (k0_pay10 (F := Ideal) x (k0_pay2 (F := Ideal) o y) (k0_pay3 (F := Ideal) ng) (k0_pay4 (F := Ideal) o y ng) (k0_pay5 (F := Ideal) o y ng)
        (k0_pay6 (F := Ideal) o y) (k0_pay7 (F := Ideal) ng) (k0_pay8 (F := Ideal) o y) w g)
      (k0_pay11 (F := Ideal) wg) wu wd
    = Cert.KernelFIdeal.Gen.k0_pay1 (F := Ideal) (mixed x o y ng w) g wg wu wd := rfl

theorem slices_o (h : Fin 4) : S512x2048.Slices ![0, 512 * h.val] S512x512 := by
  match h with
  | ⟨0, _⟩ => exact slices_S512x2048_o0_0_S512x512
  | ⟨1, _⟩ => exact slices_S512x2048_o0_512_S512x512
  | ⟨2, _⟩ => exact slices_S512x2048_o0_1024_S512x512
  | ⟨3, _⟩ => exact slices_S512x2048_o0_1536_S512x512

theorem slices_g (h : Fin 4) : S1x2048.Slices ![0, 512 * h.val] S1x512 := by
  match h with
  | ⟨0, _⟩ => exact slices_S1x2048_o0_0_S1x512
  | ⟨1, _⟩ => exact slices_S1x2048_o0_512_S1x512
  | ⟨2, _⟩ => exact slices_S1x2048_o0_1024_S1x512
  | ⟨3, _⟩ => exact slices_S1x2048_o0_1536_S1x512

/-- The gated rows. -/
def gated : FVec Ideal S512x2048 .f32 := mulf o (mulf y (logistic y))

theorem gated_apply (r : Fin 512) (c : Fin 2048) : gated o y (ix2 r c) = o (ix2 r c) * silu (y (ix2 r c)) := by
  show o (ix2 r c) * (y (ix2 r c) * Ideal.logistic (y (ix2 r c))) = _
  rw [logistic_eq]; rfl

/-- One group of the gated rows' columns. -/
def group (h : Fin 4) : FVec Ideal S512x512 .f32 := extractStridedSlice S512x512 ![0, 512 * h.val] (gated o y) (slices_o h)

theorem group_apply (h : Fin 4) (r : Fin 512) (e : Fin 512) :
    group o y h (ix2 r e) = o (ix2 r (col h e)) * silu (y (ix2 r (col h e))) :=
  (extractStridedSlice_apply _ (gated o y) (slices_o h) (ix2 r e) (ix2 r (col h e)) fun a => match a with
    | ⟨0, _⟩ => by show r.val = 0 + r.val; omega
    | ⟨1, _⟩ => rfl).trans (gated_apply o y r (col h e))

/-- One group of the gain. -/
def gain (h : Fin 4) : FVec Ideal S1x512 .f32 := extractStridedSlice S1x512 ![0, 512 * h.val] ng (slices_g h)

theorem gain_apply (h : Fin 4) (e : Fin 512) : gain ng h (ix2 (0 : Fin 1) e) = ng (ix2 (0 : Fin 1) (col h e)) :=
  extractStridedSlice_apply _ ng (slices_g h) (ix2 (0 : Fin 1) e) (ix2 (0 : Fin 1) (col h e)) fun a => match a with
    | ⟨0, _⟩ => rfl
    | ⟨1, _⟩ => rfl

/-- One group normalized. -/
def normedGroup (h : Fin 4) : FVec Ideal S512x512 .f32 :=
  mulf (mulf (group o y h) (broadcastTo S512x512 (rsqrt (addf (divf (shapeCast S512x1
    (multiReduction .add [1] S512 (mulf (group o y h) (group o y h)) 0x00000000#32 reduces_S512x512_S512 (.inl rfl) rfl) shapeCasts_S512_S512x1)
    (broadcast S512x1 (Scalar.ofBits (F := Ideal) .f32 0x44000000#32))) (broadcast S512x1 (Scalar.ofBits (F := Ideal) .f32 0x358637BD#32)))) broadcasts_S512x1_S512x512))
    (broadcastTo S512x512 (gain ng h) broadcasts_S1x512_S512x512)

theorem normedGroup_apply (h : Fin 4) (r : Fin 512) (e : Fin 512) : normedGroup o y ng h (ix2 r e)
    = rmsRow (Ideal.ofBits .f32 0x44000000#32) (fun e => o (ix2 r (col h e)) * silu (y (ix2 r (col h e)))) (fun e => ng (ix2 (0 : Fin 1) (col h e))) e :=
  (rmsBlock_apply (group o y h) (gain ng h) _ _ _ _ _ _ _ r e).trans
    (congrArg₂ (fun z v : Fin 512 → EReal => rmsRow (Ideal.ofBits .f32 0x44000000#32) z v e) (funext fun e => group_apply o y h r e)
      (funext fun e => gain_apply ng h e))

/-- The normalized groups side by side. -/
def groups : FVec Ideal S512x2048 .f32 := concatenate S512x2048 1
  (List.ofFn fun h : Fin 4 => (⟨S512x512, normedGroup o y ng h⟩ : (s : Shape) × (s.Idx → EReal))) concatenates_S512x512_S512x512_S512x512_S512x512_S512x2048_d1

theorem groups_apply (r : Fin 512) (c : Fin 2048) : groups o y ng (ix2 r c) = groupedRow (lane o r) (lane y r) (lane ng 0) c := by
  refine (concatenate_ofFn_apply (t := S512x2048) (1 : Fin 2) (fun h : Fin 4 => normedGroup o y ng h)
    concatenates_S512x512_S512x512_S512x512_S512x512_S512x2048_d1 rfl 512 rfl (ix2 r c) (grp c) rfl (ix2 r (ent c)) rfl
    (fun b hb => match b with
      | ⟨0, _⟩ => rfl
      | ⟨1, _⟩ => absurd rfl hb)).trans ?_
  exact normedGroup_apply o y ng (grp c) r (ent c)

theorem mixed_eq : mixed x o y ng w = addf x (matmul dot_S512x2048_S2048x1024_S512x1024_1_0_0_1_n_n none
    (truncf .bf16 (groups o y ng) bitsLt_bf16_f32) w (constant S512x1024 .f32 0x00000000#32)) := by
  have e : shapeCast S2048x1024 w shapeCasts_S2048x1024_S2048x1024 = w := shapeCast_self _ _
  have e3 : k0_pay3 (F := Ideal) ng = ng := shapeCast_self _ _
  unfold mixed k0_pay9 k0_pay4 k0_pay5 k0_pay8 k0_pay6 k0_pay7
  rw [e, e3]
  rfl

/-- The mixed rows: a row plus the projection of the grouped row. -/
theorem mixed_apply (r : Fin 512) (c : Fin 1024) :
    mixed x o y ng w (ix2 r c) = x (ix2 r c) + rowMul (groupedRow (lane o r) (lane y r) (lane ng 0)) (fun k j => w (ix2 k j)) c := by
  rw [mixed_eq]
  refine congrArg (fun s => x (ix2 r c) + s) ((product_apply _ w r c).trans (Finset.sum_congr rfl fun k _ => ?_))
  exact congrArg (fun s : EReal => s * w (ix2 k c)) (groups_apply o y ng r k)

end kernel

section reference

open Cert.ReferenceFDIdeal Cert.ReferenceFDIdeal.Read

variable (x : Rows) (g : Gain) (up : Up) (dn : Down) (o : FVec Ideal ⟨2, ![16384, 2048]⟩ .f32) (y : FVec Ideal ⟨2, ![16384, 5376]⟩ .f32)
  (ng : FVec Ideal ⟨1, ![2048]⟩ .f32) (w : FVec Ideal ⟨2, ![2048, 1024]⟩ .f32)

/-- The columns of the projections the gate reads. -/
abbrev gateCol (c : Fin 2048) : Fin 5376 := ⟨c.val, by omega⟩

theorem v2_at (i : Fin 16384) (c : Fin 2048) : val_main_v2 (F := Ideal) o y (ix2 i c) = o (ix2 i c) * silu (y (ix2 i (gateCol c))) := by
  have e0 : idx_main_v0 (ix2 i c) = ix2 i (gateCol c) := funext fun a => match a with | ⟨0, _⟩ => rfl | ⟨1, _⟩ => rfl
  rw [val_main_v2_apply, val_main_v1_apply, val_main_call0_v5_apply, val_main_call0_v4_apply, val_main_call0_cst_0_apply, val_main_call0_v3_apply,
    val_main_call0_v2_apply, val_main_call0_cst_apply, val_main_call0_v1_apply, val_main_call0_v0_apply, val_main_v0_apply, e0]
  show o (ix2 i c) * (y (ix2 i (gateCol c)) * Ideal.div (Ideal.ofBits .f32 0x3F800000#32) (Ideal.ofBits .f32 0x3F800000#32 + Ideal.exp (-y (ix2 i (gateCol c))))) = _
  rw [Ideal.ofBits_one_f32]; rfl

theorem v3_at (i : Fin 16384) (h : Fin 4) (e : Fin 512) :
    val_main_v3 (F := Ideal) o y (ix3 i h e) = o (ix2 i (col h e)) * silu (y (ix2 i (gateCol (col h e)))) := by
  have ei : idx_main_v3 (ix3 i h e) = ix2 i (col h e) := funext fun a => match a with
    | ⟨0, _⟩ => Fin.ext (by show ((i.val * 4 + h.val) * 512 + e.val) / 2048 = i.val; omega)
    | ⟨1, _⟩ => Fin.ext (by show ((i.val * 4 + h.val) * 512 + e.val) % 2048 = 512 * h.val + e.val; omega)
  rw [val_main_v3_apply, ei, v2_at]

theorem v16_at (i : Fin 16384) (h : Fin 4) (e : Fin 512) : val_main_v16 (F := Ideal) ng (ix3 i h e) = ng (ix1 (col h e)) := by
  have e16 : idx_main_v16 (ix3 i h e) = ix3 (0 : Fin 1) h e := funext fun a => match a with | ⟨0, _⟩ => rfl | ⟨1, _⟩ => rfl | ⟨2, _⟩ => rfl
  have e15 : idx_main_v15 (ix3 (0 : Fin 1) h e) = ix2 h e := funext fun a => match a with | ⟨0, _⟩ => rfl | ⟨1, _⟩ => rfl
  have e4 : idx_main_v4 (ix2 h e) = ix1 (col h e) := funext fun a => match a with
    | ⟨0, _⟩ => Fin.ext (by show h.val * 512 + e.val = 512 * h.val + e.val; omega)
  rw [val_main_v16_apply, e16, val_main_v15_apply, e15, val_main_v4_apply, e4]

theorem v17_at (i : Fin 16384) (h : Fin 4) (e : Fin 512) : val_main_v17 (F := Ideal) o y ng (ix3 i h e)
    = rmsRow (Ideal.ofBits .f32 0x44000000#32) (fun e => o (ix2 i (col h e)) * silu (y (ix2 i (gateCol (col h e))))) (fun e => ng (ix1 (col h e))) e := by
  have e13 : idx_main_v13 (ix3 i h e) = ix3 i h (0 : Fin 1) := funext fun a => match a with | ⟨0, _⟩ => rfl | ⟨1, _⟩ => rfl | ⟨2, _⟩ => rfl
  have e7 : idx_main_v7 (ix3 i h (0 : Fin 1)) = ix2 i h := funext fun a => match a with | ⟨0, _⟩ => rfl | ⟨1, _⟩ => rfl
  have e6 : ∀ k : Fin 512, idx_main_v6 (ix2 i h) k = ix3 i h k := fun k => funext fun a => match a with | ⟨0, _⟩ => rfl | ⟨1, _⟩ => rfl | ⟨2, _⟩ => rfl
  have hs : val_main_v6 (F := Ideal) o y (ix2 i h) = ∑ k : Fin 512,
      (o (ix2 i (col h k)) * silu (y (ix2 i (gateCol (col h k))))) * (o (ix2 i (col h k)) * silu (y (ix2 i (gateCol (col h k))))) := by
    rw [val_main_v6_apply, val_main_cst_apply]
    refine (congrArg (fun z => z + _) Ideal.ofBits_zero_f32).trans ?_
    rw [zero_add]
    exact Finset.sum_congr rfl fun k _ => by
      rw [e6 k, val_main_v5_apply, v3_at]; rfl
  rw [val_main_v17_apply, val_main_v14_apply, v3_at, val_main_v13_apply, e13, val_main_v12_apply, val_main_v11_apply, val_main_v9_apply,
    val_main_v7_apply, e7, hs, val_main_v8_apply, val_main_cst_0_apply, val_main_v10_apply, val_main_cst_1_apply, v16_at]
  rfl

theorem v18_at (i : Fin 16384) (c : Fin 2048) : val_main_v18 (F := Ideal) o y ng (ix2 i c)
    = groupedRow (lane o i) (fun c => y (ix2 i (gateCol c))) (fun c => ng (ix1 c)) c := by
  have ei : idx_main_v18 (ix2 i c) = ix3 i (grp c) (ent c) := funext fun a => match a with
    | ⟨0, _⟩ => Fin.ext (by show (i.val * 2048 + c.val) / 2048 = i.val; omega)
    | ⟨1, _⟩ => Fin.ext (by show (i.val * 2048 + c.val) / 512 % 4 = c.val / 512; omega)
    | ⟨2, _⟩ => Fin.ext (by show (i.val * 2048 + c.val) % 512 = c.val % 512; omega)
  rw [val_main_v18_apply, ei, v17_at]
  rfl

/-- The reference's mixed rows. -/
theorem mixed_at (i : Fin 16384) (c : Fin 1024) : val_main_v20 (F := Ideal) x o y ng w (ix2 i c)
    = x (ix2 i c) + rowMul (groupedRow (lane o i) (fun c => y (ix2 i (gateCol c))) (fun c => ng (ix1 c))) (fun k j => w (ix2 k j)) c := by
  have el : ∀ k, lidx_main_v19 (ix2 i c) k = ix2 i k := fun k => funext fun a => match a with | ⟨0, _⟩ => rfl | ⟨1, _⟩ => rfl
  have er : ∀ k, ridx_main_v19 (ix2 i c) k = ix2 k c := fun k => funext fun a => match a with | ⟨0, _⟩ => rfl | ⟨1, _⟩ => rfl
  rw [val_main_v20_apply, val_main_v19_apply]
  refine congrArg (fun s => x (ix2 i c) + s) (Finset.sum_congr rfl fun k _ => ?_)
  rw [el k, er k, v18_at]

/-- The reference is the feed-forward reference of the mixed rows. -/
theorem ref_at (i : Fin 16384) (c : Fin 1024) :
    val_main_v46 (F := Ideal) x g up dn o y ng w (ix2 i c) = row (val_main_v20 (F := Ideal) x o y ng w) g up dn 3 1 i c := by
  have e34 : val_main_v34 (F := Ideal) up = Cert.ReferenceFIdeal.Read.val_main_v13 (F := Ideal) (layerOf up 3 1) := cut_layerOf up 3 1 _ rfl _ _
  have e36 : val_main_v36 (F := Ideal) dn = Cert.ReferenceFIdeal.Read.val_main_v15 (F := Ideal) (layerOf dn 3 1) := cut_layerOf dn 3 1 _ rfl _ _
  have e35 : val_main_v35 (F := Ideal) up = Cert.ReferenceFIdeal.Read.val_main_v14 (F := Ideal) (layerOf up 3 1) := by
    unfold val_main_v35; rw [e34]; rfl
  have e37 : val_main_v37 (F := Ideal) dn = Cert.ReferenceFIdeal.Read.val_main_v16 (F := Ideal) (layerOf dn 3 1) := by
    unfold val_main_v37; rw [e36]; rfl
  have e : val_main_v46 (F := Ideal) x g up dn o y ng w
      = Cert.ReferenceFIdeal.Read.val_main_v25 (F := Ideal) (val_main_v20 (F := Ideal) x o y ng w) g (layerOf up 3 1) (layerOf dn 3 1) := by
    have e38 : val_main_v38 (F := Ideal) x g up o y ng w
        = Cert.ReferenceFIdeal.Read.val_main_v17 (F := Ideal) (val_main_v20 (F := Ideal) x o y ng w) g (layerOf up 3 1) := by
      unfold val_main_v38; rw [e35]; rfl
    have e42 : val_main_v42 (F := Ideal) x g up o y ng w
        = Cert.ReferenceFIdeal.Read.val_main_v21 (F := Ideal) (val_main_v20 (F := Ideal) x o y ng w) g (layerOf up 3 1) := by
      unfold val_main_v42 val_main_v41 val_main_call1_v5 val_main_call1_v3 val_main_call1_v1 val_main_call1_v0 val_main_v40 val_main_v39; rw [e38]; rfl
    unfold val_main_v46 val_main_v45 val_main_v43; rw [e42, e37]; rfl
  rw [e, FfnRef.ref_at]
  exact row_layerOf _ g up dn 3 1 i c

end reference

end Cert.MixD

end
-- ==== Proof.MixDArray.lean ====
/-  The feed-forward kernel after the gate, the grouped normalization and the projection: its arrays, a grid point's blocks as entries of
    the arguments, and the result array whole. -/
module

public import proofs.«01_k».proof.Proof.Gen.KernelFDIdeal.Value
public import proofs.«01_k».proof.Proof.MixD
public import Idealize.ShloMosaic.Lib.Pipeline.Value
public import Idealize.ShloMosaic.Lib.Pipeline.Covers
public import Idealize.ShloMosaic.Lib.Tactic

@[expose] public section

set_option maxRecDepth 4096

noncomputable section

namespace Cert.MixDArray

open Cert.KernelFDIdeal Cert.KernelFDIdeal.Gen Idealize.ShloMosaic Idealize.ShloMosaic.ValueIdx Idealize.ShloMosaic.TcCoe
open Idealize.ShloMosaic.Pipeline (Dat)
open Cert.Ffn Cert.FfnRef

variable (m : (ℓ : Loc nD τ sig) → Buf (Elt Ideal) ℓ) (c : Dev nD)

/-- The argument arrays on device `c`. -/
abbrev arg0 : Rows := m ((c : Thread nD τ).loc main_arg0)
abbrev arg1 : Gain := m ((c : Thread nD τ).loc main_arg1)
abbrev arg2 : Up := m ((c : Thread nD τ).loc main_arg2)
abbrev arg3 : Down := m ((c : Thread nD τ).loc main_arg3)
abbrev arg4 : FVec Ideal ⟨2, ![16384, 2048]⟩ .f32 := m ((c : Thread nD τ).loc main_arg4)
abbrev arg5 : FVec Ideal ⟨2, ![16384, 5376]⟩ .f32 := m ((c : Thread nD τ).loc main_arg5)
abbrev arg6 : FVec Ideal ⟨1, ![2048]⟩ .f32 := m ((c : Thread nD τ).loc main_arg6)
abbrev arg7 : FVec Ideal ⟨2, ![2048, 1024]⟩ .f32 := m ((c : Thread nD τ).loc main_arg7)

/-- Row `r` of a grid point's block of 512 rows. -/
def prow (t : Fin cfg0.N) (r : Fin 512) : Fin 16384 :=
  ⟨512 * (grid0.coords t 0).val + r.val, by have h : (grid0.coords t 0).val < 32 := (grid0.coords t 0).isLt; omega⟩

/-! ## The arrays the region reads -/

theorem entry_0 (k : Fin 2048) : V m c main_v0 (ix2 (0 : Fin 1) k) = arg6 m c (ix1 k) := by
  have e : V m c main_v0 = shapeCast S1x2048 (arg6 m c) shapeCasts_S2048_S1x2048 := by
    show StableHlo.after hostOps0 (fun b => m (c, b)) main_v0 = _
    simp only [hostOps0]
    after_results
    rfl
  rw [e]
  exact shapeCast_a_1a_apply _ _ _ k

theorem entry_1 : V m c main_v1 = arg7 m c := by
  show StableHlo.after hostOps0 (fun b => m (c, b)) main_v1 = _
  simp only [hostOps0]
  after_results
  rfl

theorem entry_2 : V m c main_v2 = arg2 m c := by
  show StableHlo.after hostOps0 (fun b => m (c, b)) main_v2 = _
  simp only [hostOps0]
  after_results
  rfl

theorem entry_3 : V m c main_v3 = arg3 m c := by
  show StableHlo.after hostOps0 (fun b => m (c, b)) main_v3 = _
  simp only [hostOps0]
  after_results
  rfl

theorem entry_4 (k : Fin 1024) : V m c main_v4 (ix2 (0 : Fin 1) k) = arg1 m c (ix1 k) := by
  have e : V m c main_v4 = shapeCast S1x1024 (arg1 m c) shapeCasts_S1024_S1x1024 := by
    show StableHlo.after hostOps0 (fun b => m (c, b)) main_v4 = _
    simp only [hostOps0]
    after_results
    rfl
  rw [e]
  exact shapeCast_a_1a_apply _ _ _ k

/-! ## The windows' block indices and blocks -/

theorem ix_0 : ∀ t : Fin grid0.N, win0_0.index t 0 = (grid0.coords t 0).val ∧ win0_0.index t 1 = 0 := by decide +kernel
theorem ix_1 : ∀ t : Fin grid0.N, win0_1.index t 0 = (grid0.coords t 0).val ∧ win0_1.index t 1 = 0 := by decide +kernel
theorem ix_2 : ∀ t : Fin grid0.N, win0_2.index t 0 = (grid0.coords t 0).val ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 3 ∧ win0_6.index t 1 = 1 ∧ win0_6.index t 2 = 0 ∧ win0_6.index t 3 = 0 := by decide +kernel
theorem ix_7 : ∀ t : Fin grid0.N, win0_7.index t 0 = 3 ∧ win0_7.index t 1 = 1 ∧ win0_7.index t 2 = 0 ∧ win0_7.index t 3 = 1 := by decide +kernel
theorem ix_8 : ∀ t : Fin grid0.N, win0_8.index t 0 = 3 ∧ win0_8.index t 1 = 1 ∧ win0_8.index t 2 = 0 ∧ win0_8.index t 3 = 0 := by decide +kernel
theorem ix_9 : ∀ t : Fin grid0.N, win0_9.index t 0 = (grid0.coords t 0).val ∧ win0_9.index t 1 = 0 := by decide +kernel

theorem blk_0 (t : Fin cfg0.N) (r : Fin 512) (k : Fin 1024) : iblk m c 0 t (ix2 r k) = arg0 m c (ix2 (prow t r) k) := by
  obtain ⟨e0, e1⟩ := ix_0 t
  refine Eq.trans ?_ (congrFun (V_main_arg0 m c) (ix2 (prow t r) k))
  unfold iblk
  rw [View.read_apply]
  show V m c main_arg0 _ = _
  congr 1
  funext a
  apply Fin.ext
  match a with
  | ⟨0, _⟩ => show win0_0.index t 0 * 512 + 1 * r.val = 512 * (grid0.coords t 0).val + r.val; omega
  | ⟨1, _⟩ => show win0_0.index t 1 * 1024 + 1 * k.val = k.val; omega

theorem blk_1 (t : Fin cfg0.N) (r : Fin 512) (k : Fin 2048) : iblk m c 1 t (ix2 r k) = arg4 m c (ix2 (prow t r) k) := by
  obtain ⟨e0, e1⟩ := ix_1 t
  refine Eq.trans ?_ (congrFun (V_main_arg4 m c) (ix2 (prow t r) k))
  unfold iblk
  rw [View.read_apply]
  show V m c main_arg4 _ = _
  congr 1
  funext a
  apply Fin.ext
  match a with
  | ⟨0, _⟩ => show win0_1.index t 0 * 512 + 1 * r.val = 512 * (grid0.coords t 0).val + r.val; omega
  | ⟨1, _⟩ => show win0_1.index t 1 * 2048 + 1 * k.val = k.val; omega

/-- The lanes of the projected array the window stages. -/
def gcolY (k : Fin 2048) : Fin 5376 := ⟨k.val, by omega⟩

theorem blk_2 (t : Fin cfg0.N) (r : Fin 512) (k : Fin 2048) : X0_2 m c t (ix2 r k) = arg5 m c (ix2 (prow t r) (gcolY k)) := by
  obtain ⟨e0, e1⟩ := ix_2 t
  refine Eq.trans ?_ (congrFun (V_main_arg5 m c) (ix2 (prow t r) (gcolY k)))
  unfold X0_2 Pipeline.Window.fill
  rw [dif_pos (moved0_2 t (ix2 r k))]
  unfold iblk
  rw [View.read_apply]
  show V m c main_arg5 _ = _
  congr 1
  funext a
  apply Fin.ext
  match a with
  | ⟨0, _⟩ => show win0_2.index t 0 * 512 + 1 * r.val = 512 * (grid0.coords t 0).val + r.val; omega
  | ⟨1, _⟩ => show win0_2.index t 1 * 2048 + 1 * k.val = k.val; omega

theorem blk_3 (t : Fin cfg0.N) (k : Fin 2048) : iblk m c 3 t (ix2 (0 : Fin 1) k) = arg6 m c (ix1 k) := by
  obtain ⟨e0, e1⟩ := ix_3 t
  refine Eq.trans ?_ (entry_0 m c k)
  unfold iblk
  rw [View.read_apply]
  show V m c main_v0 _ = _
  congr 1
  funext a
  apply Fin.ext
  match a with
  | ⟨0, _⟩ => show win0_3.index t 0 * 1 + 1 * 0 = 0; omega
  | ⟨1, _⟩ => show win0_3.index t 1 * 2048 + 1 * k.val = k.val; omega

theorem blk_4 (t : Fin cfg0.N) (k : Fin 2048) (j : Fin 1024) : iblk m c 4 t (ix2 k j) = arg7 m c (ix2 k j) := by
  obtain ⟨e0, e1⟩ := ix_4 t
  refine Eq.trans ?_ (congrFun (entry_1 m c) (ix2 k j))
  unfold iblk
  rw [View.read_apply]
  show V m c main_v1 _ = _
  congr 1
  funext a
  apply Fin.ext
  match a with
  | ⟨0, _⟩ => show win0_4.index t 0 * 2048 + 1 * k.val = k.val; omega
  | ⟨1, _⟩ => show win0_4.index t 1 * 1024 + 1 * j.val = j.val; omega

theorem blk_5 (t : Fin cfg0.N) (k : Fin 1024) : iblk m c 5 t (ix2 (0 : Fin 1) k) = arg1 m c (ix1 k) := by
  obtain ⟨e0, e1⟩ := ix_5 t
  refine Eq.trans ?_ (entry_4 m c k)
  unfold iblk
  rw [View.read_apply]
  show V m c main_v4 _ = _
  congr 1
  funext a
  apply Fin.ext
  match a with
  | ⟨0, _⟩ => show win0_5.index t 0 * 1 + 1 * 0 = 0; omega
  | ⟨1, _⟩ => show win0_5.index t 1 * 1024 + 1 * k.val = k.val; omega

theorem blk_6 (t : Fin cfg0.N) (k : Fin 1024) (j : Fin 2816) :
    iblk m c 6 t (ix4 (0 : Fin 1) (0 : Fin 1) k j) = arg2 m c (ix4 (3 : Fin 4) (1 : Fin 2) k (gcol j)) := by
  obtain ⟨e0, e1, e2, e3⟩ := ix_6 t
  refine Eq.trans ?_ (congrFun (entry_2 m c) (ix4 (3 : Fin 4) (1 : Fin 2) k (gcol j)))
  unfold iblk
  rw [View.read_apply]
  show V m c main_v2 _ = _
  congr 1
  funext a
  apply Fin.ext
  match a with
  | ⟨0, _⟩ => show win0_6.index t 0 * 1 + 1 * 0 = 3; omega
  | ⟨1, _⟩ => show win0_6.index t 1 * 1 + 1 * 0 = 1; omega
  | ⟨2, _⟩ => show win0_6.index t 2 * 1024 + 1 * k.val = k.val; omega
  | ⟨3, _⟩ => show win0_6.index t 3 * 2816 + 1 * j.val = j.val; omega

theorem blk_7 (t : Fin cfg0.N) (k : Fin 1024) (j : Fin 2816) :
    iblk m c 7 t (ix4 (0 : Fin 1) (0 : Fin 1) k j) = arg2 m c (ix4 (3 : Fin 4) (1 : Fin 2) k (ucol j)) := by
  obtain ⟨e0, e1, e2, e3⟩ := ix_7 t
  refine Eq.trans ?_ (congrFun (entry_2 m c) (ix4 (3 : Fin 4) (1 : Fin 2) k (ucol j)))
  unfold iblk
  rw [View.read_apply]
  show V m c main_v2 _ = _
  congr 1
  funext a
  apply Fin.ext
  match a with
  | ⟨0, _⟩ => show win0_7.index t 0 * 1 + 1 * 0 = 3; omega
  | ⟨1, _⟩ => show win0_7.index t 1 * 1 + 1 * 0 = 1; omega
  | ⟨2, _⟩ => show win0_7.index t 2 * 1024 + 1 * k.val = k.val; omega
  | ⟨3, _⟩ => show win0_7.index t 3 * 2816 + 1 * j.val = 2816 + j.val; omega

theorem blk_8 (t : Fin cfg0.N) (j : Fin 2816) (k : Fin 1024) :
    iblk m c 8 t (ix4 (0 : Fin 1) (0 : Fin 1) j k) = arg3 m c (ix4 (3 : Fin 4) (1 : Fin 2) j k) := by
  obtain ⟨e0, e1, e2, e3⟩ := ix_8 t
  refine Eq.trans ?_ (congrFun (entry_3 m c) (ix4 (3 : Fin 4) (1 : Fin 2) j k))
  unfold iblk
  rw [View.read_apply]
  show V m c main_v3 _ = _
  congr 1
  funext a
  apply Fin.ext
  match a with
  | ⟨0, _⟩ => show win0_8.index t 0 * 1 + 1 * 0 = 3; omega
  | ⟨1, _⟩ => show win0_8.index t 1 * 1 + 1 * 0 = 1; omega
  | ⟨2, _⟩ => show win0_8.index t 2 * 2816 + 1 * j.val = j.val; omega
  | ⟨3, _⟩ => show win0_8.index t 3 * 1024 + 1 * k.val = k.val; omega

/-! ## The body's block and the result array -/

/-- One entry of a point's block of the result. -/
theorem out_at (t : Fin cfg0.N) (r : Fin 512) (k : Fin 1024) :
    outsAt0 m c t (ix2 r k)
      = row (Cert.ReferenceFDIdeal.Read.val_main_v20 (F := Ideal) (arg0 m c) (arg4 m c) (arg5 m c) (arg6 m c) (arg7 m c)) (arg1 m c) (arg2 m c) (arg3 m c) 3 1 (prow t r) k := by
  have hz2 : (![0, 0] : Fin 2 → Nat) = fun _ => 0 := by funext a; match a with | ⟨0, _⟩ => rfl | ⟨1, _⟩ => rfl
  have hz4 : (![0, 0, 0, 0] : Fin 4 → Nat) = fun _ => 0 := by
    funext a; match a with | ⟨0, _⟩ => rfl | ⟨1, _⟩ => rfl | ⟨2, _⟩ => rfl | ⟨3, _⟩ => rfl
  unfold outsAt0 out0_A_9
  rw [View.read_writes_junk_eq_canon]
  unfold kernelRun0_A
  dsimp only
  sl_unfold_words
  rw [View.canon_unit_zero hz2]
  simp only [View.readAt_eq_ld, Memref.IsWhole.read_unread]
  rw [View.ld_unit_zero hz2, View.ld_unit_zero hz2, View.ld_unit_zero hz2, View.ld_unit_zero hz2, View.ld_unit_zero hz2, View.ld_unit_zero hz2,
    View.ld_unit_zero hz4, View.ld_unit_zero hz4, View.ld_unit_zero hz4]
  have f0 : lane (φ := .f32) (MixD.mixed (iblk m c 0 t) (iblk m c 1 t) (X0_2 m c t) (iblk m c 3 t) (iblk m c 4 t)) r
      = lane (φ := .f32) (Cert.ReferenceFDIdeal.Read.val_main_v20 (F := Ideal) (arg0 m c) (arg4 m c) (arg5 m c) (arg6 m c) (arg7 m c)) (prow t r) := funext fun k => by
    have fo : lane (φ := .f32) (iblk m c 1 t) r = lane (arg4 m c) (prow t r) := funext fun k => blk_1 m c t r k
    have fy : lane (φ := .f32) (X0_2 m c t) r = fun k => arg5 m c (ix2 (prow t r) (gcolY k)) := funext fun k => blk_2 m c t r k
    have fg : lane (φ := .f32) (iblk m c 3 t) (0 : Fin 1) = fun k => arg6 m c (ix1 k) := funext fun k => blk_3 m c t k
    refine (MixD.mixed_apply _ _ _ _ _ r k).trans (Eq.trans ?_ (MixD.mixed_at (arg0 m c) (arg4 m c) (arg5 m c) (arg6 m c) (arg7 m c) (prow t r) k).symm)
    rw [fo, fy, fg, blk_0, funext fun k => funext fun j => blk_4 m c t k j]
    try rfl
  have f1 : lane (φ := .f32) (iblk m c 5 t) (0 : Fin 1) = fun k => arg1 m c (ix1 k) := funext fun k => blk_5 m c t k
  refine (congrFun (MixD.pay_eq (iblk m c 0 t) (iblk m c 1 t) (X0_2 m c t) (iblk m c 3 t) (iblk m c 4 t) (iblk m c 5 t) (iblk m c 6 t) (iblk m c 7 t)
    (iblk m c 8 t)) (ix2 r k)).trans ?_
  rw [FfnBlock.pay_apply]
  unfold row
  rw [f0, f1, funext fun k => funext fun j => blk_6 m c t k j, funext fun k => funext fun j => blk_7 m c t k j,
    funext fun j => funext fun k => blk_8 m c t j k]

theorem cut_at (t : Fin cfg0.N) (f : S512x1024.Idx → EReal) (y : S512x1024.Idx) : (cfg0.win 9).cut (grid0.coords t) f y = f y := rfl

/-- An array of the result's shape read through a point's block. -/
theorem read_at (t : Fin cfg0.N) (G : S16384x1024.Idx → EReal) (r : Fin 512) (k : Fin 1024) :
    ((cfg0.win 9).blk t).view.read (Elt Ideal) G (ix2 r k) = G (ix2 (prow t r) k) := by
  obtain ⟨e0, e1⟩ := ix_9 t
  rw [View.read_apply]
  show G _ = G _
  congr 1
  funext a
  apply Fin.ext
  match a with
  | ⟨0, _⟩ => show win0_9.index t 0 * 512 + 1 * r.val = 512 * (grid0.coords t 0).val + r.val; omega
  | ⟨1, _⟩ => show win0_9.index t 1 * 1024 + 1 * k.val = k.val; omega

/-- Where every point's block agrees with an array `G` through the block, the result array is `G`. -/
theorem cover (G : S16384x1024.Idx → EReal)
    (hG : ∀ (t : Fin cfg0.N) (r : Fin 512) (k : Fin 1024),
      outsAt0 m c t (ix2 r k) = G (ix2 (prow t r) k)) :
    (dats m 0 c).arrAt 9 cfg0.N = G := by
  refine (dats m 0 c).arrAt_eq_of_cover 9 G (fun t _ => ?_) fun i => ?_
  · rw [Value.flushed9]
    funext y
    have hy : y = ix2 (y 0) (y 1) := funext fun a => match a with | ⟨0, _⟩ => rfl | ⟨1, _⟩ => rfl
    refine (cut_at t _ y).trans ?_
    rw [hy]
    exact (hG t (y 0) (y 1)).trans (read_at t G (y 0) (y 1)).symm
  · have h0 : (i 0 : Nat) < 16384 := (i 0).isLt
    have h1 : (i 1 : Nat) < 1024 := (i 1).isLt
    obtain ⟨t, ht⟩ := Pipeline.Grid.coords_surjective grid0 (fun a => match a with | ⟨0, _⟩ => (⟨(i 0 : Nat) / 512, by omega⟩ : Fin 32))
    have hj : (grid0.coords t 0).val = (i 0 : Nat) / 512 := congrArg Fin.val (congrFun ht 0)
    obtain ⟨e0, e1⟩ := ix_9 t
    refine ⟨t, flush0_9 t, ?_⟩
    show i ∈ ((View.whole main_v5).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512; omega
    | ⟨1, _⟩ => show win0_9.index t 1 * 1024 ≤ (i 1 : Nat) ∧ (i 1 : Nat) < win0_9.index t 1 * 1024 + 1024; omega

/-- The kernel's result is the reference's. -/
theorem final : (dats m 0 c).arrAt 9 cfg0.N
    = Cert.ReferenceFDIdeal.Read.val_main_v46 (F := Ideal) (arg0 m c) (arg1 m c) (arg2 m c) (arg3 m c) (arg4 m c) (arg5 m c) (arg6 m c) (arg7 m c) :=
  cover m c _ fun t r k => (out_at m c t r k).trans (MixD.ref_at (arg0 m c) (arg1 m c) (arg2 m c) (arg3 m c) (arg4 m c) (arg5 m c) (arg6 m c) (arg7 m c) (prow t r) k).symm

end Cert.MixDArray

end
-- ==== Proof.MixA.lean ====
/-  The feed-forward block after the mixing step that MERGES the attention's three branches by the logarithms of their sums and
    projects the merged row. -/
module

public import proofs.«01_k».proof.Proof.Gen.KernelFAIdeal.Skeleton
public import proofs.«01_k».proof.Proof.Gen.ReferenceFAIdeal.Read
public import proofs.«01_k».proof.Proof.Soft
public import proofs.«01_k».proof.Proof.MixB

@[expose] public section

noncomputable section

namespace Cert.MixA

open Idealize.ShloMosaic Idealize.ShloMosaic.ValueIdx Cert.Ffn Cert.FfnRef Cert.Mix Cert.Soft

/-- Three things, one per branch. -/
def three {α : Type} (a b c : α) (k : Fin 3) : α := match k with
  | ⟨0, _⟩ => a
  | ⟨1, _⟩ => b
  | ⟨2, _⟩ => c

/-- The greatest of three. -/
theorem mx_three (s : Fin 3 → EReal) : mx s = max (max (s 0) (s 1)) (s 2) := by
  rw [mx_eq_sup]
  refine le_antisymm (Finset.sup_le fun k _ => ?_) (max_le (max_le (le_mx s 0) (le_mx s 1)) (le_mx s 2))
  match k with
  | ⟨0, _⟩ => exact (le_max_left _ _).trans (le_max_left _ _)
  | ⟨1, _⟩ => exact (le_max_right _ _).trans (le_max_left _ _)
  | ⟨2, _⟩ => exact le_max_right _ _

/-- The mean of three values by their weights, each weight divided by the sum. -/
def mean3 (s v : Fin 3 → EReal) : EReal := ∑ k, Ideal.div (wt s k) (den s) * v k

/-- Over real scores the sum of the weighted values may be divided once. -/
theorem mean3_late (s v : Fin 3 → EReal) (h : ∀ k, Re (s k)) :
    Ideal.div (wt s 0 * v 0 + wt s 1 * v 1 + wt s 2 * v 2) (wt s 0 + wt s 1 + wt s 2) = mean3 s v := by
  obtain ⟨D, hD, hd⟩ := den_pos (fun k => Or.inr (h k)) 0 (h 0)
  have hs : wt s 0 + wt s 1 + wt s 2 = den s := (Fin.sum_univ_three (wt s)).symm
  have h0 : (0 : EReal) ≤ ((1 / D : ℝ) : EReal) := by exact_mod_cast (one_div_pos.2 hD).le
  have ht : ((1 / D : ℝ) : EReal) ≠ ⊤ := EReal.coe_ne_top _
  unfold mean3
  rw [hs, hd, Fin.sum_univ_three, Ideal.div_coe hD.ne', Ideal.div_coe hD.ne', Ideal.div_coe hD.ne', Ideal.div_coe hD.ne',
    EReal.right_distrib_of_nonneg_of_ne_top h0 ht, EReal.right_distrib_of_nonneg_of_ne_top h0 ht, mul_right_comm _ (v 0), mul_right_comm _ (v 1),
    mul_right_comm _ (v 2)]

/-- The merged row: a column's mean over the branches. -/
def mergedRow {n : Nat} (l o : Fin 3 → Fin n → EReal) (c : Fin n) : EReal := mean3 (fun k => l k c) (fun k => o k c)

section kernel

open Cert.KernelFAIdeal Cert.KernelFAIdeal.Gen

variable (x : FVec Ideal S512x1024 .f32) (l0 l1 l2 o0 o1 o2 : FVec Ideal S512x512 .f32) (w : FVec Ideal S512x1024 .bf16)
  (g : FVec Ideal S1x1024 .f32) (wg wu : FVec Ideal S1x1x1024x2816 .bf16) (wd : FVec Ideal S1x1x2816x1024 .bf16)

/-- The stored block is the feed-forward kernel's, of the mixed rows. -/
theorem pay_eq : k0_pay1 (F := Ideal) (k0_pay2 (F := Ideal) x l0 l1 l2 o0 o1 o2 w) (k0_pay3 (F := Ideal) g)
      (k0_pay4 (F := Ideal) x l0 l1 l2 o0 o1 o2 w) wg wu wd
    = Cert.KernelFIdeal.Gen.k0_pay1 (F := Ideal) (k0_pay2 (F := Ideal) x l0 l1 l2 o0 o1 o2 w) g wg wu wd := rfl

/-- The greatest logarithm of the branches. -/
def top : FVec Ideal S512x512 .f32 := maximumf (maximumf l0 l1) l2

/-- The merged rows as the body has them. -/
def merged : FVec Ideal S512x512 .f32 :=
  divf (addf (addf (mulf (exp (subf l0 (top l0 l1 l2))) o0) (mulf (exp (subf l1 (top l0 l1 l2))) o1)) (mulf (exp (subf l2 (top l0 l1 l2))) o2))
    (addf (addf (exp (subf l0 (top l0 l1 l2))) (exp (subf l1 (top l0 l1 l2)))) (exp (subf l2 (top l0 l1 l2))))

theorem merged_apply (r : Fin 512) (c : Fin 512) (h : ∀ k, Re (lane (three l0 l1 l2 k) r c)) :
    merged l0 l1 l2 o0 o1 o2 (ix2 r c) = mergedRow (fun k => lane (three l0 l1 l2 k) r) (fun k => lane (three o0 o1 o2 k) r) c := by
  refine Eq.trans ?_ (mean3_late (fun k => lane (three l0 l1 l2 k) r c) (fun k => lane (three o0 o1 o2 k) r c) h)
  unfold wt
  rw [mx_three]
  rfl

theorem mixed_eq : k0_pay2 (F := Ideal) x l0 l1 l2 o0 o1 o2 w = addf x (matmul dot_S512x512_S512x1024_S512x1024_1_0_0_1_n_n none
    (truncf .bf16 (merged l0 l1 l2 o0 o1 o2) bitsLt_bf16_f32) w (constant S512x1024 .f32 0x00000000#32)) := by
  have e : shapeCast S512x1024 w shapeCasts_S512x1024_S512x1024 = w := shapeCast_self _ _
  unfold k0_pay2
  rw [e]
  rfl

/-- The mixed rows: a row plus the projection of the merged row. -/
theorem mixed_apply (r : Fin 512) (h : ∀ k c, Re (lane (three l0 l1 l2 k) r c)) (c : Fin 1024) :
    k0_pay2 (F := Ideal) x l0 l1 l2 o0 o1 o2 w (ix2 r c)
      = x (ix2 r c) + rowMul (mergedRow (fun k => lane (three l0 l1 l2 k) r) (fun k => lane (three o0 o1 o2 k) r)) (fun k j => w (ix2 k j)) c := by
  rw [mixed_eq]
  refine congrArg (fun s => x (ix2 r c) + s) ((product_apply _ w r c).trans (Finset.sum_congr rfl fun k _ => ?_))
  exact congrArg (fun s : EReal => s * w (ix2 k c)) (merged_apply l0 l1 l2 o0 o1 o2 r k fun b => h b k)

end kernel

section reference

open Cert.ReferenceFAIdeal Cert.ReferenceFAIdeal.Gen Cert.ReferenceFAIdeal.Read

variable (x : Rows) (g : Gain) (up : Up) (dn : Down) (o0 o1 o2 l0 l1 l2 : FVec Ideal ⟨2, ![16384, 512]⟩ .f32)
  (w : FVec Ideal ⟨2, ![512, 1024]⟩ .f32)

/-- Three arrays stacked, an entry at a time. -/
theorem stack_at (k : Fin 3) (i : Fin 16384) (c : Fin 512) : val_main_v3 (F := Ideal) l0 l1 l2 (ix3 k i c) = three l0 l1 l2 k (ix2 i c) := by
  have e : val_main_v3 (F := Ideal) l0 l1 l2 = concatenate S3x16384x512 0
      (List.ofFn fun k : Fin 3 => (⟨S1x16384x512, val_main_v0 (F := Ideal) (three l0 l1 l2 k)⟩ : (s : Shape) × (s.Idx → EReal)))
      concatenates_S1x16384x512_S1x16384x512_S1x16384x512_S3x16384x512_d0 := rfl
  rw [e]
  refine (concatenate_ofFn_apply (t := S3x16384x512) (0 : Fin 3) (fun k : Fin 3 => val_main_v0 (F := Ideal) (three l0 l1 l2 k))
    concatenates_S1x16384x512_S1x16384x512_S1x16384x512_S3x16384x512_d0 rfl 1 rfl (ix3 k i c) k (Nat.div_one _) (ix3 (0 : Fin 1) i c) (Nat.mod_one _).symm
    (fun b hb => match b with
      | ⟨0, _⟩ => absurd rfl hb
      | ⟨1, _⟩ => rfl
      | ⟨2, _⟩ => rfl)).trans ?_
  have ei : idx_main_v0 (ix3 (0 : Fin 1) i c) = ix2 i c := funext fun a => match a with | ⟨0, _⟩ => rfl | ⟨1, _⟩ => rfl
  rw [val_main_v0_apply, ei]

theorem stack'_at (k : Fin 3) (i : Fin 16384) (c : Fin 512) : val_main_v18 (F := Ideal) o0 o1 o2 (ix3 k i c) = three o0 o1 o2 k (ix2 i c) :=
  stack_at o0 o1 o2 k i c

theorem reduces_branch : S3x16384x512.Reduces [0] S16384x512 := by decide

theorem lift_branch (k : Fin 3) (i : Fin 16384) (c : Fin 512) : reduces_branch.lift (ix2 i c) k = ix3 k i c := funext fun a => match a with
  | ⟨0, _⟩ => rfl
  | ⟨1, _⟩ => rfl
  | ⟨2, _⟩ => rfl

/-- The scores of a place. -/
abbrev sc (i : Fin 16384) (c : Fin 512) (k : Fin 3) : EReal := three l0 l1 l2 k (ix2 i c)

theorem least : Ideal.ofBits .f32 0xFF800000#32 = ⊥ := by simp [Ideal.ofBits, Ideal.ieee]

theorem v4_at (i : Fin 16384) (c : Fin 512) : val_main_v4 (F := Ideal) l0 l1 l2 (ix2 i c) = mx (sc l0 l1 l2 i c) := by
  unfold val_main_v4
  refine (Host.reduce_eq_fold_single (FloatOps.maximumf (F := Ideal) (φ := .f32)) _ _ _ reduces_branch _ _).trans ?_
  unfold mx
  rw [show val_main_cst (F := Ideal) (Shape.Idx.first h_S_) = (⊥ : EReal) from least]
  exact Finset.fold_congr fun k _ => (congrArg (val_main_v3 (F := Ideal) l0 l1 l2) (lift_branch k i c)).trans (stack_at l0 l1 l2 k i c)

theorem v6_at (i : Fin 16384) (c : Fin 512) : val_main_v6 (F := Ideal) l0 l1 l2 (ix2 i c) = mx (sc l0 l1 l2 i c) := by
  rw [val_main_v6_apply, val_main_v5_apply, val_main_cst_0_apply, v4_at]
  refine (congrArg (fun z : EReal => max z (mx (sc l0 l1 l2 i c))) least).trans ?_
  exact max_eq_right bot_le

theorem v10_at (k : Fin 3) (i : Fin 16384) (c : Fin 512) : val_main_v10 (F := Ideal) l0 l1 l2 (ix3 k i c) = wt (sc l0 l1 l2 i c) k := by
  have e8 : idx_main_v8 (ix3 k i c) = ix3 (0 : Fin 1) i c := funext fun a => match a with | ⟨0, _⟩ => rfl | ⟨1, _⟩ => rfl | ⟨2, _⟩ => rfl
  have e7 : idx_main_v7 (ix3 (0 : Fin 1) i c) = ix2 i c := funext fun a => match a with | ⟨0, _⟩ => rfl | ⟨1, _⟩ => rfl
  rw [val_main_v10_apply, val_main_v9_apply, stack_at, val_main_v8_apply, e8, val_main_v7_apply, e7, v6_at]
  rfl

theorem v11_at (i : Fin 16384) (c : Fin 512) : val_main_v11 (F := Ideal) l0 l1 l2 (ix2 i c) = den (sc l0 l1 l2 i c) := by
  have ei : ∀ k, idx_main_v11 (ix2 i c) k = ix3 k i c := fun k => funext fun a => match a with | ⟨0, _⟩ => rfl | ⟨1, _⟩ => rfl | ⟨2, _⟩ => rfl
  rw [val_main_v11_apply, val_main_cst_1_apply]
  refine (congrArg (fun z => z + _) Ideal.ofBits_zero_f32).trans ?_
  rw [zero_add]
  exact Finset.sum_congr rfl fun k _ => by rw [ei, v10_at]

theorem v14_at (k : Fin 3) (i : Fin 16384) (c : Fin 512) : val_main_v14 (F := Ideal) l0 l1 l2 (ix3 k i c)
    = Ideal.div (wt (sc l0 l1 l2 i c) k) (den (sc l0 l1 l2 i c)) := by
  have e13 : idx_main_v13 (ix3 k i c) = ix3 (0 : Fin 1) i c := funext fun a => match a with | ⟨0, _⟩ => rfl | ⟨1, _⟩ => rfl | ⟨2, _⟩ => rfl
  have e12 : idx_main_v12 (ix3 (0 : Fin 1) i c) = ix2 i c := funext fun a => match a with | ⟨0, _⟩ => rfl | ⟨1, _⟩ => rfl
  rw [val_main_v14_apply, v10_at, val_main_v13_apply, e13, val_main_v12_apply, e12, v11_at]
  rfl

/-- The reference's merged rows. -/
theorem v20_at (i : Fin 16384) (c : Fin 512) : val_main_v20 (F := Ideal) o0 o1 o2 l0 l1 l2 (ix2 i c)
    = mergedRow (fun k => lane (three l0 l1 l2 k) i) (fun k => lane (three o0 o1 o2 k) i) c := by
  have ei : ∀ k, idx_main_v20 (ix2 i c) k = ix3 k i c := fun k => funext fun a => match a with | ⟨0, _⟩ => rfl | ⟨1, _⟩ => rfl | ⟨2, _⟩ => rfl
  rw [val_main_v20_apply, val_main_cst_2_apply]
  refine (congrArg (fun z => z + _) Ideal.ofBits_zero_f32).trans ?_
  rw [zero_add]
  unfold mergedRow mean3
  exact Finset.sum_congr rfl fun k _ => by rw [ei, val_main_v19_apply, v14_at, stack'_at]; rfl

/-- The reference's mixed rows. -/
theorem mixed_at (i : Fin 16384) (c : Fin 1024) : val_main_v22 (F := Ideal) x o0 o1 o2 l0 l1 l2 w (ix2 i c)
    = x (ix2 i c) + rowMul (mergedRow (fun k => lane (three l0 l1 l2 k) i) (fun k => lane (three o0 o1 o2 k) i)) (fun k j => w (ix2 k j)) c := by
  have el : ∀ k, lidx_main_v21 (ix2 i c) k = ix2 i k := fun k => funext fun a => match a with | ⟨0, _⟩ => rfl | ⟨1, _⟩ => rfl
  have er : ∀ k, ridx_main_v21 (ix2 i c) k = ix2 k c := fun k => funext fun a => match a with | ⟨0, _⟩ => rfl | ⟨1, _⟩ => rfl
  rw [val_main_v22_apply, val_main_v21_apply]
  refine congrArg (fun s => x (ix2 i c) + s) (Finset.sum_congr rfl fun k _ => ?_)
  rw [el k, er k, v20_at]

/-- The reference is the feed-forward reference of the mixed rows. -/
theorem ref_at (i : Fin 16384) (c : Fin 1024) : val_main_v48 (F := Ideal) x g up dn o0 o1 o2 l0 l1 l2 w (ix2 i c)
    = row (val_main_v22 (F := Ideal) x o0 o1 o2 l0 l1 l2 w) g up dn 0 1 i c := by
  have e36 : val_main_v36 (F := Ideal) up = Cert.ReferenceFIdeal.Read.val_main_v13 (F := Ideal) (layerOf up 0 1) := cut_layerOf up 0 1 _ rfl _ _
  have e38 : val_main_v38 (F := Ideal) dn = Cert.ReferenceFIdeal.Read.val_main_v15 (F := Ideal) (layerOf dn 0 1) := cut_layerOf dn 0 1 _ rfl _ _
  have e37 : val_main_v37 (F := Ideal) up = Cert.ReferenceFIdeal.Read.val_main_v14 (F := Ideal) (layerOf up 0 1) := by
    unfold val_main_v37; rw [e36]; rfl
  have e39 : val_main_v39 (F := Ideal) dn = Cert.ReferenceFIdeal.Read.val_main_v16 (F := Ideal) (layerOf dn 0 1) := by
    unfold val_main_v39; rw [e38]; rfl
  have e : val_main_v48 (F := Ideal) x g up dn o0 o1 o2 l0 l1 l2 w
      = Cert.ReferenceFIdeal.Read.val_main_v25 (F := Ideal) (val_main_v22 (F := Ideal) x o0 o1 o2 l0 l1 l2 w) g (layerOf up 0 1) (layerOf dn 0 1) := by
    have e40 : val_main_v40 (F := Ideal) x g up o0 o1 o2 l0 l1 l2 w
        = Cert.ReferenceFIdeal.Read.val_main_v17 (F := Ideal) (val_main_v22 (F := Ideal) x o0 o1 o2 l0 l1 l2 w) g (layerOf up 0 1) := by
      unfold val_main_v40; rw [e37]; rfl
    have e44 : val_main_v44 (F := Ideal) x g up o0 o1 o2 l0 l1 l2 w
        = Cert.ReferenceFIdeal.Read.val_main_v21 (F := Ideal) (val_main_v22 (F := Ideal) x o0 o1 o2 l0 l1 l2 w) g (layerOf up 0 1) := by
      unfold val_main_v44 val_main_v43 val_main_call0_v5 val_main_call0_v3 val_main_call0_v1 val_main_call0_v0 val_main_v42 val_main_v41; rw [e40]; rfl
    unfold val_main_v48 val_main_v47 val_main_v45; rw [e44, e39]; rfl
  rw [e, FfnRef.ref_at]
  exact row_layerOf _ g up dn 0 1 i c

end reference

end Cert.MixA

end
-- ==== Proof.MixAArray.lean ====
/-  The feed-forward kernel after the merge of the attention's branches and the projection: its arrays, a grid point's blocks as entries of
    the arguments, and the result array whole, over real logarithms. -/
module

public import proofs.«01_k».proof.Proof.Gen.KernelFAIdeal.Value
public import proofs.«01_k».proof.Proof.MixA
public import Idealize.ShloMosaic.Lib.Pipeline.Value
public import Idealize.ShloMosaic.Lib.Pipeline.Covers
public import Idealize.ShloMosaic.Lib.Tactic

@[expose] public section

set_option maxRecDepth 4096

noncomputable section

namespace Cert.MixAArray

open Cert.KernelFAIdeal Cert.KernelFAIdeal.Gen Idealize.ShloMosaic Idealize.ShloMosaic.ValueIdx Idealize.ShloMosaic.TcCoe
open Idealize.ShloMosaic.Pipeline (Dat)
open Cert.Ffn Cert.FfnRef

variable (m : (ℓ : Loc nD τ sig) → Buf (Elt Ideal) ℓ) (c : Dev nD)

/-- The argument arrays on device `c`. -/
abbrev arg0 : Rows := m ((c : Thread nD τ).loc main_arg0)
abbrev arg1 : Gain := m ((c : Thread nD τ).loc main_arg1)
abbrev arg2 : Up := m ((c : Thread nD τ).loc main_arg2)
abbrev arg3 : Down := m ((c : Thread nD τ).loc main_arg3)
abbrev arg4 : FVec Ideal ⟨2, ![16384, 512]⟩ .f32 := m ((c : Thread nD τ).loc main_arg4)
abbrev arg5 : FVec Ideal ⟨2, ![16384, 512]⟩ .f32 := m ((c : Thread nD τ).loc main_arg5)
abbrev arg6 : FVec Ideal ⟨2, ![16384, 512]⟩ .f32 := m ((c : Thread nD τ).loc main_arg6)
abbrev arg7 : FVec Ideal ⟨2, ![16384, 512]⟩ .f32 := m ((c : Thread nD τ).loc main_arg7)
abbrev arg8 : FVec Ideal ⟨2, ![16384, 512]⟩ .f32 := m ((c : Thread nD τ).loc main_arg8)
abbrev arg9 : FVec Ideal ⟨2, ![16384, 512]⟩ .f32 := m ((c : Thread nD τ).loc main_arg9)
abbrev arg10 : FVec Ideal ⟨2, ![512, 1024]⟩ .f32 := m ((c : Thread nD τ).loc main_arg10)

/-- Row `r` of a grid point's block of 512 rows. -/
def prow (t : Fin cfg0.N) (r : Fin 512) : Fin 16384 :=
  ⟨512 * (grid0.coords t 0).val + r.val, by have h : (grid0.coords t 0).val < 32 := (grid0.coords t 0).isLt; omega⟩

/-! ## The arrays the region reads -/

theorem entry_0 : V m c main_v0 = arg10 m c := by
  show StableHlo.after hostOps0 (fun b => m (c, b)) main_v0 = _
  simp only [hostOps0]
  after_results
  rfl

theorem entry_1 : V m c main_v1 = arg2 m c := by
  show StableHlo.after hostOps0 (fun b => m (c, b)) main_v1 = _
  simp only [hostOps0]
  after_results
  rfl

theorem entry_2 : V m c main_v2 = arg3 m c := by
  show StableHlo.after hostOps0 (fun b => m (c, b)) main_v2 = _
  simp only [hostOps0]
  after_results
  rfl

theorem entry_3 (k : Fin 1024) : V m c main_v3 (ix2 (0 : Fin 1) k) = arg1 m c (ix1 k) := by
  have e : V m c main_v3 = shapeCast S1x1024 (arg1 m c) shapeCasts_S1024_S1x1024 := by
    show StableHlo.after hostOps0 (fun b => m (c, b)) main_v3 = _
    simp only [hostOps0]
    after_results
    rfl
  rw [e]
  exact shapeCast_a_1a_apply _ _ _ k

/-! ## The windows' block indices and blocks -/

theorem ix_0 : ∀ t : Fin grid0.N, win0_0.index t 0 = (grid0.coords t 0).val ∧ win0_0.index t 1 = 0 := by decide +kernel
theorem ix_1 : ∀ t : Fin grid0.N, win0_1.index t 0 = (grid0.coords t 0).val ∧ win0_1.index t 1 = 0 := by decide +kernel
theorem ix_2 : ∀ t : Fin grid0.N, win0_2.index t 0 = (grid0.coords t 0).val ∧ win0_2.index t 1 = 0 := by decide +kernel
theorem ix_3 : ∀ t : Fin grid0.N, win0_3.index t 0 = (grid0.coords t 0).val ∧ win0_3.index t 1 = 0 := by decide +kernel
theorem ix_4 : ∀ t : Fin grid0.N, win0_4.index t 0 = (grid0.coords t 0).val ∧ win0_4.index t 1 = 0 := by decide +kernel
theorem ix_5 : ∀ t : Fin grid0.N, win0_5.index t 0 = (grid0.coords t 0).val ∧ win0_5.index t 1 = 0 := by decide +kernel
theorem ix_6 : ∀ t : Fin grid0.N, win0_6.index t 0 = (grid0.coords t 0).val ∧ win0_6.index t 1 = 0 := by decide +kernel
theorem ix_7 : ∀ t : Fin grid0.N, win0_7.index t 0 = 0 ∧ win0_7.index t 1 = 0 := by decide +kernel
theorem ix_8 : ∀ t : Fin grid0.N, win0_8.index t 0 = 0 ∧ win0_8.index t 1 = 0 := by decide +kernel
theorem ix_9 : ∀ t : Fin grid0.N, win0_9.index t 0 = 0 ∧ win0_9.index t 1 = 1 ∧ win0_9.index t 2 = 0 ∧ win0_9.index t 3 = 0 := by decide +kernel
theorem ix_10 : ∀ t : Fin grid0.N, win0_10.index t 0 = 0 ∧ win0_10.index t 1 = 1 ∧ win0_10.index t 2 = 0 ∧ win0_10.index t 3 = 1 := by decide +kernel
theorem ix_11 : ∀ t : Fin grid0.N, win0_11.index t 0 = 0 ∧ win0_11.index t 1 = 1 ∧ win0_11.index t 2 = 0 ∧ win0_11.index t 3 = 0 := by decide +kernel
theorem ix_12 : ∀ t : Fin grid0.N, win0_12.index t 0 = (grid0.coords t 0).val ∧ win0_12.index t 1 = 0 := by decide +kernel

theorem blk_0 (t : Fin cfg0.N) (r : Fin 512) (k : Fin 1024) : iblk m c 0 t (ix2 r k) = arg0 m c (ix2 (prow t r) k) := by
  obtain ⟨e0, e1⟩ := ix_0 t
  refine Eq.trans ?_ (congrFun (V_main_arg0 m c) (ix2 (prow t r) k))
  unfold iblk
  rw [View.read_apply]
  show V m c main_arg0 _ = _
  congr 1
  funext a
  apply Fin.ext
  match a with
  | ⟨0, _⟩ => show win0_0.index t 0 * 512 + 1 * r.val = 512 * (grid0.coords t 0).val + r.val; omega
  | ⟨1, _⟩ => show win0_0.index t 1 * 1024 + 1 * k.val = k.val; omega

theorem blk_1 (t : Fin cfg0.N) (r : Fin 512) (k : Fin 512) : iblk m c 1 t (ix2 r k) = arg4 m c (ix2 (prow t r) k) := by
  obtain ⟨e0, e1⟩ := ix_1 t
  refine Eq.trans ?_ (congrFun (V_main_arg4 m c) (ix2 (prow t r) k))
  unfold iblk
  rw [View.read_apply]
  show V m c main_arg4 _ = _
  congr 1
  funext a
  apply Fin.ext
  match a with
  | ⟨0, _⟩ => show win0_1.index t 0 * 512 + 1 * r.val = 512 * (grid0.coords t 0).val + r.val; omega
  | ⟨1, _⟩ => show win0_1.index t 1 * 512 + 1 * k.val = k.val; omega

theorem blk_2 (t : Fin cfg0.N) (r : Fin 512) (k : Fin 512) : iblk m c 2 t (ix2 r k) = arg5 m c (ix2 (prow t r) k) := by
  obtain ⟨e0, e1⟩ := ix_2 t
  refine Eq.trans ?_ (congrFun (V_main_arg5 m c) (ix2 (prow t r) k))
  unfold iblk
  rw [View.read_apply]
  show V m c main_arg5 _ = _
  congr 1
  funext a
  apply Fin.ext
  match a with
  | ⟨0, _⟩ => show win0_2.index t 0 * 512 + 1 * r.val = 512 * (grid0.coords t 0).val + r.val; omega
  | ⟨1, _⟩ => show win0_2.index t 1 * 512 + 1 * k.val = k.val; omega

theorem blk_3 (t : Fin cfg0.N) (r : Fin 512) (k : Fin 512) : iblk m c 3 t (ix2 r k) = arg6 m c (ix2 (prow t r) k) := by
  obtain ⟨e0, e1⟩ := ix_3 t
  refine Eq.trans ?_ (congrFun (V_main_arg6 m c) (ix2 (prow t r) k))
  unfold iblk
  rw [View.read_apply]
  show V m c main_arg6 _ = _
  congr 1
  funext a
  apply Fin.ext
  match a with
  | ⟨0, _⟩ => show win0_3.index t 0 * 512 + 1 * r.val = 512 * (grid0.coords t 0).val + r.val; omega
  | ⟨1, _⟩ => show win0_3.index t 1 * 512 + 1 * k.val = k.val; omega

theorem blk_4 (t : Fin cfg0.N) (r : Fin 512) (k : Fin 512) : iblk m c 4 t (ix2 r k) = arg7 m c (ix2 (prow t r) k) := by
  obtain ⟨e0, e1⟩ := ix_4 t
  refine Eq.trans ?_ (congrFun (V_main_arg7 m c) (ix2 (prow t r) k))
  unfold iblk
  rw [View.read_apply]
  show V m c main_arg7 _ = _
  congr 1
  funext a
  apply Fin.ext
  match a with
  | ⟨0, _⟩ => show win0_4.index t 0 * 512 + 1 * r.val = 512 * (grid0.coords t 0).val + r.val; omega
  | ⟨1, _⟩ => show win0_4.index t 1 * 512 + 1 * k.val = k.val; omega

theorem blk_5 (t : Fin cfg0.N) (r : Fin 512) (k : Fin 512) : iblk m c 5 t (ix2 r k) = arg8 m c (ix2 (prow t r) k) := by
  obtain ⟨e0, e1⟩ := ix_5 t
  refine Eq.trans ?_ (congrFun (V_main_arg8 m c) (ix2 (prow t r) k))
  unfold iblk
  rw [View.read_apply]
  show V m c main_arg8 _ = _
  congr 1
  funext a
  apply Fin.ext
  match a with
  | ⟨0, _⟩ => show win0_5.index t 0 * 512 + 1 * r.val = 512 * (grid0.coords t 0).val + r.val; omega
  | ⟨1, _⟩ => show win0_5.index t 1 * 512 + 1 * k.val = k.val; omega

theorem blk_6 (t : Fin cfg0.N) (r : Fin 512) (k : Fin 512) : iblk m c 6 t (ix2 r k) = arg9 m c (ix2 (prow t r) k) := by
  obtain ⟨e0, e1⟩ := ix_6 t
  refine Eq.trans ?_ (congrFun (V_main_arg9 m c) (ix2 (prow t r) k))
  unfold iblk
  rw [View.read_apply]
  show V m c main_arg9 _ = _
  congr 1
  funext a
  apply Fin.ext
  match a with
  | ⟨0, _⟩ => show win0_6.index t 0 * 512 + 1 * r.val = 512 * (grid0.coords t 0).val + r.val; omega
  | ⟨1, _⟩ => show win0_6.index t 1 * 512 + 1 * k.val = k.val; omega

theorem blk_7 (t : Fin cfg0.N) (k : Fin 512) (j : Fin 1024) : iblk m c 7 t (ix2 k j) = arg10 m c (ix2 k j) := by
  obtain ⟨e0, e1⟩ := ix_7 t
  refine Eq.trans ?_ (congrFun (entry_0 m c) (ix2 k j))
  unfold iblk
  rw [View.read_apply]
  show V m c main_v0 _ = _
  congr 1
  funext a
  apply Fin.ext
  match a with
  | ⟨0, _⟩ => show win0_7.index t 0 * 512 + 1 * k.val = k.val; omega
  | ⟨1, _⟩ => show win0_7.index t 1 * 1024 + 1 * j.val = j.val; omega

theorem blk_8 (t : Fin cfg0.N) (k : Fin 1024) : iblk m c 8 t (ix2 (0 : Fin 1) k) = arg1 m c (ix1 k) := by
  obtain ⟨e0, e1⟩ := ix_8 t
  refine Eq.trans ?_ (entry_3 m c k)
  unfold iblk
  rw [View.read_apply]
  show V m c main_v3 _ = _
  congr 1
  funext a
  apply Fin.ext
  match a with
  | ⟨0, _⟩ => show win0_8.index t 0 * 1 + 1 * 0 = 0; omega
  | ⟨1, _⟩ => show win0_8.index t 1 * 1024 + 1 * k.val = k.val; omega

theorem blk_9 (t : Fin cfg0.N) (k : Fin 1024) (j : Fin 2816) :
    iblk m c 9 t (ix4 (0 : Fin 1) (0 : Fin 1) k j) = arg2 m c (ix4 (0 : Fin 4) (1 : Fin 2) k (gcol j)) := by
  obtain ⟨e0, e1, e2, e3⟩ := ix_9 t
  refine Eq.trans ?_ (congrFun (entry_1 m c) (ix4 (0 : Fin 4) (1 : Fin 2) k (gcol j)))
  unfold iblk
  rw [View.read_apply]
  show V m c main_v1 _ = _
  congr 1
  funext a
  apply Fin.ext
  match a with
  | ⟨0, _⟩ => show win0_9.index t 0 * 1 + 1 * 0 = 0; omega
  | ⟨1, _⟩ => show win0_9.index t 1 * 1 + 1 * 0 = 1; omega
  | ⟨2, _⟩ => show win0_9.index t 2 * 1024 + 1 * k.val = k.val; omega
  | ⟨3, _⟩ => show win0_9.index t 3 * 2816 + 1 * j.val = j.val; omega

theorem blk_10 (t : Fin cfg0.N) (k : Fin 1024) (j : Fin 2816) :
    iblk m c 10 t (ix4 (0 : Fin 1) (0 : Fin 1) k j) = arg2 m c (ix4 (0 : Fin 4) (1 : Fin 2) k (ucol j)) := by
  obtain ⟨e0, e1, e2, e3⟩ := ix_10 t
  refine Eq.trans ?_ (congrFun (entry_1 m c) (ix4 (0 : Fin 4) (1 : Fin 2) k (ucol j)))
  unfold iblk
  rw [View.read_apply]
  show V m c main_v1 _ = _
  congr 1
  funext a
  apply Fin.ext
  match a with
  | ⟨0, _⟩ => show win0_10.index t 0 * 1 + 1 * 0 = 0; omega
  | ⟨1, _⟩ => show win0_10.index t 1 * 1 + 1 * 0 = 1; omega
  | ⟨2, _⟩ => show win0_10.index t 2 * 1024 + 1 * k.val = k.val; omega
  | ⟨3, _⟩ => show win0_10.index t 3 * 2816 + 1 * j.val = 2816 + j.val; omega

theorem blk_11 (t : Fin cfg0.N) (j : Fin 2816) (k : Fin 1024) :
    iblk m c 11 t (ix4 (0 : Fin 1) (0 : Fin 1) j k) = arg3 m c (ix4 (0 : Fin 4) (1 : Fin 2) j k) := by
  obtain ⟨e0, e1, e2, e3⟩ := ix_11 t
  refine Eq.trans ?_ (congrFun (entry_2 m c) (ix4 (0 : Fin 4) (1 : Fin 2) j k))
  unfold iblk
  rw [View.read_apply]
  show V m c main_v2 _ = _
  congr 1
  funext a
  apply Fin.ext
  match a with
  | ⟨0, _⟩ => show win0_11.index t 0 * 1 + 1 * 0 = 0; omega
  | ⟨1, _⟩ => show win0_11.index t 1 * 1 + 1 * 0 = 1; omega
  | ⟨2, _⟩ => show win0_11.index t 2 * 2816 + 1 * j.val = j.val; omega
  | ⟨3, _⟩ => show win0_11.index t 3 * 1024 + 1 * k.val = k.val; omega

/-! ## The body's block and the result array -/

/-- One entry of a point's block of the result. -/
theorem out_at (hl : ∀ k i, Soft.Re (MixA.three (arg7 m c) (arg8 m c) (arg9 m c) k i)) (t : Fin cfg0.N) (r : Fin 512) (k : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k)
      = row (Cert.ReferenceFAIdeal.Read.val_main_v22 (F := Ideal) (arg0 m c) (arg4 m c) (arg5 m c) (arg6 m c) (arg7 m c) (arg8 m c) (arg9 m c) (arg10 m c)) (arg1 m c) (arg2 m c) (arg3 m c) 0 1 (prow t r) k := by
  have hz2 : (![0, 0] : Fin 2 → Nat) = fun _ => 0 := by funext a; match a with | ⟨0, _⟩ => rfl | ⟨1, _⟩ => rfl
  have hz4 : (![0, 0, 0, 0] : Fin 4 → Nat) = fun _ => 0 := by
    funext a; match a with | ⟨0, _⟩ => rfl | ⟨1, _⟩ => rfl | ⟨2, _⟩ => rfl | ⟨3, _⟩ => rfl
  have fl : ∀ b, lane (φ := .f32) (MixA.three (α := FVec Ideal S512x512 .f32) (iblk m c 4 t) (iblk m c 5 t) (iblk m c 6 t) b) r
      = lane (MixA.three (arg7 m c) (arg8 m c) (arg9 m c) b) (prow t r) := fun b => funext fun k => match b with
    | ⟨0, _⟩ => blk_4 m c t r k
    | ⟨1, _⟩ => blk_5 m c t r k
    | ⟨2, _⟩ => blk_6 m c t r k
  have fo : ∀ b, lane (φ := .f32) (MixA.three (α := FVec Ideal S512x512 .f32) (iblk m c 1 t) (iblk m c 2 t) (iblk m c 3 t) b) r
      = lane (MixA.three (arg4 m c) (arg5 m c) (arg6 m c) b) (prow t r) := fun b => funext fun k => match b with
    | ⟨0, _⟩ => blk_1 m c t r k
    | ⟨1, _⟩ => blk_2 m c t r k
    | ⟨2, _⟩ => blk_3 m c t r k
  have f0 : lane (φ := .f32) (Cert.KernelFAIdeal.Gen.k0_pay2 (F := Ideal) (iblk m c 0 t) (iblk m c 4 t) (iblk m c 5 t) (iblk m c 6 t) (iblk m c 1 t) (iblk m c 2 t) (iblk m c 3 t) (iblk m c 7 t)) r
      = lane (φ := .f32) (Cert.ReferenceFAIdeal.Read.val_main_v22 (F := Ideal) (arg0 m c) (arg4 m c) (arg5 m c) (arg6 m c) (arg7 m c) (arg8 m c) (arg9 m c) (arg10 m c)) (prow t r) := funext fun k => by
    refine (MixA.mixed_apply _ _ _ _ _ _ _ _ r (fun b k => (congrFun (fl b) k).symm ▸ hl b _) k).trans (Eq.trans ?_ (MixA.mixed_at (arg0 m c) (arg4 m c) (arg5 m c) (arg6 m c) (arg7 m c) (arg8 m c) (arg9 m c) (arg10 m c) (prow t r) k).symm)
    rw [funext fl, funext fo, blk_0, funext fun k => funext fun j => blk_7 m c t k j]
  have f1 : lane (φ := .f32) (iblk m c 8 t) (0 : Fin 1) = fun k => arg1 m c (ix1 k) := funext fun k => blk_8 m c t k
  unfold out0_12
  rw [View.canon_unit_zero hz2, View.ld_unit_zero hz2, View.ld_unit_zero hz2, View.ld_unit_zero hz2, View.ld_unit_zero hz2, View.ld_unit_zero hz2,
    View.ld_unit_zero hz2, View.ld_unit_zero hz2, View.ld_unit_zero hz2, View.ld_unit_zero hz2, View.ld_unit_zero hz4, View.ld_unit_zero hz4,
    View.ld_unit_zero hz4, MixA.pay_eq, FfnBlock.pay_apply]
  unfold row
  rw [f0, f1, funext fun k => funext fun j => blk_9 m c t k j, funext fun k => funext fun j => blk_10 m c t k j,
    funext fun j => funext fun k => blk_11 m c t j k]

theorem cut_at (t : Fin cfg0.N) (f : S512x1024.Idx → EReal) (y : S512x1024.Idx) : (cfg0.win 12).cut (grid0.coords t) f y = f y := rfl

/-- An array of the result's shape read through a point's block. -/
theorem read_at (t : Fin cfg0.N) (G : S16384x1024.Idx → EReal) (r : Fin 512) (k : Fin 1024) :
    ((cfg0.win 12).blk t).view.read (Elt Ideal) G (ix2 r k) = G (ix2 (prow t r) k) := by
  obtain ⟨e0, e1⟩ := ix_12 t
  rw [View.read_apply]
  show G _ = G _
  congr 1
  funext a
  apply Fin.ext
  match a with
  | ⟨0, _⟩ => show win0_12.index t 0 * 512 + 1 * r.val = 512 * (grid0.coords t 0).val + r.val; omega
  | ⟨1, _⟩ => show win0_12.index t 1 * 1024 + 1 * k.val = k.val; omega

/-- Where every point's block agrees with an array `G` through the block, the result array is `G`. -/
theorem cover (G : S16384x1024.Idx → EReal)
    (hG : ∀ (t : Fin cfg0.N) (r : Fin 512) (k : Fin 1024),
      out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = G (ix2 (prow t r) k)) :
    (dats m 0 c).arrAt 12 cfg0.N = G := by
  refine (dats m 0 c).arrAt_eq_of_cover 12 G (fun t _ => ?_) fun i => ?_
  · rw [Value.flushed12]
    funext y
    have hy : y = ix2 (y 0) (y 1) := funext fun a => match a with | ⟨0, _⟩ => rfl | ⟨1, _⟩ => rfl
    refine (cut_at t _ y).trans ?_
    rw [hy]
    exact (hG t (y 0) (y 1)).trans (read_at t G (y 0) (y 1)).symm
  · have h0 : (i 0 : Nat) < 16384 := (i 0).isLt
    have h1 : (i 1 : Nat) < 1024 := (i 1).isLt
    obtain ⟨t, ht⟩ := Pipeline.Grid.coords_surjective grid0 (fun a => match a with | ⟨0, _⟩ => (⟨(i 0 : Nat) / 512, by omega⟩ : Fin 32))
    have hj : (grid0.coords t 0).val = (i 0 : Nat) / 512 := congrArg Fin.val (congrFun ht 0)
    obtain ⟨e0, e1⟩ := ix_12 t
    refine ⟨t, flush0_12 t, ?_⟩
    show i ∈ ((View.whole main_v4).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512; omega
    | ⟨1, _⟩ => show win0_12.index t 1 * 1024 ≤ (i 1 : Nat) ∧ (i 1 : Nat) < win0_12.index t 1 * 1024 + 1024; omega

/-- The kernel's result is the reference's. -/
theorem final (hl : ∀ k i, Soft.Re (MixA.three (arg7 m c) (arg8 m c) (arg9 m c) k i)) : (dats m 0 c).arrAt 12 cfg0.N
    = Cert.ReferenceFAIdeal.Read.val_main_v48 (F := Ideal) (arg0 m c) (arg1 m c) (arg2 m c) (arg3 m c) (arg4 m c) (arg5 m c) (arg6 m c) (arg7 m c) (arg8 m c) (arg9 m c) (arg10 m c) :=
  cover m c _ fun t r k => (out_at m c hl t r k).trans (MixA.ref_at (arg0 m c) (arg1 m c) (arg2 m c) (arg3 m c) (arg4 m c) (arg5 m c) (arg6 m c) (arg7 m c) (arg8 m c) (arg9 m c) (arg10 m c) (prow t r) k).symm

end Cert.MixAArray

end
-- ==== Proof.ProjC.lean ====
/-  The norm-and-project kernel of the gated recurrence's layer: its BODY as a value, and its reference read. -/
module

public import proofs.«01_k».proof.Proof.Gen.KernelPCIdeal.Skeleton
public import proofs.«01_k».proof.Proof.Gen.ReferencePCIdeal.Read
public import proofs.«01_k».proof.Proof.FfnRef

@[expose] public section

noncomputable section

namespace Cert.ProjC

open Idealize.ShloMosaic Idealize.ShloMosaic.ValueIdx Cert.Ffn

section kernel

open Cert.KernelPCIdeal Cert.KernelPCIdeal.Gen

/-- One entry of the block the body stores: the normalized row times the weights. -/
theorem pay_apply (x : FVec Ideal S512x1024 .f32) (g : FVec Ideal S1x1024 .f32) (w : FVec Ideal S1024x3200 .bf16) (r : Fin 512) (c : Fin 3200) :
    k0_pay1 (F := Ideal) x g w (ix2 r c) = rowMul (rmsRow width (lane x r) (lane g 0)) (fun k j => w (ix2 k j)) c := by
  have e1 : shapeCast S1x1024 g shapeCasts_S1x1024_S1x1024 = g := shapeCast_self _ _
  have e2 : shapeCast S1024x3200 w shapeCasts_S1024x3200_S1024x3200 = w := shapeCast_self _ _
  unfold k0_pay1
  rw [e1, e2]
  refine (product_apply _ _ r c).trans (Finset.sum_congr rfl fun k _ => ?_)
  exact congrArg (fun s : EReal => s * w (ix2 k c)) (rmsBlock_apply x g _ _ _ _ _ _ _ r k)

end kernel

section reference

open Cert.ReferencePCIdeal Cert.ReferencePCIdeal.Read

variable (x : FVec Ideal ⟨2, ![16384, 1024]⟩ .f32) (g : FVec Ideal ⟨1, ![1024]⟩ .f32) (w : FVec Ideal ⟨2, ![1024, 3200]⟩ .f32)

/-- The normalization is the feed-forward reference's. -/
theorem v12_at (i : Fin 16384) (k : Fin 1024) : val_main_v12 (F := Ideal) x g (ix2 i k)
    = rmsRow width (lane x i) (fun k => g (ix1 k)) k := FfnRef.v12_at x g i k

/-- The reference's result. -/
theorem ref_at (i : Fin 16384) (c : Fin 3200) : val_main_v13 (F := Ideal) x g w (ix2 i c)
    = rowMul (rmsRow width (lane x i) (fun k => g (ix1 k))) (fun k j => w (ix2 k j)) c := by
  have el : ∀ k, lidx_main_v13 (ix2 i c) k = ix2 i k := fun k => funext fun a => match a with | ⟨0, _⟩ => rfl | ⟨1, _⟩ => rfl
  have er : ∀ k, ridx_main_v13 (ix2 i c) k = ix2 k c := fun k => funext fun a => match a with | ⟨0, _⟩ => rfl | ⟨1, _⟩ => rfl
  rw [val_main_v13_apply]
  exact Finset.sum_congr rfl fun k _ => by rw [el k, er k, v12_at]

end reference

end Cert.ProjC

end
-- ==== Proof.ProjCArray.lean ====
/-  The norm-and-project kernel of the gated recurrence's layer: its arrays, a grid point's blocks as entries of the arguments, and the
    result array whole. -/
module

public import proofs.«01_k».proof.Proof.Gen.KernelPCIdeal.Value
public import proofs.«01_k».proof.Proof.ProjC
public import Idealize.ShloMosaic.Lib.Pipeline.Value
public import Idealize.ShloMosaic.Lib.Pipeline.Covers
public import Idealize.ShloMosaic.Lib.Tactic

@[expose] public section

set_option maxRecDepth 4096

noncomputable section

namespace Cert.ProjCArray

open Cert.KernelPCIdeal Cert.KernelPCIdeal.Gen Idealize.ShloMosaic Idealize.ShloMosaic.ValueIdx Idealize.ShloMosaic.TcCoe
open Idealize.ShloMosaic.Pipeline (Dat)
open Cert.Ffn Cert.FfnRef

variable (m : (ℓ : Loc nD τ sig) → Buf (Elt Ideal) ℓ) (c : Dev nD)

/-- The argument arrays on device `c`. -/
abbrev arg0 : Rows := m ((c : Thread nD τ).loc main_arg0)
abbrev arg1 : Gain := m ((c : Thread nD τ).loc main_arg1)
abbrev arg2 : FVec Ideal ⟨2, ![1024, 3200]⟩ .f32 := m ((c : Thread nD τ).loc main_arg2)

/-- Row `r` of a grid point's block of 512 rows. -/
def prow (t : Fin cfg0.N) (r : Fin 512) : Fin 16384 :=
  ⟨512 * (grid0.coords t 0).val + r.val, by have h : (grid0.coords t 0).val < 32 := (grid0.coords t 0).isLt; omega⟩

/-! ## The arrays the region reads -/

theorem entry_0 : V m c main_v0 = arg2 m c := by
  show StableHlo.after hostOps0 (fun b => m (c, b)) main_v0 = _
  simp only [hostOps0]
  after_results
  rfl

theorem entry_1 (k : Fin 1024) : V m c main_v1 (ix2 (0 : Fin 1) k) = arg1 m c (ix1 k) := by
  have e : V m c main_v1 = shapeCast S1x1024 (arg1 m c) shapeCasts_S1024_S1x1024 := by
    show StableHlo.after hostOps0 (fun b => m (c, b)) main_v1 = _
    simp only [hostOps0]
    after_results
    rfl
  rw [e]
  exact shapeCast_a_1a_apply _ _ _ k

/-! ## The windows' block indices and blocks -/

theorem ix_0 : ∀ t : Fin grid0.N, win0_0.index t 0 = (grid0.coords t 0).val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = (grid0.coords t 0).val ∧ win0_3.index t 1 = 0 := by decide +kernel

theorem blk_0 (t : Fin cfg0.N) (r : Fin 512) (k : Fin 1024) : iblk m c 0 t (ix2 r k) = arg0 m c (ix2 (prow t r) k) := by
  obtain ⟨e0, e1⟩ := ix_0 t
  refine Eq.trans ?_ (congrFun (V_main_arg0 m c) (ix2 (prow t r) k))
  unfold iblk
  rw [View.read_apply]
  show V m c main_arg0 _ = _
  congr 1
  funext a
  apply Fin.ext
  match a with
  | ⟨0, _⟩ => show win0_0.index t 0 * 512 + 1 * r.val = 512 * (grid0.coords t 0).val + r.val; omega
  | ⟨1, _⟩ => show win0_0.index t 1 * 1024 + 1 * k.val = k.val; omega

theorem blk_1 (t : Fin cfg0.N) (k : Fin 1024) : iblk m c 1 t (ix2 (0 : Fin 1) k) = arg1 m c (ix1 k) := by
  obtain ⟨e0, e1⟩ := ix_1 t
  refine Eq.trans ?_ (entry_1 m c k)
  unfold iblk
  rw [View.read_apply]
  show V m c main_v1 _ = _
  congr 1
  funext a
  apply Fin.ext
  match a with
  | ⟨0, _⟩ => show win0_1.index t 0 * 1 + 1 * 0 = 0; omega
  | ⟨1, _⟩ => show win0_1.index t 1 * 1024 + 1 * k.val = k.val; omega

theorem blk_2 (t : Fin cfg0.N) (k : Fin 1024) (j : Fin 3200) : iblk m c 2 t (ix2 k j) = arg2 m c (ix2 k j) := by
  obtain ⟨e0, e1⟩ := ix_2 t
  refine Eq.trans ?_ (congrFun (entry_0 m c) (ix2 k j))
  unfold iblk
  rw [View.read_apply]
  show V m c main_v0 _ = _
  congr 1
  funext a
  apply Fin.ext
  match a with
  | ⟨0, _⟩ => show win0_2.index t 0 * 1024 + 1 * k.val = k.val; omega
  | ⟨1, _⟩ => show win0_2.index t 1 * 3200 + 1 * j.val = j.val; omega

/-! ## The body's block and the result array -/

/-- One entry of a point's block of the result. -/
theorem out_at (t : Fin cfg0.N) (r : Fin 512) (k : Fin 3200) :
    out0_3 (iblk m c 0 t) (iblk m c 1 t) (iblk m c 2 t) (ix2 r k)
      = rowMul (rmsRow width (lane (arg0 m c) (prow t r)) (fun k => arg1 m c (ix1 k))) (fun k j => arg2 m c (ix2 k j)) k := by
  have hz2 : (![0, 0] : Fin 2 → Nat) = fun _ => 0 := by funext a; match a with | ⟨0, _⟩ => rfl | ⟨1, _⟩ => rfl
  unfold out0_3
  rw [View.canon_unit_zero hz2, View.ld_unit_zero hz2, View.ld_unit_zero hz2, View.ld_unit_zero hz2, ProjC.pay_apply]
  have f0 : lane (φ := .f32) (iblk m c 0 t) r = lane (arg0 m c) (prow t r) := funext fun k => blk_0 m c t r k
  have f1 : lane (φ := .f32) (iblk m c 1 t) (0 : Fin 1) = fun k => arg1 m c (ix1 k) := funext fun k => blk_1 m c t k
  rw [f0, f1, funext fun k => funext fun j => blk_2 m c t k j]

theorem cut_at (t : Fin cfg0.N) (f : S512x3200.Idx → EReal) (y : S512x3200.Idx) : (cfg0.win 3).cut (grid0.coords t) f y = f y := rfl

/-- An array of the result's shape read through a point's block. -/
theorem read_at (t : Fin cfg0.N) (G : S16384x3200.Idx → EReal) (r : Fin 512) (k : Fin 3200) :
    ((cfg0.win 3).blk t).view.read (Elt Ideal) G (ix2 r k) = G (ix2 (prow t r) k) := by
  obtain ⟨e0, e1⟩ := ix_3 t
  rw [View.read_apply]
  show G _ = G _
  congr 1
  funext a
  apply Fin.ext
  match a with
  | ⟨0, _⟩ => show win0_3.index t 0 * 512 + 1 * r.val = 512 * (grid0.coords t 0).val + r.val; omega
  | ⟨1, _⟩ => show win0_3.index t 1 * 3200 + 1 * k.val = k.val; omega

/-- Where every point's block agrees with an array `G` through the block, the result array is `G`. -/
theorem cover (G : S16384x3200.Idx → EReal)
    (hG : ∀ (t : Fin cfg0.N) (r : Fin 512) (k : Fin 3200),
      out0_3 (iblk m c 0 t) (iblk m c 1 t) (iblk m c 2 t) (ix2 r k) = G (ix2 (prow t r) k)) :
    (dats m 0 c).arrAt 3 cfg0.N = G := by
  refine (dats m 0 c).arrAt_eq_of_cover 3 G (fun t _ => ?_) fun i => ?_
  · rw [Value.flushed3]
    funext y
    have hy : y = ix2 (y 0) (y 1) := funext fun a => match a with | ⟨0, _⟩ => rfl | ⟨1, _⟩ => rfl
    refine (cut_at t _ y).trans ?_
    rw [hy]
    exact (hG t (y 0) (y 1)).trans (read_at t G (y 0) (y 1)).symm
  · have h0 : (i 0 : Nat) < 16384 := (i 0).isLt
    have h1 : (i 1 : Nat) < 3200 := (i 1).isLt
    obtain ⟨t, ht⟩ := Pipeline.Grid.coords_surjective grid0 (fun a => match a with | ⟨0, _⟩ => (⟨(i 0 : Nat) / 512, by omega⟩ : Fin 32))
    have hj : (grid0.coords t 0).val = (i 0 : Nat) / 512 := congrArg Fin.val (congrFun ht 0)
    obtain ⟨e0, e1⟩ := ix_3 t
    refine ⟨t, flush0_3 t, ?_⟩
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; omega
    | ⟨1, _⟩ => show win0_3.index t 1 * 3200 ≤ (i 1 : Nat) ∧ (i 1 : Nat) < win0_3.index t 1 * 3200 + 3200; omega

/-- The kernel's result is the reference's. -/
theorem final : (dats m 0 c).arrAt 3 cfg0.N
    = Cert.ReferencePCIdeal.Read.val_main_v13 (F := Ideal) (arg0 m c) (arg1 m c) (arg2 m c) :=
  cover m c _ fun t r k => (out_at m c t r k).trans (ProjC.ref_at (arg0 m c) (arg1 m c) (arg2 m c) (prow t r) k).symm

end Cert.ProjCArray

end
-- ==== Proof.ProjD.lean ====
/-  The norm-and-project kernel of the scanned recurrence's layer: its BODY as a value, and its reference read. -/
module

public import proofs.«01_k».proof.Proof.Gen.KernelPDIdeal.Skeleton
public import proofs.«01_k».proof.Proof.Gen.ReferencePDIdeal.Read
public import proofs.«01_k».proof.Proof.FfnRef

@[expose] public section

noncomputable section

namespace Cert.ProjD

open Idealize.ShloMosaic Idealize.ShloMosaic.ValueIdx Cert.Ffn

section kernel

open Cert.KernelPDIdeal Cert.KernelPDIdeal.Gen

/-- One entry of the block the body stores: the normalized row times the weights. -/
theorem pay_apply (x : FVec Ideal S512x1024 .f32) (g : FVec Ideal S1x1024 .f32) (w : FVec Ideal S1024x5376 .bf16) (r : Fin 512) (c : Fin 5376) :
    k0_pay1 (F := Ideal) x g w (ix2 r c) = rowMul (rmsRow width (lane x r) (lane g 0)) (fun k j => w (ix2 k j)) c := by
  have e1 : shapeCast S1x1024 g shapeCasts_S1x1024_S1x1024 = g := shapeCast_self _ _
  have e2 : shapeCast S1024x5376 w shapeCasts_S1024x5376_S1024x5376 = w := shapeCast_self _ _
  unfold k0_pay1
  rw [e1, e2]
  refine (product_apply _ _ r c).trans (Finset.sum_congr rfl fun k _ => ?_)
  exact congrArg (fun s : EReal => s * w (ix2 k c)) (rmsBlock_apply x g _ _ _ _ _ _ _ r k)

end kernel

section reference

open Cert.ReferencePDIdeal Cert.ReferencePDIdeal.Read

variable (x : FVec Ideal ⟨2, ![16384, 1024]⟩ .f32) (g : FVec Ideal ⟨1, ![1024]⟩ .f32) (w : FVec Ideal ⟨2, ![1024, 5376]⟩ .f32)

/-- The normalization is the feed-forward reference's. -/
theorem v12_at (i : Fin 16384) (k : Fin 1024) : val_main_v12 (F := Ideal) x g (ix2 i k)
    = rmsRow width (lane x i) (fun k => g (ix1 k)) k := FfnRef.v12_at x g i k

/-- The reference's result. -/
theorem ref_at (i : Fin 16384) (c : Fin 5376) : val_main_v13 (F := Ideal) x g w (ix2 i c)
    = rowMul (rmsRow width (lane x i) (fun k => g (ix1 k))) (fun k j => w (ix2 k j)) c := by
  have el : ∀ k, lidx_main_v13 (ix2 i c) k = ix2 i k := fun k => funext fun a => match a with | ⟨0, _⟩ => rfl | ⟨1, _⟩ => rfl
  have er : ∀ k, ridx_main_v13 (ix2 i c) k = ix2 k c := fun k => funext fun a => match a with | ⟨0, _⟩ => rfl | ⟨1, _⟩ => rfl
  rw [val_main_v13_apply]
  exact Finset.sum_congr rfl fun k _ => by rw [el k, er k, v12_at]

end reference

end Cert.ProjD

end
-- ==== Proof.ProjDArray.lean ====
/-  The norm-and-project kernel of the scanned recurrence's layer: its arrays, a grid point's blocks as entries of the arguments, and the
    result array whole. -/
module

public import proofs.«01_k».proof.Proof.Gen.KernelPDIdeal.Value
public import proofs.«01_k».proof.Proof.ProjD
public import Idealize.ShloMosaic.Lib.Pipeline.Value
public import Idealize.ShloMosaic.Lib.Pipeline.Covers
public import Idealize.ShloMosaic.Lib.Tactic

@[expose] public section

set_option maxRecDepth 4096

noncomputable section

namespace Cert.ProjDArray

open Cert.KernelPDIdeal Cert.KernelPDIdeal.Gen Idealize.ShloMosaic Idealize.ShloMosaic.ValueIdx Idealize.ShloMosaic.TcCoe
open Idealize.ShloMosaic.Pipeline (Dat)
open Cert.Ffn Cert.FfnRef

variable (m : (ℓ : Loc nD τ sig) → Buf (Elt Ideal) ℓ) (c : Dev nD)

/-- The argument arrays on device `c`. -/
abbrev arg0 : Rows := m ((c : Thread nD τ).loc main_arg0)
abbrev arg1 : Gain := m ((c : Thread nD τ).loc main_arg1)
abbrev arg2 : FVec Ideal ⟨2, ![1024, 5376]⟩ .f32 := m ((c : Thread nD τ).loc main_arg2)

/-- Row `r` of a grid point's block of 512 rows. -/
def prow (t : Fin cfg0.N) (r : Fin 512) : Fin 16384 :=
  ⟨512 * (grid0.coords t 0).val + r.val, by have h : (grid0.coords t 0).val < 32 := (grid0.coords t 0).isLt; omega⟩

/-! ## The arrays the region reads -/

theorem entry_0 : V m c main_v0 = arg2 m c := by
  show StableHlo.after hostOps0 (fun b => m (c, b)) main_v0 = _
  simp only [hostOps0]
  after_results
  rfl

theorem entry_1 (k : Fin 1024) : V m c main_v1 (ix2 (0 : Fin 1) k) = arg1 m c (ix1 k) := by
  have e : V m c main_v1 = shapeCast S1x1024 (arg1 m c) shapeCasts_S1024_S1x1024 := by
    show StableHlo.after hostOps0 (fun b => m (c, b)) main_v1 = _
    simp only [hostOps0]
    after_results
    rfl
  rw [e]
  exact shapeCast_a_1a_apply _ _ _ k

/-! ## The windows' block indices and blocks -/

theorem ix_0 : ∀ t : Fin grid0.N, win0_0.index t 0 = (grid0.coords t 0).val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = (grid0.coords t 0).val ∧ win0_3.index t 1 = 0 := by decide +kernel

theorem blk_0 (t : Fin cfg0.N) (r : Fin 512) (k : Fin 1024) : iblk m c 0 t (ix2 r k) = arg0 m c (ix2 (prow t r) k) := by
  obtain ⟨e0, e1⟩ := ix_0 t
  refine Eq.trans ?_ (congrFun (V_main_arg0 m c) (ix2 (prow t r) k))
  unfold iblk
  rw [View.read_apply]
  show V m c main_arg0 _ = _
  congr 1
  funext a
  apply Fin.ext
  match a with
  | ⟨0, _⟩ => show win0_0.index t 0 * 512 + 1 * r.val = 512 * (grid0.coords t 0).val + r.val; omega
  | ⟨1, _⟩ => show win0_0.index t 1 * 1024 + 1 * k.val = k.val; omega

theorem blk_1 (t : Fin cfg0.N) (k : Fin 1024) : iblk m c 1 t (ix2 (0 : Fin 1) k) = arg1 m c (ix1 k) := by
  obtain ⟨e0, e1⟩ := ix_1 t
  refine Eq.trans ?_ (entry_1 m c k)
  unfold iblk
  rw [View.read_apply]
  show V m c main_v1 _ = _
  congr 1
  funext a
  apply Fin.ext
  match a with
  | ⟨0, _⟩ => show win0_1.index t 0 * 1 + 1 * 0 = 0; omega
  | ⟨1, _⟩ => show win0_1.index t 1 * 1024 + 1 * k.val = k.val; omega

theorem blk_2 (t : Fin cfg0.N) (k : Fin 1024) (j : Fin 5376) : iblk m c 2 t (ix2 k j) = arg2 m c (ix2 k j) := by
  obtain ⟨e0, e1⟩ := ix_2 t
  refine Eq.trans ?_ (congrFun (entry_0 m c) (ix2 k j))
  unfold iblk
  rw [View.read_apply]
  show V m c main_v0 _ = _
  congr 1
  funext a
  apply Fin.ext
  match a with
  | ⟨0, _⟩ => show win0_2.index t 0 * 1024 + 1 * k.val = k.val; omega
  | ⟨1, _⟩ => show win0_2.index t 1 * 5376 + 1 * j.val = j.val; omega

/-! ## The body's block and the result array -/

/-- One entry of a point's block of the result. -/
theorem out_at (t : Fin cfg0.N) (r : Fin 512) (k : Fin 5376) :
    out0_3 (iblk m c 0 t) (iblk m c 1 t) (iblk m c 2 t) (ix2 r k)
      = rowMul (rmsRow width (lane (arg0 m c) (prow t r)) (fun k => arg1 m c (ix1 k))) (fun k j => arg2 m c (ix2 k j)) k := by
  have hz2 : (![0, 0] : Fin 2 → Nat) = fun _ => 0 := by funext a; match a with | ⟨0, _⟩ => rfl | ⟨1, _⟩ => rfl
  unfold out0_3
  rw [View.canon_unit_zero hz2, View.ld_unit_zero hz2, View.ld_unit_zero hz2, View.ld_unit_zero hz2, ProjD.pay_apply]
  have f0 : lane (φ := .f32) (iblk m c 0 t) r = lane (arg0 m c) (prow t r) := funext fun k => blk_0 m c t r k
  have f1 : lane (φ := .f32) (iblk m c 1 t) (0 : Fin 1) = fun k => arg1 m c (ix1 k) := funext fun k => blk_1 m c t k
  rw [f0, f1, funext fun k => funext fun j => blk_2 m c t k j]

theorem cut_at (t : Fin cfg0.N) (f : S512x5376.Idx → EReal) (y : S512x5376.Idx) : (cfg0.win 3).cut (grid0.coords t) f y = f y := rfl

/-- An array of the result's shape read through a point's block. -/
theorem read_at (t : Fin cfg0.N) (G : S16384x5376.Idx → EReal) (r : Fin 512) (k : Fin 5376) :
    ((cfg0.win 3).blk t).view.read (Elt Ideal) G (ix2 r k) = G (ix2 (prow t r) k) := by
  obtain ⟨e0, e1⟩ := ix_3 t
  rw [View.read_apply]
  show G _ = G _
  congr 1
  funext a
  apply Fin.ext
  match a with
  | ⟨0, _⟩ => show win0_3.index t 0 * 512 + 1 * r.val = 512 * (grid0.coords t 0).val + r.val; omega
  | ⟨1, _⟩ => show win0_3.index t 1 * 5376 + 1 * k.val = k.val; omega

/-- Where every point's block agrees with an array `G` through the block, the result array is `G`. -/
theorem cover (G : S16384x5376.Idx → EReal)
    (hG : ∀ (t : Fin cfg0.N) (r : Fin 512) (k : Fin 5376),
      out0_3 (iblk m c 0 t) (iblk m c 1 t) (iblk m c 2 t) (ix2 r k) = G (ix2 (prow t r) k)) :
    (dats m 0 c).arrAt 3 cfg0.N = G := by
  refine (dats m 0 c).arrAt_eq_of_cover 3 G (fun t _ => ?_) fun i => ?_
  · rw [Value.flushed3]
    funext y
    have hy : y = ix2 (y 0) (y 1) := funext fun a => match a with | ⟨0, _⟩ => rfl | ⟨1, _⟩ => rfl
    refine (cut_at t _ y).trans ?_
    rw [hy]
    exact (hG t (y 0) (y 1)).trans (read_at t G (y 0) (y 1)).symm
  · have h0 : (i 0 : Nat) < 16384 := (i 0).isLt
    have h1 : (i 1 : Nat) < 5376 := (i 1).isLt
    obtain ⟨t, ht⟩ := Pipeline.Grid.coords_surjective grid0 (fun a => match a with | ⟨0, _⟩ => (⟨(i 0 : Nat) / 512, by omega⟩ : Fin 32))
    have hj : (grid0.coords t 0).val = (i 0 : Nat) / 512 := congrArg Fin.val (congrFun ht 0)
    obtain ⟨e0, e1⟩ := ix_3 t
    refine ⟨t, flush0_3 t, ?_⟩
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; omega
    | ⟨1, _⟩ => show win0_3.index t 1 * 5376 ≤ (i 1 : Nat) ∧ (i 1 : Nat) < win0_3.index t 1 * 5376 + 5376; omega

/-- The kernel's result is the reference's. -/
theorem final : (dats m 0 c).arrAt 3 cfg0.N
    = Cert.ReferencePDIdeal.Read.val_main_v13 (F := Ideal) (arg0 m c) (arg1 m c) (arg2 m c) :=
  cover m c _ fun t r k => (out_at m c t r k).trans (ProjD.ref_at (arg0 m c) (arg1 m c) (arg2 m c) (prow t r) k).symm

end Cert.ProjDArray

end
-- ==== Proof.lean ====
module

public import proofs.«01_k».proof.Defs
public import proofs.«01_k».proof.Proof.Gen.KernelA1
public import proofs.«01_k».proof.Proof.Gen.KernelA1.Skeleton
public import proofs.«01_k».proof.Proof.Gen.KernelA1.Launch
public import proofs.«01_k».proof.Proof.Gen.KernelA1.Points
public import proofs.«01_k».proof.Proof.Gen.KernelA1.Frame
public import proofs.«01_k».proof.Proof.Gen.KernelA1Ideal
public import proofs.«01_k».proof.Proof.Gen.KernelA1Ideal.Skeleton
public import proofs.«01_k».proof.Proof.Gen.KernelA1Ideal.Launch
public import proofs.«01_k».proof.Proof.Gen.KernelA1Ideal.Points
public import proofs.«01_k».proof.Proof.Gen.KernelA1Ideal.Frame
public import proofs.«01_k».proof.Proof.Gen.ReferenceA1Ideal
public import proofs.«01_k».proof.Proof.Gen.KernelA1Ideal.Value
public import proofs.«01_k».proof.Proof.Gen.ReferenceA1Ideal.Run
public import proofs.«01_k».proof.Proof.Gen.ReferenceA1Ideal.Read
public import proofs.«01_k».proof.Proof.Gen.KernelF
public import proofs.«01_k».proof.Proof.Gen.KernelF.Skeleton
public import proofs.«01_k».proof.Proof.Gen.KernelF.Launch
public import proofs.«01_k».proof.Proof.Gen.KernelF.Points
public import proofs.«01_k».proof.Proof.Gen.KernelF.Frame
public import proofs.«01_k».proof.Proof.Gen.KernelFIdeal
public import proofs.«01_k».proof.Proof.Gen.KernelFIdeal.Skeleton
public import proofs.«01_k».proof.Proof.Gen.KernelFIdeal.Launch
public import proofs.«01_k».proof.Proof.Gen.KernelFIdeal.Points
public import proofs.«01_k».proof.Proof.Gen.KernelFIdeal.Frame
public import proofs.«01_k».proof.Proof.Gen.KernelFIdeal.Value
public import proofs.«01_k».proof.Proof.Gen.KernelFB
public import proofs.«01_k».proof.Proof.Gen.KernelFB.Skeleton
public import proofs.«01_k».proof.Proof.Gen.KernelFB.Launch
public import proofs.«01_k».proof.Proof.Gen.KernelFB.Points
public import proofs.«01_k».proof.Proof.Gen.KernelFB.Frame
public import proofs.«01_k».proof.Proof.Gen.KernelFBIdeal
public import proofs.«01_k».proof.Proof.Gen.KernelFBIdeal.Skeleton
public import proofs.«01_k».proof.Proof.Gen.KernelFBIdeal.Launch
public import proofs.«01_k».proof.Proof.Gen.KernelFBIdeal.Points
public import proofs.«01_k».proof.Proof.Gen.KernelFBIdeal.Frame
public import proofs.«01_k».proof.Proof.Gen.KernelFBIdeal.Value
public import proofs.«01_k».proof.Proof.Gen.ReferenceFIdeal
public import proofs.«01_k».proof.Proof.Gen.ReferenceFIdeal.Run
public import proofs.«01_k».proof.Proof.Gen.ReferenceFIdeal.Read
public import proofs.«01_k».proof.Proof.Gen.ReferenceFBIdeal
public import proofs.«01_k».proof.Proof.Gen.ReferenceFBIdeal.Run
public import proofs.«01_k».proof.Proof.Gen.ReferenceFBIdeal.Read
public import proofs.«01_k».proof.Proof.Gen.KernelFC
public import proofs.«01_k».proof.Proof.Gen.KernelFC.Skeleton
public import proofs.«01_k».proof.Proof.Gen.KernelFC.Launch
public import proofs.«01_k».proof.Proof.Gen.KernelFC.Points
public import proofs.«01_k».proof.Proof.Gen.KernelFC.Frame
public import proofs.«01_k».proof.Proof.Gen.KernelFCIdeal
public import proofs.«01_k».proof.Proof.Gen.KernelFCIdeal.Skeleton
public import proofs.«01_k».proof.Proof.Gen.KernelFCIdeal.Launch
public import proofs.«01_k».proof.Proof.Gen.KernelFCIdeal.Points
public import proofs.«01_k».proof.Proof.Gen.KernelFCIdeal.Frame
public import proofs.«01_k».proof.Proof.Gen.KernelFCIdeal.Value
public import proofs.«01_k».proof.Proof.Gen.ReferenceFCIdeal
public import proofs.«01_k».proof.Proof.Gen.ReferenceFCIdeal.Run
public import proofs.«01_k».proof.Proof.Gen.ReferenceFCIdeal.Read
public import proofs.«01_k».proof.Proof.Gen.KernelFD
public import proofs.«01_k».proof.Proof.Gen.KernelFD.Skeleton
public import proofs.«01_k».proof.Proof.Gen.KernelFD.Launch
public import proofs.«01_k».proof.Proof.Gen.KernelFD.Points
public import proofs.«01_k».proof.Proof.Gen.KernelFD.Frame
public import proofs.«01_k».proof.Proof.Gen.KernelFDIdeal
public import proofs.«01_k».proof.Proof.Gen.KernelFDIdeal.Skeleton
public import proofs.«01_k».proof.Proof.Gen.KernelFDIdeal.Launch
public import proofs.«01_k».proof.Proof.Gen.KernelFDIdeal.Points
public import proofs.«01_k».proof.Proof.Gen.KernelFDIdeal.Frame
public import proofs.«01_k».proof.Proof.Gen.KernelFDIdeal.Value
public import proofs.«01_k».proof.Proof.Gen.ReferenceFDIdeal
public import proofs.«01_k».proof.Proof.Gen.ReferenceFDIdeal.Run
public import proofs.«01_k».proof.Proof.Gen.ReferenceFDIdeal.Read
public import proofs.«01_k».proof.Proof.Gen.KernelFA
public import proofs.«01_k».proof.Proof.Gen.KernelFA.Skeleton
public import proofs.«01_k».proof.Proof.Gen.KernelFA.Launch
public import proofs.«01_k».proof.Proof.Gen.KernelFA.Points
public import proofs.«01_k».proof.Proof.Gen.KernelFA.Frame
public import proofs.«01_k».proof.Proof.Gen.KernelFAIdeal
public import proofs.«01_k».proof.Proof.Gen.KernelFAIdeal.Skeleton
public import proofs.«01_k».proof.Proof.Gen.KernelFAIdeal.Launch
public import proofs.«01_k».proof.Proof.Gen.KernelFAIdeal.Points
public import proofs.«01_k».proof.Proof.Gen.KernelFAIdeal.Frame
public import proofs.«01_k».proof.Proof.Gen.KernelFAIdeal.Value
public import proofs.«01_k».proof.Proof.Gen.ReferenceFAIdeal
public import proofs.«01_k».proof.Proof.Gen.ReferenceFAIdeal.Run
public import proofs.«01_k».proof.Proof.Gen.ReferenceFAIdeal.Read
public import proofs.«01_k».proof.Proof.Gen.KernelPC
public import proofs.«01_k».proof.Proof.Gen.KernelPC.Skeleton
public import proofs.«01_k».proof.Proof.Gen.KernelPC.Launch
public import proofs.«01_k».proof.Proof.Gen.KernelPC.Points
public import proofs.«01_k».proof.Proof.Gen.KernelPC.Frame
public import proofs.«01_k».proof.Proof.Gen.KernelPCIdeal
public import proofs.«01_k».proof.Proof.Gen.KernelPCIdeal.Skeleton
public import proofs.«01_k».proof.Proof.Gen.KernelPCIdeal.Launch
public import proofs.«01_k».proof.Proof.Gen.KernelPCIdeal.Points
public import proofs.«01_k».proof.Proof.Gen.KernelPCIdeal.Frame
public import proofs.«01_k».proof.Proof.Gen.KernelPCIdeal.Value
public import proofs.«01_k».proof.Proof.Gen.ReferencePCIdeal
public import proofs.«01_k».proof.Proof.Gen.ReferencePCIdeal.Run
public import proofs.«01_k».proof.Proof.Gen.ReferencePCIdeal.Read
public import proofs.«01_k».proof.Proof.Gen.KernelPD
public import proofs.«01_k».proof.Proof.Gen.KernelPD.Skeleton
public import proofs.«01_k».proof.Proof.Gen.KernelPD.Launch
public import proofs.«01_k».proof.Proof.Gen.KernelPD.Points
public import proofs.«01_k».proof.Proof.Gen.KernelPD.Frame
public import proofs.«01_k».proof.Proof.Gen.KernelPDIdeal
public import proofs.«01_k».proof.Proof.Gen.KernelPDIdeal.Skeleton
public import proofs.«01_k».proof.Proof.Gen.KernelPDIdeal.Launch
public import proofs.«01_k».proof.Proof.Gen.KernelPDIdeal.Points
public import proofs.«01_k».proof.Proof.Gen.KernelPDIdeal.Frame
public import proofs.«01_k».proof.Proof.Gen.KernelPDIdeal.Value
public import proofs.«01_k».proof.Proof.Gen.ReferencePDIdeal
public import proofs.«01_k».proof.Proof.Gen.ReferencePDIdeal.Run
public import proofs.«01_k».proof.Proof.Gen.ReferencePDIdeal.Read
public import proofs.«01_k».proof.Proof.Gen.KernelQAIdeal
public import proofs.«01_k».proof.Proof.Gen.KernelQAIdeal.Skeleton
public import proofs.«01_k».proof.Proof.Gen.KernelQAIdeal.Launch
public import proofs.«01_k».proof.Proof.Gen.KernelQAIdeal.Points
public import proofs.«01_k».proof.Proof.Gen.KernelQAIdeal.Frame
public import proofs.«01_k».proof.Proof.Gen.KernelQAIdeal.Value
public import proofs.«01_k».proof.Proof.Gen.ReferenceQAIdeal
public import proofs.«01_k».proof.Proof.Gen.ReferenceQAIdeal.Run
public import proofs.«01_k».proof.Proof.Gen.ReferenceQAIdeal.Read
public import proofs.«01_k».proof.Proof.QkOut
public import proofs.«01_k».proof.Proof.BandArray
public import proofs.«01_k».proof.Proof.FfnArray
public import proofs.«01_k».proof.Proof.MixBArray
public import proofs.«01_k».proof.Proof.MixCArray
public import proofs.«01_k».proof.Proof.MixDArray
public import proofs.«01_k».proof.Proof.MixAArray
public import proofs.«01_k».proof.Proof.ProjCArray
public import proofs.«01_k».proof.Proof.ProjDArray
public import Idealize.ShloMosaic.Lib.Quiescent
public import Idealize.ShloMosaic.Lib.KernelVsHost
public import Idealize.ShloMosaic.Adequacy
public import Idealize.ShloMosaic.Init

@[expose] public section

noncomputable section

open Idealize.ShloMosaic in
/-- A number whose magnitude compares below the infinite pattern is real. -/
theorem Cert.re_of_below {x : EReal} (h : Ideal.cmp .olt (max x (-x)) (Ideal.ofBits .f32 0x7F800000#32) = 1#1) : Cert.Soft.Re x := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- Over the precondition every entry of the attention's argument is a real number. -/
theorem Cert.re_of_finite [Cert.Pre_finite.Facts] {v : Cert.Band.Arr} (h : Cert.Pre_finite.fn (F := Idealize.ShloMosaic.Ideal) v = fun _ => 1#1)
    (i : Cert.Pre_finite.S16384x4608.Idx) : Cert.Soft.Re (v i) := Cert.re_of_below (congrFun h i)

/-- Two bits whose conjunction is set are set. -/
theorem Cert.and_set {a b : BitVec 1} (h : a &&& b = 1#1) : a = 1#1 ∧ b = 1#1 := by
  revert a b; decide

namespace Cert.Proof

open Idealize.ShloMosaic Idealize.ShloMosaic.TcCoe Idealize.SL.Sem

/-- `Pre_finite`'s one side condition. -/
theorem preFacts : Cert.Pre_finite.Facts := ⟨by decide⟩

/-- `Pre_finite_lse`'s one side condition. -/
theorem preFactsL : Cert.Pre_finite_lse.Facts := ⟨by decide⟩

/-- The reference runs from any memory, its argument kept and every counter zero: it declares none. -/
theorem frameR (m : (ℓ : Loc Cert.ReferenceA1Ideal.nD Cert.ReferenceA1Ideal.τ Cert.ReferenceA1Ideal.sig) → Buf (Elt Ideal) ℓ)
    (g : Dev Cert.ReferenceA1Ideal.nD → PrngReg) :
    θ_run (Cert.ReferenceA1Ideal.defs (F := Ideal)) (onTc (τ := Cert.ReferenceA1Ideal.τ) (Cert.ReferenceA1Ideal.main (F := Ideal))) ⟨m, fun _ => 0, g⟩
      (fun r => (∀ c : Dev Cert.ReferenceA1Ideal.nD,
        r.2.mem ((c.tc : Thread Cert.ReferenceA1Ideal.nD Cert.ReferenceA1Ideal.τ).loc Cert.ReferenceA1Ideal.main_arg0)
          = m ((c.tc : Thread Cert.ReferenceA1Ideal.nD Cert.ReferenceA1Ideal.τ).loc Cert.ReferenceA1Ideal.main_arg0))
        ∧ r.2.sem = fun _ => 0) :=
  (θ_run Cert.ReferenceA1Ideal.defs _ _).mono (fun r h => ⟨fun c => (h c).2.2, sem_eq_zero_of_no_sems (by decide) r.2⟩)
    (Cert.ReferenceA1Ideal.Value.run (F := Ideal) m g)

/-- Over finite arguments the kernel's two results are the reference's. -/
theorem algebraicA [hPre : Cert.Pre_finite.Facts] : Cert.algebraic_KernelA1Ideal_ReferenceA1Ideal_pre_finite := by
  intro m g m' g' hpre hagree
  have hx : ∀ c i, Cert.Soft.Re (Cert.BandArray.arg m c i) := fun c i => Cert.re_of_finite (hpre c) i
  refine ⟨fun c => Cert.ReferenceA1Ideal.Read.val_main_v81 (F := Ideal) (Cert.BandArray.arg m c),
    fun c => Cert.ReferenceA1Ideal.Read.val_main_v84 (F := Ideal) (Cert.BandArray.arg m c), (θ_run Cert.KernelA1Ideal.defs _ _).mono (fun r h c => ?_) (Cert.KernelA1Ideal.Value.run_blocks (F := Ideal) m g),
    (θ_run Cert.ReferenceA1Ideal.defs _ _).mono (fun r h c => ?_) (Cert.ReferenceA1Ideal.Value.run (F := Ideal) m' g')⟩
  · exact ⟨(h c).1.trans (Cert.BandArray.final5 (hx c)), (h c).2.1.trans (Cert.BandArray.final6 (hx c)), (h c).2.2⟩
  · refine ⟨(h c).1.trans ?_, (h c).2.1.trans ?_, (h c).2.2⟩
    · rw [Cert.ReferenceA1Ideal.Read.val_main_v81_eq, hagree c]
    · rw [Cert.ReferenceA1Ideal.Read.val_main_v84_eq, hagree c]

/-- The feed-forward call's reference runs from any memory, its arguments kept and every counter zero. -/
theorem frameF : Cert.quiescent_ReferenceFIdeal := fun m g _ =>
  (θ_run Cert.ReferenceFIdeal.defs _ _).mono (fun r h => ⟨fun c => (h c).2, sem_eq_zero_of_no_sems (by decide) r.2⟩)
    (Cert.ReferenceFIdeal.Value.run (F := Ideal) m g)

/-- The feed-forward call's result is the reference's. -/
theorem algebraicF : Cert.algebraic_KernelFIdeal_ReferenceFIdeal := by
  intro m g m' g' _ hagree
  refine ⟨fun c => Cert.ReferenceFIdeal.Read.val_main_v25 (F := Ideal) (Cert.FfnArray.arg0 m c) (Cert.FfnArray.arg1 m c) (Cert.FfnArray.arg2 m c) (Cert.FfnArray.arg3 m c),
    (θ_run Cert.KernelFIdeal.defs _ _).mono (fun r h c => ?_) (Cert.KernelFIdeal.Value.run_blocks (F := Ideal) m g),
    (θ_run Cert.ReferenceFIdeal.defs _ _).mono (fun r h c => ?_) (Cert.ReferenceFIdeal.Value.run (F := Ideal) m' g')⟩
  · exact ⟨(h c).1.trans (Cert.FfnArray.final m c), (h c).2⟩
  · refine ⟨(h c).1.trans ?_, (h c).2⟩
    obtain ⟨h0, h1, h2, h3⟩ := hagree c
    unfold Cert.FfnArray.arg0 Cert.FfnArray.arg1 Cert.FfnArray.arg2 Cert.FfnArray.arg3
    refine (Cert.ReferenceFIdeal.Read.val_main_v25_eq (F := Ideal) _ _ _ _).trans ?_
    show Cert.ReferenceFIdeal.Read.val_main_v25 (F := Ideal) _ _ _ _ = Cert.ReferenceFIdeal.Read.val_main_v25 (F := Ideal) _ _ _ _
    rw [h0, h1, h2, h3]

/-- The layer-1 mixing call's reference runs from any memory, its arguments kept and every counter zero. -/
theorem frameFB : Cert.quiescent_ReferenceFBIdeal := fun m g _ =>
  (θ_run Cert.ReferenceFBIdeal.defs _ _).mono (fun r h => ⟨fun c => (h c).2, sem_eq_zero_of_no_sems (by decide) r.2⟩)
    (Cert.ReferenceFBIdeal.Value.run (F := Ideal) m g)

/-- The layer-1 mixing call's result is the reference's. -/
theorem algebraicFB : Cert.algebraic_KernelFBIdeal_ReferenceFBIdeal := by
  intro m g m' g' _ hagree
  refine ⟨fun c => Cert.ReferenceFBIdeal.Read.val_main_v27 (F := Ideal) (Cert.MixBArray.arg0 m c) (Cert.MixBArray.arg1 m c) (Cert.MixBArray.arg2 m c) (Cert.MixBArray.arg3 m c) (Cert.MixBArray.arg4 m c) (Cert.MixBArray.arg5 m c),
    (θ_run Cert.KernelFBIdeal.defs _ _).mono (fun r h c => ?_) (Cert.KernelFBIdeal.Value.run_blocks (F := Ideal) m g),
    (θ_run Cert.ReferenceFBIdeal.defs _ _).mono (fun r h c => ?_) (Cert.ReferenceFBIdeal.Value.run (F := Ideal) m' g')⟩
  · exact ⟨(h c).1.trans (Cert.MixBArray.final m c), (h c).2⟩
  · refine ⟨(h c).1.trans ?_, (h c).2⟩
    obtain ⟨h0, h1, h2, h3, h4, h5⟩ := hagree c
    unfold Cert.MixBArray.arg0 Cert.MixBArray.arg1 Cert.MixBArray.arg2 Cert.MixBArray.arg3 Cert.MixBArray.arg4 Cert.MixBArray.arg5
    refine (Cert.ReferenceFBIdeal.Read.val_main_v27_eq m' c).trans ?_
    show Cert.ReferenceFBIdeal.Read.val_main_v27 (F := Ideal) _ _ _ _ _ _ = Cert.ReferenceFBIdeal.Read.val_main_v27 (F := Ideal) _ _ _ _ _ _
    rw [h0, h1, h2, h3, h4, h5]

/-- The layer-2 mixing call's reference runs from any memory, its arguments kept and every counter zero. -/
theorem frameFC : Cert.quiescent_ReferenceFCIdeal := fun m g _ =>
  (θ_run Cert.ReferenceFCIdeal.defs _ _).mono (fun r h => ⟨fun c => (h c).2, sem_eq_zero_of_no_sems (by decide) r.2⟩)
    (Cert.ReferenceFCIdeal.Value.run (F := Ideal) m g)

/-- The layer-2 mixing call's result is the reference's. -/
theorem algebraicFC : Cert.algebraic_KernelFCIdeal_ReferenceFCIdeal := by
  intro m g m' g' _ hagree
  refine ⟨fun c => Cert.ReferenceFCIdeal.Read.val_main_v45 (F := Ideal) (Cert.MixCArray.arg0 m c) (Cert.MixCArray.arg1 m c) (Cert.MixCArray.arg2 m c) (Cert.MixCArray.arg3 m c) (Cert.MixCArray.arg4 m c) (Cert.MixCArray.arg5 m c) (Cert.MixCArray.arg6 m c) (Cert.MixCArray.arg7 m c),
    (θ_run Cert.KernelFCIdeal.defs _ _).mono (fun r h c => ?_) (Cert.KernelFCIdeal.Value.run_blocks (F := Ideal) m g),
    (θ_run Cert.ReferenceFCIdeal.defs _ _).mono (fun r h c => ?_) (Cert.ReferenceFCIdeal.Value.run (F := Ideal) m' g')⟩
  · exact ⟨(h c).1.trans (Cert.MixCArray.final m c), (h c).2⟩
  · refine ⟨(h c).1.trans ?_, (h c).2⟩
    obtain ⟨h0, h1, h2, h3, h4, h5, h6, h7⟩ := hagree c
    unfold Cert.MixCArray.arg0 Cert.MixCArray.arg1 Cert.MixCArray.arg2 Cert.MixCArray.arg3 Cert.MixCArray.arg4 Cert.MixCArray.arg5 Cert.MixCArray.arg6 Cert.MixCArray.arg7
    refine (Cert.ReferenceFCIdeal.Read.val_main_v45_eq m' c).trans ?_
    show Cert.ReferenceFCIdeal.Read.val_main_v45 (F := Ideal) _ _ _ _ _ _ _ _ = Cert.ReferenceFCIdeal.Read.val_main_v45 (F := Ideal) _ _ _ _ _ _ _ _
    rw [h0, h1, h2, h3, h4, h5, h6, h7]

/-- The layer-3 mixing call's reference runs from any memory, its arguments kept and every counter zero. -/
theorem frameFD : Cert.quiescent_ReferenceFDIdeal := fun m g _ =>
  (θ_run Cert.ReferenceFDIdeal.defs _ _).mono (fun r h => ⟨fun c => (h c).2, sem_eq_zero_of_no_sems (by decide) r.2⟩)
    (Cert.ReferenceFDIdeal.Value.run (F := Ideal) m g)

/-- The layer-3 mixing call's result is the reference's. -/
theorem algebraicFD : Cert.algebraic_KernelFDIdeal_ReferenceFDIdeal := by
  intro m g m' g' _ hagree
  refine ⟨fun c => Cert.ReferenceFDIdeal.Read.val_main_v46 (F := Ideal) (Cert.MixDArray.arg0 m c) (Cert.MixDArray.arg1 m c) (Cert.MixDArray.arg2 m c) (Cert.MixDArray.arg3 m c) (Cert.MixDArray.arg4 m c) (Cert.MixDArray.arg5 m c) (Cert.MixDArray.arg6 m c) (Cert.MixDArray.arg7 m c),
    (θ_run Cert.KernelFDIdeal.defs _ _).mono (fun r h c => ?_) (Cert.KernelFDIdeal.Value.run_blocks (F := Ideal) m g),
    (θ_run Cert.ReferenceFDIdeal.defs _ _).mono (fun r h c => ?_) (Cert.ReferenceFDIdeal.Value.run (F := Ideal) m' g')⟩
  · exact ⟨(h c).1.trans (Cert.MixDArray.final m c), (h c).2⟩
  · refine ⟨(h c).1.trans ?_, (h c).2⟩
    obtain ⟨h0, h1, h2, h3, h4, h5, h6, h7⟩ := hagree c
    unfold Cert.MixDArray.arg0 Cert.MixDArray.arg1 Cert.MixDArray.arg2 Cert.MixDArray.arg3 Cert.MixDArray.arg4 Cert.MixDArray.arg5 Cert.MixDArray.arg6 Cert.MixDArray.arg7
    refine (Cert.ReferenceFDIdeal.Read.val_main_v46_eq m' c).trans ?_
    show Cert.ReferenceFDIdeal.Read.val_main_v46 (F := Ideal) _ _ _ _ _ _ _ _ = Cert.ReferenceFDIdeal.Read.val_main_v46 (F := Ideal) _ _ _ _ _ _ _ _
    rw [h0, h1, h2, h3, h4, h5, h6, h7]

/-- The layer-0 mixing call's reference runs from any memory, its arguments kept and every counter zero. -/
theorem frameFA : Cert.quiescent_ReferenceFAIdeal := fun m g _ =>
  (θ_run Cert.ReferenceFAIdeal.defs _ _).mono (fun r h => ⟨fun c => (h c).2, sem_eq_zero_of_no_sems (by decide) r.2⟩)
    (Cert.ReferenceFAIdeal.Value.run (F := Ideal) m g)

/-- Over finite logarithms the layer-0 mixing call's result is the reference's. -/
theorem algebraicFA [hPre : Cert.Pre_finite_lse.Facts] : Cert.algebraic_KernelFAIdeal_ReferenceFAIdeal_pre_finite_lse := by
  intro m g m' g' hpre hagree
  have hl : ∀ c k i, Cert.Soft.Re (Cert.MixA.three (Cert.MixAArray.arg7 m c) (Cert.MixAArray.arg8 m c) (Cert.MixAArray.arg9 m c) k i) := by
    intro c k i
    obtain ⟨hab, h2⟩ := Cert.and_set (congrFun (hpre c) i)
    obtain ⟨h0, h1⟩ := Cert.and_set hab
    match k with
    | ⟨0, _⟩ => exact Cert.re_of_below h0
    | ⟨1, _⟩ => exact Cert.re_of_below h1
    | ⟨2, _⟩ => exact Cert.re_of_below h2
  refine ⟨fun c => Cert.ReferenceFAIdeal.Read.val_main_v48 (F := Ideal) (Cert.MixAArray.arg0 m c) (Cert.MixAArray.arg1 m c) (Cert.MixAArray.arg2 m c) (Cert.MixAArray.arg3 m c) (Cert.MixAArray.arg4 m c) (Cert.MixAArray.arg5 m c) (Cert.MixAArray.arg6 m c) (Cert.MixAArray.arg7 m c) (Cert.MixAArray.arg8 m c) (Cert.MixAArray.arg9 m c) (Cert.MixAArray.arg10 m c),
    (θ_run Cert.KernelFAIdeal.defs _ _).mono (fun r h c => ?_) (Cert.KernelFAIdeal.Value.run_blocks (F := Ideal) m g),
    (θ_run Cert.ReferenceFAIdeal.defs _ _).mono (fun r h c => ?_) (Cert.ReferenceFAIdeal.Value.run (F := Ideal) m' g')⟩
  · exact ⟨(h c).1.trans (Cert.MixAArray.final m c (hl c)), (h c).2⟩
  · refine ⟨(h c).1.trans ?_, (h c).2⟩
    obtain ⟨h0, h1, h2, h3, h4, h5, h6, h7, h8, h9, h10⟩ := hagree c
    unfold Cert.MixAArray.arg0 Cert.MixAArray.arg1 Cert.MixAArray.arg2 Cert.MixAArray.arg3 Cert.MixAArray.arg4 Cert.MixAArray.arg5 Cert.MixAArray.arg6 Cert.MixAArray.arg7 Cert.MixAArray.arg8 Cert.MixAArray.arg9 Cert.MixAArray.arg10
    refine (Cert.ReferenceFAIdeal.Read.val_main_v48_eq m' c).trans ?_
    show Cert.ReferenceFAIdeal.Read.val_main_v48 (F := Ideal) _ _ _ _ _ _ _ _ _ _ _ = Cert.ReferenceFAIdeal.Read.val_main_v48 (F := Ideal) _ _ _ _ _ _ _ _ _ _ _
    rw [h0, h1, h2, h3, h4, h5, h6, h7, h8, h9, h10]

/-- The layer-2 projection's reference runs from any memory, its arguments kept and every counter zero. -/
theorem framePC : Cert.quiescent_ReferencePCIdeal := fun m g _ =>
  (θ_run Cert.ReferencePCIdeal.defs _ _).mono (fun r h => ⟨fun c => (h c).2, sem_eq_zero_of_no_sems (by decide) r.2⟩)
    (Cert.ReferencePCIdeal.Value.run (F := Ideal) m g)

/-- The layer-2 projection's result is the reference's. -/
theorem algebraicPC : Cert.algebraic_KernelPCIdeal_ReferencePCIdeal := by
  intro m g m' g' _ hagree
  refine ⟨fun c => Cert.ReferencePCIdeal.Read.val_main_v13 (F := Ideal) (Cert.ProjCArray.arg0 m c) (Cert.ProjCArray.arg1 m c) (Cert.ProjCArray.arg2 m c),
    (θ_run Cert.KernelPCIdeal.defs _ _).mono (fun r h c => ?_) (Cert.KernelPCIdeal.Value.run_blocks (F := Ideal) m g),
    (θ_run Cert.ReferencePCIdeal.defs _ _).mono (fun r h c => ?_) (Cert.ReferencePCIdeal.Value.run (F := Ideal) m' g')⟩
  · exact ⟨(h c).1.trans (Cert.ProjCArray.final m c), (h c).2⟩
  · refine ⟨(h c).1.trans ?_, (h c).2⟩
    obtain ⟨h0, h1, h2⟩ := hagree c
    unfold Cert.ProjCArray.arg0 Cert.ProjCArray.arg1 Cert.ProjCArray.arg2
    refine (Cert.ReferencePCIdeal.Read.val_main_v13_eq (F := Ideal) _ _ _).trans ?_
    show Cert.ReferencePCIdeal.Read.val_main_v13 (F := Ideal) _ _ _ = Cert.ReferencePCIdeal.Read.val_main_v13 (F := Ideal) _ _ _
    rw [h0, h1, h2]

/-- The layer-3 projection's reference runs from any memory, its arguments kept and every counter zero. -/
theorem framePD : Cert.quiescent_ReferencePDIdeal := fun m g _ =>
  (θ_run Cert.ReferencePDIdeal.defs _ _).mono (fun r h => ⟨fun c => (h c).2, sem_eq_zero_of_no_sems (by decide) r.2⟩)
    (Cert.ReferencePDIdeal.Value.run (F := Ideal) m g)

/-- The layer-3 projection's result is the reference's. -/
theorem algebraicPD : Cert.algebraic_KernelPDIdeal_ReferencePDIdeal := by
  intro m g m' g' _ hagree
  refine ⟨fun c => Cert.ReferencePDIdeal.Read.val_main_v13 (F := Ideal) (Cert.ProjDArray.arg0 m c) (Cert.ProjDArray.arg1 m c) (Cert.ProjDArray.arg2 m c),
    (θ_run Cert.KernelPDIdeal.defs _ _).mono (fun r h c => ?_) (Cert.KernelPDIdeal.Value.run_blocks (F := Ideal) m g),
    (θ_run Cert.ReferencePDIdeal.defs _ _).mono (fun r h c => ?_) (Cert.ReferencePDIdeal.Value.run (F := Ideal) m' g')⟩
  · exact ⟨(h c).1.trans (Cert.ProjDArray.final m c), (h c).2⟩
  · refine ⟨(h c).1.trans ?_, (h c).2⟩
    obtain ⟨h0, h1, h2⟩ := hagree c
    unfold Cert.ProjDArray.arg0 Cert.ProjDArray.arg1 Cert.ProjDArray.arg2
    refine (Cert.ReferencePDIdeal.Read.val_main_v13_eq (F := Ideal) _ _ _).trans ?_
    show Cert.ReferencePDIdeal.Read.val_main_v13 (F := Ideal) _ _ _ = Cert.ReferencePDIdeal.Read.val_main_v13 (F := Ideal) _ _ _
    rw [h0, h1, h2]

/-- The layer-0 projection's reference runs and keeps its arguments. -/
theorem frameQA : Cert.quiescent_ReferenceQAIdeal := fun m g _ =>
  (θ_run Cert.ReferenceQAIdeal.defs _ _).mono (fun r h => ⟨fun c => (h c).2.2.2.2, sem_eq_zero_of_no_sems (by decide) r.2⟩)
    (Cert.ReferenceQAIdeal.Value.run (F := Ideal) m g)

/-- The layer-0 projection's queries, keys and values, and the keys and values kept of each of its three groups, are the reference's. -/
theorem algebraicQA : Cert.algebraic_KernelQAIdeal_ReferenceQAIdeal := by
  intro m g m' g' _ hagree
  refine ⟨fun c => Cert.ReferenceQAIdeal.Read.val_main_v132 (F := Ideal) (Cert.QkTab.arg0 m c) (Cert.QkTab.arg1 m c) (Cert.QkTab.arg2 m c) (Cert.QkTab.arg3 m c),
    fun c => Cert.ReferenceQAIdeal.Read.val_main_v149 (F := Ideal) (Cert.QkTab.arg0 m c) (Cert.QkTab.arg1 m c) (Cert.QkTab.arg2 m c) (Cert.QkTab.arg3 m c),
    fun c => Cert.ReferenceQAIdeal.Read.val_main_v151 (F := Ideal) (Cert.QkTab.arg0 m c) (Cert.QkTab.arg1 m c) (Cert.QkTab.arg2 m c) (Cert.QkTab.arg3 m c),
    fun c => Cert.ReferenceQAIdeal.Read.val_main_v153 (F := Ideal) (Cert.QkTab.arg0 m c) (Cert.QkTab.arg1 m c) (Cert.QkTab.arg2 m c) (Cert.QkTab.arg3 m c),
    (θ_run Cert.KernelQAIdeal.defs _ _).mono (fun r h c => ?_) (Cert.KernelQAIdeal.Value.run_blocks (F := Ideal) m g),
    (θ_run Cert.ReferenceQAIdeal.defs _ _).mono (fun r h c => ?_) (Cert.ReferenceQAIdeal.Value.run (F := Ideal) m' g')⟩
  · obtain ⟨k0, k1, k2, k3, k4⟩ := h c
    exact ⟨k0.trans (Cert.QkOut.final_9 m c), k1.trans (Cert.QkOut.final_10 m c), k2.trans (Cert.QkOut.final_11 m c),
      k3.trans (Cert.QkOut.final_12 m c), k4⟩
  · obtain ⟨k0, k1, k2, k3, k4⟩ := h c
    obtain ⟨h0, h1, h2, h3⟩ := hagree c
    unfold Cert.QkTab.arg0 Cert.QkTab.arg1 Cert.QkTab.arg2 Cert.QkTab.arg3
    refine ⟨k0.trans ?_, k1.trans ?_, k2.trans ?_, k3.trans ?_, k4⟩
    · refine (Cert.ReferenceQAIdeal.Read.val_main_v132_eq (F := Ideal) _ _).trans ?_
      show Cert.ReferenceQAIdeal.Read.val_main_v132 (F := Ideal) _ _ _ _ = Cert.ReferenceQAIdeal.Read.val_main_v132 (F := Ideal) _ _ _ _
      rw [h0, h1, h2, h3]
    · refine (Cert.ReferenceQAIdeal.Read.val_main_v149_eq (F := Ideal) _ _).trans ?_
      show Cert.ReferenceQAIdeal.Read.val_main_v149 (F := Ideal) _ _ _ _ = Cert.ReferenceQAIdeal.Read.val_main_v149 (F := Ideal) _ _ _ _
      rw [h0, h1, h2, h3]
    · refine (Cert.ReferenceQAIdeal.Read.val_main_v151_eq (F := Ideal) _ _).trans ?_
      show Cert.ReferenceQAIdeal.Read.val_main_v151 (F := Ideal) _ _ _ _ = Cert.ReferenceQAIdeal.Read.val_main_v151 (F := Ideal) _ _ _ _
      rw [h0, h1, h2, h3]
    · refine (Cert.ReferenceQAIdeal.Read.val_main_v153_eq (F := Ideal) _ _).trans ?_
      show Cert.ReferenceQAIdeal.Read.val_main_v153 (F := Ideal) _ _ _ _ = Cert.ReferenceQAIdeal.Read.val_main_v153 (F := Ideal) _ _ _ _
      rw [h0, h1, h2, h3]

theorem claim : Cert.Claim := ⟨Cert.KernelA1.Gen.facts, Cert.KernelA1Ideal.Gen.facts, Cert.ReferenceA1Ideal.Gen.facts, Cert.KernelF.Gen.facts, Cert.KernelFIdeal.Gen.facts, Cert.ReferenceFIdeal.Gen.facts, Cert.KernelFB.Gen.facts, Cert.KernelFBIdeal.Gen.facts, Cert.ReferenceFBIdeal.Gen.facts, Cert.KernelFC.Gen.facts, Cert.KernelFCIdeal.Gen.facts, Cert.ReferenceFCIdeal.Gen.facts, Cert.KernelFD.Gen.facts, Cert.KernelFDIdeal.Gen.facts, Cert.ReferenceFDIdeal.Gen.facts, Cert.KernelFA.Gen.facts, Cert.KernelFAIdeal.Gen.facts, Cert.ReferenceFAIdeal.Gen.facts, Cert.KernelPC.Gen.facts, Cert.KernelPCIdeal.Gen.facts, Cert.ReferencePCIdeal.Gen.facts, Cert.KernelPD.Gen.facts, Cert.KernelPDIdeal.Gen.facts, Cert.ReferencePDIdeal.Gen.facts, Cert.KernelQAIdeal.Gen.facts, Cert.ReferenceQAIdeal.Gen.facts, preFacts, preFactsL,
  fun m g _ => Cert.KernelA1.Gen.frame m g,
  fun m g _ => Cert.KernelA1Ideal.Gen.frame m g,
  fun m g _ => Cert.KernelA1Ideal.Gen.frame m g,
  fun m g _ => frameR m g,
  fun m g _ => frameR m g,
  fun m g _ => Cert.KernelF.Gen.frame m g,
  fun m g _ => Cert.KernelFIdeal.Gen.frame m g,
  frameF,
  fun m g _ => Cert.KernelFB.Gen.frame m g,
  fun m g _ => Cert.KernelFBIdeal.Gen.frame m g,
  frameFB,
  fun m g _ => Cert.KernelFC.Gen.frame m g,
  fun m g _ => Cert.KernelFCIdeal.Gen.frame m g,
  frameFC,
  fun m g _ => Cert.KernelFD.Gen.frame m g,
  fun m g _ => Cert.KernelFDIdeal.Gen.frame m g,
  frameFD,
  fun m g _ => Cert.KernelFA.Gen.frame m g,
  fun m g _ => Cert.KernelFAIdeal.Gen.frame m g,
  fun m g _ => Cert.KernelFAIdeal.Gen.frame m g,
  fun m g _ => frameFA m g trivial,
  fun m g _ => frameFA m g trivial,
  fun m g _ => Cert.KernelPC.Gen.frame m g,
  fun m g _ => Cert.KernelPCIdeal.Gen.frame m g,
  framePC,
  fun m g _ => Cert.KernelPD.Gen.frame m g,
  fun m g _ => Cert.KernelPDIdeal.Gen.frame m g,
  framePD,
  fun m g _ => Cert.KernelQAIdeal.Gen.frame m g,
  frameQA,
  trivial,
  algebraicA (hPre := preFacts),
  trivial,
  algebraicF,
  trivial,
  algebraicFB,
  trivial,
  algebraicFC,
  trivial,
  algebraicFD,
  trivial,
  algebraicFA (hPre := preFactsL),
  trivial,
  algebraicPC,
  trivial,
  algebraicPD,
  algebraicQA⟩

end Cert.Proof

end
